-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_inf [hPre_decays_below_inf : Cert.Pre_decays_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_inf [hPre_decays_below_inf : Cert.Pre_decays_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_decays_below_inf7 [hPre_decays_below_inf7 : Cert.Pre_decays_below_inf7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_decays_below_inf7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_decays_below_inf7 [hPre_decays_below_inf7 : Cert.Pre_decays_below_inf7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_decays_below_inf7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_decays_below_inf [hKernelIdeal : Cert.KernelIdeal.Facts] [hPre_decays_below_inf : Cert.Pre_decays_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_decays_below_inf [hReferenceIdeal : Cert.ReferenceIdeal.Facts] [hPre_decays_below_inf : Cert.Pre_decays_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_decays_below_inf7 [hKernel7Ideal : Cert.Kernel7Ideal.Facts] [hPre_decays_below_inf7 : Cert.Pre_decays_below_inf7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_decays_below_inf7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_decays_below_inf7 [hReference7Ideal : Cert.Reference7Ideal.Facts] [hPre_decays_below_inf7 : Cert.Pre_decays_below_inf7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_decays_below_inf7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_decays_below_inf [hKernelIdeal : Cert.KernelIdeal.Facts] [hReferenceIdeal : Cert.ReferenceIdeal.Facts] [hPre_decays_below_inf : Cert.Pre_decays_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v21_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_v51) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_decays_below_inf7 [hKernel7Ideal : Cert.Kernel7Ideal.Facts] [hReference7Ideal : Cert.Reference7Ideal.Facts] [hPre_decays_below_inf7 : Cert.Pre_decays_below_inf7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_decays_below_inf7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v63) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_decays_below_inf : Cert.Pre_decays_below_inf.Facts) (hPre_decays_below_inf7 : Cert.Pre_decays_below_inf7.Facts),
    quiescent_Kernel (hKernel := hKernel)
    ∧ quiescent_KernelIdeal (hKernelIdeal := hKernelIdeal)
    ∧ quiescent_KernelIdeal_pre_decays_below_inf (hKernelIdeal := hKernelIdeal) (hPre_decays_below_inf := hPre_decays_below_inf)
    ∧ quiescent_ReferenceIdeal (hReferenceIdeal := hReferenceIdeal)
    ∧ quiescent_ReferenceIdeal_pre_decays_below_inf (hReferenceIdeal := hReferenceIdeal) (hPre_decays_below_inf := hPre_decays_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_decays_below_inf7 (hKernel7Ideal := hKernel7Ideal) (hPre_decays_below_inf7 := hPre_decays_below_inf7)
    ∧ quiescent_Reference7Ideal (hReference7Ideal := hReference7Ideal)
    ∧ quiescent_Reference7Ideal_pre_decays_below_inf7 (hReference7Ideal := hReference7Ideal) (hPre_decays_below_inf7 := hPre_decays_below_inf7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_decays_below_inf (hKernelIdeal := hKernelIdeal) (hReferenceIdeal := hReferenceIdeal) (hPre_decays_below_inf := hPre_decays_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_decays_below_inf7 (hKernel7Ideal := hKernel7Ideal) (hReference7Ideal := hReference7Ideal) (hPre_decays_below_inf7 := hPre_decays_below_inf7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_decays_below_inf.lean ====
abbrev S4x2048x2048 : Shape := ⟨3, ![4, 2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel

variable [Facts]

def fn {F : FTy → Type} [FloatOps F] (main_arg0 : FVec F S4x2048x2048 .f32) (main_arg1 : FVec F S4x2048x2048 .f32) (main_arg2 : FVec F S4x2048x2048 .bf16) (main_arg3 : FVec F S4x2048x2048 .f32) (main_arg4 : FVec F S2048 .f32) : IVec S_ 1 :=
  let main_cst : FVec F S_ .f32 := constant S_ .f32 0x7F800000#32
  let main_v0 : FVec F S4x2048x2048 .f32 := broadcastInDim S4x2048x2048 ![] bcast_S_S4x2048x2048 main_cst
  let main_v1 : IVec S4x2048x2048 1 := cmpf .olt main_arg1 main_v0
  let main_c : IVec S_ 1 := constantI S_ 1 1#1
  let main_v2 : IVec S_ 1 := (fun x v => Host.reduce IntOp.andi x v reducesTo_S4x2048x2048_S_d0_1_2 h_S_) main_v1 main_c
  main_v2
-- ==== Pre_decays_below_inf7.lean ====
abbrev S32x8x2048 : Shape := ⟨3, ![32, 8, 2048]⟩
abbrev S2048 : Shape := ⟨1, ![2048]⟩
abbrev S32x16x128x128 : Shape := ⟨4, ![32, 16, 128, 128]⟩
abbrev S_ : Shape := ⟨0, ![]⟩

class Facts : Prop where
  bcast_S_S32x8x2048 : S_.BroadcastsInDim S32x8x2048 (![] : Fin 0 → Fin S32x8x2048.rank)
  reducesTo_S32x8x2048_S_d0_1_2 : S32x8x2048.ReducesTo [0, 1, 2] S_
  h_S_ : 0 < S_.numel

variable [Facts]

def fn {F : FTy → Type} [FloatOps F] (main_arg0 : FVec F S32x8x2048 .f32) (main_arg1 : FVec F S32x8x2048 .f32) (main_arg2 : FVec F S32x8x2048 .bf16) (main_arg3 : FVec F S32x8x2048 .f32) (main_arg4 : FVec F S2048 .f32) (main_arg5 : FVec F S32x16x128x128 .f32) : IVec S_ 1 :=
  let main_cst : FVec F S_ .f32 := constant S_ .f32 0x7F800000#32
  let main_v0 : FVec F S32x8x2048 .f32 := broadcastInDim S32x8x2048 ![] bcast_S_S32x8x2048 main_cst
  let main_v1 : IVec S32x8x2048 1 := cmpf .olt main_arg1 main_v0
  let main_c : IVec S_ 1 := constantI S_ 1 1#1
  let main_v2 : IVec S_ 1 := (fun x v => Host.reduce IntOp.andi x v reducesTo_S32x8x2048_S_d0_1_2 h_S_) main_v1 main_c
  main_v2
-- ==== Kernel.lean ====
abbrev S4x2048x2048 : Shape := ⟨3, ![4, 2048, 2048]⟩
abbrev S2048 : Shape := ⟨1, ![2048]⟩
abbrev S1x2048 : Shape := ⟨2, ![1, 2048]⟩
abbrev S_ : Shape := ⟨0, ![]⟩
abbrev S4x16x128x128 : Shape := ⟨4, ![4, 16, 128, 128]⟩
abbrev S8192x2048 : Shape := ⟨2, ![8192, 2048]⟩
abbrev S256x2048 : Shape := ⟨2, ![256, 2048]⟩
abbrev S1x16x128x128 : Shape := ⟨4, ![1, 16, 128, 128]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x64 : Shape := ⟨2, ![64, 64]⟩
abbrev S64x2048 : Shape := ⟨2, ![64, 2048]⟩
abbrev S64x4096 : Shape := ⟨2, ![64, 4096]⟩
abbrev S16x2048 : Shape := ⟨2, ![16, 2048]⟩
abbrev S64x128 : Shape := ⟨2, ![64, 128]⟩
abbrev S64x512 : Shape := ⟨2, ![64, 512]⟩
abbrev S1x128 : Shape := ⟨2, ![1, 128]⟩
abbrev S64 : Shape := ⟨1, ![64]⟩
abbrev S64x1 : Shape := ⟨2, ![64, 1]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .bf16⟩
  | .hbm, ⟨3, _⟩ => ⟨S4x2048x2048, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S4x16x128x128, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .bf16⟩
  | .hbm, ⟨13, _⟩ => ⟨S4x16x128x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x16x128x128, .f32⟩
  | .local _ .vmem, ⟨10, _⟩ => ⟨S1x16x128x128, .f32⟩
  | .local _ .vmem, ⟨11, _⟩ => ⟨S256x2048, .bf16⟩
  | .local _ .vmem, ⟨12, _⟩ => ⟨S256x2048, .bf16⟩
  | .local _ .vmem, ⟨13, _⟩ => ⟨S1x16x128x128, .f32⟩
  | .local _ .vmem, ⟨14, _⟩ => ⟨S1x16x128x128, .f32⟩
  | .local _ .vmem, ⟨15, _⟩ => ⟨S16x128x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 8], ![false, false, false]⟩

@[reducible] def k0_t1_loop : Scf.Loop 32 :=
  let c0_i32_2 : BitVec 32 := 0#32
  let c4_i32 : BitVec 32 := 4#32
  let v11 : BitVec 32 := Scalar.addi c0_i32_2 c4_i32
  let c1_i32 : BitVec 32 := 1#32
  ⟨c0_i32_2, v11, c1_i32⟩
def k0_mult1 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  v15
def k0_off1 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v17 : Index := Scalar.indexCast v16
  let c0 : Index := 0#32
  ![v17.toNat, 0]
def k0_off2 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v538 : Index := Scalar.indexCast v16
  let c0_148 : Index := 0#32
  ![v538.toNat, 0]
def k0_off3 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v567 : Index := Scalar.indexCast v16
  let c128_157 : Index := 128#32
  ![v567.toNat, 128]
def k0_off4 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v596 : Index := Scalar.indexCast v16
  let c256_166 : Index := 256#32
  ![v596.toNat, 256]
def k0_off5 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v625 : Index := Scalar.indexCast v16
  let c384_175 : Index := 384#32
  ![v625.toNat, 384]
def k0_off6 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v654 : Index := Scalar.indexCast v16
  let c512_184 : Index := 512#32
  ![v654.toNat, 512]
def k0_off7 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v683 : Index := Scalar.indexCast v16
  let c640_193 : Index := 640#32
  ![v683.toNat, 640]
def k0_off8 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v712 : Index := Scalar.indexCast v16
  let c768_202 : Index := 768#32
  ![v712.toNat, 768]
def k0_off9 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v741 : Index := Scalar.indexCast v16
  let c896_211 : Index := 896#32
  ![v741.toNat, 896]
def k0_off10 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v770 : Index := Scalar.indexCast v16
  let c1024_220 : Index := 1024#32
  ![v770.toNat, 1024]
def k0_off11 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v799 : Index := Scalar.indexCast v16
  let c1152_229 : Index := 1152#32
  ![v799.toNat, 1152]
def k0_off12 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v828 : Index := Scalar.indexCast v16
  let c1280_238 : Index := 1280#32
  ![v828.toNat, 1280]
def k0_off13 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v857 : Index := Scalar.indexCast v16
  let c1408_247 : Index := 1408#32
  ![v857.toNat, 1408]
def k0_off14 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v886 : Index := Scalar.indexCast v16
  let c1536_256 : Index := 1536#32
  ![v886.toNat, 1536]
def k0_off15 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v915 : Index := Scalar.indexCast v16
  let c1664_265 : Index := 1664#32
  ![v915.toNat, 1664]
def k0_off16 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v944 : Index := Scalar.indexCast v16
  let c1792_274 : Index := 1792#32
  ![v944.toNat, 1792]
def k0_off17 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v15 : BitVec 32 := Scalar.muli arg12 c64_i32
  let v16 : BitVec 32 := v15
  let v973 : Index := Scalar.indexCast v16
  let c1920_283 : Index := 1920#32
  ![v973.toNat, 1920]
def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S4x2048x2048 : Shape := ⟨3, ![4, 2048, 2048]⟩
abbrev S2048 : Shape := ⟨1, ![2048]⟩
abbrev S_ : Shape := ⟨0, ![]⟩
abbrev S4x16x128x128 : Shape := ⟨4, ![4, 16, 128, 128]⟩
abbrev S4x2048x16x128 : Shape := ⟨4, ![4, 2048, 16, 128]⟩
abbrev S64x64 : Shape := ⟨2, ![64, 64]⟩
abbrev S1x1x64x64x1 : Shape := ⟨5, ![1, 1, 64, 64, 1]⟩
abbrev S4x32x64x16x128 : Shape := ⟨5, ![4, 32, 64, 16, 128]⟩
abbrev S32x4x16x64x128 : Shape := ⟨5, ![32, 4, 16, 64, 128]⟩
abbrev S1x4x16x64x128 : Shape := ⟨5, ![1, 4, 16, 64, 128]⟩
abbrev S4x16x64x128 : Shape := ⟨4, ![4, 16, 64, 128]⟩
abbrev S4x16x64x1x128 : Shape := ⟨5, ![4, 16, 64, 1, 128]⟩
abbrev S4x16x1x64x128 : Shape := ⟨5, ![4, 16, 1, 64, 128]⟩
abbrev S4x16x64x64x128 : Shape := ⟨5, ![4, 16, 64, 64, 128]⟩
abbrev S4x16x64x64 : Shape := ⟨4, ![4, 16, 64, 64]⟩
abbrev S4x16x1x128 : Shape := ⟨4, ![4, 16, 1, 128]⟩
abbrev S4x16x128 : Shape := ⟨3, ![4, 16, 128]⟩
abbrev S4x16x128x1 : Shape := ⟨4, ![4, 16, 128, 1]⟩
abbrev S4x2048x16 : Shape := ⟨3, ![4, 2048, 16]⟩
abbrev S4x2048x16x1 : Shape := ⟨4, ![4, 2048, 16, 1]⟩
abbrev S16x128 : Shape := ⟨2, ![16, 128]⟩
abbrev S1x1x16x128 : Shape := ⟨4, ![1, 1, 16, 128]⟩
abbrev S8192x2048 : Shape := ⟨2, ![8192, 2048]⟩

abbrev nBuf : Space → Nat
  | .hbm => 148
  | .vmem => 0
  | .smem => 0
  | _ => 0

abbrev hbmTy0_0 (i : Nat) : BufTy := match i % 128 with
  | 0 => ⟨S4x2048x2048, .f32⟩
  | 1 => ⟨S4x2048x2048, .f32⟩
  | 2 => ⟨S4x2048x2048, .bf16⟩
  | 3 => ⟨S4x2048x2048, .f32⟩
  | 4 => ⟨S2048, .f32⟩
  | 5 => ⟨S_, .f32⟩
  | 6 => ⟨S4x16x128x128, .f32⟩
  | 7 => ⟨S4x2048x16x128, .f32⟩
  | 8 => ⟨S4x2048x2048, .f32⟩
  | 9 => ⟨S_, .f32⟩
  | 10 => ⟨S4x2048x2048, .f32⟩
  | 11 => ⟨S4x2048x2048, .f32⟩
  | 12 => ⟨S4x2048x16x128, .f32⟩
  | 13 => ⟨S4x2048x16x128, .bf16⟩
  | 14 => ⟨S4x2048x16x128, .f32⟩
  | 15 => ⟨S_, .i1⟩
  | 16 => ⟨S64x64, .i1⟩
  | 17 => ⟨S64x64, .i32⟩
  | 18 => ⟨S_, .i32⟩
  | 19 => ⟨S64x64, .i32⟩
  | 20 => ⟨S64x64, .i32⟩
  | 21 => ⟨S64x64, .i32⟩
  | 22 => ⟨S64x64, .i1⟩
  | 23 => ⟨S_, .i1⟩
  | 24 => ⟨S64x64, .i1⟩
  | 25 => ⟨S64x64, .i1⟩
  | 26 => ⟨S1x1x64x64x1, .i1⟩
  | 27 => ⟨S4x32x64x16x128, .f32⟩
  | 28 => ⟨S32x4x16x64x128, .f32⟩
  | 29 => ⟨S4x32x64x16x128, .f32⟩
  | 30 => ⟨S32x4x16x64x128, .f32⟩
  | 31 => ⟨S4x2048x16x128, .f32⟩
  | 32 => ⟨S4x32x64x16x128, .f32⟩
  | 33 => ⟨S32x4x16x64x128, .f32⟩
  | 34 => ⟨S4x32x64x16x128, .f32⟩
  | 35 => ⟨S32x4x16x64x128, .f32⟩
  | 36 => ⟨S_, .f32⟩
  | 37 => ⟨S32x4x16x64x128, .f32⟩
  | 38 => ⟨S_, .i32⟩
  | 39 => ⟨S32x4x16x64x128, .f32⟩
  | 40 => ⟨S32x4x16x64x128, .f32⟩
  | 41 => ⟨S32x4x16x64x128, .f32⟩
  | 42 => ⟨S32x4x16x64x128, .f32⟩
  | 43 => ⟨S1x1x64x64x1, .i1⟩
  | 44 => ⟨S_, .i32⟩
  | 45 => ⟨S4x16x128x128, .f32⟩
  | 46 => ⟨S32x4x16x64x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x4x16x64x128, .f32⟩
  | 54 => ⟨S4x16x64x128, .f32⟩
  | 55 => ⟨S_, .i32⟩
  | 56 => ⟨S_, .i32⟩
  | 57 => ⟨S_, .i32⟩
  | 58 => ⟨S_, .i32⟩
  | 59 => ⟨S1x4x16x64x128, .f32⟩
  | 60 => ⟨S4x16x64x128, .f32⟩
  | 61 => ⟨S_, .i32⟩
  | 62 => ⟨S_, .i32⟩
  | 63 => ⟨S_, .i32⟩
  | 64 => ⟨S_, .i32⟩
  | 65 => ⟨S1x4x16x64x128, .f32⟩
  | 66 => ⟨S4x16x64x128, .f32⟩
  | 67 => ⟨S_, .i32⟩
  | 68 => ⟨S_, .i32⟩
  | 69 => ⟨S_, .i32⟩
  | 70 => ⟨S_, .i32⟩
  | 71 => ⟨S1x4x16x64x128, .f32⟩
  | 72 => ⟨S4x16x64x128, .f32⟩
  | 73 => ⟨S_, .f32⟩
  | 74 => ⟨S_, .f32⟩
  | 75 => ⟨S4x16x64x128, .f32⟩
  | 76 => ⟨S4x16x64x1x128, .f32⟩
  | 77 => ⟨S4x16x1x64x128, .f32⟩
  | 78 => ⟨S4x16x64x64x128, .f32⟩
  | 79 => ⟨S4x16x64x64x128, .f32⟩
  | 80 => ⟨S4x16x64x64x128, .f32⟩
  | 81 => ⟨S_, .f32⟩
  | 82 => ⟨S_, .f32⟩
  | 83 => ⟨S4x16x64x64x128, .i1⟩
  | 84 => ⟨S4x16x64x64x128, .f32⟩
  | 85 => ⟨S4x16x64x64x128, .f32⟩
  | 86 => ⟨S4x16x64x64x128, .f32⟩
  | 87 => ⟨S_, .f32⟩
  | 88 => ⟨S_, .f32⟩
  | 89 => ⟨S4x16x64x64x128, .i1⟩
  | 90 => ⟨S4x16x64x64x128, .f32⟩
  | 91 => ⟨S4x16x64x64x128, .f32⟩
  | 92 => ⟨S4x16x64x1x128, .f32⟩
  | 93 => ⟨S4x16x64x64x128, .f32⟩
  | 94 => ⟨S4x16x64x64x128, .f32⟩
  | 95 => ⟨S4x16x1x64x128, .f32⟩
  | 96 => ⟨S4x16x64x64x128, .f32⟩
  | 97 => ⟨S4x16x64x64x128, .f32⟩
  | 98 => ⟨S_, .f32⟩
  | 99 => ⟨S4x16x64x64, .f32⟩
  | 100 => ⟨S4x16x64x128, .f32⟩
  | 101 => ⟨S4x16x64x128, .f32⟩
  | 102 => ⟨S4x16x64x128, .f32⟩
  | 103 => ⟨S4x16x64x128, .f32⟩
  | 104 => ⟨S4x16x64x128, .f32⟩
  | 105 => ⟨S4x16x1x128, .f32⟩
  | 106 => ⟨S4x16x128, .f32⟩
  | 107 => ⟨S4x16x128x1, .f32⟩
  | 108 => ⟨S4x16x128x1, .f32⟩
  | 109 => ⟨S4x16x128x128, .f32⟩
  | 110 => ⟨S4x16x128x128, .f32⟩
  | 111 => ⟨S4x16x64x128, .f32⟩
  | 112 => ⟨S4x16x64x128, .f32⟩
  | 113 => ⟨S4x16x64x128, .f32⟩
  | 114 => ⟨S4x16x64x128, .f32⟩
  | 115 => ⟨S4x16x128x128, .f32⟩
  | 116 => ⟨S4x16x128x128, .f32⟩
  | 117 => ⟨S1x4x16x64x128, .f32⟩
  | 118 => ⟨S_, .i32⟩
  | 119 => ⟨S_, .i32⟩
  | 120 => ⟨S_, .i32⟩
  | 121 => ⟨S_, .i32⟩
  | 122 => ⟨S32x4x16x64x128, .f32⟩
  | 123 => ⟨S_, .i32⟩
  | 124 => ⟨S_, .i32⟩
  | 125 => ⟨S4x32x64x16x128, .f32⟩
  | 126 => ⟨S4x2048x16x128, .f32⟩
  | 127 => ⟨S4x2048x16x128, .f32⟩
  | _ => ⟨S4x2048x2048, .f32⟩

abbrev hbmTy0_1 (i : Nat) : BufTy := match i % 128 with
  | 0 => ⟨S_, .f32⟩
  | 1 => ⟨S4x2048x16, .f32⟩
  | 2 => ⟨S4x2048x16x1, .f32⟩
  | 3 => ⟨S_, .f32⟩
  | 4 => ⟨S4x2048x16x1, .f32⟩
  | 5 => ⟨S4x2048x16x1, .f32⟩
  | 6 => ⟨S_, .f32⟩
  | 7 => ⟨S4x2048x16x1, .f32⟩
  | 8 => ⟨S4x2048x16x1, .f32⟩
  | 9 => ⟨S4x2048x16x1, .f32⟩
  | 10 => ⟨S4x2048x16x128, .f32⟩
  | 11 => ⟨S4x2048x16x128, .f32⟩
  | 12 => ⟨S16x128, .f32⟩
  | 13 => ⟨S1x1x16x128, .f32⟩
  | 14 => ⟨S4x2048x16x128, .f32⟩
  | 15 => ⟨S4x2048x16x128, .f32⟩
  | 16 => ⟨S4x2048x2048, .f32⟩
  | 17 => ⟨S4x2048x2048, .f32⟩
  | 18 => ⟨S8192x2048, .f32⟩
  | 19 => ⟨S8192x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_c_2 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v21_3 : Ref sig .tc := ⟨.hbm, 42, rfl⟩
abbrev main_v21_4 : Ref sig .tc := ⟨.hbm, 43, rfl⟩
abbrev main_v21_5 : Ref sig .tc := ⟨.hbm, 44, rfl⟩
abbrev main_v21_6 : Ref sig .tc := ⟨.hbm, 45, rfl⟩
abbrev main_v21_7 : Ref sig .tc := ⟨.hbm, 46, rfl⟩
abbrev main_while0c_c_13 : Ref sig .tc := ⟨.hbm, 47, rfl⟩
abbrev main_while0c_v42 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v42 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v43 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v44 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v45 : Ref sig .tc := ⟨.hbm, 72, rfl⟩
abbrev main_while0b_call5_call0_cst : Ref sig .tc := ⟨.hbm, 73, rfl⟩
abbrev main_while0b_call5_call0_v0 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_cst_13 : Ref sig .tc := ⟨.hbm, 81, rfl⟩
abbrev main_while0b_call6_v0 : Ref sig .tc := ⟨.hbm, 82, rfl⟩
abbrev main_while0b_call6_v1 : Ref sig .tc := ⟨.hbm, 83, rfl⟩
abbrev main_while0b_call6_v2 : Ref sig .tc := ⟨.hbm, 84, rfl⟩
abbrev main_while0b_v52 : Ref sig .tc := ⟨.hbm, 85, rfl⟩
abbrev main_while0b_v53 : Ref sig .tc := ⟨.hbm, 86, rfl⟩
abbrev main_while0b_cst_14 : Ref sig .tc := ⟨.hbm, 87, rfl⟩
abbrev main_while0b_call7_v0 : Ref sig .tc := ⟨.hbm, 88, rfl⟩
abbrev main_while0b_call7_v1 : Ref sig .tc := ⟨.hbm, 89, rfl⟩
abbrev main_while0b_call7_v2 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_cst_15 : Ref sig .tc := ⟨.hbm, 98, rfl⟩
abbrev main_while0b_v61 : Ref sig .tc := ⟨.hbm, 99, rfl⟩
abbrev main_while0b_v62 : Ref sig .tc := ⟨.hbm, 100, rfl⟩
abbrev main_while0b_v63 : Ref sig .tc := ⟨.hbm, 101, rfl⟩
abbrev main_while0b_v64 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_v68 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_call8_v0 : Ref sig .tc := ⟨.hbm, 117, rfl⟩
abbrev main_while0b_call8_c : Ref sig .tc := ⟨.hbm, 118, rfl⟩
abbrev main_while0b_call8_c_0 : Ref sig .tc := ⟨.hbm, 119, rfl⟩
abbrev main_while0b_call8_c_1 : Ref sig .tc := ⟨.hbm, 120, rfl⟩
abbrev main_while0b_call8_c_2 : Ref sig .tc := ⟨.hbm, 121, rfl⟩
abbrev main_while0b_v79 : Ref sig .tc := ⟨.hbm, 122, rfl⟩
abbrev main_while0b_c_16 : Ref sig .tc := ⟨.hbm, 123, rfl⟩
abbrev main_while0b_v80 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_cst_3 : Ref sig .tc := ⟨.hbm, 128, rfl⟩
abbrev main_v25 : Ref sig .tc := ⟨.hbm, 129, rfl⟩
abbrev main_v26 : Ref sig .tc := ⟨.hbm, 130, rfl⟩
abbrev main_cst_4 : Ref sig .tc := ⟨.hbm, 131, rfl⟩
abbrev main_v27 : Ref sig .tc := ⟨.hbm, 132, rfl⟩
abbrev main_v28 : Ref sig .tc := ⟨.hbm, 133, rfl⟩
abbrev main_cst_5 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S256x4096 : Shape := ⟨2, ![256, 4096]⟩
abbrev S4096x16384 : Shape := ⟨2, ![4096, 16384]⟩
abbrev S8192x16384 : Shape := ⟨2, ![8192, 16384]⟩
abbrev S256x16384 : Shape := ⟨2, ![256, 16384]⟩
abbrev S1024x4096 : Shape := ⟨2, ![1024, 4096]⟩
abbrev S4096x512 : Shape := ⟨2, ![4096, 512]⟩
abbrev S1024x512 : Shape := ⟨2, ![1024, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x16384, .f32⟩
  | .hbm, ⟨3, _⟩ => ⟨S8192x16384, .bf16⟩
  | .hbm, ⟨4, _⟩ => ⟨S256x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S256x4096, .bf16⟩
  | .local _ .vmem, ⟨5, _⟩ => ⟨S256x4096, .bf16⟩
  | .local _ .vmem, ⟨6, _⟩ => ⟨S1024x512, .bf16⟩
  | .local _ .vmem, ⟨7, _⟩ => ⟨S1024x512, .bf16⟩
  | .local _ .vmem, ⟨8, _⟩ => ⟨S256x512, .bf16⟩
  | .local _ .vmem, ⟨9, _⟩ => ⟨S256x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 32, 1], ![false, false, false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x4096 : Shape := ⟨2, ![8192, 4096]⟩
abbrev S256x4096 : Shape := ⟨2, ![256, 4096]⟩
abbrev S4096x16384 : Shape := ⟨2, ![4096, 16384]⟩
abbrev S8192x16384 : Shape := ⟨2, ![8192, 16384]⟩
abbrev S_ : Shape := ⟨0, ![]⟩
abbrev S256x16384 : Shape := ⟨2, ![256, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x16384, .f32⟩
  | .hbm, ⟨3, _⟩ => ⟨S8192x4096, .f32⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S8192x16384, .bf16⟩
  | .hbm, ⟨10, _⟩ => ⟨S256x4096, .f32⟩
  | .hbm, ⟨11, _⟩ => ⟨S256x16384, .f32⟩
  | .hbm, ⟨12, _⟩ => ⟨S_, .f32⟩
  | .hbm, ⟨13, _⟩ => ⟨S256x16384, .f32⟩
  | .hbm, ⟨14, _⟩ => ⟨S256x16384, .f32⟩
  | .hbm, ⟨15, _⟩ => ⟨S256x16384, .f32⟩
  | .hbm, ⟨16, _⟩ => ⟨S256x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel3.lean ====
abbrev S8192x16384 : Shape := ⟨2, ![8192, 16384]⟩
abbrev S256x16384 : Shape := ⟨2, ![256, 16384]⟩
abbrev S8192x4096 : Shape := ⟨2, ![8192, 4096]⟩
abbrev S256x4096 : Shape := ⟨2, ![256, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x16384, .bf16⟩
  | .hbm, ⟨1, _⟩ => ⟨S256x16384, .bf16⟩
  | .hbm, ⟨2, _⟩ => ⟨S8192x4096, .f32⟩
  | .hbm, ⟨3, _⟩ => ⟨S256x4096, .f32⟩
  | .hbm, ⟨4, _⟩ => ⟨S16384x4096, .bf16⟩
  | .hbm, ⟨5, _⟩ => ⟨S8192x4096, .f32⟩
  | .hbm, ⟨6, _⟩ => ⟨S256x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1024x1024, .f32⟩
  | .local _ .vmem, ⟨11, _⟩ => ⟨S1024x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond3 (i : grid0.Coords) : BitVec 1 :=
  let arg0 : BitVec 32 := BitVec.ofNat 32 (i 0).val
  let c0_i32_9 : BitVec 32 := 0#32
  let v13 : BitVec 1 := Scalar.cmpi .eq arg0 c0_i32_9
  let v14 : BitVec 32 := Scalar.extui v13
  let c0_i32_10 : BitVec 32 := 0#32
  let v15 : BitVec 1 := Scalar.cmpi .ne v14 c0_i32_10
  v15

def k0_cond5 (i : grid0.Coords) : BitVec 1 :=
  let arg2 : BitVec 32 := BitVec.ofNat 32 (i 2).val
  let c7_i32_22 : BitVec 32 := 7#32
  let v27 : BitVec 1 := Scalar.cmpi .eq arg2 c7_i32_22
  let v28 : BitVec 32 := Scalar.extui v27
  let c0_i32_23 : BitVec 32 := 0#32
  let v29 : BitVec 1 := Scalar.cmpi .ne v28 c0_i32_23
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c7_i32 : BitVec 32 := 7#32
  let v1 : BitVec 32 := Scalar.select v0 arg2 c7_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference3Ideal.lean ====
abbrev S8192x16384 : Shape := ⟨2, ![8192, 16384]⟩
abbrev S256x16384 : Shape := ⟨2, ![256, 16384]⟩
abbrev S8192x4096 : Shape := ⟨2, ![8192, 4096]⟩
abbrev S256x4096 : Shape := ⟨2, ![256, 4096]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S256x16384, .bf16⟩
  | .hbm, ⟨2, _⟩ => ⟨S8192x4096, .f32⟩
  | .hbm, ⟨3, _⟩ => ⟨S256x4096, .f32⟩
  | .hbm, ⟨4, _⟩ => ⟨S16384x4096, .bf16⟩
  | .hbm, ⟨5, _⟩ => ⟨S8192x16384, .f32⟩
  | .hbm, ⟨6, _⟩ => ⟨S16384x4096, .f32⟩
  | .hbm, ⟨7, _⟩ => ⟨S8192x4096, .f32⟩
  | .hbm, ⟨8, _⟩ => ⟨S8192x4096, .f32⟩
  | .hbm, ⟨9, _⟩ => ⟨S256x16384, .f32⟩
  | .hbm, ⟨10, _⟩ => ⟨S16384x4096, .f32⟩
  | .hbm, ⟨11, _⟩ => ⟨S256x4096, .f32⟩
  | .hbm, ⟨12, _⟩ => ⟨S256x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x4096 : Shape := ⟨2, ![8192, 4096]⟩
abbrev S256x4096 : Shape := ⟨2, ![256, 4096]⟩
abbrev S4096x12288 : Shape := ⟨2, ![4096, 12288]⟩
abbrev S8192x8x128 : Shape := ⟨3, ![8192, 8, 128]⟩
abbrev S8192x1024 : Shape := ⟨2, ![8192, 1024]⟩
abbrev S256x8x128 : Shape := ⟨3, ![256, 8, 128]⟩
abbrev S256x1024 : Shape := ⟨2, ![256, 1024]⟩
abbrev S1024x4096 : Shape := ⟨2, ![1024, 4096]⟩
abbrev S4096x1024 : Shape := ⟨2, ![4096, 1024]⟩
abbrev S1024x8x128 : Shape := ⟨3, ![1024, 8, 128]⟩
abbrev S1024x1024 : Shape := ⟨2, ![1024, 1024]⟩
abbrev S4096x512 : Shape := ⟨2, ![4096, 512]⟩
abbrev S1024x512 : Shape := ⟨2, ![1024, 512]⟩
abbrev S1024x128 : Shape := ⟨2, ![1024, 128]⟩
abbrev S1024x4x128 : Shape := ⟨3, ![1024, 4, 128]⟩
abbrev S1024x1x128 : Shape := ⟨3, ![1024, 1, 128]⟩
abbrev S256x512 : Shape := ⟨2, ![256, 512]⟩
abbrev S256x128 : Shape := ⟨2, ![256, 128]⟩
abbrev S256x4x128 : Shape := ⟨3, ![256, 4, 128]⟩
abbrev S256x1x128 : Shape := ⟨3, ![256, 1, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x8x128, .f32⟩
  | .hbm, ⟨4, _⟩ => ⟨S8192x1024, .bf16⟩
  | .hbm, ⟨5, _⟩ => ⟨S256x8x128, .f32⟩
  | .hbm, ⟨6, _⟩ => ⟨S256x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S1024x8x128, .f32⟩
  | .local _ .vmem, ⟨6, _⟩ => ⟨S1024x8x128, .f32⟩
  | .local _ .vmem, ⟨7, _⟩ => ⟨S1024x1024, .bf16⟩
  | .local _ .vmem, ⟨8, _⟩ => ⟨S1024x1024, .bf16⟩
  | .local _ .vmem, ⟨9, _⟩ => ⟨S256x8x128, .f32⟩
  | .local _ .vmem, ⟨10, _⟩ => ⟨S256x8x128, .f32⟩
  | .local _ .vmem, ⟨11, _⟩ => ⟨S256x1024, .bf16⟩
  | .local _ .vmem, ⟨12, _⟩ => ⟨S256x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32_78 : BitVec 32 := 0#32
  let v78 : BitVec 1 := Scalar.cmpi .eq arg0 c0_i32_78
  let v79 : BitVec 32 := Scalar.extui v78
  let c0_i32_79 : BitVec 32 := 0#32
  let v80 : BitVec 1 := Scalar.cmpi .ne v79 c0_i32_79
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.addi arg1 c3_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S8192x4096 : Shape := ⟨2, ![8192, 4096]⟩
abbrev S256x4096 : Shape := ⟨2, ![256, 4096]⟩
abbrev S4096x12288 : Shape := ⟨2, ![4096, 12288]⟩
abbrev S8192x12288 : Shape := ⟨2, ![8192, 12288]⟩
abbrev S8192x2048 : Shape := ⟨2, ![8192, 2048]⟩
abbrev S8192x1024 : Shape := ⟨2, ![8192, 1024]⟩
abbrev S8192x8x128 : Shape := ⟨3, ![8192, 8, 128]⟩
abbrev S256x12288 : Shape := ⟨2, ![256, 12288]⟩
abbrev S256x2048 : Shape := ⟨2, ![256, 2048]⟩
abbrev S256x1024 : Shape := ⟨2, ![256, 1024]⟩
abbrev S256x8x128 : Shape := ⟨3, ![256, 8, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x8x128, .f32⟩
  | .hbm, ⟨14, _⟩ => ⟨S8192x1024, .bf16⟩
  | .hbm, ⟨15, _⟩ => ⟨S256x4096, .f32⟩
  | .hbm, ⟨16, _⟩ => ⟨S4096x12288, .f32⟩
  | .hbm, ⟨17, _⟩ => ⟨S256x12288, .f32⟩
  | .hbm, ⟨18, _⟩ => ⟨S256x2048, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x8x128, .f32⟩
  | .hbm, ⟨26, _⟩ => ⟨S256x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel5.lean ====
abbrev S8192x4096 : Shape := ⟨2, ![8192, 4096]⟩
abbrev S256x4096 : Shape := ⟨2, ![256, 4096]⟩
abbrev S4096x12288 : Shape := ⟨2, ![4096, 12288]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S8192x8x128 : Shape := ⟨3, ![8192, 8, 128]⟩
abbrev S8192x1024 : Shape := ⟨2, ![8192, 1024]⟩
abbrev S256x8x128 : Shape := ⟨3, ![256, 8, 128]⟩
abbrev S256x1024 : Shape := ⟨2, ![256, 1024]⟩
abbrev S1024x4096 : Shape := ⟨2, ![1024, 4096]⟩
abbrev S4096x1024 : Shape := ⟨2, ![4096, 1024]⟩
abbrev S1024x8x128 : Shape := ⟨3, ![1024, 8, 128]⟩
abbrev S1024x1024 : Shape := ⟨2, ![1024, 1024]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩
abbrev S1024x1 : Shape := ⟨2, ![1024, 1]⟩
abbrev S1024x4x128 : Shape := ⟨3, ![1024, 4, 128]⟩
abbrev S1024x1x128 : Shape := ⟨3, ![1024, 1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x4x128 : Shape := ⟨3, ![256, 4, 128]⟩
abbrev S256x1x128 : Shape := ⟨3, ![256, 1, 128]⟩

abbrev nBuf : Space → Nat
  | .hbm => 12
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S128, .f32⟩
  | .hbm, ⟨4, _⟩ => ⟨S1x128, .f32⟩
  | .hbm, ⟨5, _⟩ => ⟨S8x128, .f32⟩
  | .hbm, ⟨6, _⟩ => ⟨S1024, .f32⟩
  | .hbm, ⟨7, _⟩ => ⟨S1x1024, .f32⟩
  | .hbm, ⟨8, _⟩ => ⟨S8192x8x128, .f32⟩
  | .hbm, ⟨9, _⟩ => ⟨S8192x1024, .bf16⟩
  | .hbm, ⟨10, _⟩ => ⟨S256x8x128, .f32⟩
  | .hbm, ⟨11, _⟩ => ⟨S256x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024, .f32⟩
  | .local _ .vmem, ⟨4, _⟩ => ⟨S256x4096, .bf16⟩
  | .local _ .vmem, ⟨5, _⟩ => ⟨S256x4096, .bf16⟩
  | .local _ .vmem, ⟨6, _⟩ => ⟨S1024x8x128, .f32⟩
  | .local _ .vmem, ⟨7, _⟩ => ⟨S1024x8x128, .f32⟩
  | .local _ .vmem, ⟨8, _⟩ => ⟨S1024x1024, .bf16⟩
  | .local _ .vmem, ⟨9, _⟩ => ⟨S1024x1024, .bf16⟩
  | .local _ .vmem, ⟨10, _⟩ => ⟨S256x8x128, .f32⟩
  | .local _ .vmem, ⟨11, _⟩ => ⟨S256x8x128, .f32⟩
  | .local _ .vmem, ⟨12, _⟩ => ⟨S256x1024, .bf16⟩
  | .local _ .vmem, ⟨13, _⟩ => ⟨S256x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32_106 : BitVec 32 := 0#32
  let v178 : BitVec 1 := Scalar.cmpi .eq arg0 c0_i32_106
  let v179 : BitVec 32 := Scalar.extui v178
  let c0_i32_107 : BitVec 32 := 0#32
  let v180 : BitVec 1 := Scalar.cmpi .ne v179 c0_i32_107
  v180

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.addi arg1 c2_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference5Ideal.lean ====
abbrev S8192x4096 : Shape := ⟨2, ![8192, 4096]⟩
abbrev S256x4096 : Shape := ⟨2, ![256, 4096]⟩
abbrev S4096x12288 : Shape := ⟨2, ![4096, 12288]⟩
abbrev S128 : Shape := ⟨1, ![128]⟩
abbrev S8192x12288 : Shape := ⟨2, ![8192, 12288]⟩
abbrev S8192x2048 : Shape := ⟨2, ![8192, 2048]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S256x12288 : Shape := ⟨2, ![256, 12288]⟩
abbrev S256x2048 : Shape := ⟨2, ![256, 2048]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S128, .f32⟩
  | .hbm, ⟨4, _⟩ => ⟨S8192x4096, .f32⟩
  | .hbm, ⟨5, _⟩ => ⟨S4096x12288, .f32⟩
  | .hbm, ⟨6, _⟩ => ⟨S8192x12288, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x8x128, .f32⟩
  | .hbm, ⟨15, _⟩ => ⟨S8192x8x128, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x1, .f32⟩
  | .hbm, ⟨26, _⟩ => ⟨S8192x8x128, .f32⟩
  | .hbm, ⟨27, _⟩ => ⟨S8192x8x128, .f32⟩
  | .hbm, ⟨28, _⟩ => ⟨S1x1x128, .f32⟩
  | .hbm, ⟨29, _⟩ => ⟨S8192x8x128, .f32⟩
  | .hbm, ⟨30, _⟩ => ⟨S8192x8x128, .f32⟩
  | .hbm, ⟨31, _⟩ => ⟨S8192x1024, .f32⟩
  | .hbm, ⟨32, _⟩ => ⟨S8192x1024, .bf16⟩
  | .hbm, ⟨33, _⟩ => ⟨S256x4096, .f32⟩
  | .hbm, ⟨34, _⟩ => ⟨S4096x12288, .f32⟩
  | .hbm, ⟨35, _⟩ => ⟨S256x12288, .f32⟩
  | .hbm, ⟨36, _⟩ => ⟨S256x2048, .f32⟩
  | .hbm, ⟨37, _⟩ => ⟨S256x1024, .f32⟩
  | .hbm, ⟨38, _⟩ => ⟨S256x1024, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x8x128, .f32⟩
  | .hbm, ⟨44, _⟩ => ⟨S256x8x128, .f32⟩
  | .hbm, ⟨45, _⟩ => ⟨S_, .f32⟩
  | .hbm, ⟨46, _⟩ => ⟨S256x8, .f32⟩
  | .hbm, ⟨47, _⟩ => ⟨S256x8x1, .f32⟩
  | .hbm, ⟨48, _⟩ => ⟨S_, .f32⟩
  | .hbm, ⟨49, _⟩ => ⟨S256x8x1, .f32⟩
  | .hbm, ⟨50, _⟩ => ⟨S256x8x1, .f32⟩
  | .hbm, ⟨51, _⟩ => ⟨S_, .f32⟩
  | .hbm, ⟨52, _⟩ => ⟨S256x8x1, .f32⟩
  | .hbm, ⟨53, _⟩ => ⟨S256x8x1, .f32⟩
  | .hbm, ⟨54, _⟩ => ⟨S256x8x1, .f32⟩
  | .hbm, ⟨55, _⟩ => ⟨S256x8x128, .f32⟩
  | .hbm, ⟨56, _⟩ => ⟨S256x8x128, .f32⟩
  | .hbm, ⟨57, _⟩ => ⟨S1x1x128, .f32⟩
  | .hbm, ⟨58, _⟩ => ⟨S256x8x128, .f32⟩
  | .hbm, ⟨59, _⟩ => ⟨S256x8x128, .f32⟩
  | .hbm, ⟨60, _⟩ => ⟨S256x1024, .f32⟩
  | .hbm, ⟨61, _⟩ => ⟨S256x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel6.lean ====
abbrev S8192x4096 : Shape := ⟨2, ![8192, 4096]⟩
abbrev S256x4096 : Shape := ⟨2, ![256, 4096]⟩
abbrev S8192x2048 : Shape := ⟨2, ![8192, 2048]⟩
abbrev S256x2048 : Shape := ⟨2, ![256, 2048]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩
abbrev S256x512 : Shape := ⟨2, ![256, 512]⟩

abbrev nBuf : Space → Nat
  | .hbm => 9
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S8192x2048, .bf16⟩
  | .hbm, ⟨3, _⟩ => ⟨S256x2048, .bf16⟩
  | .hbm, ⟨4, _⟩ => ⟨S8192x2048, .bf16⟩
  | .hbm, ⟨5, _⟩ => ⟨S256x2048, .bf16⟩
  | .hbm, ⟨6, _⟩ => ⟨S4096x4096, .f32⟩
  | .hbm, ⟨7, _⟩ => ⟨S8192x4096, .f32⟩
  | .hbm, ⟨8, _⟩ => ⟨S256x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x2048, .bf16⟩
  | .local _ .vmem, ⟨5, _⟩ => ⟨S1024x2048, .bf16⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x512, .f32⟩
  | .local _ .vmem, ⟨15, _⟩ => ⟨S256x512, .f32⟩
  | .local _ .vmem, ⟨16, _⟩ => ⟨S1024x512, .f32⟩
  | .local _ .vmem, ⟨17, _⟩ => ⟨S1024x512, .f32⟩
  | .local _ .vmem, ⟨18, _⟩ => ⟨S256x512, .f32⟩
  | .local _ .vmem, ⟨19, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_12 : BitVec 32 := 0#32
  let v14 : BitVec 1 := Scalar.cmpi .ne v13 c0_i32_12
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference6Ideal.lean ====
abbrev S8192x4096 : Shape := ⟨2, ![8192, 4096]⟩
abbrev S256x4096 : Shape := ⟨2, ![256, 4096]⟩
abbrev S8192x2048 : Shape := ⟨2, ![8192, 2048]⟩
abbrev S256x2048 : Shape := ⟨2, ![256, 2048]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S8192x2048, .bf16⟩
  | .hbm, ⟨3, _⟩ => ⟨S256x2048, .bf16⟩
  | .hbm, ⟨4, _⟩ => ⟨S8192x2048, .bf16⟩
  | .hbm, ⟨5, _⟩ => ⟨S256x2048, .bf16⟩
  | .hbm, ⟨6, _⟩ => ⟨S4096x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S256x4096, .bf16⟩
  | .hbm, ⟨12, _⟩ => ⟨S256x4096, .f32⟩
  | .hbm, ⟨13, _⟩ => ⟨S256x4096, .f32⟩
  | .hbm, ⟨14, _⟩ => ⟨S256x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel7.lean ====
abbrev S32x8x2048 : Shape := ⟨3, ![32, 8, 2048]⟩
abbrev S2048 : Shape := ⟨1, ![2048]⟩
abbrev S32x16x128x128 : Shape := ⟨4, ![32, 16, 128, 128]⟩
abbrev S256x2048 : Shape := ⟨2, ![256, 2048]⟩
abbrev S1x2048 : Shape := ⟨2, ![1, 2048]⟩
abbrev S8x2048 : Shape := ⟨2, ![8, 2048]⟩
abbrev S1x16x128x128 : Shape := ⟨4, ![1, 16, 128, 128]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x8 : Shape := ⟨2, ![8, 8]⟩
abbrev S8x4096 : Shape := ⟨2, ![8, 4096]⟩
abbrev S8x128 : Shape := ⟨2, ![8, 128]⟩
abbrev S1x128 : Shape := ⟨2, ![1, 128]⟩
abbrev S8 : Shape := ⟨1, ![8]⟩
abbrev S8x1 : Shape := ⟨2, ![8, 1]⟩

abbrev nBuf : Space → Nat
  | .hbm => 13
  | .vmem => 16
  | .smem => 0
  | _ => 0

abbrev bufTy : (tb : Table) → Fin (tcTables nBuf tb) → BufTy
  | .hbm, ⟨0, _⟩ => ⟨S32x8x2048, .f32⟩
  | .hbm, ⟨1, _⟩ => ⟨S32x8x2048, .f32⟩
  | .hbm, ⟨2, _⟩ => ⟨S32x8x2048, .bf16⟩
  | .hbm, ⟨3, _⟩ => ⟨S32x8x2048, .f32⟩
  | .hbm, ⟨4, _⟩ => ⟨S2048, .f32⟩
  | .hbm, ⟨5, _⟩ => ⟨S32x16x128x128, .f32⟩
  | .hbm, ⟨6, _⟩ => ⟨S256x2048, .f32⟩
  | .hbm, ⟨7, _⟩ => ⟨S256x2048, .f32⟩
  | .hbm, ⟨8, _⟩ => ⟨S256x2048, .bf16⟩
  | .hbm, ⟨9, _⟩ => ⟨S256x2048, .f32⟩
  | .hbm, ⟨10, _⟩ => ⟨S1x2048, .f32⟩
  | .hbm, ⟨11, _⟩ => ⟨S256x2048, .bf16⟩
  | .hbm, ⟨12, _⟩ => ⟨S32x16x128x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .bf16⟩
  | .local _ .vmem, ⟨5, _⟩ => ⟨S8x2048, .bf16⟩
  | .local _ .vmem, ⟨6, _⟩ => ⟨S8x2048, .f32⟩
  | .local _ .vmem, ⟨7, _⟩ => ⟨S8x2048, .f32⟩
  | .local _ .vmem, ⟨8, _⟩ => ⟨S1x2048, .f32⟩
  | .local _ .vmem, ⟨9, _⟩ => ⟨S1x16x128x128, .f32⟩
  | .local _ .vmem, ⟨10, _⟩ => ⟨S1x16x128x128, .f32⟩
  | .local _ .vmem, ⟨11, _⟩ => ⟨S8x2048, .bf16⟩
  | .local _ .vmem, ⟨12, _⟩ => ⟨S8x2048, .bf16⟩
  | .local _ .vmem, ⟨13, _⟩ => ⟨S1x16x128x128, .f32⟩
  | .local _ .vmem, ⟨14, _⟩ => ⟨S1x16x128x128, .f32⟩
  | .local _ .vmem, ⟨15, _⟩ => ⟨S16x128x128, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![32, 1, 1], ![false, false, false]⟩

def k0_mult1 : BitVec 32 :=
  let c0_i32_2 : BitVec 32 := 0#32
  let c8_i32 : BitVec 32 := 8#32
  let v11 : BitVec 32 := Scalar.muli c0_i32_2 c8_i32
  v11
def k0_off1 : Fin 2 → Nat :=
  let c0_i32_2 : BitVec 32 := 0#32
  let c8_i32 : BitVec 32 := 8#32
  let v11 : BitVec 32 := Scalar.muli c0_i32_2 c8_i32
  let v12 : BitVec 32 := v11
  let v13 : Index := Scalar.indexCast v12
  let c0 : Index := 0#32
  ![v13.toNat, 0]
def k0_off2 : Fin 2 → Nat :=
  let c0_i32_2 : BitVec 32 := 0#32
  let c8_i32 : BitVec 32 := 8#32
  let v11 : BitVec 32 := Scalar.muli c0_i32_2 c8_i32
  let v12 : BitVec 32 := v11
  let v345 : Index := Scalar.indexCast v12
  let c0_134 : Index := 0#32
  ![v345.toNat, 0]
def k0_off3 : Fin 2 → Nat :=
  let c0_i32_2 : BitVec 32 := 0#32
  let c8_i32 : BitVec 32 := 8#32
  let v11 : BitVec 32 := Scalar.muli c0_i32_2 c8_i32
  let v12 : BitVec 32 := v11
  let v374 : Index := Scalar.indexCast v12
  let c128_143 : Index := 128#32
  ![v374.toNat, 128]
def k0_off4 : Fin 2 → Nat :=
  let c0_i32_2 : BitVec 32 := 0#32
  let c8_i32 : BitVec 32 := 8#32
  let v11 : BitVec 32 := Scalar.muli c0_i32_2 c8_i32
  let v12 : BitVec 32 := v11
  let v403 : Index := Scalar.indexCast v12
  let c256_152 : Index := 256#32
  ![v403.toNat, 256]
def k0_off5 : Fin 2 → Nat :=
  let c0_i32_2 : BitVec 32 := 0#32
  let c8_i32 : BitVec 32 := 8#32
  let v11 : BitVec 32 := Scalar.muli c0_i32_2 c8_i32
  let v12 : BitVec 32 := v11
  let v432 : Index := Scalar.indexCast v12
  let c384_161 : Index := 384#32
  ![v432.toNat, 384]
def k0_off6 : Fin 2 → Nat :=
  let c0_i32_2 : BitVec 32 := 0#32
  let c8_i32 : BitVec 32 := 8#32
  let v11 : BitVec 32 := Scalar.muli c0_i32_2 c8_i32
  let v12 : BitVec 32 := v11
  let v461 : Index := Scalar.indexCast v12
  let c512_170 : Index := 512#32
  ![v461.toNat, 512]
def k0_off7 : Fin 2 → Nat :=
  let c0_i32_2 : BitVec 32 := 0#32
  let c8_i32 : BitVec 32 := 8#32
  let v11 : BitVec 32 := Scalar.muli c0_i32_2 c8_i32
  let v12 : BitVec 32 := v11
  let v490 : Index := Scalar.indexCast v12
  let c640_179 : Index := 640#32
  ![v490.toNat, 640]
def k0_off8 : Fin 2 → Nat :=
  let c0_i32_2 : BitVec 32 := 0#32
  let c8_i32 : BitVec 32 := 8#32
  let v11 : BitVec 32 := Scalar.muli c0_i32_2 c8_i32
  let v12 : BitVec 32 := v11
  let v519 : Index := Scalar.indexCast v12
  let c768_188 : Index := 768#32
  ![v519.toNat, 768]
def k0_off9 : Fin 2 → Nat :=
  let c0_i32_2 : BitVec 32 := 0#32
  let c8_i32 : BitVec 32 := 8#32
  let v11 : BitVec 32 := Scalar.muli c0_i32_2 c8_i32
  let v12 : BitVec 32 := v11
  let v548 : Index := Scalar.indexCast v12
  let c896_197 : Index := 896#32
  ![v548.toNat, 896]
def k0_off10 : Fin 2 → Nat :=
  let c0_i32_2 : BitVec 32 := 0#32
  let c8_i32 : BitVec 32 := 8#32
  let v11 : BitVec 32 := Scalar.muli c0_i32_2 c8_i32
  let v12 : BitVec 32 := v11
  let v577 : Index := Scalar.indexCast v12
  let c1024_206 : Index := 1024#32
  ![v577.toNat, 1024]
def k0_off11 : Fin 2 → Nat :=
  let c0_i32_2 : BitVec 32 := 0#32
  let c8_i32 : BitVec 32 := 8#32
  let v11 : BitVec 32 := Scalar.muli c0_i32_2 c8_i32
  let v12 : BitVec 32 := v11
  let v606 : Index := Scalar.indexCast v12
  let c1152_215 : Index := 1152#32
  ![v606.toNat, 1152]
def k0_off12 : Fin 2 → Nat :=
  let c0_i32_2 : BitVec 32 := 0#32
  let c8_i32 : BitVec 32 := 8#32
  let v11 : BitVec 32 := Scalar.muli c0_i32_2 c8_i32
  let v12 : BitVec 32 := v11
  let v635 : Index := Scalar.indexCast v12
  let c1280_224 : Index := 1280#32
  ![v635.toNat, 1280]
def k0_off13 : Fin 2 → Nat :=
  let c0_i32_2 : BitVec 32 := 0#32
  let c8_i32 : BitVec 32 := 8#32
  let v11 : BitVec 32 := Scalar.muli c0_i32_2 c8_i32
  let v12 : BitVec 32 := v11
  let v664 : Index := Scalar.indexCast v12
  let c1408_233 : Index := 1408#32
  ![v664.toNat, 1408]
def k0_off14 : Fin 2 → Nat :=
  let c0_i32_2 : BitVec 32 := 0#32
  let c8_i32 : BitVec 32 := 8#32
  let v11 : BitVec 32 := Scalar.muli c0_i32_2 c8_i32
  let v12 : BitVec 32 := v11
  let v693 : Index := Scalar.indexCast v12
  let c1536_242 : Index := 1536#32
  ![v693.toNat, 1536]
def k0_off15 : Fin 2 → Nat :=
  let c0_i32_2 : BitVec 32 := 0#32
  let c8_i32 : BitVec 32 := 8#32
  let v11 : BitVec 32 := Scalar.muli c0_i32_2 c8_i32
  let v12 : BitVec 32 := v11
  let v722 : Index := Scalar.indexCast v12
  let c1664_251 : Index := 1664#32
  ![v722.toNat, 1664]
def k0_off16 : Fin 2 → Nat :=
  let c0_i32_2 : BitVec 32 := 0#32
  let c8_i32 : BitVec 32 := 8#32
  let v11 : BitVec 32 := Scalar.muli c0_i32_2 c8_i32
  let v12 : BitVec 32 := v11
  let v751 : Index := Scalar.indexCast v12
  let c1792_260 : Index := 1792#32
  ![v751.toNat, 1792]
def k0_off17 : Fin 2 → Nat :=
  let c0_i32_2 : BitVec 32 := 0#32
  let c8_i32 : BitVec 32 := 8#32
  let v11 : BitVec 32 := Scalar.muli c0_i32_2 c8_i32
  let v12 : BitVec 32 := v11
  let v780 : Index := Scalar.indexCast v12
  let c1920_269 : Index := 1920#32
  ![v780.toNat, 1920]
def k0_cond2 (i : grid0.Coords) : BitVec 1 :=
  let arg2 : BitVec 32 := BitVec.ofNat 32 (i 2).val
  let c0_i32_271 : BitVec 32 := 0#32
  let v787 : BitVec 1 := Scalar.cmpi .eq arg2 c0_i32_271
  let v788 : BitVec 32 := Scalar.extui v787
  let c0_i32_272 : BitVec 32 := 0#32
  let v789 : BitVec 1 := Scalar.cmpi .ne v788 c0_i32_272
  v789

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference7Ideal.lean ====
abbrev S32x8x2048 : Shape := ⟨3, ![32, 8, 2048]⟩
abbrev S2048 : Shape := ⟨1, ![2048]⟩
abbrev S32x16x128x128 : Shape := ⟨4, ![32, 16, 128, 128]⟩
abbrev S_ : Shape := ⟨0, ![]⟩
abbrev S8x8 : Shape := ⟨2, ![8, 8]⟩
abbrev S1x1x8x8x1 : Shape := ⟨5, ![1, 1, 8, 8, 1]⟩
abbrev S32x8x16x128 : Shape := ⟨4, ![32, 8, 16, 128]⟩
abbrev S32x16x8x128 : Shape := ⟨4, ![32, 16, 8, 128]⟩
abbrev S32x16x8x1x128 : Shape := ⟨5, ![32, 16, 8, 1, 128]⟩
abbrev S32x16x1x8x128 : Shape := ⟨5, ![32, 16, 1, 8, 128]⟩
abbrev S32x16x8x8x128 : Shape := ⟨5, ![32, 16, 8, 8, 128]⟩
abbrev S32x16x8x8 : Shape := ⟨4, ![32, 16, 8, 8]⟩
abbrev S32x16x1x128 : Shape := ⟨4, ![32, 16, 1, 128]⟩
abbrev S32x16x128 : Shape := ⟨3, ![32, 16, 128]⟩
abbrev S32x16x128x1 : Shape := ⟨4, ![32, 16, 128, 1]⟩
abbrev S32x8x16 : Shape := ⟨3, ![32, 8, 16]⟩
abbrev S32x8x16x1 : Shape := ⟨4, ![32, 8, 16, 1]⟩
abbrev S16x128 : Shape := ⟨2, ![16, 128]⟩
abbrev S1x1x16x128 : Shape := ⟨4, ![1, 1, 16, 128]⟩
abbrev S256x2048 : Shape := ⟨2, ![256, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x8x2048, .f32⟩
  | .hbm, ⟨2, _⟩ => ⟨S32x8x2048, .bf16⟩
  | .hbm, ⟨3, _⟩ => ⟨S32x8x2048, .f32⟩
  | .hbm, ⟨4, _⟩ => ⟨S2048, .f32⟩
  | .hbm, ⟨5, _⟩ => ⟨S32x16x128x128, .f32⟩
  | .hbm, ⟨6, _⟩ => ⟨S_, .i1⟩
  | .hbm, ⟨7, _⟩ => ⟨S8x8, .i1⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S_, .i1⟩
  | .hbm, ⟨15, _⟩ => ⟨S8x8, .i1⟩
  | .hbm, ⟨16, _⟩ => ⟨S8x8, .i1⟩
  | .hbm, ⟨17, _⟩ => ⟨S1x1x8x8x1, .i1⟩
  | .hbm, ⟨18, _⟩ => ⟨S32x8x16x128, .f32⟩
  | .hbm, ⟨19, _⟩ => ⟨S32x16x8x128, .f32⟩
  | .hbm, ⟨20, _⟩ => ⟨S32x8x2048, .f32⟩
  | .hbm, ⟨21, _⟩ => ⟨S_, .f32⟩
  | .hbm, ⟨22, _⟩ => ⟨S32x8x2048, .f32⟩
  | .hbm, ⟨23, _⟩ => ⟨S32x8x2048, .f32⟩
  | .hbm, ⟨24, _⟩ => ⟨S32x8x16x128, .f32⟩
  | .hbm, ⟨25, _⟩ => ⟨S32x16x8x128, .f32⟩
  | .hbm, ⟨26, _⟩ => ⟨S32x8x2048, .f32⟩
  | .hbm, ⟨27, _⟩ => ⟨S32x8x16x128, .f32⟩
  | .hbm, ⟨28, _⟩ => ⟨S32x16x8x128, .f32⟩
  | .hbm, ⟨29, _⟩ => ⟨S32x8x16x128, .f32⟩
  | .hbm, ⟨30, _⟩ => ⟨S32x16x8x128, .f32⟩
  | .hbm, ⟨31, _⟩ => ⟨S_, .f32⟩
  | .hbm, ⟨32, _⟩ => ⟨S_, .f32⟩
  | .hbm, ⟨33, _⟩ => ⟨S32x16x8x128, .f32⟩
  | .hbm, ⟨34, _⟩ => ⟨S32x16x8x1x128, .f32⟩
  | .hbm, ⟨35, _⟩ => ⟨S32x16x1x8x128, .f32⟩
  | .hbm, ⟨36, _⟩ => ⟨S32x16x8x8x128, .f32⟩
  | .hbm, ⟨37, _⟩ => ⟨S32x16x8x8x128, .f32⟩
  | .hbm, ⟨38, _⟩ => ⟨S32x16x8x8x128, .f32⟩
  | .hbm, ⟨39, _⟩ => ⟨S_, .f32⟩
  | .hbm, ⟨40, _⟩ => ⟨S_, .f32⟩
  | .hbm, ⟨41, _⟩ => ⟨S32x16x8x8x128, .i1⟩
  | .hbm, ⟨42, _⟩ => ⟨S32x16x8x8x128, .f32⟩
  | .hbm, ⟨43, _⟩ => ⟨S32x16x8x8x128, .f32⟩
  | .hbm, ⟨44, _⟩ => ⟨S32x16x8x8x128, .f32⟩
  | .hbm, ⟨45, _⟩ => ⟨S_, .f32⟩
  | .hbm, ⟨46, _⟩ => ⟨S_, .f32⟩
  | .hbm, ⟨47, _⟩ => ⟨S32x16x8x8x128, .i1⟩
  | .hbm, ⟨48, _⟩ => ⟨S32x16x8x8x128, .f32⟩
  | .hbm, ⟨49, _⟩ => ⟨S32x16x8x8x128, .f32⟩
  | .hbm, ⟨50, _⟩ => ⟨S32x16x8x1x128, .f32⟩
  | .hbm, ⟨51, _⟩ => ⟨S32x16x8x8x128, .f32⟩
  | .hbm, ⟨52, _⟩ => ⟨S32x16x8x8x128, .f32⟩
  | .hbm, ⟨53, _⟩ => ⟨S32x16x1x8x128, .f32⟩
  | .hbm, ⟨54, _⟩ => ⟨S32x16x8x8x128, .f32⟩
  | .hbm, ⟨55, _⟩ => ⟨S32x16x8x8x128, .f32⟩
  | .hbm, ⟨56, _⟩ => ⟨S_, .f32⟩
  | .hbm, ⟨57, _⟩ => ⟨S32x16x8x8, .f32⟩
  | .hbm, ⟨58, _⟩ => ⟨S32x16x8x128, .f32⟩
  | .hbm, ⟨59, _⟩ => ⟨S32x16x8x128, .f32⟩
  | .hbm, ⟨60, _⟩ => ⟨S32x16x8x128, .f32⟩
  | .hbm, ⟨61, _⟩ => ⟨S32x16x8x128, .f32⟩
  | .hbm, ⟨62, _⟩ => ⟨S32x16x8x128, .f32⟩
  | .hbm, ⟨63, _⟩ => ⟨S32x16x1x128, .f32⟩
  | .hbm, ⟨64, _⟩ => ⟨S32x16x128, .f32⟩
  | .hbm, ⟨65, _⟩ => ⟨S32x16x128x1, .f32⟩
  | .hbm, ⟨66, _⟩ => ⟨S32x16x128x1, .f32⟩
  | .hbm, ⟨67, _⟩ => ⟨S32x16x128x128, .f32⟩
  | .hbm, ⟨68, _⟩ => ⟨S32x16x128x128, .f32⟩
  | .hbm, ⟨69, _⟩ => ⟨S32x16x8x128, .f32⟩
  | .hbm, ⟨70, _⟩ => ⟨S32x16x8x128, .f32⟩
  | .hbm, ⟨71, _⟩ => ⟨S32x16x8x128, .f32⟩
  | .hbm, ⟨72, _⟩ => ⟨S32x16x8x128, .f32⟩
  | .hbm, ⟨73, _⟩ => ⟨S32x16x128x128, .f32⟩
  | .hbm, ⟨74, _⟩ => ⟨S32x16x128x128, .f32⟩
  | .hbm, ⟨75, _⟩ => ⟨S32x8x16x128, .f32⟩
  | .hbm, ⟨76, _⟩ => ⟨S32x8x16x128, .f32⟩
  | .hbm, ⟨77, _⟩ => ⟨S_, .f32⟩
  | .hbm, ⟨78, _⟩ => ⟨S32x8x16, .f32⟩
  | .hbm, ⟨79, _⟩ => ⟨S32x8x16x1, .f32⟩
  | .hbm, ⟨80, _⟩ => ⟨S_, .f32⟩
  | .hbm, ⟨81, _⟩ => ⟨S32x8x16x1, .f32⟩
  | .hbm, ⟨82, _⟩ => ⟨S32x8x16x1, .f32⟩
  | .hbm, ⟨83, _⟩ => ⟨S_, .f32⟩
  | .hbm, ⟨84, _⟩ => ⟨S32x8x16x1, .f32⟩
  | .hbm, ⟨85, _⟩ => ⟨S32x8x16x1, .f32⟩
  | .hbm, ⟨86, _⟩ => ⟨S32x8x16x1, .f32⟩
  | .hbm, ⟨87, _⟩ => ⟨S32x8x16x128, .f32⟩
  | .hbm, ⟨88, _⟩ => ⟨S32x8x16x128, .f32⟩
  | .hbm, ⟨89, _⟩ => ⟨S16x128, .f32⟩
  | .hbm, ⟨90, _⟩ => ⟨S1x1x16x128, .f32⟩
  | .hbm, ⟨91, _⟩ => ⟨S32x8x16x128, .f32⟩
  | .hbm, ⟨92, _⟩ => ⟨S32x8x16x128, .f32⟩
  | .hbm, ⟨93, _⟩ => ⟨S32x8x2048, .f32⟩
  | .hbm, ⟨94, _⟩ => ⟨S32x8x2048, .f32⟩
  | .hbm, ⟨95, _⟩ => ⟨S256x2048, .f32⟩
  | .hbm, ⟨96, _⟩ => ⟨S256x2048, .bf16⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_call0_cst : Ref sig .tc := ⟨.hbm, 31, rfl⟩
abbrev main_call1_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== Kernel8.lean ====
abbrev S8192x4096 : Shape := ⟨2, ![8192, 4096]⟩
abbrev S256x4096 : Shape := ⟨2, ![256, 4096]⟩
abbrev S4096x12288 : Shape := ⟨2, ![4096, 12288]⟩
abbrev S8192x2048 : Shape := ⟨2, ![8192, 2048]⟩
abbrev S256x2048 : Shape := ⟨2, ![256, 2048]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S4096x512 : Shape := ⟨2, ![4096, 512]⟩
abbrev S1024x512 : Shape := ⟨2, ![1024, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x2048, .f32⟩
  | .hbm, ⟨4, _⟩ => ⟨S256x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x4096, .bf16⟩
  | .local _ .vmem, ⟨5, _⟩ => ⟨S256x4096, .bf16⟩
  | .local _ .vmem, ⟨6, _⟩ => ⟨S1024x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_11 : BitVec 32 := 0#32
  let v12 : BitVec 1 := Scalar.cmpi .ne v11 c0_i32_11
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c10_i32 : BitVec 32 := 10#32
  let v1 : BitVec 32 := Scalar.addi arg1 c10_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S8192x4096 : Shape := ⟨2, ![8192, 4096]⟩
abbrev S256x4096 : Shape := ⟨2, ![256, 4096]⟩
abbrev S4096x12288 : Shape := ⟨2, ![4096, 12288]⟩
abbrev S8192x12288 : Shape := ⟨2, ![8192, 12288]⟩
abbrev S8192x2048 : Shape := ⟨2, ![8192, 2048]⟩
abbrev S8192x1024 : Shape := ⟨2, ![8192, 1024]⟩
abbrev S_ : Shape := ⟨0, ![]⟩
abbrev S256x12288 : Shape := ⟨2, ![256, 12288]⟩
abbrev S256x2048 : Shape := ⟨2, ![256, 2048]⟩
abbrev S256x1024 : Shape := ⟨2, ![256, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S256x4096, .f32⟩
  | .hbm, ⟨22, _⟩ => ⟨S4096x12288, .f32⟩
  | .hbm, ⟨23, _⟩ => ⟨S256x12288, .f32⟩
  | .hbm, ⟨24, _⟩ => ⟨S256x2048, .f32⟩
  | .hbm, ⟨25, _⟩ => ⟨S256x1024, .f32⟩
  | .hbm, ⟨26, _⟩ => ⟨S256x1024, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel9.lean ====
abbrev S8192x4096 : Shape := ⟨2, ![8192, 4096]⟩
abbrev S256x4096 : Shape := ⟨2, ![256, 4096]⟩
abbrev S4096x12288 : Shape := ⟨2, ![4096, 12288]⟩
abbrev S8192x2048 : Shape := ⟨2, ![8192, 2048]⟩
abbrev S256x2048 : Shape := ⟨2, ![256, 2048]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S4096x512 : Shape := ⟨2, ![4096, 512]⟩
abbrev S1024x512 : Shape := ⟨2, ![1024, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x2048, .f32⟩
  | .hbm, ⟨4, _⟩ => ⟨S256x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x4096, .bf16⟩
  | .local _ .vmem, ⟨5, _⟩ => ⟨S256x4096, .bf16⟩
  | .local _ .vmem, ⟨6, _⟩ => ⟨S1024x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c4_i32 : BitVec 32 := 4#32
  let v1 : BitVec 32 := Scalar.addi arg1 c4_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S8192x4096 : Shape := ⟨2, ![8192, 4096]⟩
abbrev S256x4096 : Shape := ⟨2, ![256, 4096]⟩
abbrev S4096x12288 : Shape := ⟨2, ![4096, 12288]⟩
abbrev S8192x12288 : Shape := ⟨2, ![8192, 12288]⟩
abbrev S8192x2048 : Shape := ⟨2, ![8192, 2048]⟩
abbrev S8192x1024 : Shape := ⟨2, ![8192, 1024]⟩
abbrev S_ : Shape := ⟨0, ![]⟩
abbrev S256x12288 : Shape := ⟨2, ![256, 12288]⟩
abbrev S256x2048 : Shape := ⟨2, ![256, 2048]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S256x4096, .f32⟩
  | .hbm, ⟨23, _⟩ => ⟨S4096x12288, .f32⟩
  | .hbm, ⟨24, _⟩ => ⟨S256x12288, .f32⟩
  | .hbm, ⟨25, _⟩ => ⟨S256x2048, .f32⟩
  | .hbm, ⟨26, _⟩ => ⟨S256x1024, .f32⟩
  | .hbm, ⟨27, _⟩ => ⟨S256x1024, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel10.lean ====
abbrev S8192x4096 : Shape := ⟨2, ![8192, 4096]⟩
abbrev S256x4096 : Shape := ⟨2, ![256, 4096]⟩
abbrev S4096x12288 : Shape := ⟨2, ![4096, 12288]⟩
abbrev S8192x2048 : Shape := ⟨2, ![8192, 2048]⟩
abbrev S256x2048 : Shape := ⟨2, ![256, 2048]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S4096x512 : Shape := ⟨2, ![4096, 512]⟩
abbrev S1024x512 : Shape := ⟨2, ![1024, 512]⟩
abbrev S1024x128 : Shape := ⟨2, ![1024, 128]⟩
abbrev S256x512 : Shape := ⟨2, ![256, 512]⟩
abbrev S256x128 : Shape := ⟨2, ![256, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x2048, .bf16⟩
  | .hbm, ⟨4, _⟩ => ⟨S256x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x4096, .bf16⟩
  | .local _ .vmem, ⟨5, _⟩ => ⟨S256x4096, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32_34 : BitVec 32 := 0#32
  let v38 : BitVec 1 := Scalar.cmpi .eq arg0 c0_i32_34
  let v39 : BitVec 32 := Scalar.extui v38
  let c0_i32_35 : BitVec 32 := 0#32
  let v40 : BitVec 1 := Scalar.cmpi .ne v39 c0_i32_35
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.addi arg1 c8_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S8192x4096 : Shape := ⟨2, ![8192, 4096]⟩
abbrev S256x4096 : Shape := ⟨2, ![256, 4096]⟩
abbrev S4096x12288 : Shape := ⟨2, ![4096, 12288]⟩
abbrev S8192x12288 : Shape := ⟨2, ![8192, 12288]⟩
abbrev S8192x2048 : Shape := ⟨2, ![8192, 2048]⟩
abbrev S8192x1024 : Shape := ⟨2, ![8192, 1024]⟩
abbrev S256x12288 : Shape := ⟨2, ![256, 12288]⟩
abbrev S256x2048 : Shape := ⟨2, ![256, 2048]⟩
abbrev S256x1024 : Shape := ⟨2, ![256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S256x4096, .f32⟩
  | .hbm, ⟨15, _⟩ => ⟨S4096x12288, .f32⟩
  | .hbm, ⟨16, _⟩ => ⟨S256x12288, .f32⟩
  | .hbm, ⟨17, _⟩ => ⟨S256x2048, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel11.lean ====
abbrev S8192x4096 : Shape := ⟨2, ![8192, 4096]⟩
abbrev S256x4096 : Shape := ⟨2, ![256, 4096]⟩
abbrev S4096x12288 : Shape := ⟨2, ![4096, 12288]⟩
abbrev S2x2048 : Shape := ⟨2, ![2, 2048]⟩
abbrev S8192x2048 : Shape := ⟨2, ![8192, 2048]⟩
abbrev S256x2048 : Shape := ⟨2, ![256, 2048]⟩
abbrev S1024x4096 : Shape := ⟨2, ![1024, 4096]⟩
abbrev S4096x1024 : Shape := ⟨2, ![4096, 1024]⟩
abbrev S2x1024 : Shape := ⟨2, ![2, 1024]⟩
abbrev S1024x1024 : Shape := ⟨2, ![1024, 1024]⟩
abbrev S256x1024 : Shape := ⟨2, ![256, 1024]⟩
abbrev S4096x512 : Shape := ⟨2, ![4096, 512]⟩
abbrev S1024x512 : Shape := ⟨2, ![1024, 512]⟩
abbrev S2x512 : Shape := ⟨2, ![2, 512]⟩
abbrev S512 : Shape := ⟨1, ![512]⟩
abbrev S1x512 : Shape := ⟨2, ![1, 512]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S2x2048, .f32⟩
  | .hbm, ⟨4, _⟩ => ⟨S8192x2048, .f32⟩
  | .hbm, ⟨5, _⟩ => ⟨S256x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S2x1024, .f32⟩
  | .local _ .vmem, ⟨5, _⟩ => ⟨S2x1024, .f32⟩
  | .local _ .vmem, ⟨6, _⟩ => ⟨S256x4096, .bf16⟩
  | .local _ .vmem, ⟨7, _⟩ => ⟨S256x4096, .bf16⟩
  | .local _ .vmem, ⟨8, _⟩ => ⟨S1024x1024, .f32⟩
  | .local _ .vmem, ⟨9, _⟩ => ⟨S1024x1024, .f32⟩
  | .local _ .vmem, ⟨10, _⟩ => ⟨S256x1024, .f32⟩
  | .local _ .vmem, ⟨11, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c6_i32 : BitVec 32 := 6#32
  let v1 : BitVec 32 := Scalar.addi arg1 c6_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8192x4096 : Shape := ⟨2, ![8192, 4096]⟩
abbrev S256x4096 : Shape := ⟨2, ![256, 4096]⟩
abbrev S4096x12288 : Shape := ⟨2, ![4096, 12288]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S8192x12288 : Shape := ⟨2, ![8192, 12288]⟩
abbrev S8192x2048 : Shape := ⟨2, ![8192, 2048]⟩
abbrev S8192x1024 : Shape := ⟨2, ![8192, 1024]⟩
abbrev S256x12288 : Shape := ⟨2, ![256, 12288]⟩
abbrev S256x2048 : Shape := ⟨2, ![256, 2048]⟩
abbrev S256x1024 : Shape := ⟨2, ![256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S8192x4096, .f32⟩
  | .hbm, ⟨24, _⟩ => ⟨S4096x12288, .f32⟩
  | .hbm, ⟨25, _⟩ => ⟨S8192x12288, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S256x4096, .f32⟩
  | .hbm, ⟨52, _⟩ => ⟨S4096x12288, .f32⟩
  | .hbm, ⟨53, _⟩ => ⟨S256x12288, .f32⟩
  | .hbm, ⟨54, _⟩ => ⟨S256x2048, .f32⟩
  | .hbm, ⟨55, _⟩ => ⟨S256x1024, .f32⟩
  | .hbm, ⟨56, _⟩ => ⟨S256x1024, .f32⟩
  | .hbm, ⟨57, _⟩ => ⟨S256x2048, .f32⟩
  | .hbm, ⟨58, _⟩ => ⟨S256x2048, .f32⟩
  | .hbm, ⟨59, _⟩ => ⟨S256x2048, .f32⟩
  | .hbm, ⟨60, _⟩ => ⟨S256x2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S256x2048, .f32⟩
  | .hbm, ⟨65, _⟩ => ⟨S256x2048, .f32⟩
  | .hbm, ⟨66, _⟩ => ⟨S_, .f32⟩
  | .hbm, ⟨67, _⟩ => ⟨S256x2048, .f32⟩
  | .hbm, ⟨68, _⟩ => ⟨S256x2048, .f32⟩
  | .hbm, ⟨69, _⟩ => ⟨S_, .f32⟩
  | .hbm, ⟨70, _⟩ => ⟨S256x2048, .f32⟩
  | .hbm, ⟨71, _⟩ => ⟨S256x2048, .f32⟩
  | .hbm, ⟨72, _⟩ => ⟨S1x2048, .f32⟩
  | .hbm, ⟨73, _⟩ => ⟨S256x2048, .f32⟩
  | .hbm, ⟨74, _⟩ => ⟨S256x2048, .f32⟩
  | .hbm, ⟨75, _⟩ => ⟨S1x2048, .f32⟩
  | .hbm, ⟨76, _⟩ => ⟨S256x2048, .f32⟩
  | .hbm, ⟨77, _⟩ => ⟨S256x2048, .f32⟩
  | .hbm, ⟨78, _⟩ => ⟨S256x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel12.lean ====
abbrev S8192x4096 : Shape := ⟨2, ![8192, 4096]⟩
abbrev S256x4096 : Shape := ⟨2, ![256, 4096]⟩
abbrev S4096x12288 : Shape := ⟨2, ![4096, 12288]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S128, .f32⟩
  | .hbm, ⟨4, _⟩ => ⟨S1x128, .f32⟩
  | .hbm, ⟨5, _⟩ => ⟨S16x128, .f32⟩
  | .hbm, ⟨6, _⟩ => ⟨S2048, .f32⟩
  | .hbm, ⟨7, _⟩ => ⟨S1x2048, .f32⟩
  | .hbm, ⟨8, _⟩ => ⟨S8192x2048, .bf16⟩
  | .hbm, ⟨9, _⟩ => ⟨S256x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S256x4096, .bf16⟩
  | .local _ .vmem, ⟨7, _⟩ => ⟨S256x4096, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32_62 : BitVec 32 := 0#32
  let v146 : BitVec 1 := Scalar.cmpi .eq arg0 c0_i32_62
  let v147 : BitVec 32 := Scalar.extui v146
  let c0_i32_63 : BitVec 32 := 0#32
  let v148 : BitVec 1 := Scalar.cmpi .ne v147 c0_i32_63
  v148

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x4096 : Shape := ⟨2, ![8192, 4096]⟩
abbrev S256x4096 : Shape := ⟨2, ![256, 4096]⟩
abbrev S4096x12288 : Shape := ⟨2, ![4096, 12288]⟩
abbrev S128 : Shape := ⟨1, ![128]⟩
abbrev S8192x12288 : Shape := ⟨2, ![8192, 12288]⟩
abbrev S8192x2048 : Shape := ⟨2, ![8192, 2048]⟩
abbrev S8192x1024 : Shape := ⟨2, ![8192, 1024]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S256x12288 : Shape := ⟨2, ![256, 12288]⟩
abbrev S256x2048 : Shape := ⟨2, ![256, 2048]⟩
abbrev S256x1024 : Shape := ⟨2, ![256, 1024]⟩
abbrev S256x16x128 : Shape := ⟨3, ![256, 16, 128]⟩
abbrev S256x16 : Shape := ⟨2, ![256, 16]⟩
abbrev S256x16x1 : Shape := ⟨3, ![256, 16, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x12288, .bf16⟩
  | .hbm, ⟨3, _⟩ => ⟨S128, .f32⟩
  | .hbm, ⟨4, _⟩ => ⟨S8192x4096, .f32⟩
  | .hbm, ⟨5, _⟩ => ⟨S4096x12288, .f32⟩
  | .hbm, ⟨6, _⟩ => ⟨S8192x12288, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x16x128, .f32⟩
  | .hbm, ⟨15, _⟩ => ⟨S8192x16x128, .f32⟩
  | .hbm, ⟨16, _⟩ => ⟨S_, .f32⟩
  | .hbm, ⟨17, _⟩ => ⟨S8192x16, .f32⟩
  | .hbm, ⟨18, _⟩ => ⟨S8192x16x1, .f32⟩
  | .hbm, ⟨19, _⟩ => ⟨S_, .f32⟩
  | .hbm, ⟨20, _⟩ => ⟨S8192x16x1, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x1, .f32⟩
  | .hbm, ⟨26, _⟩ => ⟨S8192x16x128, .f32⟩
  | .hbm, ⟨27, _⟩ => ⟨S8192x16x128, .f32⟩
  | .hbm, ⟨28, _⟩ => ⟨S1x1x128, .f32⟩
  | .hbm, ⟨29, _⟩ => ⟨S8192x16x128, .f32⟩
  | .hbm, ⟨30, _⟩ => ⟨S8192x16x128, .f32⟩
  | .hbm, ⟨31, _⟩ => ⟨S8192x2048, .f32⟩
  | .hbm, ⟨32, _⟩ => ⟨S8192x2048, .bf16⟩
  | .hbm, ⟨33, _⟩ => ⟨S256x4096, .f32⟩
  | .hbm, ⟨34, _⟩ => ⟨S4096x12288, .f32⟩
  | .hbm, ⟨35, _⟩ => ⟨S256x12288, .f32⟩
  | .hbm, ⟨36, _⟩ => ⟨S256x2048, .f32⟩
  | .hbm, ⟨37, _⟩ => ⟨S256x1024, .f32⟩
  | .hbm, ⟨38, _⟩ => ⟨S256x1024, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x16x128, .f32⟩
  | .hbm, ⟨44, _⟩ => ⟨S256x16x128, .f32⟩
  | .hbm, ⟨45, _⟩ => ⟨S_, .f32⟩
  | .hbm, ⟨46, _⟩ => ⟨S256x16, .f32⟩
  | .hbm, ⟨47, _⟩ => ⟨S256x16x1, .f32⟩
  | .hbm, ⟨48, _⟩ => ⟨S_, .f32⟩
  | .hbm, ⟨49, _⟩ => ⟨S256x16x1, .f32⟩
  | .hbm, ⟨50, _⟩ => ⟨S256x16x1, .f32⟩
  | .hbm, ⟨51, _⟩ => ⟨S_, .f32⟩
  | .hbm, ⟨52, _⟩ => ⟨S256x16x1, .f32⟩
  | .hbm, ⟨53, _⟩ => ⟨S256x16x1, .f32⟩
  | .hbm, ⟨54, _⟩ => ⟨S256x16x1, .f32⟩
  | .hbm, ⟨55, _⟩ => ⟨S256x16x128, .f32⟩
  | .hbm, ⟨56, _⟩ => ⟨S256x16x128, .f32⟩
  | .hbm, ⟨57, _⟩ => ⟨S1x1x128, .f32⟩
  | .hbm, ⟨58, _⟩ => ⟨S256x16x128, .f32⟩
  | .hbm, ⟨59, _⟩ => ⟨S256x16x128, .f32⟩
  | .hbm, ⟨60, _⟩ => ⟨S256x2048, .f32⟩
  | .hbm, ⟨61, _⟩ => ⟨S256x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Proof.KI.Trip.lean ====
/- The pieces one trip of the kernel's loop writes do not depend on what the output block held before,
   so neither do the pieces of the whole loop. -/
module
public import proofs.«01_k».proof.Proof.Gen.KernelIdeal.Frame.Runs
public import Idealize.ShloMosaic.Lib.Pointwise
public import Idealize.ShloMosaic.Lib.Pipeline.Value
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- One trip's pieces are the same whatever the output block holds. -/
theorem trip_indep (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (v10 : IVec S64x2048 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg9 f_arg9' : BufTy.Contents (Elt F) arg9.view.ty) (f_arg11 : BufTy.Contents (Elt F) arg11.view.ty) :
    tripL_k0_t1 (F := F) 𝒱 c bd i arg3 harg3 arg4 harg4 arg5 harg5 arg6 harg6 arg7 harg7 arg8 harg8 arg9 harg9 arg10 harg10 arg11 harg11 v10 X_arg3 X_arg4 X_arg5 X_arg6 X_arg7 k f_arg9 f_arg11 = tripL_k0_t1 (F := F) 𝒱 c bd i arg3 harg3 arg4 harg4 arg5 harg5 arg6 harg6 arg7 harg7 arg8 harg8 arg9 harg9 arg10 harg10 arg11 harg11 v10 X_arg3 X_arg4 X_arg5 X_arg6 X_arg7 k f_arg9' f_arg11 := by
  unfold tripL_k0_t1 trip_k0_t1
  rfl

/-- The loop's pieces are the same whatever the output block holds before it. -/
theorem loop_indep (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (v10 : IVec S64x2048 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg9 G_arg9' : BufTy.Contents (Elt F) arg9.view.ty) (G_arg11 : BufTy.Contents (Elt F) arg11.view.ty) (n : ℕ) :
    pb_k0_t1 (F := F) 𝒱 c bd i arg3 harg3 arg4 harg4 arg5 harg5 arg6 harg6 arg7 harg7 arg8 harg8 arg9 harg9 arg10 harg10 arg11 harg11 v10 X_arg3 X_arg4 X_arg5 X_arg6 X_arg7 G_arg9 G_arg11 n = pb_k0_t1 (F := F) 𝒱 c bd i arg3 harg3 arg4 harg4 arg5 harg5 arg6 harg6 arg7 harg7 arg8 harg8 arg9 harg9 arg10 harg10 arg11 harg11 v10 X_arg3 X_arg4 X_arg5 X_arg6 X_arg7 G_arg9' G_arg11 n := by
  induction n with
  | zero => rfl
  | succ n ih =>
    rw [pb_k0_t1.eq_2, pb_k0_t1.eq_2, ih]
    unfold pb_k0_t1Step
    split
    · rw [trip_indep (F := F) 𝒱 c bd i arg3 harg3 arg4 harg4 arg5 harg5 arg6 harg6 arg7 harg7 arg8 harg8 arg9 harg9 arg10 harg10 arg11 harg11 v10 X_arg3 X_arg4 X_arg5 X_arg6 X_arg7 _ (arg9.view.writes (Elt F) G_arg9 _) (arg9.view.writes (Elt F) G_arg9' (pb_k0_t1 (F := F) 𝒱 c bd i arg3 harg3 arg4 harg4 arg5 harg5 arg6 harg6 arg7 harg7 arg8 harg8 arg9 harg9 arg10 harg10 arg11 harg11 v10 X_arg3 X_arg4 X_arg5 X_arg6 X_arg7 G_arg9' G_arg11 n).1)]
    · rfl

/-- The row numbers of a chunk, as the kernel computes them before its loop. -/
abbrev rowNo : IVec S64x2048 32 := iota .tc S64x2048 32 [0] iota_S64x2048_d0_w32

/-- The pieces the kernel's loop of four chunks writes, from the blocks it reads and the states `S` it begins with. -/
def loopP (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (x0 : Vec F S256x2048 .f32) (x1 : Vec F S256x2048 .f32) (x2 : Vec F S256x2048 .bf16) (x3 : Vec F S256x2048 .f32) (x4 : Vec F S1x2048 .f32) (S : Vec F S16x128x128 .f32) :
    List (View.Piece (Elt F) S256x2048 .bf16) × List (View.Piece (Elt F) S16x128x128 .f32) :=
  pb_k0_t1 (F := F) 𝒱 c bd i arg3 harg3 arg4 harg4 arg5 harg5 arg6 harg6 arg7 harg7 arg8 harg8 arg9 harg9 arg10 harg10 arg11 harg11 rowNo (harg3.unread x0) (harg4.unread x1) (harg5.unread x2) (harg6.unread x3) (harg7.unread x4)
    (harg9.unread fun _ => Scalar.ofBits .bf16 0#16) (harg11.unread S) (Scf.trips k0_t1_loop.lb k0_t1_loop.ub k0_t1_loop.st)

/-- The loop run over any output contents writes those pieces. -/
theorem loopP_eq (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (x0 : Vec F S256x2048 .f32) (x1 : Vec F S256x2048 .f32) (x2 : Vec F S256x2048 .bf16) (x3 : Vec F S256x2048 .f32) (x4 : Vec F S1x2048 .f32) (S : Vec F S16x128x128 .f32)
    (f9 : BufTy.Contents (Elt F) arg9.view.ty) :
    pb_k0_t1 (F := F) 𝒱 c bd i arg3 harg3 arg4 harg4 arg5 harg5 arg6 harg6 arg7 harg7 arg8 harg8 arg9 harg9 arg10 harg10 arg11 harg11 rowNo (harg3.unread x0) (harg4.unread x1) (harg5.unread x2) (harg6.unread x3) (harg7.unread x4)
      f9 (harg11.unread S) (Scf.trips k0_t1_loop.lb k0_t1_loop.ub k0_t1_loop.st)
    = loopP (F := F) 𝒱 c bd i arg3 harg3 arg4 harg4 arg5 harg5 arg6 harg6 arg7 harg7 arg8 harg8 arg9 harg9 arg10 harg10 arg11 harg11 x0 x1 x2 x3 x4 S :=
  by unfold loopP; apply loop_indep

/-- The states a new sequence begins with: the given ones, transposed per head. -/
def begState (x5 : Vec F S1x16x128x128 .f32) : Vec F S16x128x128 .f32 :=
  fun y => x5 (ix4 (0 : Fin 1) (y 0) (y 2) (y 1))

/-- The states handed back after the last chunk: the kept ones, transposed per head. -/
def endState (S : Vec F S16x128x128 .f32) : Vec F S1x16x128x128 .f32 :=
  fun y => S (ix3 (y 1) (y 3) (y 2))

/-- One head's given state as it is stored. -/
def begT (w : Vec F S1x1x128x128 .f32) : FVec F S1x128x128 .f32 :=
  shapeCast S1x128x128 (transpose S128x128 [1, 0] (shapeCast S128x128 w shapeCasts_S1x1x128x128_S128x128) transposes_S128x128_p1_0_S128x128) shapeCasts_S128x128_S1x128x128

/-- One head's kept state as it is handed back. -/
def endT (w : Vec F S1x128x128 .f32) : FVec F S1x1x128x128 .f32 :=
  shapeCast S1x1x128x128 (transpose S128x128 [1, 0] (shapeCast S128x128 w shapeCasts_S1x128x128_S128x128) transposes_S128x128_p1_0_S128x128) shapeCasts_S128x128_S1x1x128x128

theorem begT_at (w : Vec F S1x1x128x128 .f32) (a : Fin 1) (b c : Fin 128) : begT w (ix3 a b c) = w (ix4 0 0 c b) := by
  unfold begT
  pointwise

theorem endT_at (w : Vec F S1x128x128 .f32) (a a' : Fin 1) (b c : Fin 128) : endT w (ix4 a a' b c) = w (ix3 0 c b) := by
  unfold endT
  pointwise

theorem beg_piece (arg8 : Memref sig .tc .vmem S1x16x128x128 .f32) (harg8 : arg8.IsWhole) (x5 : Vec F S1x16x128x128 .f32) (h : ℕ)
    (inb : ∀ a, ![0, h, 0, 0] a + S1x1x128x128.size a ≤ S1x16x128x128.size a) (inb' : ∀ a, ![h, 0, 0] a + ![1, 128, 128] a ≤ S16x128x128.size a)
    (x : S1x128x128.Idx) :
    begT (View.readAt (Elt F) arg8.view (Rect.unit (s := S1x16x128x128) ![0, h, 0, 0] S1x1x128x128.size inb).toLoadRect (harg8.unread x5)) x
      = begState x5 ((Rect.unit (s := S16x128x128) ![h, 0, 0] ![1, 128, 128] inb').emb x) := by
  obtain ⟨a, b, c, rfl⟩ : ∃ (a : Fin 1) (b c : Fin 128), x = ix3 a b c := ⟨x 0, x 1, x 2, eq_ix3 x⟩
  rw [begT_at, View.readAt_apply, harg8.read_unread]
  unfold begState
  refine congrArg x5 (funext fun d => Fin.ext ?_)
  match d with
  | ⟨0, _⟩ => rfl
  | ⟨1, _⟩ => show h + 1 * 0 = h + 1 * a.val; have := a.isLt; omega
  | ⟨2, _⟩ => show 0 + 1 * c.val = 0 + 1 * c.val; rfl
  | ⟨3, _⟩ => show 0 + 1 * b.val = 0 + 1 * b.val; rfl

theorem end_piece (arg11 : Memref sig .tc .vmem S16x128x128 .f32) (g : BufTy.Contents (Elt F) arg11.view.ty) (h : ℕ)
    (inb : ∀ a, ![h, 0, 0] a + S1x128x128.size a ≤ S16x128x128.size a) (inb' : ∀ a, ![0, h, 0, 0] a + ![1, 1, 128, 128] a ≤ S1x16x128x128.size a)
    (x : S1x1x128x128.Idx) :
    endT (View.readAt (Elt F) arg11.view (Rect.unit (s := S16x128x128) ![h, 0, 0] S1x128x128.size inb).toLoadRect g) x
      = endState (arg11.view.read (Elt F) g) ((Rect.unit (s := S1x16x128x128) ![0, h, 0, 0] ![1, 1, 128, 128] inb').emb x) := by
  obtain ⟨a, a', b, c, rfl⟩ : ∃ (a a' : Fin 1) (b c : Fin 128), x = ix4 a a' b c := ⟨x 0, x 1, x 2, x 3, eq_ix4 x⟩
  rw [endT_at, View.readAt_apply]
  unfold endState
  refine congrArg (arg11.view.read (Elt F) g) (funext fun d => Fin.ext ?_)
  match d with
  | ⟨0, _⟩ => show h + 1 * 0 = h + 1 * a'.val; have := a'.isLt; omega
  | ⟨1, _⟩ => rfl
  | ⟨2, _⟩ => rfl

/-- The sixteen stores that hand the states back. -/
def endL (arg11 : Memref sig .tc .vmem S16x128x128 .f32) (g : BufTy.Contents (Elt F) arg11.view.ty) : List (View.Piece (Elt F) S1x16x128x128 .f32) :=
  [⟨Rect.unit (s := S1x16x128x128) ![0, 15, 0, 0] ![1, 1, 128, 128] inb_S1x16x128x128_S1x1x128x128_0_15_0_0, endT (View.readAt (Elt F) arg11.view (Rect.unit (s := S16x128x128) ![15, 0, 0] S1x128x128.size inb_S16x128x128_S1x128x128_15_0_0).toLoadRect g)⟩,
   ⟨Rect.unit (s := S1x16x128x128) ![0, 14, 0, 0] ![1, 1, 128, 128] inb_S1x16x128x128_S1x1x128x128_0_14_0_0, endT (View.readAt (Elt F) arg11.view (Rect.unit (s := S16x128x128) ![14, 0, 0] S1x128x128.size inb_S16x128x128_S1x128x128_14_0_0).toLoadRect g)⟩,
   ⟨Rect.unit (s := S1x16x128x128) ![0, 13, 0, 0] ![1, 1, 128, 128] inb_S1x16x128x128_S1x1x128x128_0_13_0_0, endT (View.readAt (Elt F) arg11.view (Rect.unit (s := S16x128x128) ![13, 0, 0] S1x128x128.size inb_S16x128x128_S1x128x128_13_0_0).toLoadRect g)⟩,
   ⟨Rect.unit (s := S1x16x128x128) ![0, 12, 0, 0] ![1, 1, 128, 128] inb_S1x16x128x128_S1x1x128x128_0_12_0_0, endT (View.readAt (Elt F) arg11.view (Rect.unit (s := S16x128x128) ![12, 0, 0] S1x128x128.size inb_S16x128x128_S1x128x128_12_0_0).toLoadRect g)⟩,
   ⟨Rect.unit (s := S1x16x128x128) ![0, 11, 0, 0] ![1, 1, 128, 128] inb_S1x16x128x128_S1x1x128x128_0_11_0_0, endT (View.readAt (Elt F) arg11.view (Rect.unit (s := S16x128x128) ![11, 0, 0] S1x128x128.size inb_S16x128x128_S1x128x128_11_0_0).toLoadRect g)⟩,
   ⟨Rect.unit (s := S1x16x128x128) ![0, 10, 0, 0] ![1, 1, 128, 128] inb_S1x16x128x128_S1x1x128x128_0_10_0_0, endT (View.readAt (Elt F) arg11.view (Rect.unit (s := S16x128x128) ![10, 0, 0] S1x128x128.size inb_S16x128x128_S1x128x128_10_0_0).toLoadRect g)⟩,
   ⟨Rect.unit (s := S1x16x128x128) ![0, 9, 0, 0] ![1, 1, 128, 128] inb_S1x16x128x128_S1x1x128x128_0_9_0_0, endT (View.readAt (Elt F) arg11.view (Rect.unit (s := S16x128x128) ![9, 0, 0] S1x128x128.size inb_S16x128x128_S1x128x128_9_0_0).toLoadRect g)⟩,
   ⟨Rect.unit (s := S1x16x128x128) ![0, 8, 0, 0] ![1, 1, 128, 128] inb_S1x16x128x128_S1x1x128x128_0_8_0_0, endT (View.readAt (Elt F) arg11.view (Rect.unit (s := S16x128x128) ![8, 0, 0] S1x128x128.size inb_S16x128x128_S1x128x128_8_0_0).toLoadRect g)⟩,
   ⟨Rect.unit (s := S1x16x128x128) ![0, 7, 0, 0] ![1, 1, 128, 128] inb_S1x16x128x128_S1x1x128x128_0_7_0_0, endT (View.readAt (Elt F) arg11.view (Rect.unit (s := S16x128x128) ![7, 0, 0] S1x128x128.size inb_S16x128x128_S1x128x128_7_0_0).toLoadRect g)⟩,
   ⟨Rect.unit (s := S1x16x128x128) ![0, 6, 0, 0] ![1, 1, 128, 128] inb_S1x16x128x128_S1x1x128x128_0_6_0_0, endT (View.readAt (Elt F) arg11.view (Rect.unit (s := S16x128x128) ![6, 0, 0] S1x128x128.size inb_S16x128x128_S1x128x128_6_0_0).toLoadRect g)⟩,
   ⟨Rect.unit (s := S1x16x128x128) ![0, 5, 0, 0] ![1, 1, 128, 128] inb_S1x16x128x128_S1x1x128x128_0_5_0_0, endT (View.readAt (Elt F) arg11.view (Rect.unit (s := S16x128x128) ![5, 0, 0] S1x128x128.size inb_S16x128x128_S1x128x128_5_0_0).toLoadRect g)⟩,
   ⟨Rect.unit (s := S1x16x128x128) ![0, 4, 0, 0] ![1, 1, 128, 128] inb_S1x16x128x128_S1x1x128x128_0_4_0_0, endT (View.readAt (Elt F) arg11.view (Rect.unit (s := S16x128x128) ![4, 0, 0] S1x128x128.size inb_S16x128x128_S1x128x128_4_0_0).toLoadRect g)⟩,
   ⟨Rect.unit (s := S1x16x128x128) ![0, 3, 0, 0] ![1, 1, 128, 128] inb_S1x16x128x128_S1x1x128x128_0_3_0_0, endT (View.readAt (Elt F) arg11.view (Rect.unit (s := S16x128x128) ![3, 0, 0] S1x128x128.size inb_S16x128x128_S1x128x128_3_0_0).toLoadRect g)⟩,
   ⟨Rect.unit (s := S1x16x128x128) ![0, 2, 0, 0] ![1, 1, 128, 128] inb_S1x16x128x128_S1x1x128x128_0_2_0_0, endT (View.readAt (Elt F) arg11.view (Rect.unit (s := S16x128x128) ![2, 0, 0] S1x128x128.size inb_S16x128x128_S1x128x128_2_0_0).toLoadRect g)⟩,
   ⟨Rect.unit (s := S1x16x128x128) ![0, 1, 0, 0] ![1, 1, 128, 128] inb_S1x16x128x128_S1x1x128x128_0_1_0_0, endT (View.readAt (Elt F) arg11.view (Rect.unit (s := S16x128x128) ![1, 0, 0] S1x128x128.size inb_S16x128x128_S1x128x128_1_0_0).toLoadRect g)⟩,
   ⟨Rect.unit (s := S1x16x128x128) ![0, 0, 0, 0] ![1, 1, 128, 128] inb_S1x16x128x128_S1x1x128x128_0_0_0_0, endT (View.readAt (Elt F) arg11.view (Rect.unit (s := S16x128x128) ![0, 0, 0] S1x128x128.size inb_S16x128x128_S1x128x128_0_0_0).toLoadRect g)⟩]

theorem end_whole (arg11 : Memref sig .tc .vmem S16x128x128 .f32) (g : BufTy.Contents (Elt F) arg11.view.ty)
    (arg10 : Memref sig .tc .vmem S1x16x128x128 .f32) (harg10 : arg10.IsWhole) (f : BufTy.Contents (Elt F) arg10.view.ty) :
    arg10.view.writes (Elt F) f (endL arg11 g)
      = arg10.view.writes (Elt F) f [⟨Rect.unit (s := S1x16x128x128) ![0, 0, 0, 0] S1x16x128x128.size (by decide), endState (arg11.view.read (Elt F) g)⟩] := by
  refine (harg10.eq_unread (X := endState (arg11.view.read (Elt F) g)) (funext fun y => ?_)).trans (harg10.eq_unread (funext fun y => ?_)).symm
  · refine View.read_writes_apply_of_pieces _ _ _ _ ?_ y (View.cover_of_tiledL (endL arg11 g) S1x1x128x128.size (by sl_kernel_rfl) y)
    intro p hp x
    simp only [endL, List.mem_cons, List.not_mem_nil, or_false] at hp
    rcases hp with rfl | rfl | rfl | rfl | rfl | rfl | rfl | rfl | rfl | rfl | rfl | rfl | rfl | rfl | rfl | rfl
    all_goals exact end_piece arg11 g _ _ (by decide) x
  · refine View.read_writes_apply_of_pieces _ _ _ _ ?_ y ⟨_, List.mem_singleton_self _, ?_⟩
    · intro p hp x
      rw [List.mem_singleton] at hp
      subst hp
      refine congrArg (endState (arg11.view.read (Elt F) g)) (funext fun d => Fin.ext ?_)
      match d with
      | ⟨0, _⟩ => show (x 0).val = 0 + 1 * (x 0).val; omega
      | ⟨1, _⟩ => show (x 1).val = 0 + 1 * (x 1).val; omega
      | ⟨2, _⟩ => show (x 2).val = 0 + 1 * (x 2).val; omega
      | ⟨3, _⟩ => show (x 3).val = 0 + 1 * (x 3).val; omega
    · exact View.mem_set_unit_zero (by decide) (by decide) y

end Cert.KernelIdeal.Gen
end
-- ==== Proof.KI.Head.lean ====
/- What one head's part of a chunk computes, written once with the head's first column as an argument. -/
module
public import proofs.«01_k».proof.Proof.KI.Trip
@[expose] public section
set_option maxRecDepth 16384
noncomputable section
namespace Cert.KernelIdeal.Gen
open Idealize.ShloMosaic Idealize.ShloMosaic.TcCoe Idealize.ShloMosaic.Tactic
variable {F : FTy → Type} [FloatOps F]

section Parts
variable (lf q : Vec F S64x2048 .f32)

/-- The queries of the four groups of sixteen rows, scaled by the decay since the group's start; zero on other rows. -/
def qPart0 : FVec F S64x2048 .bf16 := k0_pay41 rowNo (k0_pay39 k0_pay6 lf q) (k0_pay40 rowNo)
def qPart1 : FVec F S64x2048 .bf16 := k0_pay42 rowNo (k0_pay39 k0_pay6 lf q)
def qPart2 : FVec F S64x2048 .bf16 := k0_pay43 rowNo (k0_pay39 k0_pay6 lf q)
def qPart3 : FVec F S64x2048 .bf16 := k0_pay44 rowNo (k0_pay39 k0_pay6 lf q)

/-- The keys scaled by the inverse decay up to each group's start; zero after the group. -/
def kPart0 : FVec F S64x2048 .bf16 := k0_pay45 rowNo (k0_pay28 lf) (k0_pay30 k0_pay6 lf) k0_pay35
def kPart1 : FVec F S64x2048 .bf16 := k0_pay48 (k0_pay46 rowNo) (k0_pay47 (k0_pay28 lf) (k0_pay30 k0_pay6 lf) (k0_pay36 k0_pay6 lf)) (Scalar.ofBits .f32 0x00000000#32)
def kPart2 : FVec F S64x2048 .bf16 := k0_pay49 rowNo (k0_pay28 lf) (k0_pay30 k0_pay6 lf) (k0_pay37 k0_pay6 lf)
def kPart3 : FVec F S64x2048 .bf16 := k0_pay50 rowNo (k0_pay28 lf) (k0_pay30 k0_pay6 lf) (k0_pay38 k0_pay6 lf)
end Parts

/-- The scores of a head inside the chunk, over the four groups side by side. -/
def headAtt (c : ℕ) (hs : S64x2048.Slices ![0, c] S64x128) (a0 a1 a2 a3 b0 b1 b2 b3 : FVec F S64x2048 .bf16) : FVec F S64x64 .f32 :=
  matmul dot_S64x512_S64x512_S64x64_1_1_0_0_n_n none
    (concatenate S64x512 1 [⟨S64x128, extractStridedSlice S64x128 ![0, c] a0 hs⟩, ⟨S64x128, extractStridedSlice S64x128 ![0, c] a1 hs⟩, ⟨S64x128, extractStridedSlice S64x128 ![0, c] a2 hs⟩, ⟨S64x128, extractStridedSlice S64x128 ![0, c] a3 hs⟩] concatenates_S64x128_S64x128_S64x128_S64x128_S64x512_d1)
    (concatenate S64x512 1 [⟨S64x128, extractStridedSlice S64x128 ![0, c] b0 hs⟩, ⟨S64x128, extractStridedSlice S64x128 ![0, c] b1 hs⟩, ⟨S64x128, extractStridedSlice S64x128 ![0, c] b2 hs⟩, ⟨S64x128, extractStridedSlice S64x128 ![0, c] b3 hs⟩] concatenates_S64x128_S64x128_S64x128_S64x128_S64x512_d1)
    (constant S64x64 .f32 0x00000000#32)

/-- The output of a head before the norm: from the state, and from the chunk. -/
def headRaw (c : ℕ) (hs : S64x2048.Slices ![0, c] S64x128) (qe v : FVec F S64x2048 .bf16) (att : FVec F S64x64 .f32) (S : Vec F S1x128x128 .f32) : FVec F S64x128 .f32 :=
  addf (matmul dot_S64x128_S128x128_S64x128_1_1_0_0_n_n none (extractStridedSlice S64x128 ![0, c] qe hs)
      (truncf .bf16 (shapeCast S128x128 S shapeCasts_S1x128x128_S128x128) bitsLt_bf16_f32) (constant S64x128 .f32 0x00000000#32))
    (matmul dot_S64x64_S64x128_S64x128_1_0_0_1_n_n none
      (truncf .bf16 (select k0_pay5 att (broadcast S64x64 (Scalar.ofBits .f32 0x00000000#32))) bitsLt_bf16_f32)
      (extractStridedSlice S64x128 ![0, c] v hs) (constant S64x128 .f32 0x00000000#32))

/-- The normalised and gated output. -/
def headNorm (o : FVec F S64x128 .f32) (gn : Vec F S1x128 .f32) (gate : Vec F S64x128 .f32) : FVec F S64x128 .bf16 :=
  truncf .bf16 (mulf (mulf (mulf o (broadcastTo S64x128 (rsqrt (addf (divf (shapeCast S64x1 (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x358637BD#32)))) broadcasts_S64x1_S64x128))
      (broadcastTo S64x128 (shapeCast S1x128 gn shapeCasts_S1x128_S1x128) broadcasts_S1x128_S64x128)) (shapeCast S64x128 gate shapeCasts_S64x128_S64x128)) bitsLt_bf16_f32

/-- A head's stored output. -/
def headOut (c : ℕ) (hs : S64x2048.Slices ![0, c] S64x128) (lf q : Vec F S64x2048 .f32) (v : Vec F S64x2048 .bf16) (S : Vec F S1x128x128 .f32) (gn : Vec F S1x128 .f32) (gate : Vec F S64x128 .f32) : FVec F S64x128 .bf16 :=
  headNorm (headRaw c hs (k0_pay32 k0_pay6 lf q) (k0_pay29 v)
    (headAtt c hs (qPart0 lf q) (qPart1 lf q) (qPart2 lf q) (qPart3 lf q) (kPart0 lf) (kPart1 lf) (kPart2 lf) (kPart3 lf)) S) gn gate

/-- A head's state after the chunk. -/
def headSt (c : ℕ) (hs : S64x2048.Slices ![0, c] S64x128) (hd : S1x2048.Slices ![0, c] S1x128) (lf : Vec F S64x2048 .f32) (v : Vec F S64x2048 .bf16) (S : Vec F S1x128x128 .f32) : FVec F S1x128x128 .f32 :=
  shapeCast S1x128x128 (addf (mulf (shapeCast S128x128 S shapeCasts_S1x128x128_S128x128) (broadcastTo S128x128 (extractStridedSlice S1x128 ![0, c] (k0_pay34 k0_pay6 lf) hd) broadcasts_S1x128_S128x128))
    (matmul dot_S64x128_S64x128_S128x128_0_0_1_1_n_n none (extractStridedSlice S64x128 ![0, c] (k0_pay29 v) hs) (extractStridedSlice S64x128 ![0, c] (k0_pay33 k0_pay6 lf) hs) (constant S128x128 .f32 0x00000000#32))) shapeCasts_S128x128_S1x128x128

end Cert.KernelIdeal.Gen
end
-- ==== Proof.Math.lean ====
/- One chunk of the recurrence for one head, in plain sums over the extended reals. -/
module
public import Idealize.ShloMosaic.Lib.Pointwise
@[expose] public section
noncomputable section
namespace Hgrn
open Idealize.ShloMosaic

variable {n : ℕ}

/-- The logarithm of the decay from the chunk's start up to row `t`. -/
def cum (L : Fin n → Fin 128 → EReal) (t : Fin n) (d : Fin 128) : EReal := ∑ s, if s ≤ t then L s d else 0

/-- The key that belongs to a decay. -/
def key (L : Fin n → Fin 128 → EReal) (s : Fin n) (d : Fin 128) : EReal := 1 - Ideal.exp (L s d)

/-- How much row `t` reads of what row `s` wrote. -/
def score (Q L : Fin n → Fin 128 → EReal) (t s : Fin n) : EReal :=
  ∑ d, Q t d * (if s ≤ t then Ideal.exp (cum L t d - cum L s d) else 0) * key L s d

/-- The output before the norm, from the state at the chunk's start and from the chunk. -/
def raw (Q L V : Fin n → Fin 128 → EReal) (S : Fin 128 → Fin 128 → EReal) (t : Fin n) (v : Fin 128) : EReal :=
  (∑ d, Q t d * Ideal.exp (cum L t d) * S d v) + ∑ s, score Q L t s * V s v

/-- The state after row `l`, the chunk's last. -/
def nxtTo (l : Fin n) (L V : Fin n → Fin 128 → EReal) (S : Fin 128 → Fin 128 → EReal) (d v : Fin 128) : EReal :=
  Ideal.exp (cum L l d) * S d v + ∑ s, key L s d * Ideal.exp (cum L l d - cum L s d) * V s v

/-- The state after a chunk of 64 rows. -/
def nxt (L V : Fin 64 → Fin 128 → EReal) (S : Fin 128 → Fin 128 → EReal) : Fin 128 → Fin 128 → EReal := nxtTo 63 L V S

/-- The norm over a head, then its weight and the gate. -/
def fin (o : Fin n → Fin 128 → EReal) (gn : Fin 128 → EReal) (gate : Fin n → Fin 128 → EReal) (t : Fin n) (v : Fin 128) : EReal :=
  o t v * Ideal.rsqrt (Ideal.div (∑ x, o t x * o t x) (Ideal.ofBits FTy.f32 0x43000000#32) + Ideal.ofBits FTy.f32 0x358637BD#32) * gn v * gate t v

/-- The rounding remainder that the kernel adds again is nothing below +∞. -/
theorem add_sub_self {a : EReal} (h : a ≠ ⊤) : a + (a - a) = a := by
  induction a with
  | bot => rfl
  | top => exact absurd rfl h
  | coe x => rw [← EReal.coe_sub, ← EReal.coe_add]; simp

/-- A decay through a reference point is the decay itself. -/
theorem exp_split {a r b : EReal} (ha : a ≠ ⊤) (hr : r ≠ ⊤) (hb : b ≠ ⊤) (h : a ≠ ⊥ → r ≠ ⊥ ∧ b ≠ ⊥) :
    Ideal.exp (a - r) * Ideal.exp (r - b) = Ideal.exp (a - b) := by
  induction a with
  | bot => simp
  | top => exact absurd rfl ha
  | coe x =>
    obtain ⟨h1, h2⟩ := h (EReal.coe_ne_bot x)
    lift r to ℝ using ⟨hr, h1⟩
    lift b to ℝ using ⟨hb, h2⟩
    rw [← EReal.coe_sub, ← EReal.coe_sub, ← EReal.coe_sub, Ideal.exp_coe, Ideal.exp_coe, Ideal.exp_coe, ← EReal.coe_mul, ← Real.exp_add]
    congr 2; ring

section Below
variable {L : Fin n → Fin 128 → EReal} (hL : ∀ s d, L s d ≠ ⊤)
include hL

theorem cum_ne_top (t : Fin n) (d : Fin 128) : cum L t d ≠ ⊤ := by
  unfold cum
  refine Finset.sum_induction (fun s => if s ≤ t then L s d else (0 : EReal)) (fun a => a ≠ ⊤) (fun a b ha hb => EReal.add_ne_top ha hb) (by simp) ?_
  intro s _
  split
  · exact hL s d
  · simp

omit hL in
theorem cum_ne_bot {s t : Fin n} (hst : s ≤ t) (d : Fin 128) (h : cum L t d ≠ ⊥) : cum L s d ≠ ⊥ := by
  have key : ∀ i, i ≤ t → L i d ≠ ⊥ := by
    intro i hi hb
    apply h
    unfold cum
    rw [← Finset.add_sum_erase _ _ (Finset.mem_univ i), if_pos hi, hb, EReal.bot_add]
  unfold cum
  refine Finset.sum_induction (fun i => if i ≤ s then L i d else (0 : EReal)) (fun a => a ≠ ⊥) ?_ (by simp) ?_
  · intro a b ha hb hab
    rcases EReal.add_eq_bot_iff.mp hab with h | h
    · exact ha h
    · exact hb h
  intro i _
  split
  · next hi => exact key i (hi.trans hst)
  · simp

/-- The decay from `s` to `t` taken through row `p`, when `p ≤ t`. -/
theorem split_at {s t p : Fin n} (hst : s ≤ t) (hpt : p ≤ t) (d : Fin 128) :
    Ideal.exp (cum L t d - cum L p d) * Ideal.exp (cum L p d - cum L s d) = Ideal.exp (cum L t d - cum L s d) :=
  exp_split (cum_ne_top hL t d) (cum_ne_top hL p d) (cum_ne_top hL s d) fun h => ⟨cum_ne_bot hpt d h, cum_ne_bot hst d h⟩

/-- The same through the chunk's start. -/
theorem split_zero {s t : Fin n} (hst : s ≤ t) (d : Fin 128) :
    Ideal.exp (cum L t d - 0) * Ideal.exp (0 - cum L s d) = Ideal.exp (cum L t d - cum L s d) :=
  exp_split (cum_ne_top hL t d) (by simp) (cum_ne_top hL s d) fun h => ⟨by simp, cum_ne_bot hst d h⟩
end Below

/-- A sum over four blocks of 128. -/
theorem sum512 (f : Fin 512 → EReal) : ∑ x, f x =
    (∑ d : Fin 128, f ⟨d, by omega⟩) + (∑ d : Fin 128, f ⟨128 + d, by omega⟩) + (∑ d : Fin 128, f ⟨128 + 128 + d, by omega⟩)
      + ∑ d : Fin 128, f ⟨128 + 128 + 128 + d, by omega⟩ := by
  rw [show (∑ x : Fin 512, f x) = ∑ x : Fin (128 + 128 + 128 + 128), f x from rfl, Fin.sum_univ_add, Fin.sum_univ_add, Fin.sum_univ_add]
  rfl
end Hgrn
end
-- ==== Proof.KI.HeadAt.lean ====
/- The values of one head's part of a chunk, read at an index. -/
module
public import proofs.«01_k».proof.Proof.KI.Head
public import proofs.«01_k».proof.Proof.Math
@[expose] public section
set_option maxRecDepth 16384
noncomputable section
namespace Cert.KernelIdeal.Gen
open Idealize.ShloMosaic Idealize.ShloMosaic.TcCoe Idealize.ShloMosaic.Tactic Hgrn

theorem pay5_at (t s : Fin 64) : k0_pay5 (ix2 t s) = if s ≤ t then 1#1 else 0#1 := by
  revert t s; decide +kernel

theorem sel_ite {p : Prop} [Decidable p] {α : Type} (a b : α) : Scalar.select (if p then 1#1 else 0#1) a b = if p then a else b := by
  split <;> rfl

/-- A head's columns of a chunk. -/
def cols (c : ℕ) (hc : c + 128 ≤ 2048) (X : Fin 64 → Fin 2048 → EReal) (t : Fin 64) (d : Fin 128) : EReal := X t ⟨c + d, by omega⟩

/-- The running sum of the logarithms of the decays over all heads. -/
def cumAll (lf : Vec Ideal S64x2048 .f32) (t : Fin 64) (j : Fin 2048) : EReal := ∑ s, if s ≤ t then lf (ix2 s j) else 0

theorem pay30_at {lf : Vec Ideal S64x2048 .f32} (hL : ∀ s j, lf (ix2 s j) ≠ (⊤ : EReal)) (t : Fin 64) (j : Fin 2048) :
    k0_pay30 k0_pay6 lf (ix2 t j) = cumAll lf t j := by
  unfold k0_pay30 k0_pay26 k0_pay6
  pointwise
  simp only [pay5_at, sel_ite]
  rw [← Finset.sum_add_distrib]
  refine Finset.sum_congr rfl fun s _ => ?_
  split
  · exact add_sub_self (hL s j)
  · exact add_zero (0 : EReal)

/-- The row that a group's decays are measured from. -/
def ref (lf : Vec Ideal S64x2048 .f32) (t : Fin 64) (j : Fin 2048) : EReal :=
  if (t : ℕ) < 16 then 0 else if (t : ℕ) < 32 then cumAll lf 15 j else if (t : ℕ) < 48 then cumAll lf 31 j else cumAll lf 47 j

theorem mask0 (t : Fin 64) : IntOp.andi (IntOp.cmpi .sge (BitVec.ofNat 32 t) 0#32) (IntOp.cmpi .slt (BitVec.ofNat 32 t) 16#32) = if (t : ℕ) < 16 then 1#1 else 0#1 := by
  revert t; decide +kernel
theorem mask1 (t : Fin 64) : IntOp.andi (IntOp.cmpi .sge (BitVec.ofNat 32 t) 16#32) (IntOp.cmpi .slt (BitVec.ofNat 32 t) 32#32) = if 16 ≤ (t : ℕ) ∧ (t : ℕ) < 32 then 1#1 else 0#1 := by
  revert t; decide +kernel
theorem mask2 (t : Fin 64) : IntOp.andi (IntOp.cmpi .sge (BitVec.ofNat 32 t) 32#32) (IntOp.cmpi .slt (BitVec.ofNat 32 t) 48#32) = if 32 ≤ (t : ℕ) ∧ (t : ℕ) < 48 then 1#1 else 0#1 := by
  revert t; decide +kernel
theorem mask3 (t : Fin 64) : IntOp.andi (IntOp.cmpi .sge (BitVec.ofNat 32 t) 48#32) (IntOp.cmpi .slt (BitVec.ofNat 32 t) 64#32) = if 48 ≤ (t : ℕ) then 1#1 else 0#1 := by
  revert t; decide +kernel
theorem kmask0 (t : Fin 64) : IntOp.cmpi .slt (BitVec.ofNat 32 t) 16#32 = if (t : ℕ) < 16 then 1#1 else 0#1 := by
  revert t; decide +kernel
theorem kmask1 (t : Fin 64) : IntOp.cmpi .slt (BitVec.ofNat 32 t) 32#32 = if (t : ℕ) < 32 then 1#1 else 0#1 := by
  revert t; decide +kernel
theorem kmask2 (t : Fin 64) : IntOp.cmpi .slt (BitVec.ofNat 32 t) 48#32 = if (t : ℕ) < 48 then 1#1 else 0#1 := by
  revert t; decide +kernel
theorem kmask3 (t : Fin 64) : IntOp.cmpi .slt (BitVec.ofNat 32 t) 64#32 = 1#1 := by
  revert t; decide +kernel

section Parts
variable {lf : Vec Ideal S64x2048 .f32} (hL : ∀ s j, lf (ix2 s j) ≠ (⊤ : EReal)) (q : Vec Ideal S64x2048 .f32)
include hL

theorem qh_at (t : Fin 64) (j : Fin 2048) : k0_pay39 k0_pay6 lf q (ix2 t j) = (q (ix2 t j) * Ideal.exp (cumAll lf t j - ref lf t j) : EReal) := by
  unfold k0_pay39 k0_pay35 k0_pay36 k0_pay37 k0_pay38 k0_pay27
  pointwise
  simp only [pay30_at hL]
  unfold ref
  congr 3
  split
  · rfl
  split_ifs <;> first | rfl | omega

omit hL in
theorem qPart0_at (t : Fin 64) (j : Fin 2048) : qPart0 lf q (ix2 t j) = if (t : ℕ) < 16 then k0_pay39 k0_pay6 lf q (ix2 t j) else 0 := by
  unfold qPart0 k0_pay40 k0_pay41 rowNo
  pointwise
  rw [mask0, sel_ite]
omit hL in
theorem qPart1_at (t : Fin 64) (j : Fin 2048) : qPart1 lf q (ix2 t j) = if 16 ≤ (t : ℕ) ∧ (t : ℕ) < 32 then k0_pay39 k0_pay6 lf q (ix2 t j) else 0 := by
  unfold qPart1 k0_pay42 rowNo
  pointwise
  rw [mask1, sel_ite]
omit hL in
theorem qPart2_at (t : Fin 64) (j : Fin 2048) : qPart2 lf q (ix2 t j) = if 32 ≤ (t : ℕ) ∧ (t : ℕ) < 48 then k0_pay39 k0_pay6 lf q (ix2 t j) else 0 := by
  unfold qPart2 k0_pay43 rowNo
  pointwise
  rw [mask2, sel_ite]
omit hL in
theorem qPart3_at (t : Fin 64) (j : Fin 2048) : qPart3 lf q (ix2 t j) = if 48 ≤ (t : ℕ) then k0_pay39 k0_pay6 lf q (ix2 t j) else 0 := by
  unfold qPart3 k0_pay44 rowNo
  pointwise
  rw [mask3, sel_ite]

theorem kPart0_at (t : Fin 64) (j : Fin 2048) : kPart0 lf (ix2 t j) = if (t : ℕ) < 16 then ((1 - Ideal.exp (lf (ix2 t j))) * Ideal.exp (0 - cumAll lf t j) : EReal) else 0 := by
  unfold kPart0 k0_pay45 rowNo k0_pay35 k0_pay28 k0_pay26
  pointwise
  rw [kmask0, sel_ite, pay30_at hL]
theorem kPart1_at (t : Fin 64) (j : Fin 2048) : kPart1 lf (ix2 t j) = if (t : ℕ) < 32 then ((1 - Ideal.exp (lf (ix2 t j))) * Ideal.exp (cumAll lf 15 j - cumAll lf t j) : EReal) else 0 := by
  unfold kPart1 k0_pay48 k0_pay46 k0_pay47 rowNo k0_pay36 k0_pay28 k0_pay26
  pointwise
  rw [kmask1, sel_ite, pay30_at hL, pay30_at hL]
theorem kPart2_at (t : Fin 64) (j : Fin 2048) : kPart2 lf (ix2 t j) = if (t : ℕ) < 48 then ((1 - Ideal.exp (lf (ix2 t j))) * Ideal.exp (cumAll lf 31 j - cumAll lf t j) : EReal) else 0 := by
  unfold kPart2 k0_pay49 rowNo k0_pay37 k0_pay28 k0_pay26
  pointwise
  rw [kmask2, sel_ite, pay30_at hL, pay30_at hL]
theorem kPart3_at (t : Fin 64) (j : Fin 2048) : kPart3 lf (ix2 t j) = ((1 - Ideal.exp (lf (ix2 t j))) * Ideal.exp (cumAll lf 47 j - cumAll lf t j) : EReal) := by
  unfold kPart3 k0_pay50 rowNo k0_pay38 k0_pay28 k0_pay26
  pointwise
  rw [kmask3, pay30_at hL, pay30_at hL]
  rfl
end Parts

section Heads
variable (c : ℕ) (hc : c + 128 ≤ 2048) (hs : S64x2048.Slices ![0, c] S64x128) (hd : S1x2048.Slices ![0, c] S1x128)

theorem headAtt_at (a0 a1 a2 a3 b0 b1 b2 b3 : FVec Ideal S64x2048 .bf16) (i j : Fin 64) :
    headAtt c hs a0 a1 a2 a3 b0 b1 b2 b3 (ix2 i j) =
      ((∑ d : Fin 128, a0 (ix2 i ⟨c + d, by omega⟩) * b0 (ix2 j ⟨c + d, by omega⟩)) + (∑ d : Fin 128, a1 (ix2 i ⟨c + d, by omega⟩) * b1 (ix2 j ⟨c + d, by omega⟩))
      + (∑ d : Fin 128, a2 (ix2 i ⟨c + d, by omega⟩) * b2 (ix2 j ⟨c + d, by omega⟩)) + (∑ d : Fin 128, a3 (ix2 i ⟨c + d, by omega⟩) * b3 (ix2 j ⟨c + d, by omega⟩)) : EReal) := by
  unfold headAtt
  pointwise
  rw [sum512]
  rfl

/-- A head's columns of a chunk. -/
def colq (X : Vec Ideal S64x2048 .f32) (t : Fin 64) (d : Fin 128) : EReal := X (ix2 t ⟨c + d, by omega⟩)
def colv (X : Vec Ideal S64x2048 .bf16) (t : Fin 64) (d : Fin 128) : EReal := X (ix2 t ⟨c + d, by omega⟩)

variable {lf : Vec Ideal S64x2048 .f32} (hL : ∀ s j, lf (ix2 s j) ≠ (⊤ : EReal)) (q : Vec Ideal S64x2048 .f32) (v : Vec Ideal S64x2048 .bf16)
include hL

/-- The four groups' products add up to the scores. -/
theorem att_score {t s : Fin 64} (hst : s ≤ t) :
    headAtt c hs (qPart0 lf q) (qPart1 lf q) (qPart2 lf q) (qPart3 lf q) (kPart0 lf) (kPart1 lf) (kPart2 lf) (kPart3 lf) (ix2 t s)
      = score (colq c hc q) (colq c hc lf) t s := by
  have hL' : ∀ s d, colq c hc lf s d ≠ ⊤ := fun s d => hL s _
  have hst' : (s : ℕ) ≤ t := hst
  rw [headAtt_at c hc]
  simp only [qPart0_at, qPart1_at, qPart2_at, qPart3_at, kPart0_at hL, kPart1_at hL, kPart2_at hL, kPart3_at hL, qh_at hL]
  unfold score
  simp only [if_pos hst]
  have assoc : ∀ a e k e' x : EReal, e * e' = x → a * e * (k * e') = a * x * k := by
    intro a e k e' x h; rw [← h, mul_mul_mul_comm]; exact mul_right_comm _ _ _
  rcases lt_or_ge (t : ℕ) 16 with h | h
  · simp (disch := omega) only [ref, if_pos, if_neg, zero_mul, Finset.sum_const_zero, add_zero, zero_add]
    exact Finset.sum_congr rfl fun d _ => assoc _ _ _ _ _ (split_zero hL' hst d)
  rcases lt_or_ge (t : ℕ) 32 with h2 | h2
  · simp (disch := omega) only [ref, if_pos, if_neg, zero_mul, Finset.sum_const_zero, add_zero, zero_add]
    exact Finset.sum_congr rfl fun d _ => assoc _ _ _ _ _ (split_at hL' (p := 15) hst (Fin.le_def.mpr (by show 15 ≤ (t : ℕ); omega)) d)
  rcases lt_or_ge (t : ℕ) 48 with h3 | h3
  · simp (disch := omega) only [ref, if_pos, if_neg, zero_mul, Finset.sum_const_zero, add_zero, zero_add]
    exact Finset.sum_congr rfl fun d _ => assoc _ _ _ _ _ (split_at hL' (p := 31) hst (Fin.le_def.mpr (by show 31 ≤ (t : ℕ); omega)) d)
  · simp (disch := omega) only [ref, if_pos, if_neg, zero_mul, Finset.sum_const_zero, add_zero, zero_add]
    exact Finset.sum_congr rfl fun d _ => assoc _ _ _ _ _ (split_at hL' (p := 47) hst (Fin.le_def.mpr (by show 47 ≤ (t : ℕ); omega)) d)

omit hL in
theorem norm_at (o : FVec Ideal S64x128 .f32) (gn : Vec Ideal S1x128 .f32) (gate : Vec Ideal S64x128 .f32) (t : Fin 64) (j : Fin 128) :
    headNorm o gn gate (ix2 t j) = fin (fun t j => o (ix2 t j)) (fun j => gn (ix2 0 j)) (fun t j => gate (ix2 t j)) t j := by
  unfold headNorm
  pointwise
  rfl

theorem raw_at (S : Vec Ideal S1x128x128 .f32) (t : Fin 64) (j : Fin 128) :
    headRaw c hs (k0_pay32 k0_pay6 lf q) (k0_pay29 v)
      (headAtt c hs (qPart0 lf q) (qPart1 lf q) (qPart2 lf q) (qPart3 lf q) (kPart0 lf) (kPart1 lf) (kPart2 lf) (kPart3 lf)) S (ix2 t j)
      = raw (colq c hc q) (colq c hc lf) (colv c hc v) (fun d e => S (ix3 0 e d)) t j := by
  unfold headRaw k0_pay32 k0_pay29 k0_pay27
  pointwise
  simp only [pay5_at, sel_ite, pay30_at hL]
  unfold raw
  congr 1
  refine Finset.sum_congr rfl fun s _ => ?_
  split
  · next h => rw [att_score c hc hs hL q h]; rfl
  · next h => simp [score, h]

theorem headSt_at (S : Vec Ideal S1x128x128 .f32) (a : Fin 1) (e d : Fin 128) : headSt c hs hd lf v S (ix3 a e d)
      = nxt (colq c hc lf) (colv c hc v) (fun d e => S (ix3 0 e d)) d e := by
  unfold headSt k0_pay34 k0_pay31 k0_pay33 k0_pay28 k0_pay29 k0_pay31 k0_pay26
  pointwise
  simp only [pay30_at hL]
  unfold nxt nxtTo
  congr 1
  · exact mul_comm _ _
  · exact Finset.sum_congr rfl fun s _ => mul_comm _ _

theorem headOut_at (S : Vec Ideal S1x128x128 .f32) (gn : Vec Ideal S1x128 .f32) (gate : Vec Ideal S64x128 .f32) (t : Fin 64) (j : Fin 128) :
    headOut c hs lf q v S gn gate (ix2 t j) = fin (raw (colq c hc q) (colq c hc lf) (colv c hc v) (fun d e => S (ix3 0 e d)))
      (fun j => gn (ix2 0 j)) (fun t j => gate (ix2 t j)) t j := by
  unfold headOut
  rw [norm_at]
  simp only [raw_at c hc hs hL q v S]
end Heads
end Cert.KernelIdeal.Gen
end
-- ==== Proof.KI.Block.lean ====
/- A block of four chunks, in the values the kernel keeps: the states after each chunk and the outputs. -/
module
public import proofs.«01_k».proof.Proof.KI.HeadAt
@[expose] public section
set_option maxRecDepth 16384
noncomputable section
namespace Cert.KernelIdeal.Gen
open Idealize.ShloMosaic Idealize.ShloMosaic.TcCoe Idealize.ShloMosaic.Tactic Hgrn

/-- Chunk `k` and head `h` of a block of rows. -/
def bch {e : EltTy} (X : Vec Ideal S256x2048 e) (f : Elt Ideal e → EReal) (k h : ℕ) (t : Fin 64) (d : Fin 128) : EReal :=
  f (X (ix2 (Fin.ofNat 256 (64 * k + t)) (Fin.ofNat 2048 (128 * h + d))))

/-- A head's columns of the norm's weight. -/
def gch (X : Vec Ideal S1x2048 .f32) (h : ℕ) (d : Fin 128) : EReal := X (ix2 0 (Fin.ofNat 2048 (128 * h + d)))

/-- A head's state, which the kernel keeps transposed. -/
def stv (S : Vec Ideal S16x128x128 .f32) (h : Fin 16) (d e : Fin 128) : EReal := S (ix3 h e d)

variable (x0 x1 : Vec Ideal S256x2048 .f32) (x2 : Vec Ideal S256x2048 .bf16) (x3 : Vec Ideal S256x2048 .f32) (x4 : Vec Ideal S1x2048 .f32)

/-- The states after chunk `k`. -/
def stepS (k : ℕ) (S : Vec Ideal S16x128x128 .f32) : Vec Ideal S16x128x128 .f32 := fun y =>
  nxt (bch x1 id k (y 0 : Fin 16).val) (bch x2 id k (y 0 : Fin 16).val) (stv S (y 0)) (y 2) (y 1)

/-- The states after the first `n` chunks. -/
def stk (S : Vec Ideal S16x128x128 .f32) : ℕ → Vec Ideal S16x128x128 .f32
  | 0 => S
  | n + 1 => stepS x1 x2 n (stk S n)

/-- What chunk `k` puts out for a head, at a row of the chunk and a column of the head. -/
def outH (k h : ℕ) (S : Fin 128 → Fin 128 → EReal) (t : Fin 64) (j : Fin 128) : EReal :=
  fin (raw (bch x0 id k h) (bch x1 id k h) (bch x2 id k h) S) (gch x4 h) (bch x3 id k h) t j

/-- The block's outputs. -/
def outB (S : Vec Ideal S16x128x128 .f32) : Vec Ideal S256x2048 .bf16 := fun y =>
  outH x0 x1 x2 x3 x4 ((y 0 : Fin 256).val / 64) ((y 1 : Fin 2048).val / 128) (stv (stk x1 x2 S ((y 0 : Fin 256).val / 64)) (Fin.ofNat 16 ((y 1 : Fin 2048).val / 128)))
    (Fin.ofNat 64 (y 0 : Fin 256).val) (Fin.ofNat 128 (y 1 : Fin 2048).val)

end Cert.KernelIdeal.Gen
end
-- ==== Proof.KI.Piece.lean ====
/- One trip of the kernel's loop writes the outputs and the states of its chunk. -/
module
public import proofs.«01_k».proof.Proof.KI.Block
@[expose] public section
set_option maxRecDepth 16384
noncomputable section
namespace Cert.KernelIdeal.Gen
open Idealize.ShloMosaic Idealize.ShloMosaic.TcCoe Idealize.ShloMosaic.Tactic Hgrn

section Piece
variable (arg3 arg4 : Memref sig .tc .vmem S256x2048 .f32) (arg5 : Memref sig .tc .vmem S256x2048 .bf16) (arg6 : Memref sig .tc .vmem S256x2048 .f32)
  (arg7 : Memref sig .tc .vmem S1x2048 .f32) (arg11 : Memref sig .tc .vmem S16x128x128 .f32)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f11 : BufTy.Contents (Elt Ideal) arg11.view.ty)

/-- A chunk's rows read at an index. -/
theorem rows_at {e : EltTy} (arg : Memref sig .tc .vmem S256x2048 e) (X : BufTy.Contents (Elt Ideal) arg.view.ty) (k : ℕ) (hk : k < 4) (off : Fin 2 → ℕ)
    (hoff : off = ![64 * k, 0]) (inb : ∀ a, off a + S64x2048.size a ≤ S256x2048.size a) (t : Fin 64) (j : Fin 2048) :
    View.readAt (Elt Ideal) arg.view (Rect.unit (s := S256x2048) off S64x2048.size inb).toLoadRect X (ix2 t j)
      = arg.view.read (Elt Ideal) X (ix2 (Fin.ofNat 256 (64 * k + t)) j) := by
  subst hoff
  rw [View.readAt_apply]
  refine congrArg (arg.view.read (Elt Ideal) X) (funext fun d => Fin.ext ?_)
  match d with
  | ⟨0, _⟩ => show 64 * k + 1 * t.val = (64 * k + t.val) % 256; omega
  | ⟨1, _⟩ => show 0 + 1 * j.val = j.val; omega

/-- A head's state read at an index. -/
theorem state_at (h : Fin 16) (off : Fin 3 → ℕ) (hoff : off = ![h.val, 0, 0]) (inb : ∀ a, off a + S1x128x128.size a ≤ S16x128x128.size a) (e d : Fin 128) :
    View.readAt (Elt Ideal) arg11.view (Rect.unit (s := S16x128x128) off S1x128x128.size inb).toLoadRect f11 (ix3 0 e d)
      = arg11.view.read (Elt Ideal) f11 (ix3 h e d) := by
  subst hoff
  rw [View.readAt_apply]
  refine congrArg (arg11.view.read (Elt Ideal) f11) (funext fun a => Fin.ext ?_)
  match a with
  | ⟨0, _⟩ => rfl
  | ⟨1, _⟩ => show 0 + 1 * e.val = e.val; omega
  | ⟨2, _⟩ => show 0 + 1 * d.val = d.val; omega

variable (hL : ∀ y, arg4.view.read (Elt Ideal) X4 y ≠ (⊤ : EReal)) (k : ℕ) (hk : k < 4) (h : Fin 16) (c : ℕ) (hc : c = 128 * h.val)
  (hs : S64x2048.Slices ![0, c] S64x128) (hd : S1x2048.Slices ![0, c] S1x128) (off : Fin 2 → ℕ) (hoff : off = ![64 * k, 0])
  (inb : ∀ a, off a + S64x2048.size a ≤ S256x2048.size a) (off11 : Fin 3 → ℕ) (hoff11 : off11 = ![h.val, 0, 0]) (inb11 : ∀ a, off11 a + S1x128x128.size a ≤ S16x128x128.size a)
include hL hk hc hoff hoff11

theorem st_piece (inb' : ∀ a, off11 a + ![1, 128, 128] a ≤ S16x128x128.size a) (x : S1x128x128.Idx) :
    headSt c hs hd (View.readAt (Elt Ideal) arg4.view (Rect.unit (s := S256x2048) off S64x2048.size inb).toLoadRect X4)
      (View.readAt (Elt Ideal) arg5.view (Rect.unit (s := S256x2048) off S64x2048.size inb).toLoadRect X5)
      (View.readAt (Elt Ideal) arg11.view (Rect.unit (s := S16x128x128) off11 S1x128x128.size inb11).toLoadRect f11) x
      = stepS (arg4.view.read (Elt Ideal) X4) (arg5.view.read (Elt Ideal) X5) k (arg11.view.read (Elt Ideal) f11)
          ((Rect.unit (s := S16x128x128) off11 ![1, 128, 128] inb').emb x) := by
  obtain ⟨a, e, d, rfl⟩ : ∃ (a : Fin 1) (e d : Fin 128), x = ix3 a e d := ⟨x 0, x 1, x 2, eq_ix3 x⟩
  have hlt := h.isLt
  have e1 : (Rect.unit (s := S16x128x128) off11 ![1, 128, 128] inb').emb (ix3 a e d) = ix3 h e d := by
    subst hoff11
    refine funext fun b => Fin.ext ?_
    match b with
    | ⟨0, _⟩ => show h.val + 1 * a.val = h.val; have := a.isLt; omega
    | ⟨1, _⟩ => show 0 + 1 * e.val = e.val; omega
    | ⟨2, _⟩ => show 0 + 1 * d.val = d.val; omega
  rw [e1, headSt_at c (by omega)]
  · show _ = nxt (bch (e := .f32) (arg4.view.read (Elt Ideal) X4) id k h.val) (bch (e := .bf16) (arg5.view.read (Elt Ideal) X5) id k h.val) (stv (arg11.view.read (Elt Ideal) f11) h) d e
    have i1 : ∀ d : Fin 128, (⟨c + d.val, by omega⟩ : Fin 2048) = Fin.ofNat 2048 (128 * h.val + d.val) := fun d => Fin.ext (by show c + d.val = (128 * h.val + d.val) % 2048; omega)
    congr 1
    · funext t d; exact (rows_at arg4 X4 k hk off hoff inb t _).trans (by rw [i1]; rfl)
    · funext t d; exact (rows_at arg5 X5 k hk off hoff inb t _).trans (by rw [i1]; rfl)
    · funext d e; exact state_at arg11 f11 h off11 hoff11 inb11 e d
  · intro s j
    rw [rows_at arg4 X4 k hk off hoff inb]; exact hL _

omit hL hoff hoff11 in
/-- A head's part of a chunk lies in the block. -/
theorem chunk_inb (off6 : Fin 2 → ℕ) (hoff6 : off6 = ![64 * k, c]) : ∀ a, off6 a + ![64, 128] a ≤ S256x2048.size a := by
  subst hoff6
  have hlt := h.isLt
  intro a
  match a with
  | ⟨0, _⟩ => show 64 * k + 64 ≤ 256; omega
  | ⟨1, _⟩ => show c + 128 ≤ 2048; omega

theorem out_piece (off7 : Fin 2 → ℕ) (hoff7 : off7 = ![0, c]) (inb7 : ∀ a, off7 a + S1x128.size a ≤ S1x2048.size a)
    (off6 : Fin 2 → ℕ) (hoff6 : off6 = ![64 * k, c]) (inb6 : ∀ a, off6 a + S64x128.size a ≤ S256x2048.size a)
    (inb9 : ∀ a, off6 a + ![64, 128] a ≤ S256x2048.size a) (S : Vec Ideal S16x128x128 .f32)
    (hS : arg11.view.read (Elt Ideal) f11 = stk (arg4.view.read (Elt Ideal) X4) (arg5.view.read (Elt Ideal) X5) S k) (x : S64x128.Idx) :
    headOut c hs (View.readAt (Elt Ideal) arg4.view (Rect.unit (s := S256x2048) off S64x2048.size inb).toLoadRect X4)
      (View.readAt (Elt Ideal) arg3.view (Rect.unit (s := S256x2048) off S64x2048.size inb).toLoadRect X3)
      (View.readAt (Elt Ideal) arg5.view (Rect.unit (s := S256x2048) off S64x2048.size inb).toLoadRect X5)
      (View.readAt (Elt Ideal) arg11.view (Rect.unit (s := S16x128x128) off11 S1x128x128.size inb11).toLoadRect f11)
      (View.readAt (Elt Ideal) arg7.view (Rect.unit (s := S1x2048) off7 S1x128.size inb7).toLoadRect X7)
      (View.readAt (Elt Ideal) arg6.view (Rect.unit (s := S256x2048) off6 S64x128.size inb6).toLoadRect X6) x
      = outB (arg3.view.read (Elt Ideal) X3) (arg4.view.read (Elt Ideal) X4) (arg5.view.read (Elt Ideal) X5) (arg6.view.read (Elt Ideal) X6) (arg7.view.read (Elt Ideal) X7) S
          ((Rect.unit (s := S256x2048) off6 ![64, 128] inb9).emb x) := by
  obtain ⟨t, j, rfl⟩ : ∃ (t : Fin 64) (j : Fin 128), x = ix2 t j := ⟨x 0, x 1, eq_ix2 x⟩
  have hlt := h.isLt
  have htl := t.isLt
  have hjl := j.isLt
  subst hoff6
  subst hoff7
  have i1 : ∀ d : Fin 128, (⟨c + d.val, by omega⟩ : Fin 2048) = Fin.ofNat 2048 (128 * h.val + d.val) := fun d => Fin.ext (by show c + d.val = (128 * h.val + d.val) % 2048; omega)
  have n0 : (((Rect.unit (s := S256x2048) ![64 * k, c] ![64, 128] inb9).emb (ix2 t j) 0 : Fin 256).val) = 64 * k + t.val := by
    show 64 * k + 1 * t.val = _; omega
  have n1 : (((Rect.unit (s := S256x2048) ![64 * k, c] ![64, 128] inb9).emb (ix2 t j) 1 : Fin 2048).val) = 128 * h.val + j.val := by
    show c + 1 * j.val = _; omega
  unfold outB
  rw [n0, n1, show (64 * k + t.val) / 64 = k by omega, show (128 * h.val + j.val) / 128 = h.val by omega,
    show Fin.ofNat 16 h.val = h from Fin.ext (by show h.val % 16 = _; omega),
    show Fin.ofNat 64 (64 * k + t.val) = t from Fin.ext (by show (64 * k + t.val) % 64 = _; omega),
    show Fin.ofNat 128 (128 * h.val + j.val) = j from Fin.ext (by show (128 * h.val + j.val) % 128 = _; omega), ← hS,
    headOut_at c (by omega)]
  · unfold outH
    congr 1
    · congr 1
      · funext t d; exact (rows_at arg3 X3 k hk off hoff inb t _).trans (by rw [i1]; rfl)
      · funext t d; exact (rows_at arg4 X4 k hk off hoff inb t _).trans (by rw [i1]; rfl)
      · funext t d; exact (rows_at arg5 X5 k hk off hoff inb t _).trans (by rw [i1]; rfl)
      · funext d e; exact state_at arg11 f11 h off11 hoff11 inb11 e d
    · funext d
      rw [View.readAt_apply]
      refine congrArg (arg7.view.read (Elt Ideal) X7) (funext fun a => Fin.ext ?_)
      match a with
      | ⟨0, _⟩ => rfl
      | ⟨1, _⟩ => show c + 1 * d.val = (128 * h.val + d.val) % 2048; omega
    · funext t d
      rw [View.readAt_apply]
      refine congrArg (arg6.view.read (Elt Ideal) X6) (funext fun a => Fin.ext ?_)
      match a with
      | ⟨0, _⟩ => show 64 * k + 1 * t.val = (64 * k + t.val) % 256; omega
      | ⟨1, _⟩ => show c + 1 * d.val = (128 * h.val + d.val) % 2048; omega
  · intro s j
    rw [rows_at arg4 X4 k hk off hoff inb]; exact hL _
end Piece
end Cert.KernelIdeal.Gen
end
-- ==== Proof.KI.TripAt.lean ====
/- One trip of the kernel's loop, all heads. -/
module
public import proofs.«01_k».proof.Proof.KI.Piece
@[expose] public section
set_option maxRecDepth 16384
noncomputable section
namespace Cert.KernelIdeal.Gen
open Idealize.ShloMosaic Idealize.ShloMosaic.TcCoe Idealize.ShloMosaic.Tactic Hgrn

/-- The states one trip writes are the chunk's next states. -/
theorem trip_st (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin k0_t1_loop.trips) (hL : ∀ y, arg4.view.read (Elt Ideal) X_arg4 y ≠ (⊤ : EReal)) (f9 : BufTy.Contents (Elt Ideal) arg9.view.ty) (f11 : BufTy.Contents (Elt Ideal) arg11.view.ty) :
    ∀ p ∈ (tripL_k0_t1 (F := Ideal) 𝒱 c bd i arg3 harg3 arg4 harg4 arg5 harg5 arg6 harg6 arg7 harg7 arg8 harg8 arg9 harg9 arg10 harg10 arg11 harg11 rowNo X_arg3 X_arg4 X_arg5 X_arg6 X_arg7 k f9 f11).2, ∀ x,
      p.2 x = stepS (arg4.view.read (Elt Ideal) X_arg4) (arg5.view.read (Elt Ideal) X_arg5) k.val (arg11.view.read (Elt Ideal) f11) (p.1.emb x) := by
  intro p hp x
  have hk : k.val < 4 := Nat.lt_of_lt_of_le k.isLt k0_t1_abs.2.1
  unfold tripL_k0_t1 trip_k0_t1 at hp
  dsimp only at hp
  simp only [List.mem_cons, List.not_mem_nil, or_false] at hp
  rcases hp with rfl | rfl | rfl | rfl | rfl | rfl | rfl | rfl | rfl | rfl | rfl | rfl | rfl | rfl | rfl | rfl
  · exact st_piece arg4 arg5 arg11 X_arg4 X_arg5 f11 hL k.val hk 15 1920 rfl (by decide) (by decide) _ (k0_off1_eq k) _ _ rfl _ (by decide) x
  · exact st_piece arg4 arg5 arg11 X_arg4 X_arg5 f11 hL k.val hk 14 1792 rfl (by decide) (by decide) _ (k0_off1_eq k) _ _ rfl _ (by decide) x
  · exact st_piece arg4 arg5 arg11 X_arg4 X_arg5 f11 hL k.val hk 13 1664 rfl (by decide) (by decide) _ (k0_off1_eq k) _ _ rfl _ (by decide) x
  · exact st_piece arg4 arg5 arg11 X_arg4 X_arg5 f11 hL k.val hk 12 1536 rfl (by decide) (by decide) _ (k0_off1_eq k) _ _ rfl _ (by decide) x
  · exact st_piece arg4 arg5 arg11 X_arg4 X_arg5 f11 hL k.val hk 11 1408 rfl (by decide) (by decide) _ (k0_off1_eq k) _ _ rfl _ (by decide) x
  · exact st_piece arg4 arg5 arg11 X_arg4 X_arg5 f11 hL k.val hk 10 1280 rfl (by decide) (by decide) _ (k0_off1_eq k) _ _ rfl _ (by decide) x
  · exact st_piece arg4 arg5 arg11 X_arg4 X_arg5 f11 hL k.val hk 9 1152 rfl (by decide) (by decide) _ (k0_off1_eq k) _ _ rfl _ (by decide) x
  · exact st_piece arg4 arg5 arg11 X_arg4 X_arg5 f11 hL k.val hk 8 1024 rfl (by decide) (by decide) _ (k0_off1_eq k) _ _ rfl _ (by decide) x
  · exact st_piece arg4 arg5 arg11 X_arg4 X_arg5 f11 hL k.val hk 7 896 rfl (by decide) (by decide) _ (k0_off1_eq k) _ _ rfl _ (by decide) x
  · exact st_piece arg4 arg5 arg11 X_arg4 X_arg5 f11 hL k.val hk 6 768 rfl (by decide) (by decide) _ (k0_off1_eq k) _ _ rfl _ (by decide) x
  · exact st_piece arg4 arg5 arg11 X_arg4 X_arg5 f11 hL k.val hk 5 640 rfl (by decide) (by decide) _ (k0_off1_eq k) _ _ rfl _ (by decide) x
  · exact st_piece arg4 arg5 arg11 X_arg4 X_arg5 f11 hL k.val hk 4 512 rfl (by decide) (by decide) _ (k0_off1_eq k) _ _ rfl _ (by decide) x
  · exact st_piece arg4 arg5 arg11 X_arg4 X_arg5 f11 hL k.val hk 3 384 rfl (by decide) (by decide) _ (k0_off1_eq k) _ _ rfl _ (by decide) x
  · exact st_piece arg4 arg5 arg11 X_arg4 X_arg5 f11 hL k.val hk 2 256 rfl (by decide) (by decide) _ (k0_off1_eq k) _ _ rfl _ (by decide) x
  · exact st_piece arg4 arg5 arg11 X_arg4 X_arg5 f11 hL k.val hk 1 128 rfl (by decide) (by decide) _ (k0_off1_eq k) _ _ rfl _ (by decide) x
  · exact st_piece arg4 arg5 arg11 X_arg4 X_arg5 f11 hL k.val hk 0 0 rfl (by decide) (by decide) _ (k0_off1_eq k) _ _ rfl _ (by decide) x

/-- The outputs one trip writes are the chunk's, when the states it finds are those before the chunk. -/
theorem trip_out (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin k0_t1_loop.trips) (hL : ∀ y, arg4.view.read (Elt Ideal) X_arg4 y ≠ (⊤ : EReal)) (f9 : BufTy.Contents (Elt Ideal) arg9.view.ty) (f11 : BufTy.Contents (Elt Ideal) arg11.view.ty)
    (S : Vec Ideal S16x128x128 .f32) (hS : arg11.view.read (Elt Ideal) f11 = stk (arg4.view.read (Elt Ideal) X_arg4) (arg5.view.read (Elt Ideal) X_arg5) S k.val) :
    ∀ p ∈ (tripL_k0_t1 (F := Ideal) 𝒱 c bd i arg3 harg3 arg4 harg4 arg5 harg5 arg6 harg6 arg7 harg7 arg8 harg8 arg9 harg9 arg10 harg10 arg11 harg11 rowNo X_arg3 X_arg4 X_arg5 X_arg6 X_arg7 k f9 f11).1, ∀ x,
      p.2 x = outB (arg3.view.read (Elt Ideal) X_arg3) (arg4.view.read (Elt Ideal) X_arg4) (arg5.view.read (Elt Ideal) X_arg5) (arg6.view.read (Elt Ideal) X_arg6) (arg7.view.read (Elt Ideal) X_arg7) S (p.1.emb x) := by
  intro p hp x
  have hk : k.val < 4 := Nat.lt_of_lt_of_le k.isLt k0_t1_abs.2.1
  unfold tripL_k0_t1 trip_k0_t1 at hp
  dsimp only at hp
  simp only [List.mem_cons, List.not_mem_nil, or_false] at hp
  rcases hp with rfl | rfl | rfl | rfl | rfl | rfl | rfl | rfl | rfl | rfl | rfl | rfl | rfl | rfl | rfl | rfl
  · exact out_piece arg3 arg4 arg5 arg6 arg7 arg11 X_arg3 X_arg4 X_arg5 X_arg6 X_arg7 f11 hL k.val hk 15 1920 rfl (by decide) _ (k0_off1_eq k) _ _ rfl _ _ rfl _ _ (k0_off17_eq k) _ (chunk_inb k.val hk 15 1920 rfl _ (k0_off17_eq k)) S hS x
  · exact out_piece arg3 arg4 arg5 arg6 arg7 arg11 X_arg3 X_arg4 X_arg5 X_arg6 X_arg7 f11 hL k.val hk 14 1792 rfl (by decide) _ (k0_off1_eq k) _ _ rfl _ _ rfl _ _ (k0_off16_eq k) _ (chunk_inb k.val hk 14 1792 rfl _ (k0_off16_eq k)) S hS x
  · exact out_piece arg3 arg4 arg5 arg6 arg7 arg11 X_arg3 X_arg4 X_arg5 X_arg6 X_arg7 f11 hL k.val hk 13 1664 rfl (by decide) _ (k0_off1_eq k) _ _ rfl _ _ rfl _ _ (k0_off15_eq k) _ (chunk_inb k.val hk 13 1664 rfl _ (k0_off15_eq k)) S hS x
  · exact out_piece arg3 arg4 arg5 arg6 arg7 arg11 X_arg3 X_arg4 X_arg5 X_arg6 X_arg7 f11 hL k.val hk 12 1536 rfl (by decide) _ (k0_off1_eq k) _ _ rfl _ _ rfl _ _ (k0_off14_eq k) _ (chunk_inb k.val hk 12 1536 rfl _ (k0_off14_eq k)) S hS x
  · exact out_piece arg3 arg4 arg5 arg6 arg7 arg11 X_arg3 X_arg4 X_arg5 X_arg6 X_arg7 f11 hL k.val hk 11 1408 rfl (by decide) _ (k0_off1_eq k) _ _ rfl _ _ rfl _ _ (k0_off13_eq k) _ (chunk_inb k.val hk 11 1408 rfl _ (k0_off13_eq k)) S hS x
  · exact out_piece arg3 arg4 arg5 arg6 arg7 arg11 X_arg3 X_arg4 X_arg5 X_arg6 X_arg7 f11 hL k.val hk 10 1280 rfl (by decide) _ (k0_off1_eq k) _ _ rfl _ _ rfl _ _ (k0_off12_eq k) _ (chunk_inb k.val hk 10 1280 rfl _ (k0_off12_eq k)) S hS x
  · exact out_piece arg3 arg4 arg5 arg6 arg7 arg11 X_arg3 X_arg4 X_arg5 X_arg6 X_arg7 f11 hL k.val hk 9 1152 rfl (by decide) _ (k0_off1_eq k) _ _ rfl _ _ rfl _ _ (k0_off11_eq k) _ (chunk_inb k.val hk 9 1152 rfl _ (k0_off11_eq k)) S hS x
  · exact out_piece arg3 arg4 arg5 arg6 arg7 arg11 X_arg3 X_arg4 X_arg5 X_arg6 X_arg7 f11 hL k.val hk 8 1024 rfl (by decide) _ (k0_off1_eq k) _ _ rfl _ _ rfl _ _ (k0_off10_eq k) _ (chunk_inb k.val hk 8 1024 rfl _ (k0_off10_eq k)) S hS x
  · exact out_piece arg3 arg4 arg5 arg6 arg7 arg11 X_arg3 X_arg4 X_arg5 X_arg6 X_arg7 f11 hL k.val hk 7 896 rfl (by decide) _ (k0_off1_eq k) _ _ rfl _ _ rfl _ _ (k0_off9_eq k) _ (chunk_inb k.val hk 7 896 rfl _ (k0_off9_eq k)) S hS x
  · exact out_piece arg3 arg4 arg5 arg6 arg7 arg11 X_arg3 X_arg4 X_arg5 X_arg6 X_arg7 f11 hL k.val hk 6 768 rfl (by decide) _ (k0_off1_eq k) _ _ rfl _ _ rfl _ _ (k0_off8_eq k) _ (chunk_inb k.val hk 6 768 rfl _ (k0_off8_eq k)) S hS x
  · exact out_piece arg3 arg4 arg5 arg6 arg7 arg11 X_arg3 X_arg4 X_arg5 X_arg6 X_arg7 f11 hL k.val hk 5 640 rfl (by decide) _ (k0_off1_eq k) _ _ rfl _ _ rfl _ _ (k0_off7_eq k) _ (chunk_inb k.val hk 5 640 rfl _ (k0_off7_eq k)) S hS x
  · exact out_piece arg3 arg4 arg5 arg6 arg7 arg11 X_arg3 X_arg4 X_arg5 X_arg6 X_arg7 f11 hL k.val hk 4 512 rfl (by decide) _ (k0_off1_eq k) _ _ rfl _ _ rfl _ _ (k0_off6_eq k) _ (chunk_inb k.val hk 4 512 rfl _ (k0_off6_eq k)) S hS x
  · exact out_piece arg3 arg4 arg5 arg6 arg7 arg11 X_arg3 X_arg4 X_arg5 X_arg6 X_arg7 f11 hL k.val hk 3 384 rfl (by decide) _ (k0_off1_eq k) _ _ rfl _ _ rfl _ _ (k0_off5_eq k) _ (chunk_inb k.val hk 3 384 rfl _ (k0_off5_eq k)) S hS x
  · exact out_piece arg3 arg4 arg5 arg6 arg7 arg11 X_arg3 X_arg4 X_arg5 X_arg6 X_arg7 f11 hL k.val hk 2 256 rfl (by decide) _ (k0_off1_eq k) _ _ rfl _ _ rfl _ _ (k0_off4_eq k) _ (chunk_inb k.val hk 2 256 rfl _ (k0_off4_eq k)) S hS x
  · exact out_piece arg3 arg4 arg5 arg6 arg7 arg11 X_arg3 X_arg4 X_arg5 X_arg6 X_arg7 f11 hL k.val hk 1 128 rfl (by decide) _ (k0_off1_eq k) _ _ rfl _ _ rfl _ _ (k0_off3_eq k) _ (chunk_inb k.val hk 1 128 rfl _ (k0_off3_eq k)) S hS x
  · exact out_piece arg3 arg4 arg5 arg6 arg7 arg11 X_arg3 X_arg4 X_arg5 X_arg6 X_arg7 f11 hL k.val hk 0 0 rfl (by decide) _ (k0_off1_eq k) _ _ rfl _ _ rfl _ _ (k0_off2_eq k) _ (chunk_inb k.val hk 0 0 rfl _ (k0_off2_eq k)) S hS x

end Cert.KernelIdeal.Gen
end
-- ==== Proof.KI.LoopAt.lean ====
/- The kernel's loop over the four chunks of a block. -/
module
public import proofs.«01_k».proof.Proof.KI.TripAt
@[expose] public section
set_option maxRecDepth 16384
noncomputable section
namespace Cert.KernelIdeal.Gen
open Idealize.ShloMosaic Idealize.ShloMosaic.TcCoe Idealize.ShloMosaic.Tactic Hgrn

/-- One trip replaces all the states. -/
theorem trip_read (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin k0_t1_loop.trips) (hL : ∀ y, arg4.view.read (Elt Ideal) X_arg4 y ≠ (⊤ : EReal)) (f9 : BufTy.Contents (Elt Ideal) arg9.view.ty) (f11 : BufTy.Contents (Elt Ideal) arg11.view.ty) :
    arg11.view.read (Elt Ideal) (arg11.view.writes (Elt Ideal) f11 (tripL_k0_t1 (F := Ideal) 𝒱 c bd i arg3 harg3 arg4 harg4 arg5 harg5 arg6 harg6 arg7 harg7 arg8 harg8 arg9 harg9 arg10 harg10 arg11 harg11 rowNo X_arg3 X_arg4 X_arg5 X_arg6 X_arg7 k f9 f11).2)
      = stepS (arg4.view.read (Elt Ideal) X_arg4) (arg5.view.read (Elt Ideal) X_arg5) k.val (arg11.view.read (Elt Ideal) f11) := by
  funext y
  refine View.read_writes_apply_of_pieces _ _ _ _ (trip_st 𝒱 c bd i arg3 harg3 arg4 harg4 arg5 harg5 arg6 harg6 arg7 harg7 arg8 harg8 arg9 harg9 arg10 harg10 arg11 harg11 X_arg3 X_arg4 X_arg5 X_arg6 X_arg7 k hL f9 f11) y ?_
  exact View.cover_of_tiledL (s := S16x128x128) _ ![1, 128, 128] (by sl_kernel_rfl) y

/-- After `n` trips the states are those after `n` chunks, and every piece put out is the block's. -/
theorem loop_at (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (hL : ∀ y, arg4.view.read (Elt Ideal) X_arg4 y ≠ (⊤ : EReal)) (G9 : BufTy.Contents (Elt Ideal) arg9.view.ty) (G11 : BufTy.Contents (Elt Ideal) arg11.view.ty) (n : ℕ) (hn : n ≤ k0_t1_loop.trips) :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 rowNo X_arg3 X_arg4 X_arg5 X_arg6 X_arg7 G9 G11 n).2)
      = stk (arg4.view.read (Elt Ideal) X_arg4) (arg5.view.read (Elt Ideal) X_arg5) (arg11.view.read (Elt Ideal) G11) n ∧
    ∀ p ∈ (pb_k0_t1 (F := Ideal) 𝒱 c bd i arg3 harg3 arg4 harg4 arg5 harg5 arg6 harg6 arg7 harg7 arg8 harg8 arg9 harg9 arg10 harg10 arg11 harg11 rowNo X_arg3 X_arg4 X_arg5 X_arg6 X_arg7 G9 G11 n).1, ∀ x,
      p.2 x = outB (arg3.view.read (Elt Ideal) X_arg3) (arg4.view.read (Elt Ideal) X_arg4) (arg5.view.read (Elt Ideal) X_arg5) (arg6.view.read (Elt Ideal) X_arg6) (arg7.view.read (Elt Ideal) X_arg7) (arg11.view.read (Elt Ideal) G11) (p.1.emb x) := by
  induction n with
  | zero => exact ⟨rfl, fun p hp => absurd hp List.not_mem_nil⟩
  | succ n ih =>
    obtain ⟨ih1, ih2⟩ := ih (by omega)
    rw [pb_k0_t1_succ (F := Ideal) 𝒱 c bd i arg3 harg3 arg4 harg4 arg5 harg5 arg6 harg6 arg7 harg7 arg8 harg8 arg9 harg9 arg10 harg10 arg11 harg11 rowNo X_arg3 X_arg4 X_arg5 X_arg6 X_arg7 G9 G11 ⟨n, hn⟩]
    dsimp only
    constructor
    · rw [View.writes_append, trip_read 𝒱 c bd i arg3 harg3 arg4 harg4 arg5 harg5 arg6 harg6 arg7 harg7 arg8 harg8 arg9 harg9 arg10 harg10 arg11 harg11 X_arg3 X_arg4 X_arg5 X_arg6 X_arg7 ⟨n, hn⟩ hL, ih1]
      rfl
    · intro p hp x
      rcases List.mem_append.mp hp with hp | hp
      · exact trip_out 𝒱 c bd i arg3 harg3 arg4 harg4 arg5 harg5 arg6 harg6 arg7 harg7 arg8 harg8 arg9 harg9 arg10 harg10 arg11 harg11 X_arg3 X_arg4 X_arg5 X_arg6 X_arg7 ⟨n, hn⟩ hL _ _ _ ih1 p hp x
      · exact ih2 p hp x

/-- The whole loop, from blocks and states given by their values. -/
theorem loopP_at (𝒱 : Variants) (c : Dev nD) (bd : Option 𝒱.V) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (x0 x1 : Vec Ideal S256x2048 .f32) (x2 : Vec Ideal S256x2048 .bf16) (x3 : Vec Ideal S256x2048 .f32) (x4 : Vec Ideal S1x2048 .f32)
    (S : Vec Ideal S16x128x128 .f32) (hL : ∀ y, x1 y ≠ (⊤ : EReal)) :
    arg11.view.read (Elt Ideal) (arg11.view.writes (Elt Ideal) (harg11.unread S) (loopP (F := Ideal) 𝒱 c bd i arg3 harg3 arg4 harg4 arg5 harg5 arg6 harg6 arg7 harg7 arg8 harg8 arg9 harg9 arg10 harg10 arg11 harg11 x0 x1 x2 x3 x4 S).2) = stk x1 x2 S 4 ∧
    ∀ p ∈ (loopP (F := Ideal) 𝒱 c bd i arg3 harg3 arg4 harg4 arg5 harg5 arg6 harg6 arg7 harg7 arg8 harg8 arg9 harg9 arg10 harg10 arg11 harg11 x0 x1 x2 x3 x4 S).1, ∀ x, p.2 x = outB x0 x1 x2 x3 x4 S (p.1.emb x) := by
  have h := loop_at 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4)
    (by rw [harg4.read_unread]; exact hL) (harg9.unread fun _ => (Scalar.ofBits .bf16 0#16 : Ideal .bf16)) (harg11.unread S) k0_t1_loop.trips le_rfl
  rw [harg3.read_unread, harg4.read_unread, harg5.read_unread, harg6.read_unread, harg7.read_unread, harg11.read_unread] at h
  exact h
end Cert.KernelIdeal.Gen
end
-- ==== Proof.KI.RunA.lean ====
/- The whole body's run in case A: the blocks it reads come back as they were, the output block holds the loop's
   pieces, the carried scratch the states after the last chunk. -/
module

public import proofs.«01_k».proof.Proof.KI.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at a sequence's first block, with the kept states at anything: the pieces written to the two outputs and to the kept states, last first.
    From the inputs at `x0` to `x5` the body ends with the inputs as they were and these pieces written. -/
noncomputable def kernelRun0_A (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : cond0_0 i) (hc1 : ¬cond0_1 i)
    (x0 : Vec F S256x2048 .f32) (x1 : Vec F S256x2048 .f32) (x2 : Vec F S256x2048 .bf16) (x3 : Vec F S256x2048 .f32) (x4 : Vec F S1x2048 .f32) (x5 : Vec F S1x16x128x128 .f32) :
    Σ' (L6 : List (View.Piece (Elt F) S256x2048 .bf16)), Σ' (L7 : List (View.Piece (Elt F) S1x16x128x128 .f32)), { LS0 : List (View.Piece (Elt F) S16x128x128 .f32) //
      ∀ (xi7 : Vec F S1x16x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg3 harg3 arg4 harg4 arg5 harg5 arg6 harg6 arg7 harg7 arg8 harg8 arg9 harg9 arg10 harg10 arg11 harg11) K } := by
  refine ⟨(loopP (F := F) Variants.none c none i arg3 harg3 arg4 harg4 arg5 harg5 arg6 harg6 arg7 harg7 arg8 harg8 arg9 harg9 arg10 harg10 arg11 harg11 x0 x1 x2 x3 x4 (begState x5)).1, [], (loopP (F := F) Variants.none c none i arg3 harg3 arg4 harg4 arg5 harg5 arg6 harg6 arg7 harg7 arg8 harg8 arg9 harg9 arg10 harg10 arg11 harg11 x0 x1 x2 x3 x4 (begState x5)).2, fun xi7 E K => ?run⟩
  case run =>
    simp only [cc0_hgrn_eq_skeleton]; unfold cc0_hgrn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7
    sl_exec (disch := first | sl_exact hc0 | sl_exact hc1)
    sl_step
    have hI : arg11.view.writes (Elt F) arg11.view.junk (kernelRun0_A.sl.HS0_16 c arg8 harg8 x5) = harg11.unread (begState x5) :=
      harg11.eq_unread (funext fun y => by
        unfold kernelRun0_A.sl.HS0_16
        refine View.read_writes_apply_of_pieces _ _ _ _ ?_ y (View.cover_of_tiledL (s := S16x128x128) _ ![1, 128, 128] (by sl_kernel_rfl) y)
        intro p hp x
        simp only [List.mem_cons, List.not_mem_nil, or_false] at hp
        rcases hp with rfl | rfl | rfl | rfl | rfl | rfl | rfl | rfl | rfl | rfl | rfl | rfl | rfl | rfl | rfl | rfl
        all_goals exact beg_piece arg8 harg8 x5 _ _ (by decide) x)
    have e := loopP_eq (F := F) Variants.none c none i arg3 harg3 arg4 harg4 arg5 harg5 arg6 harg6 arg7 harg7 arg8 harg8 arg9 harg9 arg10 harg10 arg11 harg11 x0 x1 x2 x3 x4 (begState x5) f6
    rw [View.writes_append, hI, e]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.KernelIdeal.Gen

end
-- ==== Proof.KI.RunB.lean ====
/- The whole body's run in case B: the blocks it reads come back as they were, the output block holds the loop's
   pieces, the carried scratch the states after the last chunk. -/
module

public import proofs.«01_k».proof.Proof.KI.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at a middle block, which finds the kept states at `xs0`: the pieces written to the two outputs and to the kept states, last first.
    From the inputs at `x0` to `x5` the body ends with the inputs as they were and these pieces written. -/
noncomputable def kernelRun0_B (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : ¬cond0_0 i) (hc1 : ¬cond0_1 i)
    (x0 : Vec F S256x2048 .f32) (x1 : Vec F S256x2048 .f32) (x2 : Vec F S256x2048 .bf16) (x3 : Vec F S256x2048 .f32) (x4 : Vec F S1x2048 .f32) (x5 : Vec F S1x16x128x128 .f32) (xs0 : Vec F S16x128x128 .f32) :
    Σ' (L6 : List (View.Piece (Elt F) S256x2048 .bf16)), Σ' (L7 : List (View.Piece (Elt F) S1x16x128x128 .f32)), { LS0 : List (View.Piece (Elt F) S16x128x128 .f32) //
      ∀ (xi7 : Vec F S1x16x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg3 harg3 arg4 harg4 arg5 harg5 arg6 harg6 arg7 harg7 arg8 harg8 arg9 harg9 arg10 harg10 arg11 harg11) K } := by
  refine ⟨(loopP (F := F) Variants.none c none i arg3 harg3 arg4 harg4 arg5 harg5 arg6 harg6 arg7 harg7 arg8 harg8 arg9 harg9 arg10 harg10 arg11 harg11 x0 x1 x2 x3 x4 xs0).1, [], (loopP (F := F) Variants.none c none i arg3 harg3 arg4 harg4 arg5 harg5 arg6 harg6 arg7 harg7 arg8 harg8 arg9 harg9 arg10 harg10 arg11 harg11 x0 x1 x2 x3 x4 xs0).2, fun xi7 E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | sl_exact hc0 | sl_exact hc1)
    sl_step
    have e := loopP_eq (F := F) Variants.none c none i arg3 harg3 arg4 harg4 arg5 harg5 arg6 harg6 arg7 harg7 arg8 harg8 arg9 harg9 arg10 harg10 arg11 harg11 x0 x1 x2 x3 x4 xs0 f6
    unfold kernelRun0_B.sl.v10
    rw [e]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.KernelIdeal.Gen

end
-- ==== Proof.KI.RunC.lean ====
/- The whole body's run in case C: the blocks it reads come back as they were, the output block holds the loop's
   pieces, the carried scratch the states after the last chunk. -/
module

public import proofs.«01_k».proof.Proof.KI.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at a sequence's last block, which finds the kept states at `xs0` and stores them as output 7: the pieces written to the two outputs and to the kept states, last first.
    From the inputs at `x0` to `x5` the body ends with the inputs as they were and these pieces written. -/
noncomputable def kernelRun0_C (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : ¬cond0_0 i) (hc1 : cond0_1 i)
    (x0 : Vec F S256x2048 .f32) (x1 : Vec F S256x2048 .f32) (x2 : Vec F S256x2048 .bf16) (x3 : Vec F S256x2048 .f32) (x4 : Vec F S1x2048 .f32) (x5 : Vec F S1x16x128x128 .f32) (xs0 : Vec F S16x128x128 .f32) :
    Σ' (L6 : List (View.Piece (Elt F) S256x2048 .bf16)), Σ' (L7 : List (View.Piece (Elt F) S1x16x128x128 .f32)), { LS0 : List (View.Piece (Elt F) S16x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn i arg3 harg3 arg4 harg4 arg5 harg5 arg6 harg6 arg7 harg7 arg8 harg8 arg9 harg9 arg10 harg10 arg11 harg11) K } := by
  refine ⟨(loopP (F := F) Variants.none c none i arg3 harg3 arg4 harg4 arg5 harg5 arg6 harg6 arg7 harg7 arg8 harg8 arg9 harg9 arg10 harg10 arg11 harg11 x0 x1 x2 x3 x4 xs0).1, [⟨Rect.unit (s := S1x16x128x128) ![0, 0, 0, 0] S1x16x128x128.size (by decide), endState (arg11.view.read (Elt F) (arg11.view.writes (Elt F) (harg11.unread xs0) (loopP (F := F) Variants.none c none i arg3 harg3 arg4 harg4 arg5 harg5 arg6 harg6 arg7 harg7 arg8 harg8 arg9 harg9 arg10 harg10 arg11 harg11 x0 x1 x2 x3 x4 xs0).2))⟩], (loopP (F := F) Variants.none c none i arg3 harg3 arg4 harg4 arg5 harg5 arg6 harg6 arg7 harg7 arg8 harg8 arg9 harg9 arg10 harg10 arg11 harg11 x0 x1 x2 x3 x4 xs0).2, fun E K => ?run⟩
  case run =>
    simp only [cc0_hgrn_eq_skeleton]; unfold cc0_hgrn_skel
    simp only [k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | sl_exact hc0 | sl_exact hc1)
    sl_step
    have e := loopP_eq (F := F) Variants.none c none i arg3 harg3 arg4 harg4 arg5 harg5 arg6 harg6 arg7 harg7 arg8 harg8 arg9 harg9 arg10 harg10 arg11 harg11 x0 x1 x2 x3 x4 xs0 f6
    have hE := end_whole arg11 (arg11.view.writes (Elt F) (harg11.unread xs0) (pb_k0_t1 (F := F) Variants.none c none i arg3 harg3 arg4 harg4 arg5 harg5 arg6 harg6 arg7 harg7 arg8 harg8 arg9 harg9 arg10 harg10 arg11 harg11 rowNo (harg3.unread x0) (harg4.unread x1) (harg5.unread x2) (harg6.unread x3) (harg7.unread x4) f6 (harg11.unread xs0) (Scf.trips k0_t1_loop.lb k0_t1_loop.ub k0_t1_loop.st)).2) arg10 harg10 f7
    rw [← e]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists f7; rw [← hE]; iexact H7
    iexists _; iexact HS0

end Cert.KernelIdeal.Gen

end
-- ==== Proof.KI.Runs.lean ====
/- The three cases' runs together. -/
module

public import proofs.«01_k».proof.Proof.KI.RunA
public import proofs.«01_k».proof.Proof.KI.RunB
public import proofs.«01_k».proof.Proof.KI.RunC
-- ==== Proof.Rider.lean ====
/- The short batch of a product: its block is stored at the first points only, and from then on its last block stays in
   the buffer, and the last point writes it back once more. -/
module

public import Idealize.ShloMosaic.Lib.Pipeline.ValueKit
public import Idealize.ShloMosaic.Lib.Pipeline.TableIdle

@[expose] public section

noncomputable section

namespace Cert.Proof.Rider

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : ℕ} {τ : Topo} {sig : RefSig} {Λ₀ : Labels}

/-- Window `w` is stored at the first `k` points, and written back after each of these but the last, and at the end. -/
structure First (cfg : Cfg sig Λ₀) (w : Fin cfg.W) (k : ℕ) : Prop where
  pos : 0 < k
  lt : k < cfg.N
  out : (cfg.win w).isOut = true
  whole : ∀ (i : cfg.grid.Coords) a, (cfg.win w).clip i a = none
  idle : ∀ t : Fin cfg.N, cfg.idle w (cfg.grid.coords t) = !decide (t.val < k)
  flush : ∀ t : Fin cfg.N, (cfg.win w).flush t = decide (t.val < k - 1 ∨ t.val = cfg.N - 1)

/-- The point whose block is in the buffer after point `t`. -/
def stored (k : ℕ) {n : ℕ} (t : Fin n) : Fin n := ⟨min t.val (k - 1), lt_of_le_of_lt (Nat.min_le_left _ _) t.isLt⟩

theorem stored_first {k n : ℕ} (t : Fin n) (h : t.val < k) : stored k t = t := Fin.ext (by unfold stored; simp only; omega)

theorem stored_twice {k n : ℕ} (t : Fin n) : stored k (stored k t) = stored k t := Fin.ext (by unfold stored; simp only; omega)

theorem stored_later {k n : ℕ} (t : Fin n) (h : ¬t.val < k) : stored k ⟨t.val - 1, by omega⟩ = stored k t :=
  Fin.ext (by unfold stored; simp only; omega)

variable {cfg : Cfg sig Λ₀} {w : Fin cfg.W} {k : ℕ}

theorem First.table (S : First cfg w k) : ∀ n, n ≤ cfg.N → cfg.fresh w n = decide (n < k ∨ n = cfg.N) :=
  Cfg.fresh_tab cfg w (fun n => decide (n < k ∨ n = cfg.N)) (by simp [S.pos]) fun t => by
    have ht := t.isLt
    have h0 := S.pos
    have h1 := S.lt
    rw [S.flush, S.idle, Bool.eq_iff_iff]
    simp only [decide_eq_true_iff, Bool.or_eq_true, Bool.and_eq_true, Bool.not_eq_true', decide_eq_false_iff_not]
    omega

/-- From point `k` on the buffer holds a stored block. -/
theorem First.fresh (S : First cfg w k) (t : Fin cfg.N) : cfg.fresh w t.val = decide (t.val < k) := by
  have ht := t.isLt
  rw [S.table _ (Nat.le_of_lt t.isLt)]
  exact decide_eq_decide.mpr (by omega)

variable {F : FTy → Type} [FloatOps F] {c : Dev nD} (D : Dat τ (Elt F) Unit ℕ (UR sig nD τ) ℕ cfg c)

/-- At a later point the buffer already holds what it is to be left with. -/
theorem First.before (S : First cfg w k) (hD : ∀ t, D.after w t = D.after w (stored k t)) (t : Fin cfg.N) (h : ¬t.val < k) (d) :
    D.before w t d = D.after w t := by
  have later : ∀ (t : Fin cfg.N) (_ : ¬t.val < k), D.after w t = D.after w ⟨t.val - 1, by omega⟩ := fun t h => by
    rw [hD t, hD ⟨t.val - 1, by omega⟩, stored_later t h]
  rw [D.before_out_traj w S.out S.whole (fun t _ _ hf => later t (by rw [S.fresh t] at hf; exact of_decide_eq_false hf)) t.val t rfl d,
    S.fresh t, decide_eq_false h, if_neg Bool.false_ne_true, later t h]

/-- A buffer that is not idle is left at what the point computes. -/
theorem leaves_live (v : Fin cfg.W) (t : Fin cfg.N) (h : cfg.idle v (cfg.grid.coords t) = false) :
    D.leavesExact v t = owns (c : Thread nD τ) ((cfg.win v).stage (cfg.slots t v)) fullShare (D.after v t) := by
  unfold Dat.leavesExact; rw [h]

/-- At a later point the buffer, left as found, is left as it should be. -/
theorem First.leaves (S : First cfg w k) (hD : ∀ t, D.after w t = D.after w (stored k t)) (t : Fin cfg.N) (h : ¬t.val < k) :
    owns (c : Thread nD τ) ((cfg.win w).stage (cfg.slots t w)) fullShare (D.after w t) ⊢ D.leavesExact w t := by
  have hi : cfg.idle w (cfg.grid.coords t) = true := (S.idle t).trans (by rw [decide_eq_false h]; rfl)
  cases hf : (cfg.win w).flush t
  · rw [Dat.leavesExact_idle D w t hi hf]
    simp only [S.before D hD t h]
    iintro H; iexists fun _ => Classical.choice inferInstance; iexact H
  · unfold Dat.leavesExact; rw [hi, hf]

end Cert.Proof.Rider

end
-- ==== Proof.KI.Frame.lean ====
/- The launch, point by point: what each grid point leaves in the output blocks and the kept states, and the run. -/
module

public import proofs.«01_k».proof.Proof.KI.Runs
public import proofs.«01_k».proof.Proof.Rider
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider (leaves_live)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA
variable (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : cond0_0 i) (hc1 : ¬cond0_1 i)
  (x0 : Vec F S256x2048 .f32) (x1 : Vec F S256x2048 .f32) (x2 : Vec F S256x2048 .bf16) (x3 : Vec F S256x2048 .f32) (x4 : Vec F S1x2048 .f32) (x5 : Vec F S1x16x128x128 .f32)

/-- Case A's stores tile output 6's block, so they cover it. -/
theorem cover0_A_6 (y : S256x2048.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (s := S256x2048) _ S64x128.size (by sl_kernel_rfl) y

/-- What case A leaves in output 6's buffer: its stores read back over anything. -/
def out0_A_6 : Vec F S256x2048 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)

/-- Case A stores nothing into output 7 (it is idle at the case's points, and not written back there): nothing depends on this. -/
def out0_A_7 : Vec F S1x16x128x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)

/-- Case A's stores tile the kept states, so they cover them. -/
theorem scover0_A_0 (y : S16x128x128.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (s := S16x128x128) _ S1x128x128.size (by sl_kernel_rfl) y

/-- What case A leaves in the kept states: its stores read back over anything. -/
def sout0_A_0 : Vec F S16x128x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5).2.2.1)

end CaseA

section CaseB
variable (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : ¬cond0_0 i) (hc1 : ¬cond0_1 i)
  (x0 : Vec F S256x2048 .f32) (x1 : Vec F S256x2048 .f32) (x2 : Vec F S256x2048 .bf16) (x3 : Vec F S256x2048 .f32) (x4 : Vec F S1x2048 .f32) (x5 : Vec F S1x16x128x128 .f32) (xs0 : Vec F S16x128x128 .f32)

/-- Case B's stores tile output 6's block, so they cover it. -/
theorem cover0_B_6 (y : S256x2048.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (s := S256x2048) _ S64x128.size (by sl_kernel_rfl) y

/-- What case B leaves in output 6's buffer: its stores read back over anything. -/
def out0_B_6 : Vec F S256x2048 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xs0).1)

/-- Case B stores nothing into output 7 (it is idle at the case's points, and not written back there): nothing depends on this. -/
def out0_B_7 : Vec F S1x16x128x128 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 xs0).2.1)

/-- Case B's stores tile the kept states, so they cover them. -/
theorem scover0_B_0 (y : S16x128x128.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (s := S16x128x128) _ S1x128x128.size (by sl_kernel_rfl) y

/-- What case B leaves in the kept states: its stores read back over anything. -/
def sout0_B_0 : Vec F S16x128x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 hc0 hc1 x0 x1 x2 x3 x4 x5 xs0).2.2.1)

end CaseB

section CaseC
variable (c : Dev nD) (i : grid0.Coords) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x16x128x128 .f32) (harg8 : arg8.IsWhole) (arg9 : Memref sig .tc .vmem S256x2048 .bf16) (harg9 : arg9.IsWhole) (arg10 : Memref sig .tc .vmem S1x16x128x128 .f32) (harg10 : arg10.IsWhole) (arg11 : Memref sig .tc .vmem S16x128x128 .f32) (harg11 : arg11.IsWhole) (hc0 : ¬cond0_0 i) (hc1 : cond0_1 i)
  (x0 : Vec F S256x2048 .f32) (x1 : Vec F S256x2048 .f32) (x2 : Vec F S256x2048 .bf16) (x3 : Vec F S256x2048 .f32) (x4 : Vec F S1x2048 .f32) (x5 : Vec F S1x16x128x128 .f32) (xs0 : Vec F S16x128x128 .f32)

/-- Case C's stores tile output 6's block, so they cover it. -/
theorem cover0_C_6 (y : S256x2048.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (s := S256x2048) _ S64x128.size (by sl_kernel_rfl) y

/-- What case C leaves in output 6's buffer: its stores read back over anything. -/
def out0_C_6 : Vec F S256x2048 .bf16 :=
  VO0_6.read (Elt F) (VO0_6.writes (Elt F) VO0_6.junk (kernelRun0_C c i arg3 harg3 arg4 harg4 arg5 harg5 arg6 harg6 arg7 harg7 arg8 harg8 arg9 harg9 arg10 harg10 arg11 harg11 hc0 hc1 x0 x1 x2 x3 x4 x5 xs0).1)

/-- Case C's stores tile output 7's block, so they cover it. -/
theorem cover0_C_7 (y : S1x16x128x128.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.1, y ∈ pc.1.set :=
  View.cover_of_tiledL (s := S1x16x128x128) _ S1x16x128x128.size (by sl_kernel_rfl) y

/-- What case C leaves in output 7's buffer: its stores read back over anything. -/
def out0_C_7 : Vec F S1x16x128x128 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 xs0).2.1)

/-- Case C's stores tile the kept states, so they cover them. -/
theorem scover0_C_0 (y : S16x128x128.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (s := S16x128x128) _ S1x128x128.size (by sl_kernel_rfl) y

/-- What case C leaves in the kept states: its stores read back over anything. -/
def sout0_C_0 : Vec F S16x128x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 hc0 hc1 x0 x1 x2 x3 x4 x5 xs0).2.2.1)

end CaseC

/-! ## What the outputs hold after each point -/

/-- What point `t`, of case A, leaves in the two outputs' buffers and the kept states. -/
def leftA (c : Dev nD) (t : Fin cfg0.N) (h0 : t.val % 8 = 0) (h1 : ¬t.val % 8 = 7) : Vec F S256x2048 .bf16 × Vec F S1x16x128x128 .f32 × Vec F S16x128x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t),
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h))
      (iblk m c 0 t) (iblk m c 1 t) (iblk m c 2 t) (iblk m c 3 t) (iblk m c 4 t) (iblk m c 5 t))

/-- What point `t`, of case B, leaves in the two outputs' buffers and the kept states, found at `S`. -/
def leftB (c : Dev nD) (t : Fin cfg0.N) (h0 : ¬t.val % 8 = 0) (h1 : ¬t.val % 8 = 7) (S : Vec F S16x128x128 .f32) : Vec F S256x2048 .bf16 × Vec F S1x16x128x128 .f32 × Vec F S16x128x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) S,
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) S,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) S)

/-- What point `t`, of case C, leaves in the two outputs' buffers and the kept states, found at `S`. -/
def leftC (c : Dev nD) (t : Fin cfg0.N) (h0 : ¬t.val % 8 = 0) (h1 : t.val % 8 = 7) (S : Vec F S16x128x128 .f32) : Vec F S256x2048 .bf16 × Vec F S1x16x128x128 .f32 × Vec F S16x128x128 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) S,
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) S,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) S)

/-- What the two outputs' buffers and the kept states hold after point `n`: of the case that `n` is in, over the states that the point
    before left. -/
def outsAt0 (c : Dev nD) : (n : ℕ) → n < cfg0.N → Vec F S256x2048 .bf16 × Vec F S1x16x128x128 .f32 × Vec F S16x128x128 .f32
  | 0, hn => leftA m c ⟨0, hn⟩ (Nat.zero_mod _) (fun h => by dsimp only at h; omega)
  | n + 1, hn =>
    if h0 : (n + 1) % 8 = 0 then leftA m c ⟨n + 1, hn⟩ h0 (fun h => by dsimp only at h; omega)
    else
      if h1 : (n + 1) % 8 = 7 then leftC m c ⟨n + 1, hn⟩ h0 h1 (outsAt0 c n (Nat.lt_of_succ_lt hn)).2.2
      else leftB m c ⟨n + 1, hn⟩ h0 h1 (outsAt0 c n (Nat.lt_of_succ_lt hn)).2.2

theorem outsAt0_A (c : Dev nD) (t : Fin cfg0.N) (h0 : t.val % 8 = 0) (h1 : ¬t.val % 8 = 7) : outsAt0 m c t.val t.isLt = leftA m c t h0 h1 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = leftB m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = leftC m c t h0 h1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-- Between two points the kept states are at what the point before left, and before the first point at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- After the body at point `t`: the inputs' buffers at their blocks, the outputs' at `outsAt0`, the kept states as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The arrays are as the launch finds them. -/
theorem A_eq (c : Dev nD) (w : Fin cfg0.W) : (dats m 0 c).A w = V m c (Pipeline.arrRef spec0 w) := by
  dsimp only [dats]

/-- Before point `t` it is `PhiS` at `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Before any point the kept states are at something. -/
theorem PhiS_any (c : Dev nD) (t : Fin cfg0.N) : (dats m 0 c).Φ t.castSucc ⊢ iprop((∃ d, owns (c : Thread nD τ) scM0_0 fullShare d) ∗ (∃ r, prngReg c r)) := by
  rw [PhiS_castSucc m c t]
  by_cases hz : t.val = 0
  · rw [PhiS_zero m c _ _ hz, PhiA0_eq]
  · rw [PhiS_pos m c _ _ hz]
    iintro ⟨HS0, Hg⟩
    isplitl [HS0]
    · iexists _; iexact HS0
    iexact Hg

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 12000000 in
/-- The body at any point, by the case that it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_live (dats m 0 c) 0 t (liveAt0_0 t), after0_0, leaves_live (dats m 0 c) 1 t (liveAt0_1 t), after0_1, leaves_live (dats m 0 c) 2 t (liveAt0_2 t), after0_2, leaves_live (dats m 0 c) 3 t (liveAt0_3 t), after0_3, leaves_live (dats m 0 c) 4 t (liveAt0_4 t), after0_4, leaves_live (dats m 0 c) 5 t (liveAt0_5 t), after0_5, leaves_live (dats m 0 c) 6 t (liveAt0_6 t), after0_6]
  have hN : t.val < 32 := lt_of_lt_of_eq t.isLt (show cfg0.N = 32 from N_0)
  by_cases h0 : t.val % 8 = 0
  · by_cases h1 : t.val % 8 = 7
    · exfalso; omega
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold leftA out0_A_6 sout0_A_0; dsimp only
      refine (sep_mono (PhiS_any m c t) .rfl).trans ?_
      iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · by_cases h1 : t.val % 8 = 7
    · rw [leaves_live (dats m 0 c) 7 t (liveAt0_7_C t (fun h => h0 ((hcond0_0 t).mp h)) ((hcond0_1 t).mpr h1)), after0_7]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold leftC out0_C_6 out0_C_7 sout0_C_0; dsimp only
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold leftB out0_B_6 sout0_B_0; dsimp only
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

/-- The body that the launch calls at point `t`. -/
theorem defs₀_row (t : Fin cfg0.N) :
    defs₀ (F := F) .tc cfg0.body (cfg0.bodyArgs t (cfg0.slots t)) = bodyAt0 t := by
  unfold defs₀; rw [Defs.onTc_tc]

/-- The body is sound at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts with is what is asked before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the kept states may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same, of the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KI.Cases.lean ====
/- What each grid point leaves: its block's outputs, and the states after its four chunks. -/
module
public import proofs.«01_k».proof.Proof.KI.LoopAt
public import proofs.«01_k».proof.Proof.KI.Frame
@[expose] public section
set_option maxRecDepth 16384
noncomputable section
namespace Cert.KernelIdeal.Gen
open Idealize.ShloMosaic Idealize.ShloMosaic.TcCoe Idealize.ShloMosaic.Tactic Hgrn

/-- A store of a whole array puts each value at its own place. -/
theorem whole_piece (G : Vec Ideal S1x16x128x128 .f32) (inb : ∀ a, ![0, 0, 0, 0] a + S1x16x128x128.size a ≤ S1x16x128x128.size a) (x : S1x16x128x128.Idx) :
    G x = G ((Rect.unit (s := S1x16x128x128) ![0, 0, 0, 0] S1x16x128x128.size inb).emb x) := by
  refine congrArg G (funext fun d => Fin.ext ?_)
  match d with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = 0 + 1 * (x 3).val; omega

variable {c : Dev nD} {i : grid0.Coords} {arg3 : Memref sig .tc .vmem S256x2048 .f32} {harg3 : arg3.IsWhole} {arg4 : Memref sig .tc .vmem S256x2048 .f32} {harg4 : arg4.IsWhole} {arg5 : Memref sig .tc .vmem S256x2048 .bf16} {harg5 : arg5.IsWhole} {arg6 : Memref sig .tc .vmem S256x2048 .f32} {harg6 : arg6.IsWhole} {arg7 : Memref sig .tc .vmem S1x2048 .f32} {harg7 : arg7.IsWhole} {arg8 : Memref sig .tc .vmem S1x16x128x128 .f32} {harg8 : arg8.IsWhole} {arg9 : Memref sig .tc .vmem S256x2048 .bf16} {harg9 : arg9.IsWhole} {arg10 : Memref sig .tc .vmem S1x16x128x128 .f32} {harg10 : arg10.IsWhole} {arg11 : Memref sig .tc .vmem S16x128x128 .f32} {harg11 : arg11.IsWhole}
  {x0 : Vec Ideal S256x2048 .f32} {x1 : Vec Ideal S256x2048 .f32} {x2 : Vec Ideal S256x2048 .bf16} {x3 : Vec Ideal S256x2048 .f32} {x4 : Vec Ideal S1x2048 .f32} {x5 : Vec Ideal S1x16x128x128 .f32} (hL : ∀ y, x1 y ≠ (⊤ : EReal))
include hL

/-- The outputs of a sequence's first block. -/
theorem out_A {hc0 : cond0_0 i} {hc1 : ¬cond0_1 i} :
    out0_A_6 (F := Ideal) c i arg3 harg3 arg4 harg4 arg5 harg5 arg6 harg6 arg7 harg7 arg8 harg8 arg9 harg9 arg10 harg10 arg11 harg11 hc0 hc1 x0 x1 x2 x3 x4 x5 = outB x0 x1 x2 x3 x4 (begState x5) := by
  unfold out0_A_6
  funext y
  refine View.read_writes_apply_of_pieces _ _ _ _ ?_ y (cover0_A_6 c i arg3 harg3 arg4 harg4 arg5 harg5 arg6 harg6 arg7 harg7 arg8 harg8 arg9 harg9 arg10 harg10 arg11 harg11 hc0 hc1 x0 x1 x2 x3 x4 x5 y)
  unfold kernelRun0_A
  exact (loopP_at Variants.none c none i arg3 harg3 arg4 harg4 arg5 harg5 arg6 harg6 arg7 harg7 arg8 harg8 arg9 harg9 arg10 harg10 arg11 harg11 x0 x1 x2 x3 x4 (begState x5) hL).2

/-- The states after a sequence's first block. -/
theorem sout_A {hc0 : cond0_0 i} {hc1 : ¬cond0_1 i} :
    sout0_A_0 (F := Ideal) c i arg3 harg3 arg4 harg4 arg5 harg5 arg6 harg6 arg7 harg7 arg8 harg8 arg9 harg9 arg10 harg10 arg11 harg11 hc0 hc1 x0 x1 x2 x3 x4 x5 = stk x1 x2 (begState x5) 4 := by
  refine Eq.trans ?_ (loopP_at Variants.none c none i arg3 harg3 arg4 harg4 arg5 harg5 arg6 harg6 arg7 harg7 arg8 harg8 arg9 harg9 arg10 harg10 arg11 harg11 x0 x1 x2 x3 x4 (begState x5) hL).1
  unfold sout0_A_0
  have h := scover0_A_0 (F := Ideal) c i arg3 harg3 arg4 harg4 arg5 harg5 arg6 harg6 arg7 harg7 arg8 harg8 arg9 harg9 arg10 harg10 arg11 harg11 hc0 hc1 x0 x1 x2 x3 x4 x5
  unfold kernelRun0_A at h ⊢
  exact View.read_writes_of_cover _ _ _ _ _ h

/-- The outputs of a sequence's middle block. -/
theorem out_B {hc0 : ¬cond0_0 i} {hc1 : ¬cond0_1 i} {xs0 : Vec Ideal S16x128x128 .f32} :
    out0_B_6 (F := Ideal) c i arg3 harg3 arg4 harg4 arg5 harg5 arg6 harg6 arg7 harg7 arg8 harg8 arg9 harg9 arg10 harg10 arg11 harg11 hc0 hc1 x0 x1 x2 x3 x4 x5 xs0 = outB x0 x1 x2 x3 x4 xs0 := by
  unfold out0_B_6
  funext y
  refine View.read_writes_apply_of_pieces _ _ _ _ ?_ y (cover0_B_6 c i arg3 harg3 arg4 harg4 arg5 harg5 arg6 harg6 arg7 harg7 arg8 harg8 arg9 harg9 arg10 harg10 arg11 harg11 hc0 hc1 x0 x1 x2 x3 x4 x5 xs0 y)
  unfold kernelRun0_B
  exact (loopP_at Variants.none c none i arg3 harg3 arg4 harg4 arg5 harg5 arg6 harg6 arg7 harg7 arg8 harg8 arg9 harg9 arg10 harg10 arg11 harg11 x0 x1 x2 x3 x4 xs0 hL).2

/-- The states after a sequence's middle block. -/
theorem sout_B {hc0 : ¬cond0_0 i} {hc1 : ¬cond0_1 i} {xs0 : Vec Ideal S16x128x128 .f32} :
    sout0_B_0 (F := Ideal) c i arg3 harg3 arg4 harg4 arg5 harg5 arg6 harg6 arg7 harg7 arg8 harg8 arg9 harg9 arg10 harg10 arg11 harg11 hc0 hc1 x0 x1 x2 x3 x4 x5 xs0 = stk x1 x2 xs0 4 := by
  refine Eq.trans ?_ (loopP_at Variants.none c none i arg3 harg3 arg4 harg4 arg5 harg5 arg6 harg6 arg7 harg7 arg8 harg8 arg9 harg9 arg10 harg10 arg11 harg11 x0 x1 x2 x3 x4 xs0 hL).1
  unfold sout0_B_0
  have h := scover0_B_0 (F := Ideal) c i arg3 harg3 arg4 harg4 arg5 harg5 arg6 harg6 arg7 harg7 arg8 harg8 arg9 harg9 arg10 harg10 arg11 harg11 hc0 hc1 x0 x1 x2 x3 x4 x5 xs0
  unfold kernelRun0_B at h ⊢
  exact View.read_writes_of_cover _ _ _ _ _ h

/-- The outputs of a sequence's last block. -/
theorem out_C {hc0 : ¬cond0_0 i} {hc1 : cond0_1 i} {xs0 : Vec Ideal S16x128x128 .f32} :
    out0_C_6 (F := Ideal) c i arg3 harg3 arg4 harg4 arg5 harg5 arg6 harg6 arg7 harg7 arg8 harg8 arg9 harg9 arg10 harg10 arg11 harg11 hc0 hc1 x0 x1 x2 x3 x4 x5 xs0 = outB x0 x1 x2 x3 x4 xs0 := by
  unfold out0_C_6
  funext y
  refine View.read_writes_apply_of_pieces _ _ _ _ ?_ y (cover0_C_6 c i arg3 harg3 arg4 harg4 arg5 harg5 arg6 harg6 arg7 harg7 arg8 harg8 arg9 harg9 arg10 harg10 arg11 harg11 hc0 hc1 x0 x1 x2 x3 x4 x5 xs0 y)
  unfold kernelRun0_C
  exact (loopP_at Variants.none c none i arg3 harg3 arg4 harg4 arg5 harg5 arg6 harg6 arg7 harg7 arg8 harg8 arg9 harg9 arg10 harg10 arg11 harg11 x0 x1 x2 x3 x4 xs0 hL).2

/-- The states after a sequence's last block. -/
theorem sout_C {hc0 : ¬cond0_0 i} {hc1 : cond0_1 i} {xs0 : Vec Ideal S16x128x128 .f32} :
    sout0_C_0 (F := Ideal) c i arg3 harg3 arg4 harg4 arg5 harg5 arg6 harg6 arg7 harg7 arg8 harg8 arg9 harg9 arg10 harg10 arg11 harg11 hc0 hc1 x0 x1 x2 x3 x4 x5 xs0 = stk x1 x2 xs0 4 := by
  refine Eq.trans ?_ (loopP_at Variants.none c none i arg3 harg3 arg4 harg4 arg5 harg5 arg6 harg6 arg7 harg7 arg8 harg8 arg9 harg9 arg10 harg10 arg11 harg11 x0 x1 x2 x3 x4 xs0 hL).1
  unfold sout0_C_0
  have h := scover0_C_0 (F := Ideal) c i arg3 harg3 arg4 harg4 arg5 harg5 arg6 harg6 arg7 harg7 arg8 harg8 arg9 harg9 arg10 harg10 arg11 harg11 hc0 hc1 x0 x1 x2 x3 x4 x5 xs0
  unfold kernelRun0_C at h ⊢
  exact View.read_writes_of_cover _ _ _ _ _ h

/-- The states handed back after a sequence's last block. -/
theorem hout_C {hc0 : ¬cond0_0 i} {hc1 : cond0_1 i} {xs0 : Vec Ideal S16x128x128 .f32} :
    out0_C_7 (F := Ideal) c i arg3 harg3 arg4 harg4 arg5 harg5 arg6 harg6 arg7 harg7 arg8 harg8 arg9 harg9 arg10 harg10 arg11 harg11 hc0 hc1 x0 x1 x2 x3 x4 x5 xs0 = endState (stk x1 x2 xs0 4) := by
  rw [← (loopP_at Variants.none c none i arg3 harg3 arg4 harg4 arg5 harg5 arg6 harg6 arg7 harg7 arg8 harg8 arg9 harg9 arg10 harg10 arg11 harg11 x0 x1 x2 x3 x4 xs0 hL).1]
  unfold out0_C_7
  funext y
  refine View.read_writes_apply_of_pieces _ _ _ _ ?_ y (cover0_C_7 c i arg3 harg3 arg4 harg4 arg5 harg5 arg6 harg6 arg7 harg7 arg8 harg8 arg9 harg9 arg10 harg10 arg11 harg11 hc0 hc1 x0 x1 x2 x3 x4 x5 xs0 y)
  unfold kernelRun0_C
  intro p hp x
  rw [List.mem_singleton] at hp
  subst hp
  exact whole_piece _ (by decide) x

end Cert.KernelIdeal.Gen
end
-- ==== Proof.Spec.lean ====
/- The recurrence over whole sequences, in terms of what a chunk does. -/
module
public import proofs.«01_k».proof.Proof.Math
@[expose] public section
noncomputable section
namespace Hgrn
open Idealize.ShloMosaic

/-- Chunk `n` of head `h` of a sequence. -/
def ch (X : Fin 4 → Fin 2048 → Fin 2048 → EReal) (b : Fin 4) (h n : ℕ) (t : Fin 64) (d : Fin 128) : EReal :=
  X b (Fin.ofNat 2048 (64 * n + t)) (Fin.ofNat 2048 (128 * h + d))

/-- The state of a head when chunk `n` starts. -/
def hst (L V : Fin 4 → Fin 2048 → Fin 2048 → EReal) (b : Fin 4) (h : ℕ) : ℕ → Fin 128 → Fin 128 → EReal
  | 0 => fun _ _ => 0
  | n + 1 => nxt (ch L b h n) (ch V b h n) (hst L V b h n)

/-- A head's weights. -/
def wch (w : Fin 2048 → EReal) (h : ℕ) (d : Fin 128) : EReal := w (Fin.ofNat 2048 (128 * h + d))

/-- The output of a head in chunk `n`. -/
def outC (Q L V G : Fin 4 → Fin 2048 → Fin 2048 → EReal) (w : Fin 2048 → EReal) (b : Fin 4) (h n : ℕ) (t : Fin 64) (j : Fin 128) : EReal :=
  fin (raw (ch Q b h n) (ch L b h n) (ch V b h n) (hst L V b h n)) (wch w h) (ch G b h n) t j

end Hgrn
end
-- ==== Proof.KI.Blocks.lean ====
/- The blocks a grid point reads, in terms of the arguments. -/
module
public import proofs.«01_k».proof.Proof.KI.Cases
public import proofs.«01_k».proof.Proof.Spec
public import Idealize.ShloMosaic.Lib.Pipeline.ValueKit.Point
@[expose] public section
set_option maxRecDepth 16384
noncomputable section
namespace Cert.KernelIdeal.Gen
open Idealize.ShloMosaic Idealize.ShloMosaic.TcCoe Idealize.ShloMosaic.Tactic Hgrn

variable (m : (ℓ : Loc nD τ sig) → Buf (Elt Ideal) ℓ) (c : Dev nD)

/-- Where the windows of the five kinds of blocks stand at a point. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])

/-- A sequence argument at batch, row and column. -/
def arr {e : EltTy} (X : Vec Ideal S4x2048x2048 e) (f : Elt Ideal e → EReal) (b : Fin 4) (s j : Fin 2048) : EReal := f (X (ix3 b s j))

/-- The batch and the row that a point's row `r` belongs to. -/
def bat (n : ℕ) : Fin 4 := Fin.ofNat 4 (n / 8)
def row (n r : ℕ) : Fin 2048 := Fin.ofNat 2048 (256 * (n % 8) + r)

theorem blk0 (t : Fin cfg0.N) (r : Fin 256) (j : Fin 2048) :
    (iblk m c 0 t : Vec Ideal S256x2048 .f32) (ix2 r j) = (m ((c : Thread nD τ).loc main_arg0) : Vec Ideal S4x2048x2048 .f32) (ix3 (bat t) (row t r) j) := by
  have ht := lt_of_lt_of_eq t.isLt (show cfg0.N = 32 from N_0)
  unfold bat row
  blk_simp [iblk, idx0 t]; entry_read; pointwise
  blk_ext [idx0 t] <;> (simp only [Fin.val_ofNat]; omega)

theorem blk1 (t : Fin cfg0.N) (r : Fin 256) (j : Fin 2048) :
    (iblk m c 1 t : Vec Ideal S256x2048 .f32) (ix2 r j) = (m ((c : Thread nD τ).loc main_arg1) : Vec Ideal S4x2048x2048 .f32) (ix3 (bat t) (row t r) j) := by
  have ht := lt_of_lt_of_eq t.isLt (show cfg0.N = 32 from N_0)
  unfold bat row
  blk_simp [iblk, idx1 t]; entry_read; pointwise
  blk_ext [idx1 t] <;> (simp only [Fin.val_ofNat]; omega)

theorem blk2 (t : Fin cfg0.N) (r : Fin 256) (j : Fin 2048) :
    (iblk m c 2 t : Vec Ideal S256x2048 .bf16) (ix2 r j) = (m ((c : Thread nD τ).loc main_arg2) : Vec Ideal S4x2048x2048 .bf16) (ix3 (bat t) (row t r) j) := by
  have ht := lt_of_lt_of_eq t.isLt (show cfg0.N = 32 from N_0)
  unfold bat row
  blk_simp [iblk, idx2 t]; entry_read; pointwise
  blk_ext [idx2 t] <;> (simp only [Fin.val_ofNat]; omega)

theorem blk3 (t : Fin cfg0.N) (r : Fin 256) (j : Fin 2048) :
    (iblk m c 3 t : Vec Ideal S256x2048 .f32) (ix2 r j) = (m ((c : Thread nD τ).loc main_arg3) : Vec Ideal S4x2048x2048 .f32) (ix3 (bat t) (row t r) j) := by
  have ht := lt_of_lt_of_eq t.isLt (show cfg0.N = 32 from N_0)
  unfold bat row
  blk_simp [iblk, idx3 t]; entry_read; pointwise
  blk_ext [idx3 t] <;> (simp only [Fin.val_ofNat]; omega)

theorem blk4 (t : Fin cfg0.N) (j : Fin 2048) :
    (iblk m c 4 t : Vec Ideal S1x2048 .f32) (ix2 0 j) = (m ((c : Thread nD τ).loc main_arg4) : Vec Ideal S2048 .f32) (ix1 j) := by
  blk_simp [iblk, idx4 t]; entry_read; pointwise
  blk_ext [idx4 t]

theorem blk5 (t : Fin cfg0.N) (y : S1x16x128x128.Idx) : (iblk m c 5 t : Vec Ideal S1x16x128x128 .f32) y = (0 : EReal) := by
  blk_simp [iblk]; entry_read
  exact Idealize.ShloMosaic.Ideal.ofBits_zero .f32

/-- The chunks of a point's blocks are chunks of the arguments. -/
theorem bch_ch {e : EltTy} (B : Vec Ideal S256x2048 e) (X : Vec Ideal S4x2048x2048 e) (f : Elt Ideal e → EReal) (n k h : ℕ) (hk : k < 4)
    (hB : ∀ (r : Fin 256) (j : Fin 2048), B (ix2 r j) = X (ix3 (bat n) (row n r) j)) :
    bch B f k h = ch (arr X f) (bat n) h (4 * (n % 8) + k) := by
  funext t d
  unfold bch ch arr
  rw [hB]
  congr 3
  unfold row
  apply Fin.ext
  simp only [Fin.val_ofNat]
  omega

end Cert.KernelIdeal.Gen
end
-- ==== Proof.KI.Points.lean ====
/- What the kernel's two results hold: the recurrence of the arguments. -/
module
public import proofs.«01_k».proof.Proof.KI.Blocks
@[expose] public section
set_option maxRecDepth 16384
noncomputable section
namespace Cert.KernelIdeal.Gen
open Idealize.ShloMosaic Idealize.ShloMosaic.TcCoe Idealize.ShloMosaic.Tactic Idealize.SL.Sem Hgrn

variable (m : (ℓ : Loc nD τ sig) → Buf (Elt Ideal) ℓ) (c : Dev nD)

/-- The five arguments by batch, row and column. -/
def qA : Fin 4 → Fin 2048 → Fin 2048 → EReal := arr (e := .f32) (m ((c : Thread nD τ).loc main_arg0)) id
def lA : Fin 4 → Fin 2048 → Fin 2048 → EReal := arr (e := .f32) (m ((c : Thread nD τ).loc main_arg1)) id
def vA : Fin 4 → Fin 2048 → Fin 2048 → EReal := arr (e := .bf16) (m ((c : Thread nD τ).loc main_arg2)) id
def gA : Fin 4 → Fin 2048 → Fin 2048 → EReal := arr (e := .f32) (m ((c : Thread nD τ).loc main_arg3)) id
def wA (j : Fin 2048) : EReal := (m ((c : Thread nD τ).loc main_arg4) : Vec Ideal S2048 .f32) (ix1 j)

theorem stk_hst (t : Fin cfg0.N) (S : Vec Ideal S16x128x128 .f32)
    (hS : ∀ y : S16x128x128.Idx, S y = hst (lA m c) (vA m c) (bat t) (y 0 : Fin 16).val (4 * (t.val % 8)) (y 2) (y 1)) :
    ∀ k, k ≤ 4 → ∀ y : S16x128x128.Idx, stk (iblk m c 1 t) (iblk m c 2 t) S k y
      = hst (lA m c) (vA m c) (bat t) (y 0 : Fin 16).val (4 * (t.val % 8) + k) (y 2) (y 1) := by
  intro k
  induction k with
  | zero => exact fun _ y => hS y
  | succ k ih =>
    intro hk y
    show nxt (bch (e := .f32) (iblk m c 1 t) id k (y 0 : Fin 16).val) (bch (e := .bf16) (iblk m c 2 t) id k (y 0 : Fin 16).val) (stv (stk (iblk m c 1 t) (iblk m c 2 t) S k) (y 0)) (y 2) (y 1)
      = nxt (ch (lA m c) (bat t) (y 0 : Fin 16).val (4 * (t.val % 8) + k)) (ch (vA m c) (bat t) (y 0 : Fin 16).val (4 * (t.val % 8) + k)) (hst (lA m c) (vA m c) (bat t) (y 0 : Fin 16).val (4 * (t.val % 8) + k)) (y 2) (y 1)
    rw [bch_ch (e := .f32) _ _ id t k _ (by omega) (blk1 m c t), bch_ch (e := .bf16) _ _ id t k _ (by omega) (blk2 m c t)]
    have e : stv (stk (iblk m c 1 t) (iblk m c 2 t) S k) (y 0) = hst (lA m c) (vA m c) (bat t) (y 0 : Fin 16).val (4 * (t.val % 8) + k) :=
      funext fun d => funext fun v => ih (by omega) (ix3 (y 0 : Fin 16) v d)
    rw [e]
    rfl

theorem end_hst (t : Fin cfg0.N) (S : Vec Ideal S16x128x128 .f32)
    (hS : ∀ y : S16x128x128.Idx, S y = hst (lA m c) (vA m c) (bat t) (y 0 : Fin 16).val (4 * (t.val % 8)) (y 2) (y 1)) (h1 : t.val % 8 = 7) (y : S1x16x128x128.Idx) :
    endState (stk (iblk m c 1 t) (iblk m c 2 t) S 4) y = hst (lA m c) (vA m c) (bat t) (y 1 : Fin 16).val 32 (y 2) (y 3) := by
  have e := stk_hst m c t S hS 4 (le_refl _) (ix3 (y 1 : Fin 16) (y 3 : Fin 128) (y 2 : Fin 128))
  rw [show 4 * (t.val % 8) + 4 = 32 from by omega] at e
  exact e

theorem outB_outC (t : Fin cfg0.N) (S : Vec Ideal S16x128x128 .f32)
    (hS : ∀ y : S16x128x128.Idx, S y = hst (lA m c) (vA m c) (bat t) (y 0 : Fin 16).val (4 * (t.val % 8)) (y 2) (y 1)) (y : S256x2048.Idx) :
    outB (iblk m c 0 t) (iblk m c 1 t) (iblk m c 2 t) (iblk m c 3 t) (iblk m c 4 t) S y
      = outC (qA m c) (lA m c) (vA m c) (gA m c) (wA m c) (bat t) ((y 1 : Fin 2048).val / 128) (4 * (t.val % 8) + (y 0 : Fin 256).val / 64)
        (Fin.ofNat 64 (y 0 : Fin 256).val) (Fin.ofNat 128 (y 1 : Fin 2048).val) := by
  have h0 : (y 0 : Fin 256).val < 256 := (y 0 : Fin 256).isLt
  have h1 : (y 1 : Fin 2048).val < 2048 := (y 1 : Fin 2048).isLt
  unfold outB outH outC
  rw [bch_ch (e := .f32) _ _ id t _ _ (by omega) (blk0 m c t), bch_ch (e := .f32) _ _ id t _ _ (by omega) (blk1 m c t), bch_ch (e := .bf16) _ _ id t _ _ (by omega) (blk2 m c t),
    bch_ch (e := .f32) _ _ id t _ _ (by omega) (blk3 m c t)]
  have e : stv (stk (iblk m c 1 t) (iblk m c 2 t) S ((y 0 : Fin 256).val / 64)) (Fin.ofNat 16 ((y 1 : Fin 2048).val / 128))
      = hst (lA m c) (vA m c) (bat t) ((y 1 : Fin 2048).val / 128) (4 * (t.val % 8) + (y 0 : Fin 256).val / 64) := by
    funext d v
    refine (stk_hst m c t S hS _ (by omega) (ix3 (Fin.ofNat 16 ((y 1 : Fin 2048).val / 128)) v d)).trans ?_
    show hst (lA m c) (vA m c) (bat t) (Fin.ofNat 16 ((y 1 : Fin 2048).val / 128)).val _ _ _ = _
    rw [show (Fin.ofNat 16 ((y 1 : Fin 2048).val / 128)).val = (y 1 : Fin 2048).val / 128 from Nat.mod_eq_of_lt (by omega)]
    rfl
  have ew : gch (iblk m c 4 t) ((y 1 : Fin 2048).val / 128) = wch (wA m c) ((y 1 : Fin 2048).val / 128) :=
    funext fun d => blk4 m c t _
  rw [e, ew]
  rfl

variable (hL : ∀ b s j, lA m c b s j ≠ ⊤)
include hL

theorem blk1_ne (t : Fin cfg0.N) (y : S256x2048.Idx) : (iblk m c 1 t : Vec Ideal S256x2048 .f32) y ≠ (⊤ : EReal) := by
  rw [eq_ix2 y]
  exact fun h => hL _ _ _ ((blk1 m c t _ _).symm.trans h)

set_option maxHeartbeats 1600000 in
/-- A point's state and outputs, from the states it starts with. -/
theorem point_of (t : Fin cfg0.N)
    (hS : t.val % 8 ≠ 0 → ∀ y : S16x128x128.Idx, (outsAt0 m c (t.val - 1) (Nat.lt_of_le_of_lt (Nat.sub_le _ _) t.isLt)).2.2 y
      = hst (lA m c) (vA m c) (bat t) (y 0 : Fin 16).val (4 * (t.val % 8)) (y 2) (y 1)) :
    (∀ y : S16x128x128.Idx, (outsAt0 m c t.val t.isLt).2.2 y = hst (lA m c) (vA m c) (bat t) (y 0 : Fin 16).val (4 * (t.val % 8) + 4) (y 2) (y 1))
    ∧ (∀ y : S256x2048.Idx, (outsAt0 m c t.val t.isLt).1 y = outC (qA m c) (lA m c) (vA m c) (gA m c) (wA m c) (bat t) ((y 1 : Fin 2048).val / 128)
        (4 * (t.val % 8) + (y 0 : Fin 256).val / 64) (Fin.ofNat 64 (y 0 : Fin 256).val) (Fin.ofNat 128 (y 1 : Fin 2048).val))
    ∧ (t.val % 8 = 7 → ∀ y : S1x16x128x128.Idx, (outsAt0 m c t.val t.isLt).2.1 y = hst (lA m c) (vA m c) (bat t) (y 1 : Fin 16).val 32 (y 2) (y 3)) := by
  have hb := blk1_ne m c hL t
  by_cases h0 : t.val % 8 = 0
  · have h1 : ¬t.val % 8 = 7 := by omega
    have hz : ∀ y : S16x128x128.Idx, begState (iblk m c 5 t) y = hst (lA m c) (vA m c) (bat t) (y 0 : Fin 16).val (4 * (t.val % 8)) (y 2) (y 1) := by
      intro y
      rw [h0]
      exact blk5 m c t _
    rw [outsAt0_A m c t h0 h1, leftA]
    refine ⟨fun y => ?_, fun y => ?_, fun h => absurd h h1⟩
    · exact (congrFun (sout_A hb) y).trans (stk_hst m c t _ hz 4 (le_refl _) y)
    · exact (congrFun (out_A hb) y).trans (outB_outC m c t _ hz y)
  · have hz := hS h0
    by_cases h1 : t.val % 8 = 7
    · rw [outsAt0_C m c t h0 h1, leftC]
      refine ⟨fun y => ?_, fun y => ?_, fun _ y => ?_⟩
      · exact (congrFun (sout_C hb) y).trans (stk_hst m c t _ hz 4 (le_refl _) y)
      · exact (congrFun (out_C hb) y).trans (outB_outC m c t _ hz y)
      · exact (congrFun (hout_C (hc0 := fun h => h0 ((hcond0_0 t).mp h)) (hc1 := (hcond0_1 t).mpr h1) (x5 := iblk m c 5 t) hb) y).trans (end_hst m c t _ hz h1 y)
    · rw [outsAt0_B m c t h0 h1, leftB]
      refine ⟨fun y => ?_, fun y => ?_, fun h => absurd h h1⟩
      · exact (congrFun (sout_B hb) y).trans (stk_hst m c t _ hz 4 (le_refl _) y)
      · exact (congrFun (out_B hb) y).trans (outB_outC m c t _ hz y)

/-- The states after every point. -/
theorem state_all : ∀ n (hn : n < cfg0.N) (y : S16x128x128.Idx), (outsAt0 m c n hn).2.2 y
    = hst (lA m c) (vA m c) (bat n) (y 0 : Fin 16).val (4 * (n % 8) + 4) (y 2) (y 1) := by
  intro n
  induction n with
  | zero => exact fun hn => (point_of m c hL ⟨0, hn⟩ (fun h => absurd rfl h)).1
  | succ n ih =>
    refine fun hn => (point_of m c hL ⟨n + 1, hn⟩ (fun h y => ?_)).1
    have h' : (n + 1) % 8 ≠ 0 := h
    refine (ih (Nat.lt_of_succ_lt hn) y).trans ?_
    show hst _ _ (bat n) _ (4 * (n % 8) + 4) _ _ = hst _ _ (bat (n + 1)) _ (4 * ((n + 1) % 8)) _ _
    rw [show 4 * ((n + 1) % 8) = 4 * (n % 8) + 4 from by omega, show bat (n + 1) = bat n from by unfold bat; rw [show (n + 1) / 8 = n / 8 from by omega]]

/-- The states a point starts with. -/
theorem state_before (t : Fin cfg0.N) (h : t.val % 8 ≠ 0) (y : S16x128x128.Idx) :
    (outsAt0 m c (t.val - 1) (Nat.lt_of_le_of_lt (Nat.sub_le _ _) t.isLt)).2.2 y
      = hst (lA m c) (vA m c) (bat t) (y 0 : Fin 16).val (4 * (t.val % 8)) (y 2) (y 1) := by
  refine (state_all m c hL (t.val - 1) (Nat.lt_of_le_of_lt (Nat.sub_le _ _) t.isLt) y).trans ?_
  rw [show 4 * (t.val % 8) = 4 * ((t.val - 1) % 8) + 4 from by omega, show bat t.val = bat (t.val - 1) from by unfold bat; rw [show t.val / 8 = (t.val - 1) / 8 from by omega]]

end Cert.KernelIdeal.Gen
end
-- ==== Proof.KI.Value.lean ====
/- What the launch leaves in its two result arrays. -/
module
public import proofs.«01_k».proof.Proof.KI.Points
public import Idealize.ShloMosaic.Lib.Pipeline.ValueKit.Point
@[expose] public section
set_option maxRecDepth 16384
noncomputable section
namespace Cert.KernelIdeal.Gen
open Idealize.ShloMosaic Idealize.ShloMosaic.TcCoe Idealize.ShloMosaic.Tactic Hgrn
open Idealize.SL Idealize.SL.Sem

variable (m : (ℓ : Loc nD τ sig) → Buf (Elt Ideal) ℓ) (c : Dev nD)
/-- The first result: the recurrence's outputs, row by row. -/
def G6 : Vec Ideal S8192x2048 .bf16 := fun y =>
  outC (qA m c) (lA m c) (vA m c) (gA m c) (wA m c) (Fin.ofNat 4 ((y 0 : Fin 8192).val / 2048)) ((y 1 : Fin 2048).val / 128) ((y 0 : Fin 8192).val % 2048 / 64)
    (Fin.ofNat 64 (y 0 : Fin 8192).val) (Fin.ofNat 128 (y 1 : Fin 2048).val)

/-- The second result: the states at the end. -/
def G7 : Vec Ideal S4x16x128x128 .f32 := fun y => hst (lA m c) (vA m c) (y 0) (y 1 : Fin 16).val 32 (y 2) (y 3)

theorem idx6 (t : Fin cfg0.N) : win0_6.index t = ![t.val, 0] := (by decide +kernel : ∀ t : Fin grid0.N, win0_6.index t = ![t.val, 0]) t
theorem idx7 (t : Fin cfg0.N) : win0_7.index t = ![t.val / 8, 0, 0, 0] := (by decide +kernel : ∀ t : Fin grid0.N, win0_7.index t = ![t.val / 8, 0, 0, 0]) t

variable (hL : ∀ b s j, lA m c b s j ≠ ⊤)
include hL

theorem array6 : (dats m 0 c).arrAt 6 cfg0.N = G6 m c := by
  refine (dats m 0 c).arrAt_eq_of_covers 6 _ (by decide +kernel) fun t hf y => ?_
  have ht := lt_of_lt_of_eq t.isLt (show cfg0.N = 32 from N_0)
  blk_simp
  rw [after0_6]
  obtain ⟨r, j, rfl⟩ : ∃ (r : Fin 256) (j : Fin 2048), y = ix2 r j := ⟨y 0, y 1, eq_ix2 y⟩
  have hr := r.isLt
  have p : (win0_6.blk t).view.emb (ix2 r j) = ix2 (⟨256 * t.val + r.val, by omega⟩ : Fin 8192) j := by blk_ext [idx6 t] <;> omega
  refine ((point_of m c hL t (state_before m c hL t)).2.1 (ix2 r j)).trans ((congrArg (G6 m c) p).trans ?_).symm
  show outC _ _ _ _ _ (Fin.ofNat 4 ((256 * t.val + r.val) / 2048)) (j.val / 128) ((256 * t.val + r.val) % 2048 / 64) (Fin.ofNat 64 (256 * t.val + r.val)) (Fin.ofNat 128 j.val)
    = outC _ _ _ _ _ (Fin.ofNat 4 (t.val / 8)) (j.val / 128) (4 * (t.val % 8) + r.val / 64) (Fin.ofNat 64 r.val) (Fin.ofNat 128 j.val)
  rw [show (256 * t.val + r.val) / 2048 = t.val / 8 from by omega, show (256 * t.val + r.val) % 2048 / 64 = 4 * (t.val % 8) + r.val / 64 from by omega,
    show Fin.ofNat 64 (256 * t.val + r.val) = Fin.ofNat 64 r.val from Fin.ext (by simp only [Fin.val_ofNat]; omega)]

theorem array7 : (dats m 0 c).arrAt 7 cfg0.N = G7 m c := by
  refine (dats m 0 c).arrAt_eq_of_covers 7 _ (by decide +kernel) fun t hf y => ?_
  have ht := lt_of_lt_of_eq t.isLt (show cfg0.N = 32 from N_0)
  have h7 := (flush0_7 t).mp hf
  blk_simp
  rw [after0_7]
  obtain ⟨a, h, d, e, rfl⟩ : ∃ (a : Fin 1) (h : Fin 16) (d e : Fin 128), y = ix4 a h d e := ⟨y 0, y 1, y 2, y 3, eq_ix4 y⟩
  have ha := a.isLt
  have p : (win0_7.blk t).view.emb (ix4 a h d e) = ix4 (bat t) h d e := by
    unfold bat
    blk_ext [idx7 t] <;> ((try simp only [Fin.val_ofNat]); omega)
  exact ((point_of m c hL t (state_before m c hL t)).2.2 h7 (ix4 a h d e)).trans (congrArg (G7 m c) p).symm

omit hL in
/-- The launch's results, and its arguments unchanged. -/
theorem results (ρ : Dev nD → PrngReg) (hL : ∀ c b s j, lA m c b s j ≠ ⊤) : θ_run defs (onTc (τ := τ) (main (F := Ideal))) ⟨m, fun _ => 0, ρ⟩ (fun r => ∀ c : Dev nD,
      r.2.mem ((c.tc : Thread nD τ).loc main_v6_0) = G6 m c
      ∧ r.2.mem ((c.tc : Thread nD τ).loc main_v6_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (array6 m c (hL c)), ((h.1 c).1 7).trans (array7 m c (hL c)), h.2.1 c⟩)
    (θ_run_and (run_main m ρ) (frame m ρ))

end Cert.KernelIdeal.Gen
end
-- ==== Proof.RI.Cumsum.lean ====
/- The running sum of a chunk, as the reference spells it. -/
module
public import proofs.«01_k».proof.Proof.Gen.ReferenceIdeal.Step
public import proofs.«01_k».proof.Proof.Math
@[expose] public section
set_option maxRecDepth 16384
noncomputable section
namespace Cert.ReferenceIdeal.Step
open Idealize.ShloMosaic Cert.ReferenceIdeal Cert.ReferenceIdeal.Gen Hgrn

/-- Adding up a list of numbers one by one. -/
theorem foldl_sum {n : ℕ} (f : Fin n → EReal) (v : EReal) : (List.finRange n).foldl (fun r k => r + f k) v = v + ∑ k, f k := by
  rw [Fin.sum_univ_def]
  generalize List.finRange n = l
  induction l generalizing v with
  | nil => simp
  | cons a l ih => simp [ih, add_assoc]

/-- A window that ends at row `t` holds the rows up to `t`. -/
theorem window_sum (t : Fin 64) (g : Fin 64 → EReal) :
    (∑ n : Fin 64, if 63 ≤ t.val + n.val then g (Fin.ofNat 64 (t.val + n.val - 63)) else 0) = ∑ s, if s ≤ t then g s else 0 := by
  rw [← Finset.sum_filter, ← Finset.sum_filter]
  refine Finset.sum_bij' (fun n _ => Fin.ofNat 64 (t.val + n.val - 63)) (fun s _ => Fin.ofNat 64 (s.val + 63 - t.val)) ?_ ?_ ?_ ?_ (fun _ _ => rfl)
  all_goals
    intro n hn
    simp only [Finset.mem_filter, Finset.mem_univ, true_and, Fin.le_def, Fin.ext_iff, Fin.val_ofNat] at hn ⊢
    omega

/-- The window's one axis that is longer than one. -/
theorem win_at : ∀ (n : Fin (⟨4, ![1, 1, 64, 1]⟩ : Shape).numel) (a : Fin 4), ((⟨4, ![1, 1, 64, 1]⟩ : Shape).rowMajor.symm n a).val = if a = 2 then n.val else 0 := by
  decide +kernel

theorem cumsum_at (x : FVec Ideal S4x16x64x128 .f32) (z : FVec Ideal S_ .f32) (hz : z (Shape.Idx.first h_S_) = (0 : EReal)) (b : Fin 4) (h : Fin 16) (t : Fin 64) (d : Fin 128) :
    Host.reduceWindowAdd ![1, 1, 64, 1] ![1, 1, 1, 1] ![0, 0, 63, 0] ![0, 0, 0, 0] x z reduceWindows_S4x16x64x128_S4x16x64x128_w1s1p0_0_w1s1p0_0_w64s1p63_0_w1s1p0_0 h_S_ (ix4 b h t d)
      = cum (fun s d => x (ix4 b h s d)) t d := by
  unfold Host.reduceWindowAdd
  simp only [Ideal.hostReduceWindowAdd_def]
  unfold Ideal.hostReduceWindowAdd Host.reduceWindow
  refine (foldl_sum (n := (⟨4, ![1, 1, 64, 1]⟩ : Shape).numel) _ _).trans ?_
  rw [hz, zero_add]
  refine Eq.trans (Finset.sum_congr rfl fun n _ => ?_) (window_sum t (fun s => x (ix4 b h s d)))
  have w := win_at n
  have w0 : ((⟨4, ![1, 1, 64, 1]⟩ : Shape).rowMajor.symm n 0).val = 0 := w 0
  have w1 : ((⟨4, ![1, 1, 64, 1]⟩ : Shape).rowMajor.symm n 1).val = 0 := w 1
  have w2 : ((⟨4, ![1, 1, 64, 1]⟩ : Shape).rowMajor.symm n 2).val = n.val := w 2
  have w3 : ((⟨4, ![1, 1, 64, 1]⟩ : Shape).rowMajor.symm n 3).val = 0 := w 3
  have hn : n.val < 64 := n.isLt
  have hb := b.isLt
  have hh := h.isLt
  have ht := t.isLt
  have hd := d.isLt
  by_cases h63 : 63 ≤ t.val + n.val
  · rw [if_pos h63]
    refine (dif_pos ?_).trans ?_
    · intro a
      match a with
      | ⟨0, _⟩ => show 0 ≤ b.val * 1 + ((⟨4, ![1, 1, 64, 1]⟩ : Shape).rowMajor.symm n 0).val ∧ b.val * 1 + ((⟨4, ![1, 1, 64, 1]⟩ : Shape).rowMajor.symm n 0).val - 0 < 4; omega
      | ⟨1, _⟩ => show 0 ≤ h.val * 1 + ((⟨4, ![1, 1, 64, 1]⟩ : Shape).rowMajor.symm n 1).val ∧ h.val * 1 + ((⟨4, ![1, 1, 64, 1]⟩ : Shape).rowMajor.symm n 1).val - 0 < 16; omega
      | ⟨2, _⟩ => show 63 ≤ t.val * 1 + ((⟨4, ![1, 1, 64, 1]⟩ : Shape).rowMajor.symm n 2).val ∧ t.val * 1 + ((⟨4, ![1, 1, 64, 1]⟩ : Shape).rowMajor.symm n 2).val - 63 < 64; omega
      | ⟨3, _⟩ => show 0 ≤ d.val * 1 + ((⟨4, ![1, 1, 64, 1]⟩ : Shape).rowMajor.symm n 3).val ∧ d.val * 1 + ((⟨4, ![1, 1, 64, 1]⟩ : Shape).rowMajor.symm n 3).val - 0 < 128; omega
    · refine congrArg x (funext fun a => Fin.ext ?_)
      match a with
      | ⟨0, _⟩ => show b.val * 1 + ((⟨4, ![1, 1, 64, 1]⟩ : Shape).rowMajor.symm n 0).val - 0 = b.val; omega
      | ⟨1, _⟩ => show h.val * 1 + ((⟨4, ![1, 1, 64, 1]⟩ : Shape).rowMajor.symm n 1).val - 0 = h.val; omega
      | ⟨2, _⟩ => show t.val * 1 + ((⟨4, ![1, 1, 64, 1]⟩ : Shape).rowMajor.symm n 2).val - 63 = (t.val + n.val - 63) % 64; omega
      | ⟨3, _⟩ => show d.val * 1 + ((⟨4, ![1, 1, 64, 1]⟩ : Shape).rowMajor.symm n 3).val - 0 = d.val; omega
  · rw [if_neg h63]
    refine (dif_neg fun hc => h63 ?_).trans rfl
    have := (hc 2).1
    have e : 63 ≤ t.val * 1 + ((⟨4, ![1, 1, 64, 1]⟩ : Shape).rowMajor.symm n 2).val := this
    omega

end Cert.ReferenceIdeal.Step
end
-- ==== Proof.RI.StepAt.lean ====
/- One trip of the reference, at an index. -/
module
public import proofs.«01_k».proof.Proof.RI.Cumsum
public import Idealize.ShloMosaic.Lib.Pipeline.ValueKit.Point
@[expose] public section
set_option maxRecDepth 16384
noncomputable section
namespace Cert.ReferenceIdeal.Step
open Idealize.ShloMosaic Cert.ReferenceIdeal Cert.ReferenceIdeal.Gen Hgrn

/-- A trip's start lies inside the array: it is its own clamp. -/
theorem clamp_at (j : Fin 32) (hr : S1x4x16x64x128.rank = S32x4x16x64x128.rank) :
    Host.clampedStart S32x4x16x64x128 S1x4x16x64x128 hr ![(j.val : Int), 0, 0, 0, 0] (0 : Fin 5) = j.val
    ∧ Host.clampedStart S32x4x16x64x128 S1x4x16x64x128 hr ![(j.val : Int), 0, 0, 0, 0] (1 : Fin 5) = 0
    ∧ Host.clampedStart S32x4x16x64x128 S1x4x16x64x128 hr ![(j.val : Int), 0, 0, 0, 0] (2 : Fin 5) = 0
    ∧ Host.clampedStart S32x4x16x64x128 S1x4x16x64x128 hr ![(j.val : Int), 0, 0, 0, 0] (3 : Fin 5) = 0
    ∧ Host.clampedStart S32x4x16x64x128 S1x4x16x64x128 hr ![(j.val : Int), 0, 0, 0, 0] (4 : Fin 5) = 0 := by
  have hj := j.isLt
  exact ⟨Host.clampedStart_of_le (s := S32x4x16x64x128) (t := S1x4x16x64x128) hr _ (0 : Fin 5) j.val rfl (by show j.val + 1 ≤ 32; omega),
    Host.clampedStart_of_le (s := S32x4x16x64x128) (t := S1x4x16x64x128) hr _ (1 : Fin 5) 0 rfl (by show 0 + 4 ≤ 4; omega),
    Host.clampedStart_of_le (s := S32x4x16x64x128) (t := S1x4x16x64x128) hr _ (2 : Fin 5) 0 rfl (by show 0 + 16 ≤ 16; omega),
    Host.clampedStart_of_le (s := S32x4x16x64x128) (t := S1x4x16x64x128) hr _ (3 : Fin 5) 0 rfl (by show 0 + 64 ≤ 64; omega),
    Host.clampedStart_of_le (s := S32x4x16x64x128) (t := S1x4x16x64x128) hr _ (4 : Fin 5) 0 rfl (by show 0 + 128 ≤ 128; omega)⟩

/-- The slice a trip takes of a carried array is the trip's chunk. -/
theorem slice_at (X : FVec Ideal S32x4x16x64x128 .f32) (j : Fin 32) (st : Fin 5 → Int) (e : st = ![(j.val : Int), 0, 0, 0, 0])
    (b : Fin 4) (h : Fin 16) (t : Fin 64) (d : Fin 128) :
    Host.dynamicSlice S1x4x16x64x128 X st sliceFits_S32x4x16x64x128_S1x4x16x64x128 (ix5 0 b h t d) = X (ix5 j b h t d) := by
  subst e
  rw [Host.dynamicSlice_apply]
  obtain ⟨c0, c1, c2, c3, c4⟩ := clamp_at j sliceFits_S32x4x16x64x128_S1x4x16x64x128.1
  refine congrArg X (funext fun a => Fin.ext ?_)
  match a with
  | ⟨0, _⟩ => exact congrArg (· + 0) c0
  | ⟨1, _⟩ => exact (congrArg (· + b.val) c1).trans (Nat.zero_add _)
  | ⟨2, _⟩ => exact (congrArg (· + h.val) c2).trans (Nat.zero_add _)
  | ⟨3, _⟩ => exact (congrArg (· + t.val) c3).trans (Nat.zero_add _)
  | ⟨4, _⟩ => exact (congrArg (· + d.val) c4).trans (Nat.zero_add _)

/-- A trip's write replaces its own chunk and keeps the others. -/
theorem update_at (X : FVec Ideal S32x4x16x64x128 .f32) (U : FVec Ideal S1x4x16x64x128 .f32) (j : Fin 32) (st : Fin 5 → Int) (e : st = ![(j.val : Int), 0, 0, 0, 0])
    (i : Fin 32) (b : Fin 4) (h : Fin 16) (t : Fin 64) (d : Fin 128) :
    Host.dynamicUpdateSlice X U st updateFits_S32x4x16x64x128_S1x4x16x64x128 (ix5 i b h t d) = if i = j then U (ix5 0 b h t d) else X (ix5 i b h t d) := by
  subst e
  rw [Host.dynamicUpdateSlice_apply]
  obtain ⟨c0, c1, c2, c3, c4⟩ := clamp_at j updateFits_S32x4x16x64x128_S1x4x16x64x128.1
  by_cases hij : i = j
  · subst hij
    rw [if_pos rfl]
    refine (dif_pos ?_).trans ?_
    · intro a
      match a with
      | ⟨0, _⟩ => exact ⟨le_of_eq c0, by rw [show (⟨0, by decide⟩ : Fin 5) = 0 from rfl, c0]; exact Nat.lt_succ_self _⟩
      | ⟨1, _⟩ => exact ⟨by rw [show (⟨1, by decide⟩ : Fin 5) = 1 from rfl, c1]; exact Nat.zero_le _, by rw [show (⟨1, by decide⟩ : Fin 5) = 1 from rfl, c1]; exact lt_of_lt_of_eq b.isLt (Nat.zero_add _).symm⟩
      | ⟨2, _⟩ => exact ⟨by rw [show (⟨2, by decide⟩ : Fin 5) = 2 from rfl, c2]; exact Nat.zero_le _, by rw [show (⟨2, by decide⟩ : Fin 5) = 2 from rfl, c2]; exact lt_of_lt_of_eq h.isLt (Nat.zero_add _).symm⟩
      | ⟨3, _⟩ => exact ⟨by rw [show (⟨3, by decide⟩ : Fin 5) = 3 from rfl, c3]; exact Nat.zero_le _, by rw [show (⟨3, by decide⟩ : Fin 5) = 3 from rfl, c3]; exact lt_of_lt_of_eq t.isLt (Nat.zero_add _).symm⟩
      | ⟨4, _⟩ => exact ⟨by rw [show (⟨4, by decide⟩ : Fin 5) = 4 from rfl, c4]; exact Nat.zero_le _, by rw [show (⟨4, by decide⟩ : Fin 5) = 4 from rfl, c4]; exact lt_of_lt_of_eq d.isLt (Nat.zero_add _).symm⟩
    · refine congrArg U (funext fun a => Fin.ext ?_)
      match a with
      | ⟨0, _⟩ => exact (congrArg (i.val - ·) c0).trans (Nat.sub_self _)
      | ⟨1, _⟩ => exact congrArg (b.val - ·) c1
      | ⟨2, _⟩ => exact congrArg (h.val - ·) c2
      | ⟨3, _⟩ => exact congrArg (t.val - ·) c3
      | ⟨4, _⟩ => exact congrArg (d.val - ·) c4
  · rw [if_neg hij]
    refine dif_neg fun hc => hij (Fin.ext ?_)
    have h1 : _ ≤ i.val ∧ i.val < _ + 1 := hc 0
    rw [c0] at h1
    omega

variable (j : Fin 32) (s : State Ideal)

/-- The trip's number, as a slice's start. -/
theorem start_at : ∀ j : Fin 32, (fun k => ((![(constantI S_ 32 (BitVec.ofNat 32 j.val) : IVec S_ 32), constantI S_ 32 0#32, constantI S_ 32 0#32, constantI S_ 32 0#32, constantI S_ 32 0#32] : Fin 5 → IVec S_ 32) k (Shape.Idx.first h_S_)).toInt)
    = ![(j.val : Int), 0, 0, 0, 0] := by
  intro j
  funext a
  revert j a
  decide +kernel

/-- A trip's chunk of a carried array. -/
def cut (X : FVec Ideal S32x4x16x64x128 .f32) (b : Fin 4) (h : Fin 16) (t : Fin 64) (d : Fin 128) : EReal := X (ix5 j b h t d)

theorem b5_at (b : Fin 4) (h : Fin 16) (t : Fin 64) (d : Fin 128) : b5 j.val s (ix4 b h t d) = cut j s.main_v21_0 b h t d := by
  pointwise [b5]
  exact slice_at _ j _ (start_at j) b h t d
theorem b11_at (b : Fin 4) (h : Fin 16) (t : Fin 64) (d : Fin 128) : b11 j.val s (ix4 b h t d) = cut j s.main_v21_1 b h t d := by
  pointwise [b11]
  exact slice_at _ j _ (start_at j) b h t d
theorem b17_at (b : Fin 4) (h : Fin 16) (t : Fin 64) (d : Fin 128) : b17 j.val s (ix4 b h t d) = cut j s.main_v21_2 b h t d := by
  pointwise [b17]
  exact slice_at _ j _ (start_at j) b h t d
theorem b23_at (b : Fin 4) (h : Fin 16) (t : Fin 64) (d : Fin 128) : b23 j.val s (ix4 b h t d) = cut j s.main_v21_3 b h t d := by
  pointwise [b23]
  exact slice_at _ j _ (start_at j) b h t d

theorem b26_at (b : Fin 4) (h : Fin 16) (t : Fin 64) (d : Fin 128) : b26 j.val s (ix4 b h t d) = cum (cut j s.main_v21_3 b h) t d := by
  unfold b26
  rw [cumsum_at _ _ (by pointwise [b25, b24])]
  exact congrArg (fun L => cum L t d) (funext fun r => funext fun e => b23_at j s b h r e)

/-- The mask holds on and below the diagonal. -/
theorem mask_at (t u : Fin 64) : K_main_v10 (F := Ideal) (ix5 0 0 t u 0) = if u ≤ t then 1#1 else 0#1 := by
  pointwise [K_main_v10, K_main_v9, K_main_v8, K_main_c, K_main_call0_v0, K_main_call0_v1, K_main_call0_v2, K_main_call0_v3, K_main_call0_v4, K_main_call0_v5, K_main_call0_c, K_main_call0_c_0]
  revert t u
  decide +kernel

variable (hk : ∀ b h t d, cut j s.main_v21_1 b h t d = key (cut j s.main_v21_3 b h) t d)
include hk

theorem b50_at (b : Fin 4) (h : Fin 16) (t u : Fin 64) : b50 j.val s (ix4 b h t u) = score (cut j s.main_v21_0 b h) (cut j s.main_v21_3 b h) t u := by
  pointwise [b50,b48,b45,b47,b44,b43,b42,b41,b40,b39,b38,b37,b36,b35,b34,b33,b32,b31,b30,b29,b28,b27,b49,b46]
  unfold score
  refine Finset.sum_congr rfl fun x _ => ?_
  rw [mask_at]
  by_cases h : u ≤ t
  · rw [if_pos h, if_pos h, b5_at, b11_at, b26_at, b26_at, hk]
    rfl
  · rw [if_neg h, if_neg h, mul_zero, zero_mul]
    rfl

theorem b55_at (b : Fin 4) (h : Fin 16) (t : Fin 64) (e : Fin 128) : b55 j.val s (ix4 b h t e)
    = raw (cut j s.main_v21_0 b h) (cut j s.main_v21_3 b h) (cut j s.main_v21_2 b h) (fun d e => s.main_v21_6 (ix4 b h d e)) t e := by
  pointwise [b55,b54,b53,b52,b51]
  unfold raw
  congr 1
  · exact Finset.sum_congr rfl fun x _ => by rw [b5_at, b26_at]
  · exact Finset.sum_congr rfl fun x _ => by rw [b50_at j s hk, b17_at]

theorem b67_at (b : Fin 4) (h : Fin 16) (d e : Fin 128) : b67 j.val s (ix4 b h d e)
    = nxt (cut j s.main_v21_3 b h) (cut j s.main_v21_2 b h) (fun d e => s.main_v21_6 (ix4 b h d e)) d e := by
  pointwise [b67,b66,b65,b64,b63,b62,b61,b60,b59,b58,b57,b56]
  unfold nxt nxtTo
  rw [b26_at]
  congr 1
  exact Finset.sum_congr rfl fun x _ => by rw [b11_at, b26_at, b17_at, hk]

theorem b73_at (i : Fin 32) (b : Fin 4) (h : Fin 16) (t : Fin 64) (e : Fin 128) : b73 j.val s (ix5 i b h t e)
    = if i = j then raw (cut j s.main_v21_0 b h) (cut j s.main_v21_3 b h) (cut j s.main_v21_2 b h) (fun d e => s.main_v21_6 (ix4 b h d e)) t e
      else s.main_v21_7 (ix5 i b h t e) := by
  refine (update_at _ _ j _ (start_at j) i b h t e).trans ?_
  have e1 : b68 j.val s (ix5 0 b h t e) = b55 j.val s (ix4 b h t e) := by pointwise [b68]
  rw [e1, b55_at j s hk]
end Cert.ReferenceIdeal.Step
end
-- ==== Proof.RI.Iter.lean ====
/- The reference's two results: the recurrence of the arguments. -/
module
public import proofs.«01_k».proof.Proof.RI.StepAt
public import proofs.«01_k».proof.Proof.Spec
@[expose] public section
set_option maxRecDepth 16384
noncomputable section
namespace Cert.ReferenceIdeal.Step
open Idealize.ShloMosaic Cert.ReferenceIdeal Cert.ReferenceIdeal.Gen Hgrn

variable (a0 a1 : FVec Ideal S4x2048x2048 .f32) (a2 : FVec Ideal S4x2048x2048 .bf16) (a3 : FVec Ideal S4x2048x2048 .f32) (a4 : FVec Ideal S2048 .f32)

/-- An argument by batch, row and column. -/
def arr {φ : FTy} (X : FVec Ideal S4x2048x2048 φ) (b : Fin 4) (s j : Fin 2048) : EReal := X (ix3 b s j)

theorem q_at (n : Fin 32) (b : Fin 4) (h : Fin 16) : cut n (A_main_v12 (F := Ideal) a0 a1 a2) b h = ch (arr a0) b h.val n.val := by
  funext t d
  unfold cut ch arr
  pointwise [A_main_v12, A_main_v11, A_main_v1]
  blk_ext [] <;> (simp only [Fin.val_ofNat]; omega)
theorem l_at (n : Fin 32) (b : Fin 4) (h : Fin 16) : cut n (A_main_v19 (F := Ideal) a0 a1 a2) b h = ch (arr a1) b h.val n.val := by
  funext t d
  unfold cut ch arr
  pointwise [A_main_v19, A_main_v18, A_main_v7]
  blk_ext [] <;> (simp only [Fin.val_ofNat]; omega)
theorem v_at (n : Fin 32) (b : Fin 4) (h : Fin 16) : cut n (A_main_v17 (F := Ideal) a0 a1 a2) b h = ch (arr a2) b h.val n.val := by
  funext t d
  unfold cut ch arr
  pointwise [A_main_v17, A_main_v16, A_main_v15, A_main_v6]
  blk_ext [] <;> (simp only [Fin.val_ofNat]; omega)
theorem k_at (n : Fin 32) (b : Fin 4) (h : Fin 16) (t : Fin 64) (d : Fin 128) : cut n (A_main_v14 (F := Ideal) a0 a1 a2) b h t d = key (cut n (A_main_v19 (F := Ideal) a0 a1 a2) b h) t d := by
  unfold cut key
  pointwise [A_main_v14, A_main_v13, A_main_v5, A_main_v4, A_main_v2, K_main_v3, K_main_cst_0, A_main_v19, A_main_v18, A_main_v7]

/-- The norm, the weight and the gate put together. -/
theorem out_eq (h n : ℕ) {b b' : Fin 4} {t t' : Fin 64} {x x' : Fin 128} {w g : EReal} (eb : b = b') (et : t = t') (ex : x = x')
    (ew : w = wch (fun j => a4 (ix1 j)) h x') (eg : g = ch (arr a3) b' h n t' x') :
    raw (ch (arr a0) b h n) (ch (arr a1) b h n) (ch (arr a2) b h n) (hst (arr a1) (arr a2) b h n) t x
        * Ideal.rsqrt (Ideal.div (∑ y, raw (ch (arr a0) b h n) (ch (arr a1) b h n) (ch (arr a2) b h n) (hst (arr a1) (arr a2) b h n) t y
          * raw (ch (arr a0) b h n) (ch (arr a1) b h n) (ch (arr a2) b h n) (hst (arr a1) (arr a2) b h n) t y) (Ideal.ofBits FTy.f32 0x43000000#32) + Ideal.ofBits FTy.f32 0x358637BD#32)
        * w * g
      = outC (arr a0) (arr a1) (arr a2) (arr a3) (fun j => a4 (ix1 j)) b' h n t' x' := by
  subst eb et ex ew eg
  rfl

variable (it : ℕ → State Ideal) (h0 : it 0 = init a0 a1 a2) (hs : ∀ n, it (n + 1) = step n (it n))
include h0 hs

/-- No trip changes the chunks. -/
theorem it_kept (n : ℕ) : (it n).main_v21_0 = A_main_v12 a0 a1 a2 ∧ (it n).main_v21_1 = A_main_v14 a0 a1 a2 ∧ (it n).main_v21_2 = A_main_v17 a0 a1 a2
    ∧ (it n).main_v21_3 = A_main_v19 a0 a1 a2 := by
  induction n with
  | zero => rw [h0]; exact ⟨rfl, rfl, rfl, rfl⟩
  | succ n ih => rw [hs]; exact ih

theorem it_key (n : ℕ) (j : Fin 32) (b : Fin 4) (h : Fin 16) (t : Fin 64) (d : Fin 128) :
    cut j (it n).main_v21_1 b h t d = key (cut j (it n).main_v21_3 b h) t d := by
  obtain ⟨_, e1, _, e3⟩ := it_kept a0 a1 a2 it h0 hs n
  rw [e1, e3]
  exact k_at a0 a1 a2 j b h t d

/-- The states when a trip starts. -/
theorem it_state (n : ℕ) (hn : n ≤ 32) (b : Fin 4) (h : Fin 16) (d e : Fin 128) : (it n).main_v21_6 (ix4 b h d e) = hst (arr a1) (arr a2) b h.val n d e := by
  induction n generalizing d e with
  | zero =>
    rw [h0]
    show K_main_v0 (F := Ideal) (ix4 b h d e) = (0 : EReal)
    pointwise [K_main_v0, K_main_cst]
  | succ n ih =>
    rw [hs]
    refine (b67_at ⟨n, by omega⟩ (it n) (it_key a0 a1 a2 it h0 hs n ⟨n, by omega⟩) b h d e).trans ?_
    obtain ⟨_, _, e2, e3⟩ := it_kept a0 a1 a2 it h0 hs n
    rw [e2, e3, l_at, v_at]
    have eS : (fun d e => (it n).main_v21_6 (ix4 b h d e)) = hst (arr a1) (arr a2) b h.val n := funext fun d => funext fun e => ih (by omega) d e
    rw [eS]
    rfl

/-- The outputs of the trips before a trip. -/
theorem it_out (n : ℕ) (hn : n ≤ 32) (i : Fin 32) (hi : i.val < n) (b : Fin 4) (h : Fin 16) (t : Fin 64) (e : Fin 128) : (it n).main_v21_7 (ix5 i b h t e)
    = raw (ch (arr a0) b h.val i.val) (ch (arr a1) b h.val i.val) (ch (arr a2) b h.val i.val) (hst (arr a1) (arr a2) b h.val i.val) t e := by
  induction n with
  | zero => exact absurd hi (Nat.not_lt_zero _)
  | succ n ih =>
    rw [hs]
    refine (b73_at ⟨n, by omega⟩ (it n) (it_key a0 a1 a2 it h0 hs n ⟨n, by omega⟩) i b h t e).trans ?_
    by_cases hin : i = ⟨n, by omega⟩
    · rw [if_pos hin]
      have hv : n = i.val := (congrArg Fin.val hin).symm
      obtain ⟨e0, _, e2, e3⟩ := it_kept a0 a1 a2 it h0 hs n
      have eS : (fun d e => (it n).main_v21_6 (ix4 b h d e)) = hst (arr a1) (arr a2) b h.val n :=
        funext fun d => funext fun e => it_state a0 a1 a2 it h0 hs n (by omega) b h d e
      rw [eS, e0, e2, e3, q_at, l_at, v_at]
      subst hv
      rfl
    · rw [if_neg hin]
      have hv : i.val ≠ n := fun hv => hin (Fin.ext hv)
      exact ih (by omega) (by omega)

/-- The first result, row by row. -/
theorem R_at (r : Fin 8192) (j : Fin 2048) : R_main_v41 (it 32) a3 a4 (ix2 r j)
    = outC (arr a0) (arr a1) (arr a2) (arr a3) (fun j => a4 (ix1 j)) (Fin.ofNat 4 (r.val / 2048)) (j.val / 128) (r.val % 2048 / 64) (Fin.ofNat 64 r.val) (Fin.ofNat 128 j.val) := by
  have e := fun i b h t e => it_out a0 a1 a2 it h0 hs 32 (le_refl _) i i.isLt b h t e
  pointwise [R_main_v41]
  simp only [e]
  have hr := r.isLt
  have hj := j.isLt
  have eb : (⟨r.val / 2048, by omega⟩ : Fin 4) = Fin.ofNat 4 (r.val / 2048) := Fin.ext (by simp only [Fin.val_ofNat]; omega)
  have et : (⟨r.val % 2048 % 64, by omega⟩ : Fin 64) = Fin.ofNat 64 r.val := Fin.ext (by simp only [Fin.val_ofNat]; omega)
  have ej : j = Fin.ofNat 2048 (128 * (j.val / 128) + (Fin.ofNat 128 j.val).val) := Fin.ext (by simp only [Fin.val_ofNat]; omega)
  have es : (⟨r.val % 2048, by omega⟩ : Fin 2048) = Fin.ofNat 2048 (64 * (r.val % 2048 / 64) + (Fin.ofNat 64 r.val).val) := Fin.ext (by simp only [Fin.val_ofNat]; omega)
  have ew : a4 (ix1 j) = wch (fun j => a4 (ix1 j)) (j.val / 128) (Fin.ofNat 128 j.val) := congrArg (fun x => a4 (ix1 x)) ej
  have eg : a3 (ix3 (Fin.ofNat 4 (r.val / 2048)) ⟨r.val % 2048, by omega⟩ j) = ch (arr a3) (Fin.ofNat 4 (r.val / 2048)) (j.val / 128) (r.val % 2048 / 64) (Fin.ofNat 64 r.val) (Fin.ofNat 128 j.val) :=
    congrArg₂ (fun s x => a3 (ix3 (Fin.ofNat 4 (r.val / 2048)) s x)) es ej
  have ex : (⟨j.val % 128, by omega⟩ : Fin 128) = Fin.ofNat 128 j.val := rfl
  have eg' : a3 (ix3 ⟨r.val / 2048, by omega⟩ ⟨r.val % 2048, by omega⟩ j) = ch (arr a3) (Fin.ofNat 4 (r.val / 2048)) (j.val / 128) (r.val % 2048 / 64) (Fin.ofNat 64 r.val) (Fin.ofNat 128 j.val) :=
    (congrArg (fun b => a3 (ix3 b ⟨r.val % 2048, by omega⟩ j)) eb).trans eg
  exact out_eq a0 a1 a2 a3 a4 _ _ eb et ex ew eg'

end Cert.ReferenceIdeal.Step
end
-- ==== Proof.Below.lean ====
/- What the precondition says of the decays. -/
module
public import proofs.«01_k».proof.Defs
public import Idealize.ShloMosaic.Lib.ReduceAll
public import Idealize.ShloMosaic.Lib.Pointwise
@[expose] public section
set_option maxRecDepth 16384
noncomputable section
namespace Cert.Proof
open Idealize.ShloMosaic

instance single_index : Subsingleton Cert.Pre_decays_below_inf.S_.Idx := ⟨fun _ _ => funext fun a => a.elim0⟩

/-- The word of +∞. -/
theorem word_top : Ideal.ofBits FTy.f32 0x7F800000#32 = ⊤ := by
  simp [Ideal.ofBits, Ideal.ieee]

/-- The precondition keeps every decay below +∞. -/
theorem decays_ne_top [Cert.Pre_decays_below_inf.Facts] (x0 x1 : FVec Ideal Cert.Pre_decays_below_inf.S4x2048x2048 .f32) (x2 : FVec Ideal Cert.Pre_decays_below_inf.S4x2048x2048 .bf16)
    (x3 : FVec Ideal Cert.Pre_decays_below_inf.S4x2048x2048 .f32) (x4 : FVec Ideal Cert.Pre_decays_below_inf.S2048 .f32)
    (h : Cert.Pre_decays_below_inf.fn (F := Ideal) x0 x1 x2 x3 x4 = fun _ => 1#1) (i : Cert.Pre_decays_below_inf.S4x2048x2048.Idx) : x1 i ≠ (⊤ : EReal) := by
  have e := Host.reduce_andi_all _ _ _ _ (fun a => a.elim0) (congrFun h fun a => a.elim0) i
  have e' : Ideal.cmp .olt (x1 i) (Ideal.ofBits FTy.f32 0x7F800000#32) = 1#1 := e
  rw [word_top] at e'
  intro ht
  rw [ht] at e'
  simp [Ideal.cmp] at e'

end Cert.Proof
end
-- ==== Proof.RI.StepRun.lean ====
/- The reference's run as its step iterated. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v21_6) = s.main_v21_6
  f_7 : V0 (Proc.devRef .tc main_v21_7) = s.main_v21_7
  f_0 : V0 (Proc.devRef .tc main_v21_0) = s.main_v21_0
  f_1 : V0 (Proc.devRef .tc main_v21_1) = s.main_v21_1
  f_2 : V0 (Proc.devRef .tc main_v21_2) = s.main_v21_2
  f_3 : V0 (Proc.devRef .tc main_v21_3) = s.main_v21_3
  n_5 : V0 (Proc.devRef .tc main_v21_5) = constantI S_ 32 (BitVec.ofNat 32 j)
  k_4 : V0 (Proc.devRef .tc main_v21_4) = Cert.ReferenceIdeal.Step.K_main_v10 (F := F)

variable {V0 s j}

/-! One trip's step of the carried values is `step`, field by field; a counter steps to the next number. -/

set_option maxRecDepth 8192 in
theorem step_6 (h : Holds V0 s j) : step_main_v21_6 V0 = (step j s).main_v21_6 := by
  simp only [step_main_v21_6, res_main_while0b_v42, res_main_while0b_v43, res_main_while0b_v44, res_main_while0b_v46, res_main_while0b_v67,
    h.f_0, h.f_1, h.f_2, h.f_3, h.f_6, h.n_5]
  rfl

set_option maxRecDepth 8192 in
theorem step_7 (h : Holds V0 s j) : step_main_v21_7 V0 = (step j s).main_v21_7 := by
  simp only [step_main_v21_7, res_main_while0b_v42, res_main_while0b_v43, res_main_while0b_v44, res_main_while0b_v46,
    h.f_0, h.f_1, h.f_2, h.f_3, h.f_6, h.f_7, h.n_5, h.k_4]
  rfl

theorem step_5 (h : Holds V0 s j) : step_main_v21_5 V0 = constantI S_ 32 (BitVec.ofNat 32 (j + 1)) := by
  unfold step_main_v21_5
  rw [h.n_5]
  funext i
  show BitVec.ofNat 32 j + 1#32 = BitVec.ofNat 32 (j + 1)
  simp only [BitVec.ofNat_add]

set_option maxRecDepth 8192 in
theorem out_main_v41_holds (h : Holds V0 s j) {x_main_arg3 : (⟨S4x2048x2048, .f32⟩ : BufTy).Contents (Elt F)} (h_main_arg3 : V0 (Proc.devRef .tc main_arg3) = x_main_arg3) {x_main_arg4 : (⟨S2048, .f32⟩ : BufTy).Contents (Elt F)} (h_main_arg4 : V0 (Proc.devRef .tc main_arg4) = x_main_arg4) : out_main_v41 V0 = Cert.ReferenceIdeal.Step.R_main_v41 s x_main_arg3 x_main_arg4 := by
  unfold out_main_v41 Cert.ReferenceIdeal.Step.R_main_v41
  rw [h.f_7, h_main_arg3, h_main_arg4]
  try rfl

/-- One trip keeps the valuation holding: `step` of the state, the same set-up values, the next number. -/
theorem holds_step (h : Holds V0 s j) : Holds (STEP V0) (step j s) (j + 1) where
  f_6 := (STEP_main_v21_6 V0).trans (step_6 h)
  f_7 := (STEP_main_v21_7 V0).trans (step_7 h)
  n_5 := (STEP_main_v21_5 V0).trans (step_5 h)
  k_4 := (STEP_main_v21_4 V0).trans h.k_4
  f_0 := (STEP_main_v21_0 V0).trans h.f_0
  f_1 := (STEP_main_v21_1 V0).trans h.f_1
  f_2 := (STEP_main_v21_2 V0).trans h.f_2
  f_3 := (STEP_main_v21_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v41) = Cert.ReferenceIdeal.Step.R_main_v41 (it c 32) (m ((c.tc : Thread nD τ).loc main_arg3)) (m ((c.tc : Thread nD τ).loc main_arg4))
      ∧ r.2.mem ((c.tc : Thread nD τ).loc main_v21_6) = (it c 32).main_v21_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 32
    ⟨(h c).1.trans (out_main_v41_holds hk (iter_main_arg3 m c 32) (iter_main_arg4 m c 32)), (h c).2.1.trans hk.f_6, (h c).2.2.1, (h c).2.2.2.1, (h c).2.2.2.2.1, (h c).2.2.2.2.2.1, (h c).2.2.2.2.2.2⟩) (Value.run m ρ)

end Cert.ReferenceIdeal.StepRun

end
-- ==== Proof.Up.Run.lean ====
/- The MLP's first product, one grid point: what the body leaves in the two output blocks. -/
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.Pipeline.TableIdle
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point of the first row of blocks: both products are stored. -/
theorem run_first (c : Dev nD) (i : grid0.Coords) (a3 : Memref sig .tc .vmem S1024x4096 .bf16) (h3 : a3.IsWhole) (a4 : Memref sig .tc .vmem S4096x512 .f32) (h4 : a4.IsWhole)
    (a5 : Memref sig .tc .vmem S256x4096 .bf16) (h5 : a5.IsWhole) (a6 : Memref sig .tc .vmem S1024x512 .bf16) (h6 : a6.IsWhole) (a7 : Memref sig .tc .vmem S256x512 .bf16) (h7 : a7.IsWhole)
    (hc : k0_cond1 i = 1#1) (x : Vec F S1024x4096 .bf16) (w : Vec F S4096x512 .f32) (x' : Vec F S256x4096 .bf16) (E : Set ℕ) (K : PUnit → sProp 𝕄) :
    iprop(owns (c : Thread nD τ) a3 fullShare x ∗ owns (c : Thread nD τ) a4 fullShare w ∗ owns (c : Thread nD τ) a5 fullShare x' ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a5 fullShare x' ∗ owns (c : Thread nD τ) a6 fullShare (k0_pay1 x w) ∗ owns (c : Thread nD τ) a7 fullShare (k0_pay2 x' w)) -∗ K ⟨⟩))
      ⊢ wp frame (wpE (defs₀ (F := F)) Variants.none c none) E (cc0_mlp_up i a3 h3 a4 h4 a5 h5 a6 h6 a7 h7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    exact View.read_writes_full _ _ _ _ _
  iexists _; isplitr
  swap; · iexact H4
  ipureintro
  frame_out
  exact View.read_writes_full _ _ _ _ _

set_option maxHeartbeats 1000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x512 .f32) (h4 : a4.IsWhole)
    (a5 : Memref sig .tc .vmem S256x4096 .bf16) (h5 : a5.IsWhole) (a6 : Memref sig .tc .vmem S1024x512 .bf16) (h6 : a6.IsWhole) (a7 : Memref sig .tc .vmem S256x512 .bf16) (h7 : a7.IsWhole)
    (hc : ¬k0_cond1 i = 1#1) (x : Vec F S1024x4096 .bf16) (w : Vec F S4096x512 .f32) (E : Set ℕ) (K : PUnit → sProp 𝕄) :
    iprop(owns (c : Thread nD τ) a3 fullShare x ∗ owns (c : Thread nD τ) a4 fullShare w ∗ (∃ d, owns (c : Thread nD τ) a6 fullShare d)
        ∗ (iprop(owns (c : Thread nD τ) a3 fullShare x ∗ owns (c : Thread nD τ) a4 fullShare w ∗ owns (c : Thread nD τ) a6 fullShare (k0_pay1 x w)) -∗ K ⟨⟩))
      ⊢ wp frame (wpE (defs₀ (F := F)) Variants.none c none) E (cc0_mlp_up i a3 h3 a4 h4 a5 h5 a6 h6 a7 h7) K := by
  simp only [cc0_mlp_up_eq_skeleton]; unfold cc0_mlp_up_skel
  unfold owns
  iintro ⟨⟨%f0, %hf0, H0⟩, ⟨%f1, %hf1, H1⟩, ⟨%d3, %f3, -, H3⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H3
  ipureintro
  frame_out
  exact View.read_writes_full _ _ _ _ _

end Cert.Kernel2Ideal.Gen
end
-- ==== Proof.Up.Frame.lean ====
/- The MLP's first product, the whole call: what every point leaves, and the launch's run.

   The short batch's block is stored in the first row of blocks only (points 0 to 31); from then on its last block stays
   in the buffer, and the last point writes it back once more. -/
module

public import proofs.«01_k».proof.Proof.Up.Run

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 to 31. -/
theorem first_iff : ∀ t : Fin cfg0.N, k0_cond1 (grid0.coords t) = 1#1 ↔ t.val < 32 :=
  (by decide +kernel : ∀ t : Fin grid0.N, k0_cond1 (grid0.coords t) = 1#1 ↔ t.val < 32)

theorem idle_iff (t : Fin cfg0.N) : cfg0.idle 4 (grid0.coords t) = !decide (t.val < 32) := by
  have h := first_iff t
  show (!(k0_cond1 (grid0.coords t) == 1#1)) = _
  congr 1
  exact Bool.eq_iff_iff.mpr (by rw [beq_iff_eq, decide_eq_true_iff]; exact h)

/-- The short batch's block is written back after each of points 0 to 30, and after the last. -/
theorem flush0_4 (t : Fin cfg0.N) : (cfg0.win 4).flush t = decide (t.val < 31 ∨ t.val = 255) := by
  rw [Window.flush_eq_flushF]
  exact (by decide +kernel : ∀ t : Fin grid0.N, win0_4.flushF t = decide (t.val < 31 ∨ t.val = 255)) t

theorem fresh_table : ∀ n, n ≤ cfg0.N → cfg0.fresh 4 n = decide (n < 32 ∨ n = 256) :=
  Cfg.fresh_tab cfg0 4 (fun n => decide (n < 32 ∨ n = 256)) (by decide) fun t => by
    have ht : t.val < 256 := lt_of_lt_of_eq t.isLt N_0
    have hi : cfg0.idle 4 (cfg0.grid.coords t) = !decide (t.val < 32) := idle_iff t
    rw [flush0_4, hi, Bool.eq_iff_iff]
    simp only [decide_eq_true_iff, Bool.or_eq_true, Bool.and_eq_true, Bool.not_eq_true', decide_eq_false_iff_not]
    omega

/-- From point 32 on the buffer holds a stored block. -/
theorem fresh0_4 (t : Fin cfg0.N) : cfg0.fresh 4 t.val = decide (t.val < 32) := by
  have ht : t.val < 256 := lt_of_lt_of_eq t.isLt N_0
  rw [fresh_table _ (Nat.le_of_lt t.isLt)]
  exact decide_eq_decide.mpr (by omega)

/-- The point whose block of the short batch is in the buffer after point `t`. -/
def stored (t : Fin cfg0.N) : Fin cfg0.N := ⟨min t.val 31, lt_of_le_of_lt (Nat.min_le_left _ _) t.isLt⟩

theorem stored_first (t : Fin cfg0.N) (h : t.val < 32) : stored t = t := Fin.ext (by unfold stored; simp only; omega)

theorem stored_later (t : Fin cfg0.N) (h : ¬t.val < 32) : stored ⟨t.val - 1, by omega⟩ = stored t :=
  Fin.ext (by unfold stored; simp only; omega)

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t)
    | ⟨4, _⟩ => k0_pay2 (iblk m c 2 (stored t)) (iblk m c 1 (stored t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay1 (iblk m c 0 t) (iblk m c 1 t) := by dsimp only [dats]
theorem after0_4 (c : Dev nD) (t : Fin cfg0.N) : (dats m 0 c).after 4 t = k0_pay2 (iblk m c 2 (stored t)) (iblk m c 1 (stored t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point the short batch's buffer already holds what it is to be left with. -/
theorem before0_4 (c : Dev nD) (t : Fin cfg0.N) (h : ¬t.val < 32) (d) : (dats m 0 c).before 4 t d = (dats m 0 c).after 4 t := by
  have hcarry : ∀ (t : Fin cfg0.N) (_ : t.val ≠ 0), cfg0.idle 4 (cfg0.grid.coords t) = true → cfg0.fresh 4 t.val = false →
      (dats m 0 c).after 4 t = (dats m 0 c).after 4 ⟨t.val - 1, by omega⟩ := fun t _ _ hf => by
    rw [fresh0_4 t] at hf
    rw [after0_4, after0_4, stored_later t (of_decide_eq_false hf)]
  rw [(dats m 0 c).before_out_traj 4 rfl (fun _ _ => rfl) hcarry t.val t rfl d, fresh0_4 t, decide_eq_false h,
    if_neg Bool.false_ne_true, after0_4, after0_4, stored_later t h]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- A buffer that is never idle is left at what the point computes. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a later point the short batch's buffer, left as found, is left as it should be. -/
theorem leaves_later (c : Dev nD) (t : Fin cfg0.N) (h : ¬t.val < 32) :
    owns (c : Thread nD τ) (st0_4 t) fullShare ((dats m 0 c).after 4 t) ⊢ (dats m 0 c).leavesExact 4 t := by
  have hi : cfg0.idle 4 (cfg0.grid.coords t) = true := (idle_iff t).trans (by rw [decide_eq_false h]; rfl)
  cases hf : (cfg0.win 4).flush t
  · rw [Dat.leavesExact_idle (dats m 0 c) 4 t hi hf]
    simp only [before0_4 m c t h]
    iintro H; iexists fun _ => Classical.choice inferInstance; iexact H
  · unfold Dat.leavesExact; rw [hi, hf]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, after0_0, after0_1, after0_2, after0_3]
  by_cases h : t.val < 32
  · rw [leaves_live m c 4 t ((idle_iff t).trans (by rw [decide_eq_true h]; rfl)), after0_4, stored_first t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun hc => h ((first_iff t).mp hc)) (iblk m c 0 t) (iblk m c 1 t) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply (leaves_later m c t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Up.Value.lean ====
/- The MLP's first product: what both result arrays hold, entry by entry. -/
module

public import proofs.«01_k».proof.Proof.Up.Frame
public import Idealize.ShloMosaic.Lib.Pipeline.ValueKit.Point
public import Idealize.ShloMosaic.Lib.Pipeline.Covers

@[expose] public section

set_option maxRecDepth 16384

noncomputable section

namespace Cert.Kernel2Ideal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The square of the positive part. -/
def relu2 (x : EReal) : EReal := max x 0 * max x 0

theorem pay1_at (x : Vec Ideal S1024x4096 .bf16) (w : Vec Ideal S4096x512 .f32) (r : Fin 1024) (j : Fin 512) :
    k0_pay1 x w (ix2 r j) = relu2 (∑ k : Fin 4096, x (ix2 r k) * w (ix2 k j)) := by
  pointwise [k0_pay1, relu2]

theorem pay2_at (x : Vec Ideal S256x4096 .bf16) (w : Vec Ideal S4096x512 .f32) (r : Fin 256) (j : Fin 512) :
    k0_pay2 x w (ix2 r j) = relu2 (∑ k : Fin 4096, x (ix2 r k) * w (ix2 k j)) := by
  pointwise [k0_pay2, relu2]

theorem index_x : ∀ t : Fin grid0.N, win0_0.index t = ![t.val / 32, 0] := by decide +kernel
theorem index_w : ∀ t : Fin grid0.N, win0_1.index t = ![0, t.val % 32] := by decide +kernel
theorem index_s : ∀ t : Fin grid0.N, win0_2.index t = ![0, 0] := by decide +kernel
theorem index_o : ∀ t : Fin grid0.N, win0_3.index t = ![t.val / 32, t.val % 32] := by decide +kernel
theorem index_q : ∀ t : Fin grid0.N, win0_4.index t = ![0, min t.val 31] := by decide +kernel

theorem index_ws (t : Fin cfg0.N) : win0_1.index (stored t) = ![0, min t.val 31] := by
  have e : (stored t).val % 32 = min t.val 31 := Nat.mod_eq_of_lt (by unfold stored; simp only; omega)
  rw [index_w (stored t), e]

/-- The entry at row `r`, column `j` of the activations of a batch `X` under the weight `W`. -/
def actAt {n : ℕ} (X : Vec Ideal ⟨2, ![n, 4096]⟩ .bf16) (W : Vec Ideal S4096x16384 .f32) (r : Fin n) (j : Fin 16384) : EReal :=
  relu2 (∑ k : Fin 4096, X (ix2 r k) * W (ix2 k j))

/-- The long batch's activations. -/
def G3 (c : Dev nD) : Vec Ideal S8192x16384 .bf16 := fun y =>
  actAt (m ((c.tc : Thread nD τ).loc main_arg0)) (m ((c.tc : Thread nD τ).loc main_arg2)) (y 0) (y 1)

/-- The short batch's activations. -/
def G4 (c : Dev nD) : Vec Ideal S256x16384 .bf16 := fun y =>
  actAt (m ((c.tc : Thread nD τ).loc main_arg1)) (m ((c.tc : Thread nD τ).loc main_arg2)) (y 0) (y 1)

/-- What point `t` leaves in window 3's block is the part of the activations the block is written to. -/
theorem point3 (c : Dev nD) (t : Fin cfg0.N) (r : Fin 1024) (j : Fin 512) :
    k0_pay1 (iblk m c 0 t) (iblk m c 1 t) (ix2 r j) = G3 m c ((win0_3.blk t).view.emb (ix2 r j)) := by
  rw [pay1_at]
  unfold G3 actAt
  congr 1
  refine Finset.sum_congr rfl fun k _ => ?_
  congr 1
  · blk_ext [iblk, V, index_x t, index_o t]
  · blk_ext [iblk, V, index_w t, index_o t]

/-- Window 3's array after the run. -/
theorem array3 (c : Dev nD) : (dats m 0 c).arrAt 3 cfg0.N = G3 m c := by
  refine (dats m 0 c).arrAt_eq_of_covers 3 _ (by decide +kernel) fun t hf y => ?_
  blk_simp
  rw [after0_3]
  have e : y = ix2 (y 0) (y 1) := eq_ix2 y
  rw [e]
  exact point3 m c t (y 0) (y 1)

/-- What point `t` leaves in window 4's block is the part of the activations the block is written to. -/
theorem point4 (c : Dev nD) (t : Fin cfg0.N) (r : Fin 256) (j : Fin 512) :
    k0_pay2 (iblk m c 2 (stored t)) (iblk m c 1 (stored t)) (ix2 r j) = G4 m c ((win0_4.blk t).view.emb (ix2 r j)) := by
  rw [pay2_at]
  unfold G4 actAt
  congr 1
  refine Finset.sum_congr rfl fun k _ => ?_
  congr 1
  · blk_ext [iblk, V, index_s (stored t), index_q t]
  · blk_ext [iblk, V, index_ws t, index_q t]

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (array3 m c), ((h.1 c).1 4).trans (array4 m c), (h.2.1 c).1, (h.2.1 c).2.1, (h.2.1 c).2.2⟩)
    (θ_run_and (run_main m ρ) (frame m ρ))

end Cert.Kernel2Ideal.Gen

end
-- ==== Proof.Up.Reference.lean ====
/- The MLP's activations as the reference computes them, and the claim that the kernel computes the same. -/
module

public import proofs.«01_k».proof.Proof.Up.Value
public import proofs.«01_k».proof.Proof.Gen.Reference2Ideal.Run
public import proofs.«01_k».proof.Proof.Gen.Kernel2
public import proofs.«01_k».proof.Defs

@[expose] public section

set_option maxRecDepth 16384

noncomputable section

namespace Cert.Proof.Up

open Idealize.ShloMosaic Idealize.ShloMosaic.TcCoe Idealize.ShloMosaic.Tactic
open Idealize.SL Idealize.SL.Sem
open Cert.Kernel2Ideal.Gen (G3 G4 actAt relu2)

/-- The compiled kernel's frame, spelt of the idealized text read at the machine's words. -/
theorem frame_same : Cert.quiescent_Kernel2 (hKernel2 := Cert.Kernel2.Gen.facts)
    = (∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)) := by
  sl_kernel_rfl

theorem frame_kernel : Cert.quiescent_Kernel2 (hKernel2 := Cert.Kernel2.Gen.facts) :=
  frame_same.mpr fun m ρ _ => Cert.Kernel2Ideal.Gen.frame (F := Bits) m ρ

theorem frame_ideal : Cert.quiescent_Kernel2Ideal (hKernel2Ideal := Cert.Kernel2Ideal.Gen.facts) := fun m ρ _ =>
  Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run m ρ)

theorem values : Cert.algebraic_Kernel2Ideal_Reference2Ideal (hKernel2Ideal := Cert.Kernel2Ideal.Gen.facts) (hReference2Ideal := Cert.Reference2Ideal.Gen.facts) := by
  intro m g m' g' _ hargs
  refine ⟨fun c => G3 m c, fun c => G4 m c, Cert.Kernel2Ideal.Gen.results m g, ?_⟩
  refine (θ_run Cert.Reference2Ideal.defs _ _).mono (fun r h c => ?_) (Cert.Reference2Ideal.Value.run m' g')
  obtain ⟨a0, a1, a2⟩ := hargs c
  refine ⟨(h c).1.trans ?_, (h c).2.1.trans ?_, (h c).2.2⟩
  · rw [a0, a2]
    funext y
    pointwise [G3, actAt, relu2]
  · rw [a1, a2]
    funext y
    pointwise [G4, actAt, relu2]

end Cert.Proof.Up

end
-- ==== Proof.Down.Run.lean ====
/- The MLP's second product, one grid point: what the body leaves in the two output blocks and in the short batch's
   accumulator. -/
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.Pipeline.TableIdle
public import Idealize.ShloMosaic.Lib.VecWindow

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its contraction. -/
abbrev isFirst (i : grid0.Coords) : Prop := (Scalar.cmpi .ne (Scalar.extui (Scalar.cmpi .eq (BitVec.ofNat 32 (i 2).val) 0#32)) 0#32) = 1#1
/-- The point is the last of its contraction. -/
abbrev isLast (i : grid0.Coords) : Prop := k0_cond5 i = 1#1
/-- The point is in the first row of blocks, where the short batch is computed too. -/
abbrev isRow (i : grid0.Coords) : Prop := k0_cond3 i = 1#1

/-- The long batch's block with the point's product added. -/
def sum8 (i : grid0.Coords) (x : Vec F S1024x2048 .bf16) (w : Vec F S2048x1024 .bf16) (d : Vec F S1024x1024 .f32) : Vec F S1024x1024 .f32 :=
  k0_pay2 (if isFirst i then k0_pay1 else d) x w

/-- The long batch's block after the point. -/
def left8 (i : grid0.Coords) (x : Vec F S1024x2048 .bf16) (w : Vec F S2048x1024 .bf16) (r : Vec F S1024x1024 .f32) (d : Vec F S1024x1024 .f32) : Vec F S1024x1024 .f32 :=
  if isLast i then k0_pay3 (sum8 i x w d) r else sum8 i x w d

/-- The short batch's accumulator after the point. -/
def left10 (i : grid0.Coords) (x : Vec F S256x2048 .bf16) (w : Vec F S2048x1024 .bf16) (s : Vec F S256x1024 .f32) : Vec F S256x1024 .f32 :=
  if isRow i then k0_pay5 (if isFirst i then k0_pay4 else s) x w else s

/-- The short batch's block after the point. -/
def left9 (i : grid0.Coords) (x : Vec F S256x2048 .bf16) (w : Vec F S2048x1024 .bf16) (r : Vec F S256x1024 .f32) (s d : Vec F S256x1024 .f32) : Vec F S256x1024 .f32 :=
  if isRow i then if isLast i then k0_pay6 (left10 i x w s) r else d else d

set_option maxHeartbeats 1000000 in
/-- Any point. -/
theorem run_body (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S256x2048 .bf16) (h6 : a6.IsWhole) (a7 : Memref sig .tc .vmem S256x1024 .f32) (h7 : a7.IsWhole)
    (a8 : Memref sig .tc .vmem S1024x1024 .f32) (h8 : a8.IsWhole) (a9 : Memref sig .tc .vmem S256x1024 .f32) (h9 : a9.IsWhole) (a10 : Memref sig .tc .vmem S256x1024 .f32) (h10 : a10.IsWhole)
    (x : Vec F S1024x2048 .bf16) (w : Vec F S2048x1024 .bf16) (r : Vec F S1024x1024 .f32) (x' : Vec F S256x2048 .bf16) (r' : Vec F S256x1024 .f32)
    (d : Vec F S1024x1024 .f32) (d' s : Vec F S256x1024 .f32) (E : Set ℕ) (K : PUnit → sProp 𝕄) :
    iprop(owns (c : Thread nD τ) a3 fullShare x ∗ owns (c : Thread nD τ) a4 fullShare w ∗ owns (c : Thread nD τ) a5 fullShare r ∗ owns (c : Thread nD τ) a6 fullShare x' ∗ owns (c : Thread nD τ) a7 fullShare r'
        ∗ owns (c : Thread nD τ) a8 fullShare d ∗ owns (c : Thread nD τ) a9 fullShare d' ∗ owns (c : Thread nD τ) a10 fullShare s
        ∗ (iprop(owns (c : Thread nD τ) a3 fullShare x ∗ owns (c : Thread nD τ) a4 fullShare w ∗ owns (c : Thread nD τ) a5 fullShare r ∗ owns (c : Thread nD τ) a6 fullShare x' ∗ owns (c : Thread nD τ) a7 fullShare r'
          ∗ owns (c : Thread nD τ) a8 fullShare (left8 i x w r d) ∗ owns (c : Thread nD τ) a9 fullShare (left9 i x' w r' s d') ∗ owns (c : Thread nD τ) a10 fullShare (left10 i x' w s)) -∗ K ⟨⟩))
      ⊢ wp frame (wpE (defs₀ (F := F)) Variants.none c none) E (cc0_mlp_down i a3 h3 a4 h4 a5 h5 a6 h6 a7 h7 a8 h8 a9 h9 a10 h10) K := by
  simp only [cc0_mlp_down_eq_skeleton]; unfold cc0_mlp_down_skel
  unfold owns left8 left9 left10 sum8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h3.eq_unread hf0; obtain rfl := h4.eq_unread hf1; obtain rfl := h5.eq_unread hf2; obtain rfl := h6.eq_unread hf3
  obtain rfl := h7.eq_unread hf4; obtain rfl := h8.eq_unread hf5; obtain rfl := h9.eq_unread hf6; obtain rfl := h10.eq_unread hf7
  by_cases c1 : isFirst i <;> by_cases c2 : isLast i <;> by_cases c3 : isRow i <;>
  · first | simp only [if_neg c1] | simp only [if_pos c1]
    first | simp only [if_neg c2] | simp only [if_pos c2]
    first | simp only [if_neg c3] | simp only [if_pos c3]
    sl_exec (disch := first | sl_exact c1 | sl_exact c2 | sl_exact c3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr
      swap; · iexact H5
      ipureintro
      first | rw [h8.read_unread] | (frame_out; exact View.read_writes_full _ _ _ _ _)
    isplitl [H6]
    · iexists _; isplitr
      swap; · iexact H6
      ipureintro
      first | rw [h9.read_unread] | (frame_out; exact View.read_writes_full _ _ _ _ _)
    iexists _; isplitr
    swap; · iexact H7
    ipureintro
    first | rw [h10.read_unread] | (frame_out; exact View.read_writes_full _ _ _ _ _)

end Cert.Kernel3Ideal.Gen
end
-- ==== Proof.Down.Frame.lean ====
/- The MLP's second product, the whole call: what every point leaves, and the launch's run.

   Eight points in a row contract one output block. The short batch's blocks are computed in the first row of blocks only
   (points 0 to 31); from then on its last block stays in the buffer, and the last point writes it back once more. -/
module

public import proofs.«01_k».proof.Proof.Down.Run

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem first_iff : ∀ t : Fin cfg0.N, isFirst (grid0.coords t) ↔ t.val % 8 = 0 :=
  (by decide +kernel : ∀ t : Fin grid0.N, isFirst (grid0.coords t) ↔ t.val % 8 = 0)
theorem last_iff : ∀ t : Fin cfg0.N, isLast (grid0.coords t) ↔ t.val % 8 = 7 :=
  (by decide +kernel : ∀ t : Fin grid0.N, isLast (grid0.coords t) ↔ t.val % 8 = 7)
theorem row_iff : ∀ t : Fin cfg0.N, isRow (grid0.coords t) ↔ t.val < 32 :=
  (by decide +kernel : ∀ t : Fin grid0.N, isRow (grid0.coords t) ↔ t.val < 32)

theorem idle_iff (t : Fin cfg0.N) : cfg0.idle 6 (grid0.coords t) = !decide (t.val < 32 ∧ t.val % 8 = 7) := by
  have h := row_iff t
  have h' := last_iff t
  show (!(k0_cond3 (grid0.coords t) == 1#1 && k0_cond5 (grid0.coords t) == 1#1)) = _
  congr 1
  exact Bool.eq_iff_iff.mpr (by rw [Bool.and_eq_true, beq_iff_eq, beq_iff_eq, decide_eq_true_iff]; exact and_congr h h')

/-- The short batch's block is written back after points 7, 15 and 23, and after the last. -/
theorem flush0_6 (t : Fin cfg0.N) : (cfg0.win 6).flush t = decide ((t.val < 31 ∧ t.val % 8 = 7) ∨ t.val = 255) := by
  rw [Window.flush_eq_flushF]
  exact (by decide +kernel : ∀ t : Fin grid0.N, win0_6.flushF t = decide ((t.val < 31 ∧ t.val % 8 = 7) ∨ t.val = 255)) t

/-- The long batch's buffer holds nothing of use before the first point of a contraction only. -/
theorem fresh0_5 : ∀ n, n ≤ cfg0.N → cfg0.fresh 5 n = decide (n % 8 = 0) :=
  Cfg.fresh_tab cfg0 5 (fun n => decide (n % 8 = 0)) (by decide) fun t => by
    have hi : cfg0.idle 5 (cfg0.grid.coords t) = false := rfl
    rw [hi, Bool.eq_iff_iff]
    simp only [decide_eq_true_iff, Bool.or_eq_true, flush0_5 t, Bool.false_and, Bool.false_eq_true, or_false]
    omega

theorem fresh_table : ∀ n, n ≤ cfg0.N → cfg0.fresh 6 n = decide (n < 32 ∨ n = 256) :=
  Cfg.fresh_tab cfg0 6 (fun n => decide (n < 32 ∨ n = 256)) (by decide) fun t => by
    have ht : t.val < 256 := lt_of_lt_of_eq t.isLt N_0
    have hi : cfg0.idle 6 (cfg0.grid.coords t) = !decide (t.val < 32 ∧ t.val % 8 = 7) := idle_iff t
    rw [flush0_6, hi, Bool.eq_iff_iff]
    simp only [decide_eq_true_iff, Bool.or_eq_true, Bool.and_eq_true, Bool.not_eq_true', decide_eq_false_iff_not]
    omega

/-- From point 32 on the short batch's buffer holds a stored block. -/
theorem fresh0_6 (t : Fin cfg0.N) : cfg0.fresh 6 t.val = decide (t.val < 32) := by
  have ht : t.val < 256 := lt_of_lt_of_eq t.isLt N_0
  rw [fresh_table _ (Nat.le_of_lt t.isLt)]
  exact decide_eq_decide.mpr (by omega)

/-- The point whose block of the short batch is written back after point `t`: the last one that stored it. -/
def stored (t : Fin cfg0.N) : Fin cfg0.N := ⟨min t.val 31, lt_of_le_of_lt (Nat.min_le_left _ _) t.isLt⟩

theorem stored_row (t : Fin cfg0.N) (h : t.val < 32) : stored t = t := Fin.ext (by unfold stored; simp only; omega)

theorem stored_later (t : Fin cfg0.N) (h : ¬t.val < 32) : stored ⟨t.val - 1, by omega⟩ = stored t :=
  Fin.ext (by unfold stored; simp only; omega)

/-! ## What the points leave -/

/-- The long batch's block after the point, given what the buffer held. -/
def step8 (c : Dev nD) (t : Fin cfg0.N) (d : Vec F S1024x1024 .f32) : Vec F S1024x1024 .f32 :=
  left8 (grid0.coords t) (iblk m c 0 t) (iblk m c 1 t) (iblk m c 2 t) d

/-- The short batch's accumulator after the point, given what it held. -/
def step10 (c : Dev nD) (t : Fin cfg0.N) (s : Vec F S256x1024 .f32) : Vec F S256x1024 .f32 :=
  left10 (grid0.coords t) (iblk m c 3 t) (iblk m c 1 t) s

/-- The long batch's block after point `n`. -/
def blk8 (c : Dev nD) : (n : ℕ) → n < cfg0.N → Vec F S1024x1024 .f32
  | 0, h => step8 m c ⟨0, h⟩ k0_pay1
  | n + 1, h => step8 m c ⟨n + 1, h⟩ (blk8 c n (Nat.lt_of_succ_lt h))

/-- The short batch's accumulator after point `n`. -/
def acc10 (c : Dev nD) : (n : ℕ) → n < cfg0.N → Vec F S256x1024 .f32
  | 0, h => step10 m c ⟨0, h⟩ k0_pay4
  | n + 1, h => step10 m c ⟨n + 1, h⟩ (acc10 c n (Nat.lt_of_succ_lt h))

/-- The first point of a contraction does not look at what the buffer held. -/
theorem step8_first (c : Dev nD) (t : Fin cfg0.N) (h : t.val % 8 = 0) (d d' : Vec F S1024x1024 .f32) : step8 m c t d = step8 m c t d' := by
  unfold step8 left8 sum8; rw [if_pos ((first_iff t).mpr h), if_pos ((first_iff t).mpr h)]

/-- Nor at what the accumulator held. -/
theorem step10_first (c : Dev nD) (t : Fin cfg0.N) (h : t.val = 0) (s s' : Vec F S256x1024 .f32) : step10 m c t s = step10 m c t s' := by
  unfold step10 left10
  rw [if_pos ((first_iff t).mpr (by omega)), if_pos ((first_iff t).mpr (by omega)), if_pos ((row_iff t).mpr (by omega)), if_pos ((row_iff t).mpr (by omega))]

theorem blk8_pos (c : Dev nD) (t : Fin cfg0.N) (h : t.val ≠ 0) : blk8 m c t.val t.isLt = step8 m c t (blk8 m c (t.val - 1) (by omega)) := by
  obtain ⟨n, hn⟩ := t
  cases n with
  | zero => exact absurd rfl h
  | succ n => rfl

theorem blk8_first (c : Dev nD) (t : Fin cfg0.N) (h : t.val % 8 = 0) (d : Vec F S1024x1024 .f32) : blk8 m c t.val t.isLt = step8 m c t d := by
  by_cases hz : t.val = 0
  · obtain ⟨n, hn⟩ := t
    obtain rfl : n = 0 := hz
    exact step8_first m c _ h _ _
  · rw [blk8_pos m c t hz]; exact step8_first m c t h _ _

theorem acc10_pos (c : Dev nD) (t : Fin cfg0.N) (h : t.val ≠ 0) : acc10 m c t.val t.isLt = step10 m c t (acc10 m c (t.val - 1) (by omega)) := by
  obtain ⟨n, hn⟩ := t
  cases n with
  | zero => exact absurd rfl h
  | succ n => rfl

theorem acc10_zero (c : Dev nD) (t : Fin cfg0.N) (h : t.val = 0) (s : Vec F S256x1024 .f32) : acc10 m c t.val t.isLt = step10 m c t s := by
  obtain ⟨n, hn⟩ := t
  obtain rfl : n = 0 := h
  exact step10_first m c _ rfl _ _

/-! ## The pipeline's proof data -/

/-- The short batch's accumulator. -/
abbrev scM0_0 : Memref sig .tc .vmem S256x1024 .f32 := Memref.whole cc0_scratch0

theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- What is held before position `n`: the accumulator, at anything before the first point, at `acc10` after. -/
def PhiS (c : Dev nD) : (n : ℕ) → n ≤ cfg0.N → sProp 𝕄
  | 0, _ => Pipeline.ΦA spec0 c
  | n + 1, hn => iprop(owns (c : Thread nD τ) scM0_0 fullShare (acc10 m c n hn) ∗ (∃ r, prngReg c r))

/-- At some contents of the accumulator that lead to `acc10` after the point. -/
theorem PhiS_open (c : Dev nD) (t : Fin cfg0.N) :
    PhiS m c t.val (Nat.le_of_lt t.isLt) ⊢ iprop(∃ s, ⌜acc10 m c t.val t.isLt = step10 m c t s⌝ ∗ owns (c : Thread nD τ) scM0_0 fullShare s ∗ (∃ r, prngReg c r)) := by
  obtain ⟨n, hn⟩ := t
  cases n with
  | zero =>
    show Pipeline.ΦA spec0 c ⊢ _
    rw [PhiA0_eq]
    iintro ⟨⟨%s, H⟩, Hg⟩
    iexists s
    isplitr
    · ipureintro; exact acc10_zero m c ⟨0, hn⟩ rfl s
    isplitl [H]; · iexact H
    iexact Hg
  | succ n =>
    show iprop(owns (c : Thread nD τ) scM0_0 fullShare (acc10 m c n _) ∗ (∃ r, prngReg c r)) ⊢ _
    iintro ⟨H, Hg⟩
    iexists _
    isplitr
    swap
    · isplitl [H]; · iexact H
      iexact Hg
    ipureintro; exact acc10_pos m c ⟨n + 1, hn⟩ (Nat.succ_ne_zero n)

/-- After the body at point `t`: the inputs' buffers at their blocks, the long batch's output at its partial sum, the short
    batch's at the block last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk8 m c t.val t.isLt
    | ⟨6, _⟩ => k0_pay6 (acc10 m c (stored t).val (stored t).isLt) (iblk m c 4 (stored t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blk8 m c t.val t.isLt := by dsimp only [dats]
theorem after0_6 (c : Dev nD) (t : Fin cfg0.N) : (dats m 0 c).after 6 t = k0_pay6 (acc10 m c (stored t).val (stored t).isLt) (iblk m c 4 (stored t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the long batch's buffer holds leads to `blk8` after the point. -/
theorem before0_5 (c : Dev nD) (t : Fin cfg0.N) (d) : step8 m c t ((dats m 0 c).before 5 t d) = blk8 m c t.val t.isLt := by
  by_cases h : t.val % 8 = 0
  · exact (blk8_first m c t h _).symm
  · have e := (dats m 0 c).before_out_traj 5 rfl (fun _ _ => rfl) (fun _ _ hi _ => absurd (hi : false = true) Bool.false_ne_true) t.val t rfl d
    rw [fresh0_5 _ (Nat.le_of_lt t.isLt), decide_eq_false h, if_neg Bool.false_ne_true, after0_5] at e
    rw [e, blk8_pos m c t (by omega)]

/-- At a later point the short batch's buffer already holds what it is to be left with. -/
theorem before0_6 (c : Dev nD) (t : Fin cfg0.N) (h : ¬t.val < 32) (d) : (dats m 0 c).before 6 t d = (dats m 0 c).after 6 t := by
  have hcarry : ∀ (t : Fin cfg0.N) (_ : t.val ≠ 0), cfg0.idle 6 (cfg0.grid.coords t) = true → cfg0.fresh 6 t.val = false →
      (dats m 0 c).after 6 t = (dats m 0 c).after 6 ⟨t.val - 1, by omega⟩ := fun t _ _ hf => by
    rw [fresh0_6 t] at hf
    rw [after0_6, after0_6, stored_later t (of_decide_eq_false hf)]
  rw [(dats m 0 c).before_out_traj 6 rfl (fun _ _ => rfl) hcarry t.val t rfl d, fresh0_6 t, decide_eq_false h,
    if_neg Bool.false_ne_true, after0_6, after0_6, stored_later t h]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A buffer that is never idle is left at what the point computes. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What the body leaves in the short batch's buffer, whatever it held, is as it should be. -/
theorem leaves_short (c : Dev nD) (t : Fin cfg0.N) (s : Vec F S256x1024 .f32) (hs : acc10 m c t.val t.isLt = step10 m c t s) (d) :
    owns (c : Thread nD τ) (st0_6 t) fullShare (left9 (grid0.coords t) (iblk m c 3 t) (iblk m c 1 t) (iblk m c 4 t) s ((dats m 0 c).before 6 t d))
      ⊢ (dats m 0 c).leavesExact 6 t := by
  have hi : cfg0.idle 6 (cfg0.grid.coords t) = !decide (t.val < 32 ∧ t.val % 8 = 7) := idle_iff t
  unfold left9
  by_cases h : t.val < 32
  · rw [if_pos ((row_iff t).mpr h)]
    by_cases h7 : t.val % 8 = 7
    · rw [if_pos ((last_iff t).mpr h7), leaves_live m c 6 t (hi.trans (by rw [decide_eq_true ⟨h, h7⟩]; rfl)), after0_6, stored_row t h, hs]
      exact .rfl
    · rw [if_neg (fun e => h7 ((last_iff t).mp e)), Dat.leavesExact_idle (dats m 0 c) 6 t (hi.trans (by rw [decide_eq_false (fun e => h7 e.2)]; rfl))
        ((flush0_6 t).trans (decide_eq_false (by omega)))]
      iintro H; iexists d; iexact H
  · rw [if_neg (fun e => h ((row_iff t).mp e))]
    have hi' : cfg0.idle 6 (cfg0.grid.coords t) = true := hi.trans (by rw [decide_eq_false (fun e => h e.1)]; rfl)
    cases hf : (cfg0.win 6).flush t
    · rw [Dat.leavesExact_idle (dats m 0 c) 6 t hi' hf]
      iintro H; iexists d; iexact H
    · unfold Dat.leavesExact; rw [hi', hf, before0_6 m c t h]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, Phi_castSucc,
    show (dats m 0 c).Φ t.succ = iprop(owns (c : Thread nD τ) scM0_0 fullShare (acc10 m c t.val t.isLt) ∗ (∃ r, prngReg c r)) from rfl]
  rw [leaves_live m c 0 t rfl, leaves_live m c 1 t rfl, leaves_live m c 2 t rfl, leaves_live m c 3 t rfl, leaves_live m c 4 t rfl, leaves_live m c 5 t rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS_open m c t) $$ HΦ
  icases HΦ' with ⟨%s, %hs, HS, Hg⟩
  iapply (run_body c (grid0.coords t) _ _ _ _ _ _ _ _ _ _ _ _ _ _ _ _ (iblk m c 0 t) (iblk m c 1 t) (iblk m c 2 t) (iblk m c 3 t) (iblk m c 4 t) ((dats m 0 c).before 5 t d5) ((dats m 0 c).before 6 t d6) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · rw [hs]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · rw [← before0_5 m c t d5]; iexact H5
  iapply (leaves_short m c t s hs d6)
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- After the last point the accumulator's contents are forgotten. -/
theorem hout (c : Dev nD) : (dats m 0 c).Φ (Fin.last cfg0.N) ⊢ Pipeline.ΦA spec0 c := by
  show iprop(owns (c : Thread nD τ) scM0_0 fullShare (acc10 m c 255 (by decide)) ∗ (∃ r, prngReg c r)) ⊢ _
  rw [PhiA0_eq]
  iintro ⟨H, Hg⟩
  isplitl [H]
  · iexists _; iexact H
  iexact Hg

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.Down.Value.lean ====
/- The MLP's second product: what both result arrays hold, entry by entry. -/
module

public import proofs.«01_k».proof.Proof.Down.Frame
public import Idealize.ShloMosaic.Lib.Pipeline.ValueKit.Point
public import Idealize.ShloMosaic.Lib.Pipeline.Covers

@[expose] public section

set_option maxRecDepth 16384

noncomputable section

namespace Cert.Kernel3Ideal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## The body's arithmetic at an entry -/

/-- An entry of a product of two blocks. -/
def prodAt {n : ℕ} (x : Vec Ideal ⟨2, ![n, 2048]⟩ .bf16) (w : Vec Ideal S2048x1024 .bf16) (r : Fin n) (j : Fin 1024) : EReal :=
  ∑ k : Fin 2048, x (ix2 r k) * w (ix2 k j)

theorem pay2_at (d : Vec Ideal S1024x1024 .f32) (x : Vec Ideal S1024x2048 .bf16) (w : Vec Ideal S2048x1024 .bf16) (r j : Fin 1024) :
    k0_pay2 d x w (ix2 r j) = d (ix2 r j) + prodAt x w r j := by
  pointwise [k0_pay2, prodAt]

theorem pay1_at (y : S1024x1024.Idx) : k0_pay1 (F := Ideal) y = 0 := by
  pointwise [k0_pay1]

theorem pay3_at (d r : Vec Ideal S1024x1024 .f32) (y : S1024x1024.Idx) : k0_pay3 d r y = r y + d y := by
  pointwise [k0_pay3]

theorem pay5_at (s : Vec Ideal S256x1024 .f32) (x : Vec Ideal S256x2048 .bf16) (w : Vec Ideal S2048x1024 .bf16) (r : Fin 256) (j : Fin 1024) :
    k0_pay5 s x w (ix2 r j) = s (ix2 r j) + prodAt x w r j := by
  pointwise [k0_pay5, prodAt]

theorem pay4_at (y : S256x1024.Idx) : k0_pay4 (F := Ideal) y = 0 := by
  pointwise [k0_pay4]

theorem pay6_at (s r : Vec Ideal S256x1024 .f32) (y : S256x1024.Idx) : k0_pay6 s r y = r y + s y := by
  pointwise [k0_pay6]

/-! ## The blocks' places -/

theorem index_x : ∀ t : Fin grid0.N, win0_0.index t = ![t.val / 32, t.val % 8] := by decide +kernel
theorem index_w : ∀ t : Fin grid0.N, win0_1.index t = ![t.val % 8, t.val / 8 % 4] := by decide +kernel
theorem index_r : ∀ t : Fin grid0.N, win0_2.index t = ![t.val / 32, t.val / 8 % 4] := by decide +kernel
theorem index_x' : ∀ t : Fin grid0.N, win0_3.index t = ![0, if t.val < 32 then t.val % 8 else 7] := by decide +kernel
theorem index_r' : ∀ t : Fin grid0.N, win0_4.index t = ![0, min (t.val / 8) 3] := by decide +kernel
theorem index_o : ∀ t : Fin grid0.N, win0_5.index t = ![t.val / 32, t.val / 8 % 4] := by decide +kernel
theorem index_q : ∀ t : Fin grid0.N, win0_6.index t = ![0, min (t.val / 8) 3] := by decide +kernel

/-! ## The long batch -/

/-- The long batch's block after point `n`, before the residual is added. -/
def sums (c : Dev nD) : (n : ℕ) → n < cfg0.N → Vec Ideal S1024x1024 .f32
  | 0, h => sum8 (grid0.coords ⟨0, h⟩) (iblk m c 0 ⟨0, h⟩) (iblk m c 1 ⟨0, h⟩) (k0_pay1 (F := Ideal))
  | n + 1, h => sum8 (grid0.coords ⟨n + 1, h⟩) (iblk m c 0 ⟨n + 1, h⟩) (iblk m c 1 ⟨n + 1, h⟩) (sums c n (Nat.lt_of_succ_lt h))

theorem sums_succ (c : Dev nD) (n : ℕ) (h : n + 1 < cfg0.N) :
    sums m c (n + 1) h = sum8 (grid0.coords ⟨n + 1, h⟩) (iblk m c 0 ⟨n + 1, h⟩) (iblk m c 1 ⟨n + 1, h⟩) (sums m c n (Nat.lt_of_succ_lt h)) := rfl

theorem blk8_succ (c : Dev nD) (n : ℕ) (h : n + 1 < cfg0.N) :
    blk8 m c (n + 1) h = step8 m c ⟨n + 1, h⟩ (blk8 m c n (Nat.lt_of_succ_lt h)) := rfl

theorem sums_first (c : Dev nD) (t : Fin cfg0.N) (h : t.val % 8 = 0) :
    sums m c t.val t.isLt = k0_pay2 (k0_pay1 (F := Ideal)) (iblk m c 0 t) (iblk m c 1 t) := by
  obtain ⟨n, hn⟩ := t
  cases n with
  | zero => unfold sums sum8; rw [if_pos ((first_iff ⟨0, hn⟩).mpr h)]
  | succ n => unfold sums sum8; rw [if_pos ((first_iff ⟨n + 1, hn⟩).mpr h)]

theorem sums_next (c : Dev nD) (t : Fin cfg0.N) (h : ¬t.val % 8 = 0) :
    sums m c t.val t.isLt = k0_pay2 (sums m c (t.val - 1) (Nat.lt_of_le_of_lt (Nat.sub_le _ _) t.isLt)) (iblk m c 0 t) (iblk m c 1 t) := by
  obtain ⟨n, hn⟩ := t
  cases n with
  | zero => exact absurd rfl h
  | succ n =>
    rw [sums_succ]
    unfold sum8
    rw [if_neg fun e => h ((first_iff ⟨n + 1, hn⟩).mp e)]
    rfl

/-- Only the last point of a contraction adds the residual. -/
theorem blk8_sums (c : Dev nD) (t : Fin cfg0.N) :
    blk8 m c t.val t.isLt = if t.val % 8 = 7 then k0_pay3 (sums m c t.val t.isLt) (iblk m c 2 t) else sums m c t.val t.isLt := by
  have key : ∀ n (hn : n < cfg0.N), blk8 m c n hn = if n % 8 = 7 then k0_pay3 (sums m c n hn) (iblk m c 2 ⟨n, hn⟩) else sums m c n hn := by
    intro n
    induction n with
    | zero =>
      intro hn
      unfold blk8 step8 left8 sums
      have h : ¬(0 % 8 = 7) := by decide
      rw [if_neg fun e => h ((last_iff ⟨0, hn⟩).mp e), if_neg h]
    | succ n ih =>
      intro hn
      have e : step8 m c ⟨n + 1, hn⟩ (blk8 m c n (Nat.lt_of_succ_lt hn)) = step8 m c ⟨n + 1, hn⟩ (sums m c n (Nat.lt_of_succ_lt hn)) := by
        by_cases h : (n + 1) % 8 = 0
        · exact step8_first m c ⟨n + 1, hn⟩ h _ _
        · rw [ih, if_neg (by omega)]
      rw [blk8_succ, e, sums_succ]
      unfold step8 left8
      by_cases h : (n + 1) % 8 = 7
      · rw [if_pos ((last_iff ⟨n + 1, hn⟩).mpr h), if_pos h]
      · rw [if_neg fun e => h ((last_iff ⟨n + 1, hn⟩).mp e), if_neg h]
  exact key t.val t.isLt

/-- What point `t` adds to an entry of the long batch's block. -/
def term (c : Dev nD) (t : Fin cfg0.N) (y : S1024x1024.Idx) : EReal :=
  prodAt (n := 1024) (iblk m c 0 t) (iblk m c 1 t) (y 0) (y 1)

theorem pay2_term (c : Dev nD) (t : Fin cfg0.N) (d : Vec Ideal S1024x1024 .f32) (y : S1024x1024.Idx) :
    k0_pay2 d (iblk m c 0 t) (iblk m c 1 t) y = d y + term m c t y := by
  have e : y = ix2 (y 0) (y 1) := eq_ix2 y
  rw [e]
  exact pay2_at d (iblk m c 0 t) (iblk m c 1 t) (y 0) (y 1)

/-- After the last point of a contraction the block holds the sum of the eight points' terms. -/
theorem sums_last (c : Dev nD) (t : Fin cfg0.N) (h : t.val % 8 = 7) (y : S1024x1024.Idx) :
    sums m c t.val t.isLt y = ∑ s : Fin 8, term m c ⟨8 * (t.val / 8) + s.val, Pipeline.run_point_lt_of_flush t h s⟩ y := by
  rw [Pipeline.eq_sum_fin_of_reset_step_apply_of_flush (fun n h => sums m c n h) 8 (fun _ => (0 : EReal)) (term m c)
    (fun t h y => by rw [sums_first m c t h, pay2_term, pay1_at]) (fun t h y => by rw [sums_next m c t h, pay2_term]) t h y]
  exact zero_add _

/-! ## The short batch -/

theorem acc10_first (c : Dev nD) (t : Fin cfg0.N) (hr : t.val < 32) (h : t.val % 8 = 0) :
    acc10 m c t.val t.isLt = k0_pay5 (k0_pay4 (F := Ideal)) (iblk m c 3 t) (iblk m c 1 t) := by
  obtain ⟨n, hn⟩ := t
  cases n with
  | zero => unfold acc10 step10 left10; rw [if_pos ((row_iff ⟨0, hn⟩).mpr hr), if_pos ((first_iff ⟨0, hn⟩).mpr h)]
  | succ n => unfold acc10 step10 left10; rw [if_pos ((row_iff ⟨n + 1, hn⟩).mpr hr), if_pos ((first_iff ⟨n + 1, hn⟩).mpr h)]

theorem acc10_next (c : Dev nD) (t : Fin cfg0.N) (hr : t.val < 32) (h : ¬t.val % 8 = 0) :
    acc10 m c t.val t.isLt = k0_pay5 (acc10 m c (t.val - 1) (by omega)) (iblk m c 3 t) (iblk m c 1 t) := by
  rw [acc10_pos m c t (by omega)]
  unfold step10 left10
  rw [if_pos ((row_iff t).mpr hr), if_neg fun e => h ((first_iff t).mp e)]

/-- A point of the first row of blocks. -/
def inRow (t : Fin 32) : Fin cfg0.N := ⟨t.val, lt_trans t.isLt (by decide)⟩

/-- What point `t` adds to an entry of the short batch's accumulator. -/
def term' (c : Dev nD) (t : Fin 32) (y : S256x1024.Idx) : EReal :=
  prodAt (n := 256) (iblk m c 3 (inRow t)) (iblk m c 1 (inRow t)) (y 0) (y 1)

theorem pay5_term (c : Dev nD) (t : Fin 32) (s : Vec Ideal S256x1024 .f32) (y : S256x1024.Idx) :
    k0_pay5 s (iblk m c 3 (inRow t)) (iblk m c 1 (inRow t)) y = s y + term' m c t y := by
  have e : y = ix2 (y 0) (y 1) := eq_ix2 y
  rw [e]
  exact pay5_at s (iblk m c 3 (inRow t)) (iblk m c 1 (inRow t)) (y 0) (y 1)

/-- After the last point of a contraction the accumulator holds the sum of the eight points' terms. -/
theorem acc10_last (c : Dev nD) (t : Fin 32) (h : t.val % 8 = 7) (y : S256x1024.Idx) :
    acc10 m c (inRow t).val (inRow t).isLt y = ∑ s : Fin 8, term' m c ⟨8 * (t.val / 8) + s.val, Pipeline.run_point_lt_of_flush t h s⟩ y := by
  have := Pipeline.eq_sum_fin_of_reset_step_apply_of_flush (fun n (h : n < 32) => acc10 m c n (lt_trans h (by decide))) 8 (fun _ => (0 : EReal)) (term' m c)
    (fun t h y => by
      show acc10 m c (inRow t).val (inRow t).isLt y = _
      rw [acc10_first m c (inRow t) t.isLt h, pay5_term, pay4_at])
    (fun t h y => by
      show acc10 m c (inRow t).val (inRow t).isLt y = _
      rw [acc10_next m c (inRow t) t.isLt h, pay5_term]; rfl) t h y
  exact this.trans (zero_add _)

/-! ## The results -/

/-- The entry at row `r`, column `j` of a batch's residual `R` plus its activations `X` under the weight `W`. -/
def downAt {n : ℕ} (R : Vec Ideal ⟨2, ![n, 4096]⟩ .f32) (X : Vec Ideal ⟨2, ![n, 16384]⟩ .bf16) (W : Vec Ideal S16384x4096 .bf16) (r : Fin n) (j : Fin 4096) : EReal :=
  R (ix2 r j) + ∑ k : Fin 16384, X (ix2 r k) * W (ix2 k j)

/-- The long batch's result. -/
def G5 (c : Dev nD) : Vec Ideal S8192x4096 .f32 := fun y =>
  downAt (m ((c.tc : Thread nD τ).loc main_arg2)) (m ((c.tc : Thread nD τ).loc main_arg0)) (m ((c.tc : Thread nD τ).loc main_arg4)) (y 0) (y 1)

/-- The short batch's result. -/
def G6 (c : Dev nD) : Vec Ideal S256x4096 .f32 := fun y =>
  downAt (m ((c.tc : Thread nD τ).loc main_arg3)) (m ((c.tc : Thread nD τ).loc main_arg1)) (m ((c.tc : Thread nD τ).loc main_arg4)) (y 0) (y 1)

/-- What the last point of a contraction leaves in window 5's block is the part of the result the block is written to. -/
theorem point5 (c : Dev nD) (t : Fin cfg0.N) (h : t.val % 8 = 7) (r j : Fin 1024) :
    blk8 m c t.val t.isLt (ix2 r j) = G5 m c ((win0_5.blk t).view.emb (ix2 r j)) := by
  rw [blk8_sums, if_pos h, pay3_at, sums_last m c t h]
  unfold G5 downAt term prodAt
  refine congrArg₂ (· + ·) ?_ ?_
  · blk_ext [iblk, V, index_r t, index_o t]
  · refine Fin.sum_mul_add_congr fun s k hl => ?_
    obtain ⟨p, hp⟩ : ∃ p : Fin cfg0.N, p = ⟨8 * (t.val / 8) + s.val, Pipeline.run_point_lt_of_flush t h s⟩ := ⟨_, rfl⟩
    have hv : p.val = 8 * (t.val / 8) + s.val := congrArg Fin.val hp
    rw [← hp]
    congr 1
    · blk_ext [iblk, V, index_x p, index_o t]
    · blk_ext [iblk, V, index_w p, index_o t]

/-- Window 5's array after the run. -/
theorem array5 (c : Dev nD) : (dats m 0 c).arrAt 5 cfg0.N = G5 m c := by
  refine (dats m 0 c).arrAt_eq_of_covers 5 _ (by decide +kernel) fun t hf y => ?_
  blk_simp
  rw [after0_5]
  have e : y = ix2 (y 0) (y 1) := eq_ix2 y
  rw [e]
  exact point5 m c t ((flush0_5 t).mp hf) (y 0) (y 1)

/-- What the last point of a contraction of the first row leaves in window 6's block is the part of the result the block is
    written to after point `t`. -/
theorem point6 (c : Dev nD) (t : Fin cfg0.N) (u : Fin 32) (h : u.val % 8 = 7) (ht : u.val / 8 = min (t.val / 8) 3) (r : Fin 256) (j : Fin 1024) :
    k0_pay6 (acc10 m c (inRow u).val (inRow u).isLt) (iblk m c 4 (inRow u)) (ix2 r j) = G6 m c ((win0_6.blk t).view.emb (ix2 r j)) := by
  rw [pay6_at, acc10_last m c u h]
  unfold G6 downAt term' prodAt
  have hu : (inRow u).val = u.val := rfl
  refine congrArg₂ (· + ·) ?_ ?_
  · blk_ext [iblk, V, index_r' (inRow u), index_q t]
  · refine Fin.sum_mul_add_congr fun s k hl => ?_
    obtain ⟨p, hp⟩ : ∃ p : Fin 32, p = ⟨8 * (u.val / 8) + s.val, Pipeline.run_point_lt_of_flush u h s⟩ := ⟨_, rfl⟩
    have hv : (inRow p).val = 8 * (u.val / 8) + s.val := congrArg Fin.val hp
    have hx : win0_3.index (inRow p) = ![0, s.val] := by
      rw [index_x', if_pos (show (inRow p).val < 32 from p.isLt), hv, show (8 * (u.val / 8) + s.val) % 8 = s.val by omega]
    rw [← hp]
    congr 1
    · blk_ext [iblk, V, hx, index_q t]
    · blk_ext [iblk, V, index_w (inRow p), index_q t]

/-- Window 6's array after the run. -/
theorem array6 (c : Dev nD) : (dats m 0 c).arrAt 6 cfg0.N = G6 m c := by
  refine (dats m 0 c).arrAt_eq_of_covers 6 _ (by decide +kernel) fun t hf y => ?_
  have hf' := of_decide_eq_true ((flush0_6 t).symm.trans hf)
  blk_simp
  rw [after0_6]
  have e : y = ix2 (y 0) (y 1) := eq_ix2 y
  rw [e]
  exact point6 m c t ⟨min t.val 31, by omega⟩ (by simp only; omega) (by simp only; omega) (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G5 m c
      ∧ r.2.mem ((c.tc : Thread nD τ).loc main_v0_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (array5 m c), ((h.1 c).1 6).trans (array6 m c), h.2.1 c⟩)
    (θ_run_and (run_main m ρ) (frame m ρ))

end Cert.Kernel3Ideal.Gen

end
-- ==== Proof.Down.Reference.lean ====
/- The MLP's second product and the residual as the reference computes them, and the claim that the kernel computes the same. -/
module

public import proofs.«01_k».proof.Proof.Down.Value
public import proofs.«01_k».proof.Proof.Gen.Reference3Ideal.Run
public import proofs.«01_k».proof.Proof.Gen.Kernel3
public import proofs.«01_k».proof.Defs

@[expose] public section

set_option maxRecDepth 16384

noncomputable section

namespace Cert.Proof.Down

open Idealize.ShloMosaic Idealize.ShloMosaic.TcCoe Idealize.ShloMosaic.Tactic
open Idealize.SL Idealize.SL.Sem
open Cert.Kernel3Ideal.Gen (G5 G6 downAt)

/-- The compiled kernel's frame, spelt of the idealized text read at the machine's words. -/
theorem frame_same : Cert.quiescent_Kernel3 (hKernel3 := Cert.Kernel3.Gen.facts)
    = (∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)) := by
  sl_kernel_rfl

theorem frame_kernel : Cert.quiescent_Kernel3 (hKernel3 := Cert.Kernel3.Gen.facts) :=
  frame_same.mpr fun m ρ _ => Cert.Kernel3Ideal.Gen.frame (F := Bits) m ρ

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

theorem values : Cert.algebraic_Kernel3Ideal_Reference3Ideal (hKernel3Ideal := Cert.Kernel3Ideal.Gen.facts) (hReference3Ideal := Cert.Reference3Ideal.Gen.facts) := by
  intro m g m' g' _ hargs
  refine ⟨fun c => G5 m c, fun c => G6 m c, Cert.Kernel3Ideal.Gen.results m g, ?_⟩
  refine (θ_run Cert.Reference3Ideal.defs _ _).mono (fun r h c => ?_) (Cert.Reference3Ideal.Value.run m' g')
  obtain ⟨a0, a1, a2, a3, a4⟩ := hargs c
  refine ⟨(h c).1.trans ?_, (h c).2.1.trans ?_, (h c).2.2⟩
  · rw [a0, a2, a4]
    funext y
    pointwise [G5, downAt]
  · rw [a1, a3, a4]
    funext y
    pointwise [G6, downAt]

end Cert.Proof.Down

end
-- ==== Proof.Heads.lean ====
/- Blocks laid out by head: the eight heads of a projection, stored once as an array with an axis for
   the head and once as an array whose columns are the heads side by side. -/
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.VecWindow

@[expose] public section

noncomputable section

namespace Cert.Proof.Heads

open Idealize.ShloMosaic Idealize.ShloMosaic.TcCoe Idealize.ShloMosaic.Tactic

variable {F : FTy → Type} [FloatOps F] {n : ℕ}

/-- One head's columns. -/
abbrev Block (F : FTy → Type) (n : ℕ) : Type := (⟨2, ![n, 128]⟩ : Shape).Idx → F .f32

/-- The eight heads, with an axis for the head. -/
def byHead (hd : Fin 8 → Block F n) : (⟨3, ![n, 8, 128]⟩ : Shape).Idx → F .f32 :=
  fun y => hd (y 1) (ix2 (y 0) (y 2))

/-- The eight heads side by side, rounded to the narrower format. -/
def byCol (hd : Fin 8 → Block F n) : (⟨2, ![n, 1024]⟩ : Shape).Idx → F .bf16 :=
  fun y => truncf .bf16 (hd ⟨(y 1).val / 128, by have : (y 1).val < 1024 := (y 1).isLt; omega⟩) (by decide) (ix2 (y 0) ⟨(y 1).val % 128, Nat.mod_lt _ (by decide)⟩)

theorem half_inb {k : ℕ} (b : Fin 2) : ∀ a, ![0, 512 * b.val] a + ![k, 512] a ≤ (⟨2, ![k, 1024]⟩ : Shape).size a
  | ⟨0, _⟩ => show 0 + k ≤ k by omega
  | ⟨1, _⟩ => show 512 * b.val + 512 ≤ 1024 by have := b.isLt; omega

/-- The left or the right half of the columns. -/
def halfCols {α : Type} {k : ℕ} (w : (⟨2, ![k, 1024]⟩ : Shape).Idx → α) (b : Fin 2) : (⟨2, ![k, 512]⟩ : Shape).Idx → α :=
  fun y => w ((Rect.unit (s := ⟨2, ![k, 1024]⟩) ![0, 512 * b.val] ![k, 512] (half_inb b)).idx y)

theorem halfCols_at {α : Type} {k : ℕ} (w : (⟨2, ![k, 1024]⟩ : Shape).Idx → α) (b : Fin 2) (r : Fin k) (j : Fin 512) (j' : Fin 1024) (h : j'.val = 512 * b.val + j.val) :
    halfCols w b (ix2 r j) = w (ix2 r j') := by
  refine congrArg w (funext fun d => Fin.ext ?_)
  match d with
  | ⟨0, _⟩ => show 0 + 1 * r.val = r.val; omega
  | ⟨1, _⟩ => show 512 * b.val + 1 * j.val = j'.val; omega

theorem slices_head (h : Fin 8) : (⟨2, ![n, 512]⟩ : Shape).Slices ![0, 128 * (h.val % 4)] ⟨2, ![n, 128]⟩ := by
  refine ⟨rfl, fun a => ?_⟩
  match a with
  | ⟨0, _⟩ => show 0 + n ≤ n; omega
  | ⟨1, _⟩ => show 128 * (h.val % 4) + 128 ≤ 512; omega

/-- Head `h` out of the half it lies in. -/
def headOf (z : Fin 2 → (⟨2, ![n, 512]⟩ : Shape).Idx → F .f32) (h : Fin 8) : Block F n :=
  extractStridedSlice ⟨2, ![n, 128]⟩ ![0, 128 * (h.val % 4)] (z ⟨h.val / 4, by have := h.isLt; omega⟩) (slices_head h)

theorem headOf_at (z : Fin 2 → (⟨2, ![n, 512]⟩ : Shape).Idx → F .f32) (h : Fin 8) (r : Fin n) (d : Fin 128) :
    headOf z h (ix2 r d) = z ⟨h.val / 4, by have := h.isLt; omega⟩ (ix2 r ⟨128 * (h.val % 4) + d.val, by have := d.isLt; omega⟩) := by
  unfold headOf
  refine congrArg (z ⟨h.val / 4, by have := h.isLt; omega⟩) (funext fun a => Fin.ext ?_)
  match a with
  | ⟨0, _⟩ => show 0 + r.val = r.val; omega
  | ⟨1, _⟩ => rfl

theorem cast_at (v : Block F n) (hc : (⟨2, ![n, 128]⟩ : Shape).ShapeCasts ⟨3, ![n, 1, 128]⟩) (a : Fin n) (b : Fin 1) (d : Fin 128) :
    (shapeCast ⟨3, ![n, 1, 128]⟩ v hc : (⟨3, ![n, 1, 128]⟩ : Shape).Idx → F .f32) (ix3 a b d) = v (ix2 a d) :=
  shapeCast_apply _ _ _ _ (by
    rw [Shape.rowMajor_val_three, Shape.rowMajor_val_two]
    show a.val * 128 + d.val = (a.val * 1 + b.val) * 128 + d.val
    have := b.isLt; omega)

theorem byHead_of (hd : Fin 8 → Block F n) (y : (⟨3, ![n, 8, 128]⟩ : Shape).Idx) (h : Fin 8) (a : Fin n) (d : Fin 128)
    (e0 : (y 0).val = a.val) (e1 : (y 1).val = h.val) (e2 : (y 2).val = d.val) : byHead hd y = hd h (ix2 a d) := by
  obtain ⟨y0, y1, y2, rfl⟩ : ∃ (y0 : Fin n) (y1 : Fin 8) (y2 : Fin 128), y = ix3 y0 y1 y2 := ⟨y 0, y 1, y 2, eq_ix3 y⟩
  obtain rfl : y0 = a := Fin.ext e0
  obtain rfl : y1 = h := Fin.ext e1
  obtain rfl : y2 = d := Fin.ext e2
  rfl

theorem byCol_of (hd : Fin 8 → Block F n) (y : (⟨2, ![n, 1024]⟩ : Shape).Idx) (h : Fin 8) (a : Fin n) (d : Fin 128) (hb)
    (e0 : (y 0).val = a.val) (e1 : (y 1).val = 128 * h.val + d.val) : byCol hd y = (truncf .bf16 (hd h) hb : (⟨2, ![n, 128]⟩ : Shape).Idx → F .bf16) (ix2 a d) := by
  obtain ⟨y0, y1, rfl⟩ : ∃ (y0 : Fin n) (y1 : Fin 1024), y = ix2 y0 y1 := ⟨y 0, y 1, eq_ix2 y⟩
  obtain rfl : y0 = a := Fin.ext e0
  have e1 : y1.val = 128 * h.val + d.val := e1
  have hd' := d.isLt
  have hh : (⟨y1.val / 128, by have := y1.isLt; omega⟩ : Fin 8) = h := Fin.ext (by show y1.val / 128 = h.val; omega)
  have hm : (⟨y1.val % 128, Nat.mod_lt _ (by decide)⟩ : Fin 128) = d := Fin.ext (by show y1.val % 128 = d.val; omega)
  show (truncf .bf16 (hd ⟨y1.val / 128, _⟩) _ : (⟨2, ![n, 128]⟩ : Shape).Idx → F .bf16) (ix2 y0 ⟨y1.val % 128, _⟩) = _
  rw [hh, hm]

/-- A store of one head through its half of the block with an axis for the head. -/
theorem byHead_piece (hd : Fin 8 → Block F n) (h : Fin 8) {p q : ℕ} (hpq : p + q = h.val) (hc : (⟨2, ![n, 128]⟩ : Shape).ShapeCasts ⟨3, ![n, 1, 128]⟩)
    (i1 : ∀ a, ![0, p, 0] a + ![n, 4, 128] a ≤ (⟨3, ![n, 8, 128]⟩ : Shape).size a) (i2 : ∀ a, ![0, q, 0] a + ![n, 1, 128] a ≤ (⟨3, ![n, 4, 128]⟩ : Shape).size a)
    (h0) (x : (⟨3, ![n, 1, 128]⟩ : Shape).Idx) :
    (shapeCast ⟨3, ![n, 1, 128]⟩ (hd h) hc : (⟨3, ![n, 1, 128]⟩ : Shape).Idx → F .f32) x
      = byHead hd (((Rect.unit (s := ⟨3, ![n, 8, 128]⟩) ![0, p, 0] ![n, 4, 128] i1).within (Rect.unit (s := ⟨3, ![n, 4, 128]⟩) ![0, q, 0] ![n, 1, 128] i2) h0).emb x) := by
  obtain ⟨a, b, d, rfl⟩ : ∃ (a : Fin n) (b : Fin 1) (d : Fin 128), x = ix3 a b d := ⟨x 0, x 1, x 2, eq_ix3 x⟩
  rw [cast_at]
  refine (byHead_of hd _ h a d ?_ ?_ ?_).symm
  · show (0 + 0) + 1 * a.val = a.val; omega
  · show (p + q) + 1 * b.val = h.val; have := b.isLt; omega
  · show (0 + 0) + 1 * d.val = d.val; omega

/-- A store of one head's columns, rounded. -/
theorem byCol_piece (hd : Fin 8 → Block F n) (h : Fin 8) {o : ℕ} (ho : o = 128 * h.val) (hb)
    (i1 : ∀ a, ![0, o] a + ![n, 128] a ≤ (⟨2, ![n, 1024]⟩ : Shape).size a) (x : (⟨2, ![n, 128]⟩ : Shape).Idx) :
    (truncf .bf16 (hd h) hb : (⟨2, ![n, 128]⟩ : Shape).Idx → F .bf16) x
      = byCol hd ((Rect.unit (s := ⟨2, ![n, 1024]⟩) ![0, o] ![n, 128] i1).emb x) := by
  obtain ⟨a, d, rfl⟩ : ∃ (a : Fin n) (d : Fin 128), x = ix2 a d := ⟨x 0, x 1, eq_ix2 x⟩
  subst ho
  refine (byCol_of hd _ h a d hb ?_ ?_).symm
  · show 0 + 1 * a.val = a.val; omega
  · show 128 * h.val + 1 * d.val = 128 * h.val + d.val; omega

/-- Column `128 * h + d` of the eight heads. -/
def colOf (h : Fin 8) (d : Fin 128) : Fin 1024 := ⟨128 * h.val + d.val, by have := h.isLt; have := d.isLt; omega⟩

/-- Over the extended reals the rounded copy holds the same entries. -/
theorem byCol_at (hd : Fin 8 → Block Ideal n) (g : Fin n → Fin 1024 → EReal) (hg : ∀ h r d, hd h (ix2 r d) = g r (colOf h d)) (r : Fin n) (j : Fin 1024) :
    byCol hd (ix2 r j) = g r j := by
  have hj := j.isLt
  refine (hg ⟨j.val / 128, by omega⟩ r ⟨j.val % 128, Nat.mod_lt _ (by decide)⟩).trans (congrArg (g r) (Fin.ext ?_))
  show 128 * (j.val / 128) + j.val % 128 = j.val
  omega

/-- Two halves of the columns side by side. -/
def byHalf {α : Type} (z : Fin 2 → (⟨2, ![n, 512]⟩ : Shape).Idx → α) : (⟨2, ![n, 1024]⟩ : Shape).Idx → α :=
  fun y => z ⟨(y 1).val / 512, by have : (y 1).val < 1024 := (y 1).isLt; omega⟩ (ix2 (y 0) ⟨(y 1).val % 512, Nat.mod_lt _ (by decide)⟩)

/-- A store of one half. -/
theorem byHalf_piece {α : Type} (z : Fin 2 → (⟨2, ![n, 512]⟩ : Shape).Idx → α) (b : Fin 2) {o : ℕ} (ho : o = 512 * b.val)
    (i1 : ∀ a, ![0, o] a + ![n, 512] a ≤ (⟨2, ![n, 1024]⟩ : Shape).size a) (x : (⟨2, ![n, 512]⟩ : Shape).Idx) :
    z b x = byHalf z ((Rect.unit (s := ⟨2, ![n, 1024]⟩) ![0, o] ![n, 512] i1).emb x) := by
  obtain ⟨a, d, rfl⟩ : ∃ (a : Fin n) (d : Fin 512), x = ix2 a d := ⟨x 0, x 1, eq_ix2 x⟩
  subst ho
  have hd := d.isLt
  have hb := b.isLt
  have e : (Rect.unit (s := ⟨2, ![n, 1024]⟩) ![0, 512 * b.val] ![n, 512] i1).emb (ix2 a d) = ix2 a ⟨512 * b.val + d.val, by omega⟩ := by
    refine funext fun k => Fin.ext ?_
    match k with
    | ⟨0, _⟩ => show 0 + 1 * a.val = a.val; omega
    | ⟨1, _⟩ => show 512 * b.val + 1 * d.val = 512 * b.val + d.val; omega
  rw [e]
  have e1 : (⟨(512 * b.val + d.val) / 512, by omega⟩ : Fin 2) = b := Fin.ext (by show (512 * b.val + d.val) / 512 = b.val; omega)
  have e2 : (⟨(512 * b.val + d.val) % 512, Nat.mod_lt _ (by decide)⟩ : Fin 512) = d := Fin.ext (by show (512 * b.val + d.val) % 512 = d.val; omega)
  show z b (ix2 a d) = z ⟨(512 * b.val + d.val) / 512, _⟩ (ix2 a ⟨(512 * b.val + d.val) % 512, _⟩)
  rw [e1, e2]

end Cert.Proof.Heads
end
-- ==== Proof.Values.Run.lean ====
/- The attention's values, one grid point: what the body leaves in the four output blocks. -/
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- The values' heads of the long batch's block. -/
def heads (x : Vec F S1024x4096 .bf16) (w : Vec F S4096x1024 .bf16) : Fin 8 → Block F 1024 :=
  headOf fun b => k0_pay24 x (halfCols w b)

/-- The values' heads of the other batch's block. -/
def headsS (x : Vec F S256x4096 .bf16) (w : Vec F S4096x1024 .bf16) : Fin 8 → Block F 256 :=
  headOf fun b => k0_pay5 x (halfCols w b)

set_option maxHeartbeats 4000000 in
/-- The first point: the blocks of both batches are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x8x128 .f32) (h6 : a6.IsWhole) (a7 : Memref sig .tc .vmem S1024x1024 .bf16) (h7 : a7.IsWhole)
    (a8 : Memref sig .tc .vmem S256x8x128 .f32) (h8 : a8.IsWhole) (a9 : Memref sig .tc .vmem S256x1024 .bf16) (h9 : a9.IsWhole)
    (hc : k0_cond1 i = 1#1) (x : Vec F S1024x4096 .bf16) (w : Vec F S4096x1024 .bf16) (x' : Vec F S256x4096 .bf16) (E : Set ℕ) (K : PUnit → sProp 𝕄) :
    iprop(owns (c : Thread nD τ) a3 fullShare x ∗ owns (c : Thread nD τ) a4 fullShare w ∗ owns (c : Thread nD τ) a5 fullShare x' ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
        ∗ (iprop(owns (c : Thread nD τ) a3 fullShare x ∗ owns (c : Thread nD τ) a4 fullShare w ∗ owns (c : Thread nD τ) a5 fullShare x' ∗ owns (c : Thread nD τ) a6 fullShare (byHead (heads x w)) ∗ owns (c : Thread nD τ) a7 fullShare (byCol (heads x w)) ∗ owns (c : Thread nD τ) a8 fullShare (byHead (headsS x' w)) ∗ owns (c : Thread nD τ) a9 fullShare (byCol (headsS x' w))) -∗ K ⟨⟩))
      ⊢ wp frame (wpE (defs₀ (F := F)) Variants.none c none) E (cc0_proj_v i a3 h3 a4 h4 a5 h5 a6 h6 a7 h7 a8 h8 a9 h9) K := by
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    funext y
    refine View.read_writes_apply_of_pieces (Val := Elt F) (e := .f32) _ _ (byHead (heads x w)) _ ?_ y (View.cover_of_tiledL (s := S1024x8x128) _ ![1024, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (heads x w) 7 (by decide) (by decide) (by decide) (by decide) (fun _ => rfl) z, byHead_piece (heads x w) 6 (by decide) (by decide) (by decide) (by decide) (fun _ => rfl) z, byHead_piece (heads x w) 5 (by decide) (by decide) (by decide) (by decide) (fun _ => rfl) z, byHead_piece (heads x w) 4 (by decide) (by decide) (by decide) (by decide) (fun _ => rfl) z, byHead_piece (heads x w) 3 (by decide) (by decide) (by decide) (by decide) (fun _ => rfl) z, byHead_piece (heads x w) 2 (by decide) (by decide) (by decide) (by decide) (fun _ => rfl) z, byHead_piece (heads x w) 1 (by decide) (by decide) (by decide) (by decide) (fun _ => rfl) z, byHead_piece (heads x w) 0 (by decide) (by decide) (by decide) (by decide) (fun _ => rfl) z]
  isplitl [H4]
  · iexists _; isplitr
    swap; · iexact H4
    ipureintro
    frame_out
    funext y
    refine View.read_writes_apply_of_pieces (Val := Elt F) (e := .bf16) _ _ (byCol (heads x w)) _ ?_ y (View.cover_of_tiledL (s := S1024x1024) _ ![1024, 128] (by sl_kernel_rfl) y)
    sl_unfold_run_names
    intro p hp z
    simp only [List.mem_cons, List.not_mem_nil, _root_.or_false] at hp
    rcases hp with rfl | rfl | rfl | rfl | rfl | rfl | rfl | rfl
    exacts [byCol_piece (heads x w) 7 (by decide) (by decide) (by decide) z, byCol_piece (heads x w) 6 (by decide) (by decide) (by decide) z, byCol_piece (heads x w) 5 (by decide) (by decide) (by decide) z, byCol_piece (heads x w) 4 (by decide) (by decide) (by decide) z, byCol_piece (heads x w) 3 (by decide) (by decide) (by decide) z, byCol_piece (heads x w) 2 (by decide) (by decide) (by decide) z, byCol_piece (heads x w) 1 (by decide) (by decide) (by decide) z, byCol_piece (heads x w) 0 (by decide) (by decide) (by decide) z]
  isplitl [H5]
  · iexists _; isplitr
    swap; · iexact H5
    ipureintro
    frame_out
    funext y
    refine View.read_writes_apply_of_pieces (Val := Elt F) (e := .f32) _ _ (byHead (headsS x' w)) _ ?_ y (View.cover_of_tiledL (s := S256x8x128) _ ![256, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (headsS x' w) 7 (by decide) (by decide) (by decide) (by decide) (fun _ => rfl) z, byHead_piece (headsS x' w) 6 (by decide) (by decide) (by decide) (by decide) (fun _ => rfl) z, byHead_piece (headsS x' w) 5 (by decide) (by decide) (by decide) (by decide) (fun _ => rfl) z, byHead_piece (headsS x' w) 4 (by decide) (by decide) (by decide) (by decide) (fun _ => rfl) z, byHead_piece (headsS x' w) 3 (by decide) (by decide) (by decide) (by decide) (fun _ => rfl) z, byHead_piece (headsS x' w) 2 (by decide) (by decide) (by decide) (by decide) (fun _ => rfl) z, byHead_piece (headsS x' w) 1 (by decide) (by decide) (by decide) (by decide) (fun _ => rfl) z, byHead_piece (headsS x' w) 0 (by decide) (by decide) (by decide) (by decide) (fun _ => rfl) z]
  iexists _; isplitr
  swap; · iexact H6
  ipureintro
  frame_out
  funext y
  refine View.read_writes_apply_of_pieces (Val := Elt F) (e := .bf16) _ _ (byCol (headsS x' w)) _ ?_ y (View.cover_of_tiledL (s := S256x1024) _ ![256, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (headsS x' w) 7 (by decide) (by decide) (by decide) z, byCol_piece (headsS x' w) 6 (by decide) (by decide) (by decide) z, byCol_piece (headsS x' w) 5 (by decide) (by decide) (by decide) z, byCol_piece (headsS x' w) 4 (by decide) (by decide) (by decide) z, byCol_piece (headsS x' w) 3 (by decide) (by decide) (by decide) z, byCol_piece (headsS x' w) 2 (by decide) (by decide) (by decide) z, byCol_piece (headsS x' w) 1 (by decide) (by decide) (by decide) z, byCol_piece (headsS x' w) 0 (by decide) (by decide) (by decide) z]

set_option maxHeartbeats 4000000 in
/-- A later point: only the long batch's blocks are stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x8x128 .f32) (h6 : a6.IsWhole) (a7 : Memref sig .tc .vmem S1024x1024 .bf16) (h7 : a7.IsWhole)
    (a8 : Memref sig .tc .vmem S256x8x128 .f32) (h8 : a8.IsWhole) (a9 : Memref sig .tc .vmem S256x1024 .bf16) (h9 : a9.IsWhole)
    (hc : ¬k0_cond1 i = 1#1) (x : Vec F S1024x4096 .bf16) (w : Vec F S4096x1024 .bf16) (E : Set ℕ) (K : PUnit → sProp 𝕄) :
    iprop(owns (c : Thread nD τ) a3 fullShare x ∗ owns (c : Thread nD τ) a4 fullShare w ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a6 fullShare (byHead (heads x w)) ∗ owns (c : Thread nD τ) a7 fullShare (byCol (heads x w))) -∗ K ⟨⟩))
      ⊢ wp frame (wpE (defs₀ (F := F)) Variants.none c none) E (cc0_proj_v i a3 h3 a4 h4 a5 h5 a6 h6 a7 h7 a8 h8 a9 h9) K := by
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%d3, %f3, -, H3⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr
    swap; · iexact H2
    ipureintro
    frame_out
    funext y
    refine View.read_writes_apply_of_pieces (Val := Elt F) (e := .f32) _ _ (byHead (heads x w)) _ ?_ y (View.cover_of_tiledL (s := S1024x8x128) _ ![1024, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (heads x w) 7 (by decide) (by decide) (by decide) (by decide) (fun _ => rfl) z, byHead_piece (heads x w) 6 (by decide) (by decide) (by decide) (by decide) (fun _ => rfl) z, byHead_piece (heads x w) 5 (by decide) (by decide) (by decide) (by decide) (fun _ => rfl) z, byHead_piece (heads x w) 4 (by decide) (by decide) (by decide) (by decide) (fun _ => rfl) z, byHead_piece (heads x w) 3 (by decide) (by decide) (by decide) (by decide) (fun _ => rfl) z, byHead_piece (heads x w) 2 (by decide) (by decide) (by decide) (by decide) (fun _ => rfl) z, byHead_piece (heads x w) 1 (by decide) (by decide) (by decide) (by decide) (fun _ => rfl) z, byHead_piece (heads x w) 0 (by decide) (by decide) (by decide) (by decide) (fun _ => rfl) z]
  iexists _; isplitr
  swap; · iexact H3
  ipureintro
  frame_out
  funext y
  refine View.read_writes_apply_of_pieces (Val := Elt F) (e := .bf16) _ _ (byCol (heads x w)) _ ?_ y (View.cover_of_tiledL (s := S1024x1024) _ ![1024, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (heads x w) 7 (by decide) (by decide) (by decide) z, byCol_piece (heads x w) 6 (by decide) (by decide) (by decide) z, byCol_piece (heads x w) 5 (by decide) (by decide) (by decide) z, byCol_piece (heads x w) 4 (by decide) (by decide) (by decide) z, byCol_piece (heads x w) 3 (by decide) (by decide) (by decide) z, byCol_piece (heads x w) 2 (by decide) (by decide) (by decide) z, byCol_piece (heads x w) 1 (by decide) (by decide) (by decide) z, byCol_piece (heads x w) 0 (by decide) (by decide) (by decide) z]

end Cert.Kernel4Ideal.Gen
end
-- ==== Proof.Values.Frame.lean ====
/- The attention's values, the whole call: what every point leaves, and the launch's run.

   The short batch's blocks are stored at the first point only; they stay in their buffers, and the last point writes
   them back. -/
module

public import proofs.«01_k».proof.Proof.Values.Run

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's blocks are stored -/

theorem first_iff : ∀ t : Fin cfg0.N, k0_cond1 (grid0.coords t) = 1#1 ↔ t.val = 0 :=
  (by decide +kernel : ∀ t : Fin grid0.N, k0_cond1 (grid0.coords t) = 1#1 ↔ t.val = 0)

/-- A window idle but at the first point, and written back after the last. -/
structure Tail (w : Fin cfg0.W) : Prop where
  out : (cfg0.win w).isOut = true
  whole : ∀ (i : cfg0.grid.Coords) a, (cfg0.win w).clip i a = none
  idle : ∀ t : Fin cfg0.N, cfg0.idle w (cfg0.grid.coords t) = !decide (t.val = 0)
  flush : ∀ t : Fin cfg0.N, (cfg0.win w).flush t = true ↔ t.val % 8 = 7

theorem idle_of (t : Fin cfg0.N) : (!(k0_cond1 (grid0.coords t) == 1#1)) = !decide (t.val = 0) := by
  have h := first_iff t
  congr 1
  exact Bool.eq_iff_iff.mpr (by rw [beq_iff_eq, decide_eq_true_iff]; exact h)

theorem tail5 : Tail 5 := ⟨rfl, fun _ _ => rfl, idle_of, flush0_5⟩
theorem tail6 : Tail 6 := ⟨rfl, fun _ _ => rfl, idle_of, flush0_6⟩

/-- From the second point on the buffer holds the stored block. -/
theorem fresh_tail {w : Fin cfg0.W} (h : Tail w) (t : Fin cfg0.N) : cfg0.fresh w t.val = decide (t.val = 0) := by
  have ht : t.val < 8 := lt_of_lt_of_eq t.isLt N_0
  rw [Cfg.fresh_tab cfg0 w (fun n => decide (n = 0 ∨ n = 8)) (by decide) (fun t => by
    have ht : t.val < 8 := lt_of_lt_of_eq t.isLt N_0
    rw [h.idle t, Bool.eq_iff_iff]
    simp only [decide_eq_true_iff, Bool.or_eq_true, Bool.and_eq_true, Bool.not_eq_true', decide_eq_false_iff_not, h.flush t]
    omega) _ (Nat.le_of_lt t.isLt)]
  exact decide_eq_decide.mpr (by omega)

/-- The first point, at which they are stored. -/
def point0 (t : Fin cfg0.N) : Fin cfg0.N := ⟨0, lt_of_le_of_lt (Nat.zero_le _) t.isLt⟩

theorem point0_first (t : Fin cfg0.N) (h : t.val = 0) : point0 t = t := Fin.ext h.symm

/-! ## The pipeline's proof data -/

/-- After the body at point `t`: the inputs' buffers at their blocks, the long batch's outputs at its heads, the short
    batch's at the heads the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => byHead (heads (iblk m c 0 t) (iblk m c 1 t))
    | ⟨4, _⟩ => byCol (heads (iblk m c 0 t) (iblk m c 1 t))
    | ⟨5, _⟩ => byHead (headsS (iblk m c 2 (point0 t)) (iblk m c 1 (point0 t)))
    | ⟨6, _⟩ => byCol (headsS (iblk m c 2 (point0 t)) (iblk m c 1 (point0 t)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = byHead (heads (iblk m c 0 t) (iblk m c 1 t)) := by dsimp only [dats]
theorem after0_4 (c : Dev nD) (t : Fin cfg0.N) : (dats m 0 c).after 4 t = byCol (heads (iblk m c 0 t) (iblk m c 1 t)) := by dsimp only [dats]
theorem after0_5 (c : Dev nD) (t : Fin cfg0.N) : (dats m 0 c).after 5 t = byHead (headsS (iblk m c 2 (point0 t)) (iblk m c 1 (point0 t))) := by dsimp only [dats]
theorem after0_6 (c : Dev nD) (t : Fin cfg0.N) : (dats m 0 c).after 6 t = byCol (headsS (iblk m c 2 (point0 t)) (iblk m c 1 (point0 t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point a buffer of the short batch already holds what it is to be left with. -/
theorem before_tail (c : Dev nD) {w : Fin cfg0.W} (hw : Tail w) (hc : ∀ t t', (dats m 0 c).after w t = (dats m 0 c).after w t') (t : Fin cfg0.N) (h : ¬t.val = 0) (d) :
    (dats m 0 c).before w t d = (dats m 0 c).after w t := by
  rw [(dats m 0 c).before_out_traj w hw.out hw.whole (fun t _ _ _ => hc _ _) t.val t rfl d, fresh_tail hw t, decide_eq_false h,
    if_neg Bool.false_ne_true]
  exact hc _ _

theorem before0_5 (c : Dev nD) (t : Fin cfg0.N) (h : ¬t.val = 0) (d) : (dats m 0 c).before 5 t d = (dats m 0 c).after 5 t :=
  before_tail m c tail5 (fun t t' => by rw [after0_5, after0_5]; rfl) t h d
theorem before0_6 (c : Dev nD) (t : Fin cfg0.N) (h : ¬t.val = 0) (d) : (dats m 0 c).before 6 t d = (dats m 0 c).after 6 t :=
  before_tail m c tail6 (fun t t' => by rw [after0_6, after0_6]; rfl) t h d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A buffer that is never idle is left at what the point computes. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a later point a buffer of the short batch, left as found, is left as it should be. -/
theorem leaves_later (c : Dev nD) {w : Fin cfg0.W} (hw : Tail w) (t : Fin cfg0.N) (h : ¬t.val = 0) (hb : ∀ d, (dats m 0 c).before w t d = (dats m 0 c).after w t) :
    owns (c : Thread nD τ) ((cfg0.win w).stage (cfg0.slots t w)) fullShare ((dats m 0 c).after w t) ⊢ (dats m 0 c).leavesExact w t := by
  have hi : cfg0.idle w (cfg0.grid.coords t) = true := (hw.idle t).trans (by rw [decide_eq_false h]; rfl)
  cases hf : (cfg0.win w).flush t
  · rw [Dat.leavesExact_idle (dats m 0 c) w t hi hf]
    simp only [hb]
    iintro H; iexists fun _ => Classical.choice inferInstance; iexact H
  · unfold Dat.leavesExact; rw [hi, hf]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, leaves_live m c 4 t rfl, after0_0, after0_1, after0_2, after0_3, after0_4]
  by_cases h : t.val = 0
  · rw [leaves_live m c 5 t ((tail5.idle t).trans (by rw [decide_eq_true h]; rfl)), leaves_live m c 6 t ((tail6.idle t).trans (by rw [decide_eq_true h]; rfl)), after0_5, after0_6, point0_first t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_5 m c t h, before0_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun hc => h ((first_iff t).mp hc)) (iblk m c 0 t) (iblk m c 1 t) Set.univ _)
    isplitl [H0]; · iexact H0
    isplitl [H1]; · iexact H1
    isplitl [H3]; · iexists _; iexact H3
    isplitl [H4]; · iexists _; iexact H4
    iintro ⟨H0, H1, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_later m c tail5 t h (before0_5 m c t h))
      iexact H5
    iapply (leaves_later m c tail6 t h (before0_6 m c t h))
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel4Ideal.Gen

end
-- ==== Proof.Values.Value.lean ====
/- The attention's values: what all four result arrays hold, entry by entry. -/
module

public import proofs.«01_k».proof.Proof.Values.Frame
public import Idealize.ShloMosaic.Lib.Pipeline.ValueKit.Point
public import Idealize.ShloMosaic.Lib.Pipeline.Covers

@[expose] public section

set_option maxRecDepth 16384

noncomputable section

namespace Cert.Kernel4Ideal.Gen

open Idealize.ShloMosaic Idealize.ShloMosaic.TcCoe Idealize.ShloMosaic.Tactic
open Idealize.SL Idealize.SL.Sem

open Cert.Proof.Heads

variable (m : (ℓ : Loc nD τ sig) → Buf (Elt Ideal) ℓ) (ρ : Dev nD → PrngReg)

theorem pay24_at (x : Vec Ideal S1024x4096 .bf16) (w : Vec Ideal S4096x512 .bf16) (r : Fin 1024) (j : Fin 512) :
    k0_pay24 x w (ix2 r j) = ∑ k : Fin 4096, x (ix2 r k) * w (ix2 k j) := by
  pointwise [k0_pay24]

theorem pay5_at (x : Vec Ideal S256x4096 .bf16) (w : Vec Ideal S4096x512 .bf16) (r : Fin 256) (j : Fin 512) :
    k0_pay5 x w (ix2 r j) = ∑ k : Fin 4096, x (ix2 r k) * w (ix2 k j) := by
  pointwise [k0_pay5]

/-- A column of the head, as a column of the half it lies in. -/
theorem col_split (h : Fin 8) (d : Fin 128) : (colOf h d).val = 512 * (h.val / 4) + (128 * (h.val % 4) + d.val) := by
  show 128 * h.val + d.val = _
  omega

/-- The product of a block of rows with a block of columns, at a row and a column. -/
def dotAt {n : ℕ} (x : Vec Ideal ⟨2, ![n, 4096]⟩ .bf16) (w : Vec Ideal S4096x1024 .bf16) (r : Fin n) (j : Fin 1024) : EReal :=
  ∑ k : Fin 4096, x (ix2 r k) * w (ix2 k j)

theorem heads_at (x : Vec Ideal S1024x4096 .bf16) (w : Vec Ideal S4096x1024 .bf16) (h : Fin 8) (r : Fin 1024) (d : Fin 128) :
    heads x w h (ix2 r d) = dotAt x w r (colOf h d) := by
  unfold heads dotAt
  rw [headOf_at, pay24_at]
  exact Finset.sum_congr rfl fun k _ => congrArg (x (ix2 r k) * ·) (halfCols_at w _ k _ _ (col_split h d))

theorem headsS_at (x : Vec Ideal S256x4096 .bf16) (w : Vec Ideal S4096x1024 .bf16) (h : Fin 8) (r : Fin 256) (d : Fin 128) :
    headsS x w h (ix2 r d) = dotAt x w r (colOf h d) := by
  unfold headsS dotAt
  rw [headOf_at, pay5_at]
  exact Finset.sum_congr rfl fun k _ => congrArg (x (ix2 r k) * ·) (halfCols_at w _ k _ _ (col_split h d))

theorem index_x : ∀ t : Fin grid0.N, win0_0.index t = ![t.val, 0] := by decide +kernel
theorem index_w : ∀ t : Fin grid0.N, win0_1.index t = ![0, 3] := by decide +kernel
theorem index_s : ∀ t : Fin grid0.N, win0_2.index t = ![0, 0] := by decide +kernel
theorem index_3 : ∀ t : Fin grid0.N, win0_3.index t = ![t.val, 0, 0] := by decide +kernel
theorem index_4 : ∀ t : Fin grid0.N, win0_4.index t = ![t.val, 0] := by decide +kernel
theorem index_5 : ∀ t : Fin grid0.N, win0_5.index t = ![0, 0, 0] := by decide +kernel
theorem index_6 : ∀ t : Fin grid0.N, win0_6.index t = ![0, 0] := by decide +kernel

/-- The values of a batch `X` under the weight `W`: row `r`, column `j` of the value heads side by side. -/
def valAt {n : ℕ} (X : Vec Ideal ⟨2, ![n, 4096]⟩ .bf16) (W : Vec Ideal S4096x12288 .bf16) (r : Fin n) (j : Fin 1024) : EReal :=
  ∑ k : Fin 4096, X (ix2 r k) * W (ix2 k ⟨3072 + j.val, by have := j.isLt; omega⟩)

/-- The long batch's values, by head. -/
def G3 (c : Dev nD) : Vec Ideal S8192x8x128 .f32 := fun y =>
  valAt (m ((c.tc : Thread nD τ).loc main_arg0)) (m ((c.tc : Thread nD τ).loc main_arg2)) (y 0) (colOf (y 1) (y 2))

/-- The long batch's values, heads side by side. -/
def G4 (c : Dev nD) : Vec Ideal S8192x1024 .bf16 := fun y =>
  valAt (m ((c.tc : Thread nD τ).loc main_arg0)) (m ((c.tc : Thread nD τ).loc main_arg2)) (y 0) (y 1)

/-- The short batch's values, by head. -/
def G5 (c : Dev nD) : Vec Ideal S256x8x128 .f32 := fun y =>
  valAt (m ((c.tc : Thread nD τ).loc main_arg1)) (m ((c.tc : Thread nD τ).loc main_arg2)) (y 0) (colOf (y 1) (y 2))

/-- The short batch's values, heads side by side. -/
def G6 (c : Dev nD) : Vec Ideal S256x1024 .bf16 := fun y =>
  valAt (m ((c.tc : Thread nD τ).loc main_arg1)) (m ((c.tc : Thread nD τ).loc main_arg2)) (y 0) (y 1)

theorem point3 (c : Dev nD) (t : Fin cfg0.N) (r : Fin 1024) (h : Fin 8) (d : Fin 128) :
    byHead (heads (iblk m c 0 t) (iblk m c 1 t)) (ix3 r h d) = G3 m c ((win0_3.blk t).view.emb (ix3 r h d)) := by
  refine (heads_at _ _ h r d).trans ?_
  unfold G3 valAt dotAt
  refine Finset.sum_congr rfl fun k _ => congrArg₂ (· * ·) ?_ ?_
  · blk_ext [iblk, V, index_x t, index_3 t]
  · blk_ext [iblk, V, index_w t, index_3 t, colOf]

theorem point4 (c : Dev nD) (t : Fin cfg0.N) (r : Fin 1024) (j : Fin 1024) :
    byCol (heads (iblk m c 0 t) (iblk m c 1 t)) (ix2 r j) = G4 m c ((win0_4.blk t).view.emb (ix2 r j)) := by
  refine (byCol_at _ _ (heads_at _ _) r j).trans ?_
  unfold G4 valAt dotAt
  refine Finset.sum_congr rfl fun k _ => congrArg₂ (· * ·) ?_ ?_
  · blk_ext [iblk, V, index_x t, index_4 t]
  · blk_ext [iblk, V, index_w t, index_4 t]

theorem point5 (c : Dev nD) (t : Fin cfg0.N) (r : Fin 256) (h : Fin 8) (d : Fin 128) :
    byHead (headsS (iblk m c 2 (point0 t)) (iblk m c 1 (point0 t))) (ix3 r h d) = G5 m c ((win0_5.blk t).view.emb (ix3 r h d)) := by
  refine (headsS_at _ _ h r d).trans ?_
  unfold G5 valAt dotAt
  refine Finset.sum_congr rfl fun k _ => congrArg₂ (· * ·) ?_ ?_
  · blk_ext [iblk, V, index_s (point0 t), index_5 t]
  · blk_ext [iblk, V, index_w (point0 t), index_5 t, colOf]

theorem point6 (c : Dev nD) (t : Fin cfg0.N) (r : Fin 256) (j : Fin 1024) :
    byCol (headsS (iblk m c 2 (point0 t)) (iblk m c 1 (point0 t))) (ix2 r j) = G6 m c ((win0_6.blk t).view.emb (ix2 r j)) := by
  refine (byCol_at _ _ (headsS_at _ _) r j).trans ?_
  unfold G6 valAt dotAt
  refine Finset.sum_congr rfl fun k _ => congrArg₂ (· * ·) ?_ ?_
  · blk_ext [iblk, V, index_s (point0 t), index_6 t]
  · blk_ext [iblk, V, index_w (point0 t), index_6 t]

theorem array3 (c : Dev nD) : (dats m 0 c).arrAt 3 cfg0.N = G3 m c := by
  refine (dats m 0 c).arrAt_eq_of_covers 3 _ (by decide +kernel) fun t hf y => ?_
  blk_simp
  rw [after0_3]
  have e : y = ix3 (y 0) (y 1) (y 2) := eq_ix3 y
  rw [e]
  exact point3 m c t (y 0) (y 1) (y 2)

theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

theorem array5 (c : Dev nD) : (dats m 0 c).arrAt 5 cfg0.N = G5 m c := by
  refine (dats m 0 c).arrAt_eq_of_covers 5 _ (by decide +kernel) fun t hf y => ?_
  blk_simp
  rw [after0_5]
  have e : y = ix3 (y 0) (y 1) (y 2) := eq_ix3 y
  rw [e]
  exact point5 m c t (y 0) (y 1) (y 2)

theorem array6 (c : Dev nD) : (dats m 0 c).arrAt 6 cfg0.N = G6 m c := by
  refine (dats m 0 c).arrAt_eq_of_covers 6 _ (by decide +kernel) fun t hf y => ?_
  blk_simp
  rw [after0_6]
  have e : y = ix2 (y 0) (y 1) := eq_ix2 y
  rw [e]
  exact point6 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_v0_2) = G5 m c
      ∧ r.2.mem ((c.tc : Thread nD τ).loc main_v0_3) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (array3 m c), ((h.1 c).1 4).trans (array4 m c), ((h.1 c).1 5).trans (array5 m c), ((h.1 c).1 6).trans (array6 m c), (h.2.1 c).1, (h.2.1 c).2.1, (h.2.1 c).2.2⟩)
    (θ_run_and (run_main m ρ) (frame m ρ))

end Cert.Kernel4Ideal.Gen

end
-- ==== Proof.Values.Reference.lean ====
/- The attention's values as the reference computes them, and the claim that the kernel computes the same. -/
module

public import proofs.«01_k».proof.Proof.Values.Value
public import proofs.«01_k».proof.Proof.Gen.Reference4Ideal.Run
public import proofs.«01_k».proof.Proof.Gen.Kernel4
public import proofs.«01_k».proof.Defs

@[expose] public section

set_option maxRecDepth 16384

noncomputable section

namespace Cert.Proof.Values

open Idealize.ShloMosaic Idealize.ShloMosaic.TcCoe Idealize.ShloMosaic.Tactic
open Idealize.SL Idealize.SL.Sem
open Cert.Proof.Heads
open Cert.Kernel4Ideal.Gen (G3 G4 G5 G6 valAt)

/-- The compiled kernel's frame, spelt of the idealized text read at the machine's words. -/
theorem frame_same : Cert.quiescent_Kernel4 (hKernel4 := Cert.Kernel4.Gen.facts)
    = (∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)) := by
  sl_kernel_rfl

theorem frame_kernel : Cert.quiescent_Kernel4 (hKernel4 := Cert.Kernel4.Gen.facts) :=
  frame_same.mpr fun m ρ _ => Cert.Kernel4Ideal.Gen.frame (F := Bits) m ρ

theorem frame_ideal : Cert.quiescent_Kernel4Ideal (hKernel4Ideal := Cert.Kernel4Ideal.Gen.facts) := fun m ρ _ =>
  Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run m ρ)

theorem values : Cert.algebraic_Kernel4Ideal_Reference4Ideal (hKernel4Ideal := Cert.Kernel4Ideal.Gen.facts) (hReference4Ideal := Cert.Reference4Ideal.Gen.facts) := by
  intro m g m' g' _ hargs
  refine ⟨fun c => G3 m c, fun c => G4 m c, fun c => G5 m c, fun c => G6 m c, Cert.Kernel4Ideal.Gen.results m g, ?_⟩
  refine (θ_run Cert.Reference4Ideal.defs _ _).mono (fun r h c => ?_) (Cert.Reference4Ideal.Value.run m' g')
  obtain ⟨a0, a1, a2⟩ := hargs c
  refine ⟨(h c).1.trans ?_, (h c).2.1.trans ?_, (h c).2.2.1.trans ?_, (h c).2.2.2.1.trans ?_, (h c).2.2.2.2⟩
  · rw [a0, a2]
    funext y
    pointwise [G3, valAt, colOf]
    simp only [Nat.mul_comm 128]
  · rw [a0, a2]
    funext y
    pointwise [G4, valAt]
  · rw [a1, a2]
    funext y
    pointwise [G5, valAt, colOf]
    simp only [Nat.mul_comm 128]
  · rw [a1, a2]
    funext y
    pointwise [G6, valAt]

end Cert.Proof.Values

end
-- ==== Proof.Keys.Run.lean ====
/- The attention's keys, one grid point: what the body leaves in the four output blocks. -/
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- A head's columns over the root of the mean of their squares, row by row, times the gain. -/
def normBlock (v : FVec F S1024x128 .f32) (gb : FVec F S1x128 .f32) : FVec F S1024x128 .f32 :=
  mulf (mulf v (broadcastTo S1024x128 (rsqrt (addf (divf (shapeCast S1024x1 (multiReduction .add [1] S1024 (mulf v v) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128)) (broadcastTo S1024x128 gb broadcasts_S1x128_S1024x128)

/-- The same for the short batch. -/
def normBlockS (v : FVec F S256x128 .f32) (gb : FVec F S1x128 .f32) : FVec F S256x128 .f32 :=
  mulf (mulf v (broadcastTo S256x128 (rsqrt (addf (divf (shapeCast S256x1 (multiReduction .add [1] S256 (mulf v v) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)) (broadcastTo S256x128 gb broadcasts_S1x128_S256x128)

/-- The gain's heads. -/
def gains (g : Vec F S1x1024 .f32) : Fin 8 → Block F 1 :=
  headOf fun b => shapeCast S1x512 (halfCols g b) shapeCasts_S1x512_S1x512

/-- The keys' heads of the long batch's block. -/
def heads (x : Vec F S1024x4096 .bf16) (w : Vec F S4096x1024 .bf16) (g : Vec F S1x1024 .f32) : Fin 8 → Block F 1024 :=
  fun h => normBlock (headOf (fun b => k0_pay38 x (halfCols w b)) h) (gains g h)

/-- The keys' heads of the other batch's block. -/
def headsS (x : Vec F S256x4096 .bf16) (w : Vec F S4096x1024 .bf16) (g : Vec F S1x1024 .f32) : Fin 8 → Block F 256 :=
  fun h => normBlockS (headOf (fun b => k0_pay6 x (halfCols w b)) h) (gains g h)

set_option maxHeartbeats 4000000 in
/-- The first point: the blocks of both batches are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S1x1024 .f32) (h5 : a5.IsWhole) (a6 : Memref sig .tc .vmem S256x4096 .bf16) (h6 : a6.IsWhole) (a7 : Memref sig .tc .vmem S1024x8x128 .f32) (h7 : a7.IsWhole)
    (a8 : Memref sig .tc .vmem S1024x1024 .bf16) (h8 : a8.IsWhole) (a9 : Memref sig .tc .vmem S256x8x128 .f32) (h9 : a9.IsWhole) (a10 : Memref sig .tc .vmem S256x1024 .bf16) (h10 : a10.IsWhole)
    (hc : k0_cond1 i = 1#1) (x : Vec F S1024x4096 .bf16) (w : Vec F S4096x1024 .bf16) (g : Vec F S1x1024 .f32) (x' : Vec F S256x4096 .bf16) (E : Set ℕ) (K : PUnit → sProp 𝕄) :
    iprop(owns (c : Thread nD τ) a3 fullShare x ∗ owns (c : Thread nD τ) a4 fullShare w ∗ owns (c : Thread nD τ) a5 fullShare g ∗ owns (c : Thread nD τ) a6 fullShare x' ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a3 fullShare x ∗ owns (c : Thread nD τ) a4 fullShare w ∗ owns (c : Thread nD τ) a5 fullShare g ∗ owns (c : Thread nD τ) a6 fullShare x' ∗ owns (c : Thread nD τ) a7 fullShare (byHead (heads x w g)) ∗ owns (c : Thread nD τ) a8 fullShare (byCol (heads x w g)) ∗ owns (c : Thread nD τ) a9 fullShare (byHead (headsS x' w g)) ∗ owns (c : Thread nD τ) a10 fullShare (byCol (headsS x' w g))) -∗ K ⟨⟩))
      ⊢ wp frame (wpE (defs₀ (F := F)) Variants.none c none) E (cc0_proj_k i a3 h3 a4 h4 a5 h5 a6 h6 a7 h7 a8 h8 a9 h9 a10 h10) K := by
  simp only [cc0_proj_k_eq_skeleton]; unfold cc0_proj_k_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := h3.eq_unread hf0; obtain rfl := h4.eq_unread hf1; obtain rfl := h5.eq_unread hf2; obtain rfl := h6.eq_unread hf3
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    frame_out
    funext y
    refine View.read_writes_apply_of_pieces (Val := Elt F) (e := .f32) _ _ (byHead (heads x w g)) _ ?_ y (View.cover_of_tiledL (s := S1024x8x128) _ ![1024, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (heads x w g) 7 (by decide) (by decide) (by decide) (by decide) (fun _ => rfl) z, byHead_piece (heads x w g) 6 (by decide) (by decide) (by decide) (by decide) (fun _ => rfl) z, byHead_piece (heads x w g) 5 (by decide) (by decide) (by decide) (by decide) (fun _ => rfl) z, byHead_piece (heads x w g) 4 (by decide) (by decide) (by decide) (by decide) (fun _ => rfl) z, byHead_piece (heads x w g) 3 (by decide) (by decide) (by decide) (by decide) (fun _ => rfl) z, byHead_piece (heads x w g) 2 (by decide) (by decide) (by decide) (by decide) (fun _ => rfl) z, byHead_piece (heads x w g) 1 (by decide) (by decide) (by decide) (by decide) (fun _ => rfl) z, byHead_piece (heads x w g) 0 (by decide) (by decide) (by decide) (by decide) (fun _ => rfl) z]
  isplitl [H5]
  · iexists _; isplitr
    swap; · iexact H5
    ipureintro
    frame_out
    funext y
    refine View.read_writes_apply_of_pieces (Val := Elt F) (e := .bf16) _ _ (byCol (heads x w g)) _ ?_ y (View.cover_of_tiledL (s := S1024x1024) _ ![1024, 128] (by sl_kernel_rfl) y)
    sl_unfold_run_names
    intro p hp z
    simp only [List.mem_cons, List.not_mem_nil, _root_.or_false] at hp
    rcases hp with rfl | rfl | rfl | rfl | rfl | rfl | rfl | rfl
    exacts [byCol_piece (heads x w g) 7 (by decide) (by decide) (by decide) z, byCol_piece (heads x w g) 6 (by decide) (by decide) (by decide) z, byCol_piece (heads x w g) 5 (by decide) (by decide) (by decide) z, byCol_piece (heads x w g) 4 (by decide) (by decide) (by decide) z, byCol_piece (heads x w g) 3 (by decide) (by decide) (by decide) z, byCol_piece (heads x w g) 2 (by decide) (by decide) (by decide) z, byCol_piece (heads x w g) 1 (by decide) (by decide) (by decide) z, byCol_piece (heads x w g) 0 (by decide) (by decide) (by decide) z]
  isplitl [H6]
  · iexists _; isplitr
    swap; · iexact H6
    ipureintro
    frame_out
    funext y
    refine View.read_writes_apply_of_pieces (Val := Elt F) (e := .f32) _ _ (byHead (headsS x' w g)) _ ?_ y (View.cover_of_tiledL (s := S256x8x128) _ ![256, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (headsS x' w g) 7 (by decide) (by decide) (by decide) (by decide) (fun _ => rfl) z, byHead_piece (headsS x' w g) 6 (by decide) (by decide) (by decide) (by decide) (fun _ => rfl) z, byHead_piece (headsS x' w g) 5 (by decide) (by decide) (by decide) (by decide) (fun _ => rfl) z, byHead_piece (headsS x' w g) 4 (by decide) (by decide) (by decide) (by decide) (fun _ => rfl) z, byHead_piece (headsS x' w g) 3 (by decide) (by decide) (by decide) (by decide) (fun _ => rfl) z, byHead_piece (headsS x' w g) 2 (by decide) (by decide) (by decide) (by decide) (fun _ => rfl) z, byHead_piece (headsS x' w g) 1 (by decide) (by decide) (by decide) (by decide) (fun _ => rfl) z, byHead_piece (headsS x' w g) 0 (by decide) (by decide) (by decide) (by decide) (fun _ => rfl) z]
  iexists _; isplitr
  swap; · iexact H7
  ipureintro
  frame_out
  funext y
  refine View.read_writes_apply_of_pieces (Val := Elt F) (e := .bf16) _ _ (byCol (headsS x' w g)) _ ?_ y (View.cover_of_tiledL (s := S256x1024) _ ![256, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (headsS x' w g) 7 (by decide) (by decide) (by decide) z, byCol_piece (headsS x' w g) 6 (by decide) (by decide) (by decide) z, byCol_piece (headsS x' w g) 5 (by decide) (by decide) (by decide) z, byCol_piece (headsS x' w g) 4 (by decide) (by decide) (by decide) z, byCol_piece (headsS x' w g) 3 (by decide) (by decide) (by decide) z, byCol_piece (headsS x' w g) 2 (by decide) (by decide) (by decide) z, byCol_piece (headsS x' w g) 1 (by decide) (by decide) (by decide) z, byCol_piece (headsS x' w g) 0 (by decide) (by decide) (by decide) z]

set_option maxHeartbeats 4000000 in
/-- A later point: only the long batch's blocks are stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S1x1024 .f32) (h5 : a5.IsWhole) (a6 : Memref sig .tc .vmem S256x4096 .bf16) (h6 : a6.IsWhole) (a7 : Memref sig .tc .vmem S1024x8x128 .f32) (h7 : a7.IsWhole)
    (a8 : Memref sig .tc .vmem S1024x1024 .bf16) (h8 : a8.IsWhole) (a9 : Memref sig .tc .vmem S256x8x128 .f32) (h9 : a9.IsWhole) (a10 : Memref sig .tc .vmem S256x1024 .bf16) (h10 : a10.IsWhole)
    (hc : ¬k0_cond1 i = 1#1) (x : Vec F S1024x4096 .bf16) (w : Vec F S4096x1024 .bf16) (g : Vec F S1x1024 .f32) (E : Set ℕ) (K : PUnit → sProp 𝕄) :
    iprop(owns (c : Thread nD τ) a3 fullShare x ∗ owns (c : Thread nD τ) a4 fullShare w ∗ owns (c : Thread nD τ) a5 fullShare g ∗ (∃ d, owns (c : Thread nD τ) a7 fullShare d) ∗ (∃ d, owns (c : Thread nD τ) a8 fullShare d)
        ∗ (iprop(owns (c : Thread nD τ) a3 fullShare x ∗ owns (c : Thread nD τ) a4 fullShare w ∗ owns (c : Thread nD τ) a5 fullShare g ∗ owns (c : Thread nD τ) a7 fullShare (byHead (heads x w g)) ∗ owns (c : Thread nD τ) a8 fullShare (byCol (heads x w g))) -∗ K ⟨⟩))
      ⊢ wp frame (wpE (defs₀ (F := F)) Variants.none c none) E (cc0_proj_k i a3 h3 a4 h4 a5 h5 a6 h6 a7 h7 a8 h8 a9 h9 a10 h10) K := by
  simp only [cc0_proj_k_eq_skeleton]; unfold cc0_proj_k_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    funext y
    refine View.read_writes_apply_of_pieces (Val := Elt F) (e := .f32) _ _ (byHead (heads x w g)) _ ?_ y (View.cover_of_tiledL (s := S1024x8x128) _ ![1024, 1, 128] (by sl_kernel_rfl) y)
    sl_unfold_run_names
    intro p hp z
    simp only [List.mem_cons, List.not_mem_nil, _root_.or_false] at hp
    rcases hp with rfl | rfl | rfl | rfl | rfl | rfl | rfl | rfl
    exacts [byHead_piece (heads x w g) 7 (by decide) (by decide) (by decide) (by decide) (fun _ => rfl) z, byHead_piece (heads x w g) 6 (by decide) (by decide) (by decide) (by decide) (fun _ => rfl) z, byHead_piece (heads x w g) 5 (by decide) (by decide) (by decide) (by decide) (fun _ => rfl) z, byHead_piece (heads x w g) 4 (by decide) (by decide) (by decide) (by decide) (fun _ => rfl) z, byHead_piece (heads x w g) 3 (by decide) (by decide) (by decide) (by decide) (fun _ => rfl) z, byHead_piece (heads x w g) 2 (by decide) (by decide) (by decide) (by decide) (fun _ => rfl) z, byHead_piece (heads x w g) 1 (by decide) (by decide) (by decide) (by decide) (fun _ => rfl) z, byHead_piece (heads x w g) 0 (by decide) (by decide) (by decide) (by decide) (fun _ => rfl) z]
  iexists _; isplitr
  swap; · iexact H4
  ipureintro
  frame_out
  funext y
  refine View.read_writes_apply_of_pieces (Val := Elt F) (e := .bf16) _ _ (byCol (heads x w g)) _ ?_ y (View.cover_of_tiledL (s := S1024x1024) _ ![1024, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (heads x w g) 7 (by decide) (by decide) (by decide) z, byCol_piece (heads x w g) 6 (by decide) (by decide) (by decide) z, byCol_piece (heads x w g) 5 (by decide) (by decide) (by decide) z, byCol_piece (heads x w g) 4 (by decide) (by decide) (by decide) z, byCol_piece (heads x w g) 3 (by decide) (by decide) (by decide) z, byCol_piece (heads x w g) 2 (by decide) (by decide) (by decide) z, byCol_piece (heads x w g) 1 (by decide) (by decide) (by decide) z, byCol_piece (heads x w g) 0 (by decide) (by decide) (by decide) z]

end Cert.Kernel5Ideal.Gen
end
-- ==== Proof.Keys.Frame.lean ====
/- The attention's keys, the whole call: what every point leaves, and the launch's run.

   The short batch's blocks are stored at the first point only; they stay in their buffers, and the last point writes
   them back. -/
module

public import proofs.«01_k».proof.Proof.Keys.Run

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's blocks are stored -/

theorem first_iff : ∀ t : Fin cfg0.N, k0_cond1 (grid0.coords t) = 1#1 ↔ t.val = 0 :=
  (by decide +kernel : ∀ t : Fin grid0.N, k0_cond1 (grid0.coords t) = 1#1 ↔ t.val = 0)

/-- A window idle but at the first point, and written back after the last. -/
structure Tail (w : Fin cfg0.W) : Prop where
  out : (cfg0.win w).isOut = true
  whole : ∀ (i : cfg0.grid.Coords) a, (cfg0.win w).clip i a = none
  idle : ∀ t : Fin cfg0.N, cfg0.idle w (cfg0.grid.coords t) = !decide (t.val = 0)
  flush : ∀ t : Fin cfg0.N, (cfg0.win w).flush t = true ↔ t.val % 8 = 7

theorem idle_of (t : Fin cfg0.N) : (!(k0_cond1 (grid0.coords t) == 1#1)) = !decide (t.val = 0) := by
  have h := first_iff t
  congr 1
  exact Bool.eq_iff_iff.mpr (by rw [beq_iff_eq, decide_eq_true_iff]; exact h)

theorem tail6 : Tail 6 := ⟨rfl, fun _ _ => rfl, idle_of, flush0_6⟩
theorem tail7 : Tail 7 := ⟨rfl, fun _ _ => rfl, idle_of, flush0_7⟩

/-- From the second point on the buffer holds the stored block. -/
theorem fresh_tail {w : Fin cfg0.W} (h : Tail w) (t : Fin cfg0.N) : cfg0.fresh w t.val = decide (t.val = 0) := by
  have ht : t.val < 8 := lt_of_lt_of_eq t.isLt N_0
  rw [Cfg.fresh_tab cfg0 w (fun n => decide (n = 0 ∨ n = 8)) (by decide) (fun t => by
    have ht : t.val < 8 := lt_of_lt_of_eq t.isLt N_0
    rw [h.idle t, Bool.eq_iff_iff]
    simp only [decide_eq_true_iff, Bool.or_eq_true, Bool.and_eq_true, Bool.not_eq_true', decide_eq_false_iff_not, h.flush t]
    omega) _ (Nat.le_of_lt t.isLt)]
  exact decide_eq_decide.mpr (by omega)

/-- The first point, at which they are stored. -/
def point0 (t : Fin cfg0.N) : Fin cfg0.N := ⟨0, lt_of_le_of_lt (Nat.zero_le _) t.isLt⟩

theorem point0_first (t : Fin cfg0.N) (h : t.val = 0) : point0 t = t := Fin.ext h.symm

/-! ## The pipeline's proof data -/

/-- After the body at point `t`: the inputs' buffers at their blocks, the long batch's outputs at its heads, the short
    batch's at the heads the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => byHead (heads (iblk m c 0 t) (iblk m c 1 t) (iblk m c 2 t))
    | ⟨5, _⟩ => byCol (heads (iblk m c 0 t) (iblk m c 1 t) (iblk m c 2 t))
    | ⟨6, _⟩ => byHead (headsS (iblk m c 3 (point0 t)) (iblk m c 1 (point0 t)) (iblk m c 2 (point0 t)))
    | ⟨7, _⟩ => byCol (headsS (iblk m c 3 (point0 t)) (iblk m c 1 (point0 t)) (iblk m c 2 (point0 t)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = byHead (heads (iblk m c 0 t) (iblk m c 1 t) (iblk m c 2 t)) := by dsimp only [dats]
theorem after0_5 (c : Dev nD) (t : Fin cfg0.N) : (dats m 0 c).after 5 t = byCol (heads (iblk m c 0 t) (iblk m c 1 t) (iblk m c 2 t)) := by dsimp only [dats]
theorem after0_6 (c : Dev nD) (t : Fin cfg0.N) : (dats m 0 c).after 6 t = byHead (headsS (iblk m c 3 (point0 t)) (iblk m c 1 (point0 t)) (iblk m c 2 (point0 t))) := by dsimp only [dats]
theorem after0_7 (c : Dev nD) (t : Fin cfg0.N) : (dats m 0 c).after 7 t = byCol (headsS (iblk m c 3 (point0 t)) (iblk m c 1 (point0 t)) (iblk m c 2 (point0 t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later point a buffer of the short batch already holds what it is to be left with. -/
theorem before_tail (c : Dev nD) {w : Fin cfg0.W} (hw : Tail w) (hc : ∀ t t', (dats m 0 c).after w t = (dats m 0 c).after w t') (t : Fin cfg0.N) (h : ¬t.val = 0) (d) :
    (dats m 0 c).before w t d = (dats m 0 c).after w t := by
  rw [(dats m 0 c).before_out_traj w hw.out hw.whole (fun t _ _ _ => hc _ _) t.val t rfl d, fresh_tail hw t, decide_eq_false h,
    if_neg Bool.false_ne_true]
  exact hc _ _

theorem before0_6 (c : Dev nD) (t : Fin cfg0.N) (h : ¬t.val = 0) (d) : (dats m 0 c).before 6 t d = (dats m 0 c).after 6 t :=
  before_tail m c tail6 (fun t t' => by rw [after0_6, after0_6]; rfl) t h d
theorem before0_7 (c : Dev nD) (t : Fin cfg0.N) (h : ¬t.val = 0) (d) : (dats m 0 c).before 7 t d = (dats m 0 c).after 7 t :=
  before_tail m c tail7 (fun t t' => by rw [after0_7, after0_7]; rfl) t h d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A buffer that is never idle is left at what the point computes. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a later point a buffer of the short batch, left as found, is left as it should be. -/
theorem leaves_later (c : Dev nD) {w : Fin cfg0.W} (hw : Tail w) (t : Fin cfg0.N) (h : ¬t.val = 0) (hb : ∀ d, (dats m 0 c).before w t d = (dats m 0 c).after w t) :
    owns (c : Thread nD τ) ((cfg0.win w).stage (cfg0.slots t w)) fullShare ((dats m 0 c).after w t) ⊢ (dats m 0 c).leavesExact w t := by
  have hi : cfg0.idle w (cfg0.grid.coords t) = true := (hw.idle t).trans (by rw [decide_eq_false h]; rfl)
  cases hf : (cfg0.win w).flush t
  · rw [Dat.leavesExact_idle (dats m 0 c) w t hi hf]
    simp only [hb]
    iintro H; iexists fun _ => Classical.choice inferInstance; iexact H
  · unfold Dat.leavesExact; rw [hi, hf]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, leaves_live m c 4 t rfl, leaves_live m c 5 t rfl, after0_0, after0_1, after0_2, after0_3, after0_4, after0_5]
  by_cases h : t.val = 0
  · rw [leaves_live m c 6 t ((tail6.idle t).trans (by rw [decide_eq_true h]; rfl)), leaves_live m c 7 t ((tail7.idle t).trans (by rw [decide_eq_true h]; rfl)), after0_6, after0_7, point0_first t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_6 m c t h, before0_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ (fun hc => h ((first_iff t).mp hc)) (iblk m c 0 t) (iblk m c 1 t) (iblk m c 2 t) Set.univ _)
    isplitl [H0]; · iexact H0
    isplitl [H1]; · iexact H1
    isplitl [H2]; · iexact H2
    isplitl [H4]; · iexists _; iexact H4
    isplitl [H5]; · iexists _; iexact H5
    iintro ⟨H0, H1, H2, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_later m c tail6 t h (before0_6 m c t h))
      iexact H6
    iapply (leaves_later m c tail7 t h (before0_7 m c t h))
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel5Ideal.Gen

end
-- ==== Proof.Keys.Value.lean ====
/- The attention's keys: what all four result arrays hold, entry by entry. -/
module

public import proofs.«01_k».proof.Proof.Keys.Frame
public import Idealize.ShloMosaic.Lib.Pipeline.ValueKit.Point
public import Idealize.ShloMosaic.Lib.Pipeline.Covers

@[expose] public section

set_option maxRecDepth 16384

noncomputable section

namespace Cert.Kernel5Ideal.Gen

open Idealize.ShloMosaic Idealize.ShloMosaic.TcCoe Idealize.ShloMosaic.Tactic
open Idealize.SL Idealize.SL.Sem

open Cert.Proof.Heads

variable (m : (ℓ : Loc nD τ sig) → Buf (Elt Ideal) ℓ) (ρ : Dev nD → PrngReg)

theorem pay38_at (x : Vec Ideal S1024x4096 .bf16) (w : Vec Ideal S4096x512 .bf16) (r : Fin 1024) (j : Fin 512) :
    k0_pay38 x w (ix2 r j) = ∑ k : Fin 4096, x (ix2 r k) * w (ix2 k j) := by
  pointwise [k0_pay38]

theorem pay6_at (x : Vec Ideal S256x4096 .bf16) (w : Vec Ideal S4096x512 .bf16) (r : Fin 256) (j : Fin 512) :
    k0_pay6 x w (ix2 r j) = ∑ k : Fin 4096, x (ix2 r k) * w (ix2 k j) := by
  pointwise [k0_pay6]

/-- A column of the head, as a column of the half it lies in. -/
theorem col_split (h : Fin 8) (d : Fin 128) : (colOf h d).val = 512 * (h.val / 4) + (128 * (h.val % 4) + d.val) := by
  show 128 * h.val + d.val = _
  omega

/-- The head a column lies in, and its place there. -/
def headIx (j : Fin 1024) : Fin 8 := ⟨j.val / 128, by have := j.isLt; omega⟩
def dimIx (j : Fin 1024) : Fin 128 := ⟨j.val % 128, Nat.mod_lt _ (by decide)⟩

theorem headIx_colOf (h : Fin 8) (d : Fin 128) : headIx (colOf h d) = h :=
  Fin.ext (by show (128 * h.val + d.val) / 128 = h.val; have := d.isLt; omega)

theorem dimIx_colOf (h : Fin 8) (d : Fin 128) : dimIx (colOf h d) = d :=
  Fin.ext (by show (128 * h.val + d.val) % 128 = d.val; have := d.isLt; omega)

/-- The product of a block of rows with a block of columns, at a row and a column. -/
def dotAt {n : ℕ} (x : Vec Ideal ⟨2, ![n, 4096]⟩ .bf16) (w : Vec Ideal S4096x1024 .bf16) (r : Fin n) (j : Fin 1024) : EReal :=
  ∑ k : Fin 4096, x (ix2 r k) * w (ix2 k j)

/-- An entry of a head over the root of the mean of the head's squares, times a gain. -/
def normed (z : Fin 128 → EReal) (g : EReal) (d : Fin 128) : EReal :=
  z d * Ideal.rsqrt (Ideal.div (∑ e, z e * z e) (Ideal.ofBits FTy.f32 0x43000000#32) + Ideal.ofBits FTy.f32 0x358637BD#32) * g

theorem normed_congr {z z' : Fin 128 → EReal} {g g' : EReal} (hz : ∀ e, z e = z' e) (hg : g = g') (d : Fin 128) :
    normed z g d = normed z' g' d := by
  obtain rfl : z = z' := funext hz
  rw [hg]

theorem normBlock_at (v : FVec Ideal S1024x128 .f32) (gb : FVec Ideal S1x128 .f32) (r : Fin 1024) (d : Fin 128) :
    normBlock v gb (ix2 r d) = normed (fun e => v (ix2 r e)) (gb (ix2 0 d)) d := by
  pointwise [normBlock, normed]

theorem normBlockS_at (v : FVec Ideal S256x128 .f32) (gb : FVec Ideal S1x128 .f32) (r : Fin 256) (d : Fin 128) :
    normBlockS v gb (ix2 r d) = normed (fun e => v (ix2 r e)) (gb (ix2 0 d)) d := by
  pointwise [normBlockS, normed]

theorem gains_at (g : Vec Ideal S1x1024 .f32) (h : Fin 8) (d : Fin 128) : gains g h (ix2 0 d) = g (ix2 0 (colOf h d)) := by
  unfold gains
  rw [headOf_at, shapeCast_self]
  exact halfCols_at g _ 0 _ _ (col_split h d)

/-- A head of a block of rows, normalised. -/
def headAt {n : ℕ} (x : Vec Ideal ⟨2, ![n, 4096]⟩ .bf16) (w : Vec Ideal S4096x1024 .bf16) (g : Vec Ideal S1x1024 .f32) (r : Fin n) (h : Fin 8) (d : Fin 128) : EReal :=
  normed (fun e => dotAt x w r (colOf h e)) (g (ix2 0 (colOf h d))) d

theorem heads_at (x : Vec Ideal S1024x4096 .bf16) (w : Vec Ideal S4096x1024 .bf16) (g : Vec Ideal S1x1024 .f32) (h : Fin 8) (r : Fin 1024) (d : Fin 128) :
    heads x w g h (ix2 r d) = headAt x w g r h d := by
  refine (normBlock_at _ _ r d).trans (normed_congr (fun e => ?_) (gains_at g h d) d)
  rw [headOf_at, pay38_at]
  exact Finset.sum_congr rfl fun k _ => congrArg (x (ix2 r k) * ·) (halfCols_at w _ k _ _ (col_split h e))

theorem headsS_at (x : Vec Ideal S256x4096 .bf16) (w : Vec Ideal S4096x1024 .bf16) (g : Vec Ideal S1x1024 .f32) (h : Fin 8) (r : Fin 256) (d : Fin 128) :
    headsS x w g h (ix2 r d) = headAt x w g r h d := by
  refine (normBlockS_at _ _ r d).trans (normed_congr (fun e => ?_) (gains_at g h d) d)
  rw [headOf_at, pay6_at]
  exact Finset.sum_congr rfl fun k _ => congrArg (x (ix2 r k) * ·) (halfCols_at w _ k _ _ (col_split h e))

/-- A head by its column. -/
theorem headAt_col {n : ℕ} (x : Vec Ideal ⟨2, ![n, 4096]⟩ .bf16) (w : Vec Ideal S4096x1024 .bf16) (g : Vec Ideal S1x1024 .f32) (r : Fin n) (h : Fin 8) (d : Fin 128) :
    headAt x w g r h d = headAt x w g r (headIx (colOf h d)) (dimIx (colOf h d)) := by
  rw [headIx_colOf, dimIx_colOf]

theorem index_x : ∀ t : Fin grid0.N, win0_0.index t = ![t.val, 0] := by decide +kernel
theorem index_w : ∀ t : Fin grid0.N, win0_1.index t = ![0, 2] := by decide +kernel
theorem index_g : ∀ t : Fin grid0.N, win0_2.index t = ![0, 0] := by decide +kernel
theorem index_s : ∀ t : Fin grid0.N, win0_3.index t = ![0, 0] := by decide +kernel
theorem index_4 : ∀ t : Fin grid0.N, win0_4.index t = ![t.val, 0, 0] := by decide +kernel
theorem index_5 : ∀ t : Fin grid0.N, win0_5.index t = ![t.val, 0] := by decide +kernel
theorem index_6 : ∀ t : Fin grid0.N, win0_6.index t = ![0, 0, 0] := by decide +kernel
theorem index_7 : ∀ t : Fin grid0.N, win0_7.index t = ![0, 0] := by decide +kernel

/-- The gain the launch reads is the argument, repeated for every head. -/
theorem gain_at (c : Dev nD) (j : Fin 1024) :
    (V m c main_v3 : Vec Ideal S1x1024 .f32) (ix2 0 j) = (m ((c.tc : Thread nD τ).loc main_arg3) : Vec Ideal S128 .f32) (ix1 (dimIx j)) := by
  unfold V
  after_results
  pointwise [dimIx]

/-- The keys of a batch `X` under the weight `W` and the gain `N`: row `r`, head `h`, place `d`. -/
def keyAt {n : ℕ} (X : Vec Ideal ⟨2, ![n, 4096]⟩ .bf16) (W : Vec Ideal S4096x12288 .bf16) (N : Vec Ideal S128 .f32) (r : Fin n) (h : Fin 8) (d : Fin 128) : EReal :=
  normed (fun e => ∑ k : Fin 4096, X (ix2 r k) * W (ix2 k ⟨2048 + (colOf h e).val, by have := (colOf h e).isLt; omega⟩)) (N (ix1 d)) d

/-- The long batch's keys, by head. -/
def G4 (c : Dev nD) : Vec Ideal S8192x8x128 .f32 := fun y =>
  keyAt (m ((c.tc : Thread nD τ).loc main_arg0)) (m ((c.tc : Thread nD τ).loc main_arg2)) (m ((c.tc : Thread nD τ).loc main_arg3)) (y 0) (y 1) (y 2)

/-- The long batch's keys, heads side by side. -/
def G5 (c : Dev nD) : Vec Ideal S8192x1024 .bf16 := fun y =>
  keyAt (m ((c.tc : Thread nD τ).loc main_arg0)) (m ((c.tc : Thread nD τ).loc main_arg2)) (m ((c.tc : Thread nD τ).loc main_arg3)) (y 0) (headIx (y 1)) (dimIx (y 1))

/-- The short batch's keys, by head. -/
def G6 (c : Dev nD) : Vec Ideal S256x8x128 .f32 := fun y =>
  keyAt (m ((c.tc : Thread nD τ).loc main_arg1)) (m ((c.tc : Thread nD τ).loc main_arg2)) (m ((c.tc : Thread nD τ).loc main_arg3)) (y 0) (y 1) (y 2)

/-- The short batch's keys, heads side by side. -/
def G7 (c : Dev nD) : Vec Ideal S256x1024 .bf16 := fun y =>
  keyAt (m ((c.tc : Thread nD τ).loc main_arg1)) (m ((c.tc : Thread nD τ).loc main_arg2)) (m ((c.tc : Thread nD τ).loc main_arg3)) (y 0) (headIx (y 1)) (dimIx (y 1))

/-- A head of the blocks a launch holds is a head of the whole arrays, where the blocks' entries are the arrays'. -/
theorem headAt_eq {n n' : ℕ} {x : Vec Ideal ⟨2, ![n, 4096]⟩ .bf16} {w : Vec Ideal S4096x1024 .bf16} {g : Vec Ideal S1x1024 .f32}
    {X : Vec Ideal ⟨2, ![n', 4096]⟩ .bf16} {W : Vec Ideal S4096x12288 .bf16} {N : Vec Ideal S128 .f32} {r : Fin n} {r' : Fin n'}
    (hx : ∀ k, x (ix2 r k) = X (ix2 r' k)) (hw : ∀ k (j : Fin 1024), w (ix2 k j) = W (ix2 k ⟨2048 + j.val, by have := j.isLt; omega⟩))
    (hg : ∀ j, g (ix2 0 j) = N (ix1 (dimIx j))) (h : Fin 8) (d : Fin 128) : headAt x w g r h d = keyAt X W N r' h d :=
  normed_congr (fun e => Finset.sum_congr rfl fun k _ => congrArg₂ (· * ·) (hx k) (hw k _)) ((hg _).trans (by rw [dimIx_colOf])) d

theorem weight (c : Dev nD) (t : Fin cfg0.N) (k : Fin 4096) (j : Fin 1024) :
    (iblk m c 1 t : Vec Ideal S4096x1024 .bf16) (ix2 k j) = (m ((c.tc : Thread nD τ).loc main_arg2) : Vec Ideal S4096x12288 .bf16) (ix2 k ⟨2048 + j.val, by have := j.isLt; omega⟩) := by
  blk_ext [iblk, V, index_w t]

theorem gain (c : Dev nD) (t : Fin cfg0.N) (j : Fin 1024) :
    (iblk m c 2 t : Vec Ideal S1x1024 .f32) (ix2 0 j) = (m ((c.tc : Thread nD τ).loc main_arg3) : Vec Ideal S128 .f32) (ix1 (dimIx j)) := by
  refine Eq.trans ?_ (gain_at m c j)
  blk_ext [iblk, index_g t]

theorem point4 (c : Dev nD) (t : Fin cfg0.N) (r : Fin 1024) (h : Fin 8) (d : Fin 128) :
    byHead (heads (iblk m c 0 t) (iblk m c 1 t) (iblk m c 2 t)) (ix3 r h d) = G4 m c ((win0_4.blk t).view.emb (ix3 r h d)) := by
  have e : ((win0_4.blk t).view.emb (ix3 r h d)) 1 = h := Fin.ext (by blk_simp [index_4 t])
  have e' : ((win0_4.blk t).view.emb (ix3 r h d)) 2 = d := Fin.ext (by blk_simp [index_4 t])
  unfold G4
  rw [e, e']
  exact (heads_at _ _ _ h r d).trans (headAt_eq (fun k => by blk_ext [iblk, V, index_x t, index_4 t]) (weight m c t) (gain m c t) h d)

theorem point5 (c : Dev nD) (t : Fin cfg0.N) (r : Fin 1024) (j : Fin 1024) :
    byCol (heads (iblk m c 0 t) (iblk m c 1 t) (iblk m c 2 t)) (ix2 r j) = G5 m c ((win0_5.blk t).view.emb (ix2 r j)) := by
  have e : ((win0_5.blk t).view.emb (ix2 r j)) 1 = j := Fin.ext (by blk_simp [index_5 t])
  unfold G5
  rw [e]
  exact (byCol_at _ (fun r j => headAt _ _ _ r (headIx j) (dimIx j)) (fun h r d => (heads_at _ _ _ h r d).trans (headAt_col _ _ _ r h d)) r j).trans
    (headAt_eq (fun k => by blk_ext [iblk, V, index_x t, index_5 t]) (weight m c t) (gain m c t) _ _)

theorem point6 (c : Dev nD) (t : Fin cfg0.N) (r : Fin 256) (h : Fin 8) (d : Fin 128) :
    byHead (headsS (iblk m c 3 (point0 t)) (iblk m c 1 (point0 t)) (iblk m c 2 (point0 t))) (ix3 r h d) = G6 m c ((win0_6.blk t).view.emb (ix3 r h d)) := by
  have e : ((win0_6.blk t).view.emb (ix3 r h d)) 1 = h := Fin.ext (by blk_simp [index_6 t])
  have e' : ((win0_6.blk t).view.emb (ix3 r h d)) 2 = d := Fin.ext (by blk_simp [index_6 t])
  unfold G6
  rw [e, e']
  exact (headsS_at _ _ _ h r d).trans (headAt_eq (fun k => by blk_ext [iblk, V, index_s (point0 t), index_6 t]) (weight m c (point0 t)) (gain m c (point0 t)) h d)

theorem point7 (c : Dev nD) (t : Fin cfg0.N) (r : Fin 256) (j : Fin 1024) :
    byCol (headsS (iblk m c 3 (point0 t)) (iblk m c 1 (point0 t)) (iblk m c 2 (point0 t))) (ix2 r j) = G7 m c ((win0_7.blk t).view.emb (ix2 r j)) := by
  have e : ((win0_7.blk t).view.emb (ix2 r j)) 1 = j := Fin.ext (by blk_simp [index_7 t])
  unfold G7
  rw [e]
  exact (byCol_at _ (fun r j => headAt _ _ _ r (headIx j) (dimIx j)) (fun h r d => (headsS_at _ _ _ h r d).trans (headAt_col _ _ _ r h d)) r j).trans
    (headAt_eq (fun k => by blk_ext [iblk, V, index_s (point0 t), index_7 t]) (weight m c (point0 t)) (gain m c (point0 t)) _ _)

theorem array4 (c : Dev nD) : (dats m 0 c).arrAt 4 cfg0.N = G4 m c := by
  refine (dats m 0 c).arrAt_eq_of_covers 4 _ (by decide +kernel) fun t hf y => ?_
  blk_simp
  rw [after0_4]
  have e : y = ix3 (y 0) (y 1) (y 2) := eq_ix3 y
  rw [e]
  exact point4 m c t (y 0) (y 1) (y 2)

theorem array5 (c : Dev nD) : (dats m 0 c).arrAt 5 cfg0.N = G5 m c := by
  refine (dats m 0 c).arrAt_eq_of_covers 5 _ (by decide +kernel) fun t hf y => ?_
  blk_simp
  rw [after0_5]
  have e : y = ix2 (y 0) (y 1) := eq_ix2 y
  rw [e]
  exact point5 m c t (y 0) (y 1)

theorem array6 (c : Dev nD) : (dats m 0 c).arrAt 6 cfg0.N = G6 m c := by
  refine (dats m 0 c).arrAt_eq_of_covers 6 _ (by decide +kernel) fun t hf y => ?_
  blk_simp
  rw [after0_6]
  have e : y = ix3 (y 0) (y 1) (y 2) := eq_ix3 y
  rw [e]
  exact point6 m c t (y 0) (y 1) (y 2)

theorem array7 (c : Dev nD) : (dats m 0 c).arrAt 7 cfg0.N = G7 m c := by
  refine (dats m 0 c).arrAt_eq_of_covers 7 _ (by decide +kernel) fun t hf y => ?_
  blk_simp
  rw [after0_7]
  have e : y = ix2 (y 0) (y 1) := eq_ix2 y
  rw [e]
  exact point7 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v4_0) = G4 m c
      ∧ r.2.mem ((c.tc : Thread nD τ).loc main_v4_1) = G5 m c
      ∧ r.2.mem ((c.tc : Thread nD τ).loc main_v4_2) = G6 m c
      ∧ r.2.mem ((c.tc : Thread nD τ).loc main_v4_3) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (array4 m c), ((h.1 c).1 5).trans (array5 m c), ((h.1 c).1 6).trans (array6 m c), ((h.1 c).1 7).trans (array7 m c), (h.2.1 c).1, (h.2.1 c).2.1, (h.2.1 c).2.2.1, (h.2.1 c).2.2.2⟩)
    (θ_run_and (run_main m ρ) (frame m ρ))

end Cert.Kernel5Ideal.Gen

end
-- ==== Proof.Keys.Reference.lean ====
/- The attention's keys as the reference computes them, and the claim that the kernel computes the same. -/
module

public import proofs.«01_k».proof.Proof.Keys.Value
public import proofs.«01_k».proof.Proof.Gen.Reference5Ideal.Run
public import proofs.«01_k».proof.Proof.Gen.Kernel5
public import proofs.«01_k».proof.Defs

@[expose] public section

set_option maxRecDepth 16384

noncomputable section

namespace Cert.Proof.Keys

open Idealize.ShloMosaic Idealize.ShloMosaic.TcCoe Idealize.ShloMosaic.Tactic
open Idealize.SL Idealize.SL.Sem
open Cert.Proof.Heads
open Cert.Kernel5Ideal.Gen (G4 G5 G6 G7 keyAt normed headIx dimIx)

/-- The compiled kernel's frame, spelt of the idealized text read at the machine's words. -/
theorem frame_same : Cert.quiescent_Kernel5 (hKernel5 := Cert.Kernel5.Gen.facts)
    = (∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)) := by
  sl_kernel_rfl

theorem frame_kernel : Cert.quiescent_Kernel5 (hKernel5 := Cert.Kernel5.Gen.facts) :=
  frame_same.mpr fun m ρ _ => Cert.Kernel5Ideal.Gen.frame (F := Bits) m ρ

theorem frame_ideal : Cert.quiescent_Kernel5Ideal (hKernel5Ideal := Cert.Kernel5Ideal.Gen.facts) := fun m ρ _ =>
  Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run m ρ)

theorem keys : Cert.algebraic_Kernel5Ideal_Reference5Ideal (hKernel5Ideal := Cert.Kernel5Ideal.Gen.facts) (hReference5Ideal := Cert.Reference5Ideal.Gen.facts) := by
  intro m g m' g' _ hargs
  refine ⟨fun c => G4 m c, fun c => G5 m c, fun c => G6 m c, fun c => G7 m c, Cert.Kernel5Ideal.Gen.results m g, ?_⟩
  refine (θ_run Cert.Reference5Ideal.defs _ _).mono (fun r h c => ?_) (Cert.Reference5Ideal.Value.run m' g')
  obtain ⟨a0, a1, a2, a3⟩ := hargs c
  refine ⟨(h c).1.trans ?_, (h c).2.1.trans ?_, (h c).2.2.1.trans ?_, (h c).2.2.2.1.trans ?_, (h c).2.2.2.2⟩
  · rw [a0, a2, a3]
    funext y
    pointwise [G4, keyAt, normed, colOf]
    simp only [Nat.mul_comm 128]
  · rw [a0, a2, a3]
    funext y
    pointwise [G5, keyAt, normed, colOf, headIx, dimIx]
    simp only [Nat.mul_comm 128, Nat.div_add_mod']
  · rw [a1, a2, a3]
    funext y
    pointwise [G6, keyAt, normed, colOf]
    simp only [Nat.mul_comm 128]
  · rw [a1, a2, a3]
    funext y
    pointwise [G7, keyAt, normed, colOf, headIx, dimIx]
    simp only [Nat.mul_comm 128, Nat.div_add_mod']

end Cert.Proof.Keys

end
-- ==== Proof.Out.Run.lean ====
/- The output projection and the residual, one grid point: what the body leaves in the two output blocks. -/
module

public import proofs.«01_k».proof.Proof.Gen.Kernel6Ideal.Frame
public import proofs.«01_k».proof.Proof.Gen.Kernel6Ideal.Skeleton
public import Idealize.ShloMosaic.Lib.Pipeline.ValueKit
public import Idealize.ShloMosaic.Lib.Pipeline.TableIdle
public import Idealize.ShloMosaic.Lib.VecWindow

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point of the first row of blocks: both blocks are stored. -/
theorem run_first (c : Dev nD) (i : grid0.Coords) (a3 : Memref sig .tc .vmem S1024x2048 .bf16) (h3 : a3.IsWhole)
    (a4 : Memref sig .tc .vmem S2048x512 .f32) (h4 : a4.IsWhole)
    (a5 : Memref sig .tc .vmem S1024x2048 .bf16) (h5 : a5.IsWhole)
    (a6 : Memref sig .tc .vmem S2048x512 .f32) (h6 : a6.IsWhole)
    (a7 : Memref sig .tc .vmem S1024x512 .f32) (h7 : a7.IsWhole)
    (a8 : Memref sig .tc .vmem S256x2048 .bf16) (h8 : a8.IsWhole)
    (a9 : Memref sig .tc .vmem S256x2048 .bf16) (h9 : a9.IsWhole)
    (a10 : Memref sig .tc .vmem S256x512 .f32) (h10 : a10.IsWhole)
    (a11 : Memref sig .tc .vmem S1024x512 .f32) (h11 : a11.IsWhole)
    (a12 : Memref sig .tc .vmem S256x512 .f32) (h12 : a12.IsWhole)
    (hc : k0_cond1 i = 1#1) (x0 : Vec F S1024x2048 .bf16) (x1 : Vec F S2048x512 .f32) (x2 : Vec F S1024x2048 .bf16) (x3 : Vec F S2048x512 .f32) (x4 : Vec F S1024x512 .f32) (x5 : Vec F S256x2048 .bf16) (x6 : Vec F S256x2048 .bf16) (x7 : Vec F S256x512 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ (∃ d, owns (c : Thread nD τ) a11 fullShare d) ∗ (∃ d, owns (c : Thread nD τ) a12 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare (k0_pay1 x0 x1 x2 x3 x4) ∗ owns (c : Thread nD τ) a12 fullShare (k0_pay2 x5 x1 x6 x3 x7)) -∗ K ⟨⟩))
      ⊢ wp frame (wpE (defs₀ (F := F)) Variants.none c none) E (cc0_proj_out i a3 h3 a4 h4 a5 h5 a6 h6 a7 h7 a8 h8 a9 h9 a10 h10 a11 h11 a12 h12) K := by
  simp only [cc0_proj_out_eq_skeleton]; unfold cc0_proj_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h9.eq_unread hf6; obtain rfl := h10.eq_unread hf7
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr; · ipureintro; exact h9.read_unread _
    iexact H6
  isplitl [H7]
  · iexists _; isplitr; · ipureintro; exact h10.read_unread _
    iexact H7
  isplitl [H8]
  · iexists _; isplitr
    swap; · iexact H8
    ipureintro
    frame_out
    exact View.read_writes_full _ _ _ _ _
  iexists _; isplitr
  swap; · iexact H9
  ipureintro
  frame_out
  exact View.read_writes_full _ _ _ _ _

set_option maxHeartbeats 1000000 in
/-- A later point: only the block of the long batch is stored, and nothing else is touched. -/
theorem run_later (c : Dev nD) (i : grid0.Coords) (a3 : Memref sig .tc .vmem S1024x2048 .bf16) (h3 : a3.IsWhole)
    (a4 : Memref sig .tc .vmem S2048x512 .f32) (h4 : a4.IsWhole)
    (a5 : Memref sig .tc .vmem S1024x2048 .bf16) (h5 : a5.IsWhole)
    (a6 : Memref sig .tc .vmem S2048x512 .f32) (h6 : a6.IsWhole)
    (a7 : Memref sig .tc .vmem S1024x512 .f32) (h7 : a7.IsWhole)
    (a8 : Memref sig .tc .vmem S256x2048 .bf16) (h8 : a8.IsWhole)
    (a9 : Memref sig .tc .vmem S256x2048 .bf16) (h9 : a9.IsWhole)
    (a10 : Memref sig .tc .vmem S256x512 .f32) (h10 : a10.IsWhole)
    (a11 : Memref sig .tc .vmem S1024x512 .f32) (h11 : a11.IsWhole)
    (a12 : Memref sig .tc .vmem S256x512 .f32) (h12 : a12.IsWhole)
    (hc : ¬k0_cond1 i = 1#1) (x0 : Vec F S1024x2048 .bf16) (x1 : Vec F S2048x512 .f32) (x2 : Vec F S1024x2048 .bf16) (x3 : Vec F S2048x512 .f32) (x4 : Vec F S1024x512 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a11 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a11 fullShare (k0_pay1 x0 x1 x2 x3 x4)) -∗ K ⟨⟩))
      ⊢ wp frame (wpE (defs₀ (F := F)) Variants.none c none) E (cc0_proj_out i a3 h3 a4 h4 a5 h5 a6 h6 a7 h7 a8 h8 a9 h9 a10 h10 a11 h11 a12 h12) K := by
  simp only [cc0_proj_out_eq_skeleton]; unfold cc0_proj_out_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, Hk⟩
  obtain rfl := h3.eq_unread hf0; obtain rfl := h4.eq_unread hf1; obtain rfl := h5.eq_unread hf2; obtain rfl := h6.eq_unread hf3; obtain rfl := h7.eq_unread hf4
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  iexists _; isplitr
  swap; · iexact H8
  ipureintro
  frame_out
  exact View.read_writes_full _ _ _ _ _

end Cert.Kernel6Ideal.Gen

end
-- ==== Proof.Out.Frame.lean ====
/- The output projection and the residual, the whole call: what every point leaves, and the launch's run.

   The short batch's block of column `j` is stored at point `j` of the first row of blocks; from then on the last stored
   block stays in its buffer, and the last point writes it back once more. -/
module

public import proofs.«01_k».proof.Proof.Out.Run

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

theorem first_iff : ∀ t : Fin cfg0.N, k0_cond1 (grid0.coords t) = 1#1 ↔ t.val < 8 :=
  (by decide +kernel : ∀ t : Fin grid0.N, k0_cond1 (grid0.coords t) = 1#1 ↔ t.val < 8)

theorem idle_iff (t : Fin cfg0.N) : cfg0.idle 9 (grid0.coords t) = !decide (t.val < 8) := by
  have h := first_iff t
  show (!(k0_cond1 (grid0.coords t) == 1#1)) = _
  congr 1
  exact Bool.eq_iff_iff.mpr (by rw [beq_iff_eq, decide_eq_true_iff]; exact h)

theorem flush_q (t : Fin cfg0.N) : (cfg0.win 9).flush t = decide (t.val < 7 ∨ t.val = 63) := by
  rw [Window.flush_eq_flushF]
  exact (by decide +kernel : ∀ t : Fin grid0.N, win0_9.flushF t = decide (t.val < 7 ∨ t.val = 63)) t

theorem fresh_table : ∀ n, n ≤ cfg0.N → cfg0.fresh 9 n = decide (n < 8 ∨ n = 64) :=
  Cfg.fresh_tab cfg0 9 (fun n => decide (n < 8 ∨ n = 64)) (by decide) fun t => by
    have ht : t.val < 64 := lt_of_lt_of_eq t.isLt N_0
    have hi : cfg0.idle 9 (cfg0.grid.coords t) = !decide (t.val < 8) := idle_iff t
    rw [flush_q, hi, Bool.eq_iff_iff]
    simp only [decide_eq_true_iff, Bool.or_eq_true, Bool.and_eq_true, Bool.not_eq_true', decide_eq_false_iff_not]
    omega

/-- From point 8 on the buffer holds a stored block. -/
theorem fresh_q (t : Fin cfg0.N) : cfg0.fresh 9 t.val = decide (t.val < 8) := by
  have ht : t.val < 64 := lt_of_lt_of_eq t.isLt N_0
  rw [fresh_table _ (Nat.le_of_lt t.isLt)]
  exact decide_eq_decide.mpr (by omega)

/-- The point whose block of the short batch is in the buffer after point `t`. -/
def stored (t : Fin cfg0.N) : Fin cfg0.N := ⟨min t.val 7, lt_of_le_of_lt (Nat.min_le_left _ _) t.isLt⟩

theorem stored_first (t : Fin cfg0.N) (h : t.val < 8) : stored t = t := Fin.ext (by unfold stored; simp only; omega)

theorem stored_later (t : Fin cfg0.N) (h : ¬t.val < 8) : stored ⟨t.val - 1, by omega⟩ = stored t :=
  Fin.ext (by unfold stored; simp only; omega)

/-! ## The pipeline's proof data -/

/-- After the body at point `t`: the inputs' buffers at their blocks, the long batch's output at its block, the short
    batch's at the block of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (iblk m c 0 t) (iblk m c 1 t) (iblk m c 2 t) (iblk m c 3 t) (iblk m c 4 t)
    | ⟨9, _⟩ => k0_pay2 (iblk m c 5 (stored t)) (iblk m c 1 (stored t)) (iblk m c 6 (stored t)) (iblk m c 3 (stored t)) (iblk m c 7 (stored t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay1 (iblk m c 0 t) (iblk m c 1 t) (iblk m c 2 t) (iblk m c 3 t) (iblk m c 4 t) := by dsimp only [dats]
theorem after0_9 (c : Dev nD) (t : Fin cfg0.N) : (dats m 0 c).after 9 t = k0_pay2 (iblk m c 5 (stored t)) (iblk m c 1 (stored t)) (iblk m c 6 (stored t)) (iblk m c 3 (stored t)) (iblk m c 7 (stored t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a later point the short batch's buffer already holds what it is to be left with. -/
theorem before_q (c : Dev nD) (t : Fin cfg0.N) (h : ¬t.val < 8) (d) : (dats m 0 c).before 9 t d = (dats m 0 c).after 9 t := by
  have hcarry : ∀ (t : Fin cfg0.N) (_ : t.val ≠ 0), cfg0.idle 9 (cfg0.grid.coords t) = true → cfg0.fresh 9 t.val = false →
      (dats m 0 c).after 9 t = (dats m 0 c).after 9 ⟨t.val - 1, by omega⟩ := fun t _ _ hf => by
    rw [fresh_q t] at hf
    rw [after0_9, after0_9, stored_later t (of_decide_eq_false hf)]
  rw [(dats m 0 c).before_out_traj 9 rfl (fun _ _ => rfl) hcarry t.val t rfl d, fresh_q t, decide_eq_false h,
    if_neg Bool.false_ne_true, after0_9, after0_9, stored_later t h]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer that is never idle is left at what the point computes. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a later point the short batch's buffer, left as found, is left as it should be. -/
theorem leaves_later (c : Dev nD) (t : Fin cfg0.N) (h : ¬t.val < 8) :
    owns (c : Thread nD τ) (st0_9 t) fullShare ((dats m 0 c).after 9 t) ⊢ (dats m 0 c).leavesExact 9 t := by
  have hi : cfg0.idle 9 (cfg0.grid.coords t) = true := (idle_iff t).trans (by rw [decide_eq_false h]; rfl)
  cases hf : (cfg0.win 9).flush t
  · rw [Dat.leavesExact_idle (dats m 0 c) 9 t hi hf]
    simp only [before_q m c t h]
    iintro H; iexists fun _ => Classical.choice inferInstance; iexact H
  · unfold Dat.leavesExact; rw [hi, hf]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, after0_0, after0_1, after0_2, after0_3, after0_4, after0_5, after0_6, after0_7, after0_8]
  by_cases h : t.val < 8
  · rw [leaves_live m c 9 t ((idle_iff t).trans (by rw [decide_eq_true h]; rfl)), after0_9, stored_first t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ ((first_iff t).mpr h) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before_q m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ (fun hc => h ((first_iff t).mp hc)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H8]; · iexists _; iexact H8
    iintro ⟨H0, H1, H2, H3, H4, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_later m c t h)
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel6Ideal.Gen

end
-- ==== Proof.Out.Value.lean ====
/- The output projection and the residual: what both result arrays hold, entry by entry. -/
module

public import proofs.«01_k».proof.Proof.Out.Frame
public import Idealize.ShloMosaic.Lib.Pipeline.ValueKit.Point
public import Idealize.ShloMosaic.Lib.Pipeline.Covers

@[expose] public section

set_option maxRecDepth 16384

noncomputable section

namespace Cert.Kernel6Ideal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem pay1_at (a : Vec Ideal S1024x2048 .bf16) (w : Vec Ideal S2048x512 .f32) (h : Vec Ideal S1024x2048 .bf16) (w' : Vec Ideal S2048x512 .f32) (x : Vec Ideal S1024x512 .f32) (r : Fin 1024) (j : Fin 512) :
    k0_pay1 a w h w' x (ix2 r j) = x (ix2 r j) + (∑ k : Fin 2048, a (ix2 r k) * w (ix2 k j) + ∑ k : Fin 2048, h (ix2 r k) * w' (ix2 k j)) := by
  pointwise [k0_pay1]

theorem pay2_at (a : Vec Ideal S256x2048 .bf16) (w : Vec Ideal S2048x512 .f32) (h : Vec Ideal S256x2048 .bf16) (w' : Vec Ideal S2048x512 .f32) (x : Vec Ideal S256x512 .f32) (r : Fin 256) (j : Fin 512) :
    k0_pay2 a w h w' x (ix2 r j) = x (ix2 r j) + (∑ k : Fin 2048, a (ix2 r k) * w (ix2 k j) + ∑ k : Fin 2048, h (ix2 r k) * w' (ix2 k j)) := by
  pointwise [k0_pay2]

theorem index_a : ∀ t : Fin grid0.N, win0_0.index t = ![t.val / 8, 0] := by decide +kernel
theorem index_w : ∀ t : Fin grid0.N, win0_1.index t = ![0, t.val % 8] := by decide +kernel
theorem index_h : ∀ t : Fin grid0.N, win0_2.index t = ![t.val / 8, 0] := by decide +kernel
theorem index_v : ∀ t : Fin grid0.N, win0_3.index t = ![1, t.val % 8] := by decide +kernel
theorem index_x : ∀ t : Fin grid0.N, win0_4.index t = ![t.val / 8, t.val % 8] := by decide +kernel
theorem index_as : ∀ t : Fin grid0.N, win0_5.index t = ![0, 0] := by decide +kernel
theorem index_hs : ∀ t : Fin grid0.N, win0_6.index t = ![0, 0] := by decide +kernel
theorem index_xs : ∀ t : Fin grid0.N, win0_7.index t = ![0, min t.val 7] := by decide +kernel
theorem index_o : ∀ t : Fin grid0.N, win0_8.index t = ![t.val / 8, t.val % 8] := by decide +kernel
theorem index_q : ∀ t : Fin grid0.N, win0_9.index t = ![0, min t.val 7] := by decide +kernel

theorem stored_mod (t : Fin cfg0.N) : (stored t).val % 8 = min t.val 7 := Nat.mod_eq_of_lt (by unfold stored; simp only; omega)
theorem stored_min (t : Fin cfg0.N) : min (stored t).val 7 = min t.val 7 := by unfold stored; simp only; omega

theorem index_ws (t : Fin cfg0.N) : win0_1.index (stored t) = ![0, min t.val 7] := by rw [index_w (stored t), stored_mod t]
theorem index_vs (t : Fin cfg0.N) : win0_3.index (stored t) = ![1, min t.val 7] := by rw [index_v (stored t), stored_mod t]
theorem index_xss (t : Fin cfg0.N) : win0_7.index (stored t) = ![0, min t.val 7] := by rw [index_xs (stored t), stored_min t]

/-- The rows `X` plus the projection of the two halves `A` and `H` of the mixers' outputs, each by its half of `W`. -/
def outAt {n : ℕ} (X : Vec Ideal ⟨2, ![n, 4096]⟩ .f32) (A H : Vec Ideal ⟨2, ![n, 2048]⟩ .bf16) (W : Vec Ideal S4096x4096 .f32) (r : Fin n) (j : Fin 4096) : EReal :=
  X (ix2 r j) + (∑ k : Fin 2048, A (ix2 r k) * W (ix2 ⟨k.val, by have := k.isLt; omega⟩ j) + ∑ k : Fin 2048, H (ix2 r k) * W (ix2 ⟨2048 + k.val, by have := k.isLt; omega⟩ j))

/-- The long batch's rows. -/
def G8 (c : Dev nD) : Vec Ideal S8192x4096 .f32 := fun y =>
  outAt (m ((c.tc : Thread nD τ).loc main_arg0)) (m ((c.tc : Thread nD τ).loc main_arg2)) (m ((c.tc : Thread nD τ).loc main_arg4)) (m ((c.tc : Thread nD τ).loc main_arg6)) (y 0) (y 1)

/-- The short batch's rows. -/
def G9 (c : Dev nD) : Vec Ideal S256x4096 .f32 := fun y =>
  outAt (m ((c.tc : Thread nD τ).loc main_arg1)) (m ((c.tc : Thread nD τ).loc main_arg3)) (m ((c.tc : Thread nD τ).loc main_arg5)) (m ((c.tc : Thread nD τ).loc main_arg6)) (y 0) (y 1)

/-- A sum of two products and a row's entry, term by term. -/
theorem sum_congr2 {x x' : EReal} {a a' w w' h h' v v' : Fin 2048 → EReal} (ex : x = x') (ea : ∀ k, a k = a' k) (ew : ∀ k, w k = w' k) (eh : ∀ k, h k = h' k) (ev : ∀ k, v k = v' k) :
    x + (∑ k, a k * w k + ∑ k, h k * v k) = x' + (∑ k, a' k * w' k + ∑ k, h' k * v' k) := by
  obtain rfl : a = a' := funext ea
  obtain rfl : w = w' := funext ew
  obtain rfl : h = h' := funext eh
  obtain rfl : v = v' := funext ev
  rw [ex]

theorem point8 (c : Dev nD) (t : Fin cfg0.N) (r : Fin 1024) (j : Fin 512) :
    k0_pay1 (iblk m c 0 t) (iblk m c 1 t) (iblk m c 2 t) (iblk m c 3 t) (iblk m c 4 t) (ix2 r j) = G8 m c ((win0_8.blk t).view.emb (ix2 r j)) := by
  rw [pay1_at]
  unfold G8 outAt
  refine sum_congr2 ?_ (fun k => ?_) (fun k => ?_) (fun k => ?_) (fun k => ?_)
  · blk_ext [iblk, V, index_x t, index_o t]
  · blk_ext [iblk, V, index_a t, index_o t]
  · blk_ext [iblk, V, index_w t, index_o t]
  · blk_ext [iblk, V, index_h t, index_o t]
  · blk_ext [iblk, V, index_v t, index_o t]

theorem point9 (c : Dev nD) (t : Fin cfg0.N) (r : Fin 256) (j : Fin 512) :
    k0_pay2 (iblk m c 5 (stored t)) (iblk m c 1 (stored t)) (iblk m c 6 (stored t)) (iblk m c 3 (stored t)) (iblk m c 7 (stored t)) (ix2 r j) = G9 m c ((win0_9.blk t).view.emb (ix2 r j)) := by
  rw [pay2_at]
  unfold G9 outAt
  refine sum_congr2 ?_ (fun k => ?_) (fun k => ?_) (fun k => ?_) (fun k => ?_)
  · blk_ext [iblk, V, index_xss t, index_q t]
  · blk_ext [iblk, V, index_as (stored t), index_q t]
  · blk_ext [iblk, V, index_ws t, index_q t]
  · blk_ext [iblk, V, index_hs (stored t), index_q t]
  · blk_ext [iblk, V, index_vs t, index_q t]

theorem array8 (c : Dev nD) : (dats m 0 c).arrAt 8 cfg0.N = G8 m c := by
  refine (dats m 0 c).arrAt_eq_of_covers 8 _ (by decide +kernel) fun t hf y => ?_
  blk_simp
  rw [after0_8]
  have e : y = ix2 (y 0) (y 1) := eq_ix2 y
  rw [e]
  exact point8 m c t (y 0) (y 1)

theorem array9 (c : Dev nD) : (dats m 0 c).arrAt 9 cfg0.N = G9 m c := by
  refine (dats m 0 c).arrAt_eq_of_covers 9 _ (by decide +kernel) fun t hf y => ?_
  blk_simp
  rw [after0_9]
  have e : y = ix2 (y 0) (y 1) := eq_ix2 y
  rw [e]
  exact point9 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G8 m c
      ∧ r.2.mem ((c.tc : Thread nD τ).loc main_v0_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 8).trans (array8 m c), ((h.1 c).1 9).trans (array9 m c), h.2.1 c⟩)
    (θ_run_and (run_main m ρ) (frame m ρ))

end Cert.Kernel6Ideal.Gen

end
-- ==== Proof.Out.Reference.lean ====
/- The output projection and the residual as the reference computes them, and the claim that the kernel computes the same. -/
module

public import proofs.«01_k».proof.Proof.Out.Value
public import proofs.«01_k».proof.Proof.Gen.Reference6Ideal.Run
public import proofs.«01_k».proof.Proof.Gen.Kernel6
public import proofs.«01_k».proof.Defs

@[expose] public section

set_option maxRecDepth 16384

noncomputable section

namespace Cert.Proof.Out

open Idealize.ShloMosaic Idealize.ShloMosaic.TcCoe Idealize.ShloMosaic.Tactic
open Idealize.SL Idealize.SL.Sem
open Cert.Kernel6Ideal.Gen (G8 G9 outAt)

/-- The compiled kernel's frame, spelt of the idealized text read at the machine's words. -/
theorem frame_same : Cert.quiescent_Kernel6 (hKernel6 := Cert.Kernel6.Gen.facts)
    = (∀ (m : (ℓ : Loc Cert.Kernel6Ideal.nD Cert.Kernel6Ideal.τ Cert.Kernel6Ideal.sig) → Buf (Elt Bits) ℓ) (g : Dev Cert.Kernel6Ideal.nD → PrngReg), True →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)) := by
  sl_kernel_rfl

theorem frame_kernel : Cert.quiescent_Kernel6 (hKernel6 := Cert.Kernel6.Gen.facts) :=
  frame_same.mpr fun m ρ _ => Cert.Kernel6Ideal.Gen.frame (F := Bits) m ρ

theorem frame_ideal : Cert.quiescent_Kernel6Ideal (hKernel6Ideal := Cert.Kernel6Ideal.Gen.facts) := fun m ρ _ =>
  Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

theorem values : Cert.algebraic_Kernel6Ideal_Reference6Ideal (hKernel6Ideal := Cert.Kernel6Ideal.Gen.facts) (hReference6Ideal := Cert.Reference6Ideal.Gen.facts) := by
  intro m g m' g' _ hargs
  refine ⟨fun c => G8 m c, fun c => G9 m c, Cert.Kernel6Ideal.Gen.results m g, ?_⟩
  refine (θ_run Cert.Reference6Ideal.defs _ _).mono (fun r h c => ?_) (Cert.Reference6Ideal.Value.run m' g')
  obtain ⟨a0, a1, a2, a3, a4, a5, a6⟩ := hargs c
  refine ⟨(h c).1.trans ?_, (h c).2.1.trans ?_, (h c).2.2⟩
  · rw [a0, a2, a4, a6]
    funext y
    pointwise [G8, outAt]
  · rw [a1, a3, a5, a6]
    funext y
    pointwise [G9, outAt]

end Cert.Proof.Out

end
-- ==== Proof.Sample.Head.lean ====
/- What one head's part of a sample's eight rows computes, written once with the head's first column as an argument,
   and its values read at an index. -/
module
public import proofs.«01_k».proof.Proof.Gen.Kernel7Ideal.Skeleton
public import proofs.«01_k».proof.Proof.Math
@[expose] public section
set_option maxRecDepth 16384
noncomputable section
namespace Cert.Kernel7Ideal.Gen
open Idealize.ShloMosaic Idealize.ShloMosaic.TcCoe Idealize.ShloMosaic.Tactic Hgrn

section Parts
variable {F : FTy → Type} [FloatOps F] (lf q : Vec F S8x2048 .f32)

/-- The row numbers. -/
abbrev rowNo : IVec S8x2048 32 := iota .tc S8x2048 32 [0] iota_S8x2048_d0_w32

/-- The queries scaled by the decay since the first row, and the keys by its inverse. -/
def qPart : FVec F S8x2048 .bf16 := k0_pay49 rowNo (k0_pay40 q) (k0_pay43 lf) (Scalar.ofBits .f32 0x00000000#32)
def kPart : FVec F S8x2048 .bf16 := k0_pay50 rowNo (k0_pay41 lf) (k0_pay43 lf) (Scalar.ofBits .f32 0x00000000#32)

variable (c : ℕ) (hs : S8x2048.Slices ![0, c] S8x128) (hd : S1x2048.Slices ![0, c] S1x128)

/-- The scores of a head. -/
def headAtt (a b : FVec F S8x2048 .bf16) : FVec F S8x8 .f32 :=
  matmul dot_S8x128_S8x128_S8x8_1_1_0_0_n_n none (extractStridedSlice S8x128 ![0, c] a hs) (extractStridedSlice S8x128 ![0, c] b hs) (constant S8x8 .f32 0x00000000#32)

/-- The output of a head before the norm: from the given state, and from the rows. -/
def headRaw (qe v : FVec F S8x2048 .bf16) (att : FVec F S8x8 .f32) (S : Vec F S1x128x128 .f32) : FVec F S8x128 .f32 :=
  addf (matmul dot_S8x128_S128x128_S8x128_1_1_0_0_n_n none (extractStridedSlice S8x128 ![0, c] qe hs)
      (truncf .bf16 (shapeCast S128x128 S shapeCasts_S1x128x128_S128x128) bitsLt_bf16_f32) (constant S8x128 .f32 0x00000000#32))
    (matmul dot_S8x8_S8x128_S8x128_1_0_0_1_n_n none
      (truncf .bf16 (select k0_pay38 att (broadcast S8x8 (Scalar.ofBits .f32 0x00000000#32))) bitsLt_bf16_f32)
      (extractStridedSlice S8x128 ![0, c] v hs) (constant S8x128 .f32 0x00000000#32))

/-- The normalised and gated output. -/
def headNorm (o : FVec F S8x128 .f32) (gn : Vec F S1x128 .f32) (gate : Vec F S8x128 .f32) : FVec F S8x128 .bf16 :=
  truncf .bf16 (mulf (mulf (mulf o (broadcastTo S8x128 (rsqrt (addf (divf (shapeCast S8x1 (multiReduction .add [1] S8 (mulf o o) 0x00000000#32 reduces_S8x128_S8 (.inl rfl) rfl) shapeCasts_S8_S8x1)
        (broadcast S8x1 (Scalar.ofBits .f32 0x43000000#32))) (broadcast S8x1 (Scalar.ofBits .f32 0x358637BD#32)))) broadcasts_S8x1_S8x128))
      (broadcastTo S8x128 (shapeCast S1x128 gn shapeCasts_S1x128_S1x128) broadcasts_S1x128_S8x128)) (shapeCast S8x128 gate shapeCasts_S8x128_S8x128)) bitsLt_bf16_f32

/-- A head's stored output. -/
def headOut (v : Vec F S8x2048 .bf16) (S : Vec F S1x128x128 .f32) (gn : Vec F S1x128 .f32) (gate : Vec F S8x128 .f32) : FVec F S8x128 .bf16 :=
  headNorm (headRaw c hs (k0_pay45 lf q) (k0_pay42 v) (headAtt c hs (qPart lf q) (kPart lf)) S) gn gate

/-- A head's state after the rows. -/
def headSt (v : Vec F S8x2048 .bf16) (S : Vec F S1x128x128 .f32) : FVec F S1x128x128 .f32 :=
  shapeCast S1x128x128 (addf (mulf (shapeCast S128x128 S shapeCasts_S1x128x128_S128x128) (broadcastTo S128x128 (extractStridedSlice S1x128 ![0, c] (k0_pay47 lf) hd) broadcasts_S1x128_S128x128))
    (matmul dot_S8x128_S8x128_S128x128_0_0_1_1_n_n none (extractStridedSlice S8x128 ![0, c] (k0_pay42 v) hs) (extractStridedSlice S8x128 ![0, c] (k0_pay46 lf) hs) (constant S128x128 .f32 0x00000000#32))) shapeCasts_S128x128_S1x128x128

/-- One head's given state as it is stored, and as it is handed back. -/
def begT (w : Vec F S1x1x128x128 .f32) : FVec F S1x128x128 .f32 :=
  shapeCast S1x128x128 (transpose S128x128 [1, 0] (shapeCast S128x128 w shapeCasts_S1x1x128x128_S128x128) transposes_S128x128_p1_0_S128x128) shapeCasts_S128x128_S1x128x128
def endT (w : Vec F S1x128x128 .f32) : FVec F S1x1x128x128 .f32 :=
  shapeCast S1x1x128x128 (transpose S128x128 [1, 0] (shapeCast S128x128 w shapeCasts_S1x128x128_S128x128) transposes_S128x128_p1_0_S128x128) shapeCasts_S128x128_S1x1x128x128

theorem begT_at (w : Vec F S1x1x128x128 .f32) (a : Fin 1) (b c : Fin 128) : begT w (ix3 a b c) = w (ix4 0 0 c b) := by
  unfold begT
  pointwise
theorem endT_at (w : Vec F S1x128x128 .f32) (a a' : Fin 1) (b c : Fin 128) : endT w (ix4 a a' b c) = w (ix3 0 c b) := by
  unfold endT
  pointwise
end Parts

theorem pay38_at (t s : Fin 8) : k0_pay38 (ix2 t s) = if s ≤ t then 1#1 else 0#1 := by
  revert t s; decide +kernel

theorem sel_ite {p : Prop} [Decidable p] {α : Type} (a b : α) : Scalar.select (if p then 1#1 else 0#1) a b = if p then a else b := by
  split <;> rfl

/-- Every row belongs to the one group. -/
theorem mask (t : Fin 8) : IntOp.andi (IntOp.cmpi .sge (BitVec.ofNat 32 t) 0#32) (IntOp.cmpi .slt (BitVec.ofNat 32 t) 8#32) = 1#1 := by
  revert t; decide +kernel
theorem kmask (t : Fin 8) : IntOp.cmpi .slt (BitVec.ofNat 32 t) 8#32 = 1#1 := by
  revert t; decide +kernel

/-- The running sum of the logarithms of the decays over all heads. -/
def cumAll (lf : Vec Ideal S8x2048 .f32) (t : Fin 8) (j : Fin 2048) : EReal := ∑ s, if s ≤ t then lf (ix2 s j) else 0

section Values
variable {lf : Vec Ideal S8x2048 .f32} (hL : ∀ s j, lf (ix2 s j) ≠ (⊤ : EReal)) (q : Vec Ideal S8x2048 .f32) (v : Vec Ideal S8x2048 .bf16)
  (c : ℕ) (hc : c + 128 ≤ 2048) (hs : S8x2048.Slices ![0, c] S8x128) (hd : S1x2048.Slices ![0, c] S1x128)

/-- A head's columns. -/
def colq (X : Vec Ideal S8x2048 .f32) (t : Fin 8) (d : Fin 128) : EReal := X (ix2 t ⟨c + d, by omega⟩)
def colv (X : Vec Ideal S8x2048 .bf16) (t : Fin 8) (d : Fin 128) : EReal := X (ix2 t ⟨c + d, by omega⟩)

include hL
theorem pay43_at (t : Fin 8) (j : Fin 2048) : k0_pay43 lf (ix2 t j) = cumAll lf t j := by
  unfold k0_pay43 k0_pay39
  pointwise
  simp only [pay38_at, sel_ite]
  rw [← Finset.sum_add_distrib]
  refine Finset.sum_congr rfl fun s _ => ?_
  split
  · exact add_sub_self (hL s j)
  · exact add_zero (0 : EReal)

theorem qPart_at (t : Fin 8) (j : Fin 2048) : qPart lf q (ix2 t j) = (q (ix2 t j) * Ideal.exp (cumAll lf t j - 0) : EReal) := by
  unfold qPart k0_pay49 k0_pay48 k0_pay40 rowNo
  pointwise
  rw [mask, pay43_at hL]
  rfl
theorem kPart_at (t : Fin 8) (j : Fin 2048) : kPart lf (ix2 t j) = ((1 - Ideal.exp (lf (ix2 t j))) * Ideal.exp (0 - cumAll lf t j) : EReal) := by
  unfold kPart k0_pay50 k0_pay48 k0_pay41 k0_pay39 rowNo
  pointwise
  rw [kmask, pay43_at hL]
  rfl

theorem att_score {t s : Fin 8} (hst : s ≤ t) : headAtt c hs (qPart lf q) (kPart lf) (ix2 t s) = score (colq c hc q) (colq c hc lf) t s := by
  have hL' : ∀ s d, colq c hc lf s d ≠ ⊤ := fun s d => hL s _
  unfold headAtt
  pointwise
  simp only [qPart_at hL, kPart_at hL]
  unfold score
  simp only [if_pos hst]
  refine Finset.sum_congr rfl fun d _ => ?_
  rw [← split_zero hL' hst d, mul_mul_mul_comm]
  exact mul_right_comm _ _ _

omit hL in
theorem norm_at (o : FVec Ideal S8x128 .f32) (gn : Vec Ideal S1x128 .f32) (gate : Vec Ideal S8x128 .f32) (t : Fin 8) (j : Fin 128) :
    headNorm o gn gate (ix2 t j) = fin (fun t j => o (ix2 t j)) (fun j => gn (ix2 0 j)) (fun t j => gate (ix2 t j)) t j := by
  unfold headNorm
  pointwise
  rfl

theorem raw_at (S : Vec Ideal S1x128x128 .f32) (t : Fin 8) (j : Fin 128) :
    headRaw c hs (k0_pay45 lf q) (k0_pay42 v) (headAtt c hs (qPart lf q) (kPart lf)) S (ix2 t j)
      = raw (colq c hc q) (colq c hc lf) (colv c hc v) (fun d e => S (ix3 0 e d)) t j := by
  unfold headRaw k0_pay45 k0_pay42 k0_pay40
  pointwise
  simp only [pay38_at, sel_ite, pay43_at hL]
  unfold raw
  congr 1
  refine Finset.sum_congr rfl fun s _ => ?_
  split
  · next h => rw [att_score hL q c hc hs h]; rfl
  · next h => simp [score, h]

theorem headSt_at (S : Vec Ideal S1x128x128 .f32) (a : Fin 1) (e d : Fin 128) : headSt lf c hs hd v S (ix3 a e d)
      = nxtTo 7 (colq c hc lf) (colv c hc v) (fun d e => S (ix3 0 e d)) d e := by
  unfold headSt k0_pay47 k0_pay44 k0_pay46 k0_pay41 k0_pay42 k0_pay44 k0_pay39
  pointwise
  simp only [pay43_at hL]
  unfold nxtTo
  congr 1
  · exact mul_comm _ _
  · exact Finset.sum_congr rfl fun s _ => mul_comm _ _

theorem headOut_at (S : Vec Ideal S1x128x128 .f32) (gn : Vec Ideal S1x128 .f32) (gate : Vec Ideal S8x128 .f32) (t : Fin 8) (j : Fin 128) :
    headOut lf q c hs v S gn gate (ix2 t j) = fin (raw (colq c hc q) (colq c hc lf) (colv c hc v) (fun d e => S (ix3 0 e d)))
      (fun j => gn (ix2 0 j)) (fun t j => gate (ix2 t j)) t j := by
  unfold headOut
  rw [norm_at]
  simp only [raw_at hL q v c hc hs S]
end Values
end Cert.Kernel7Ideal.Gen
end
-- ==== Proof.Sample.Point.lean ====
/- What one sample's grid point leaves in its two output blocks. -/
module
public import proofs.«01_k».proof.Proof.Gen.Kernel7Ideal.Frame
public import proofs.«01_k».proof.Proof.Sample.Head
public import Idealize.ShloMosaic.Lib.Pipeline.CanonAppend
@[expose] public section
set_option maxRecDepth 16384
noncomputable section
namespace Cert.Kernel7Ideal.Gen
open Idealize.ShloMosaic Idealize.ShloMosaic.TcCoe Idealize.ShloMosaic.Tactic Hgrn

/-- A head's columns of a block of rows, and of the norm's weights. -/
def bch {e : EltTy} (X : Vec Ideal S8x2048 e) (f : Elt Ideal e → EReal) (h : Fin 16) (t : Fin 8) (d : Fin 128) : EReal := f (X (ix2 t (Fin.ofNat 2048 (128 * h.val + d.val))))
def gch (w : Vec Ideal S1x2048 .f32) (h : Fin 16) (d : Fin 128) : EReal := w (ix2 0 (Fin.ofNat 2048 (128 * h.val + d.val)))

/-- A head's given state. -/
def sth (x5 : Vec Ideal S1x16x128x128 .f32) (h : Fin 16) (d e : Fin 128) : EReal := x5 (ix4 0 h d e)

/-- The states as they are kept while the point runs: the given ones, and those after the rows. -/
def begS (x5 : Vec Ideal S1x16x128x128 .f32) : Vec Ideal S16x128x128 .f32 := fun y => sth x5 (y 0) (y 2) (y 1)
def stepS (x1 : Vec Ideal S8x2048 .f32) (x2 : Vec Ideal S8x2048 .bf16) (x5 : Vec Ideal S1x16x128x128 .f32) : Vec Ideal S16x128x128 .f32 := fun y =>
  nxtTo 7 (bch (e := .f32) x1 id (y 0)) (bch (e := .bf16) x2 id (y 0)) (sth x5 (y 0)) (y 2) (y 1)

/-- The point's two output blocks. -/
def outB (x0 x1 : Vec Ideal S8x2048 .f32) (x2 : Vec Ideal S8x2048 .bf16) (x3 : Vec Ideal S8x2048 .f32) (x4 : Vec Ideal S1x2048 .f32) (x5 : Vec Ideal S1x16x128x128 .f32)
    (h : Fin 16) (t : Fin 8) (j : Fin 128) : EReal :=
  fin (raw (bch (e := .f32) x0 id h) (bch (e := .f32) x1 id h) (bch (e := .bf16) x2 id h) (sth x5 h)) (gch x4 h) (bch (e := .f32) x3 id h) t j
def outS (x0 x1 : Vec Ideal S8x2048 .f32) (x2 : Vec Ideal S8x2048 .bf16) (x3 : Vec Ideal S8x2048 .f32) (x4 : Vec Ideal S1x2048 .f32) (x5 : Vec Ideal S1x16x128x128 .f32) : Vec Ideal S8x2048 .bf16 := fun y =>
  outB x0 x1 x2 x3 x4 x5 (Fin.ofNat 16 ((y 1 : Fin 2048).val / 128)) (y 0) (Fin.ofNat 128 (y 1 : Fin 2048).val)
def endS (x1 : Vec Ideal S8x2048 .f32) (x2 : Vec Ideal S8x2048 .bf16) (x5 : Vec Ideal S1x16x128x128 .f32) : Vec Ideal S1x16x128x128 .f32 := fun y =>
  nxtTo 7 (bch (e := .f32) x1 id (y 1)) (bch (e := .bf16) x2 id (y 1)) (sth x5 (y 1)) (y 2) (y 3)

theorem off1 : k0_off1 = ![0, 0] := by decide +kernel

/-- The block's rows read at an index. -/
theorem rows_at {e : EltTy} (arg : Memref sig .tc .vmem S8x2048 e) (harg : arg.IsWhole) (x : Vec Ideal S8x2048 e) (inb : ∀ a, k0_off1 a + S8x2048.size a ≤ S8x2048.size a) (t : Fin 8) (j : Fin 2048) :
    View.readAt (Elt Ideal) arg.view (Rect.unit (s := S8x2048) k0_off1 S8x2048.size inb).toLoadRect (harg.unread x) (ix2 t j) = x (ix2 t j) := by
  rw [View.readAt_apply, harg.read_unread]
  refine congrArg x (funext fun d => Fin.ext ?_)
  match d with
  | ⟨0, _⟩ => show k0_off1 0 + 1 * t.val = t.val; rw [off1]; show 0 + 1 * t.val = t.val; omega
  | ⟨1, _⟩ => show k0_off1 1 + 1 * j.val = j.val; rw [off1]; show 0 + 1 * j.val = j.val; omega

theorem beg_piece (arg8 : Memref sig .tc .vmem S1x16x128x128 .f32) (harg8 : arg8.IsWhole) (x5 : Vec Ideal S1x16x128x128 .f32) (h : Fin 16)
    (inb : ∀ a, ![0, h.val, 0, 0] a + S1x1x128x128.size a ≤ S1x16x128x128.size a) (inb' : ∀ a, ![h.val, 0, 0] a + S1x128x128.size a ≤ S16x128x128.size a)
    (x : S1x128x128.Idx) :
    begT (View.readAt (Elt Ideal) arg8.view (Rect.unit (s := S1x16x128x128) ![0, h.val, 0, 0] S1x1x128x128.size inb).toLoadRect (harg8.unread x5)) x
      = begS x5 ((Rect.unit (s := S16x128x128) ![h.val, 0, 0] S1x128x128.size inb').emb x) := by
  obtain ⟨a, b, c, rfl⟩ : ∃ (a : Fin 1) (b c : Fin 128), x = ix3 a b c := ⟨x 0, x 1, x 2, eq_ix3 x⟩
  rw [begT_at, View.readAt_apply, harg8.read_unread]
  unfold begS sth
  refine congrArg x5 (funext fun d => Fin.ext ?_)
  match d with
  | ⟨0, _⟩ => rfl
  | ⟨1, _⟩ => show h.val + 1 * 0 = h.val + 1 * a.val; have := a.isLt; omega
  | ⟨2, _⟩ => show 0 + 1 * c.val = 0 + 1 * c.val; rfl
  | ⟨3, _⟩ => show 0 + 1 * b.val = 0 + 1 * b.val; rfl

section Point
variable (c : Dev nD) (i : grid0.Coords) (arg3 : Memref sig .tc .vmem S8x2048 .f32) (harg3 : arg3.IsWhole) (arg4 : Memref sig .tc .vmem S8x2048 .f32) (harg4 : arg4.IsWhole) (arg5 : Memref sig .tc .vmem S8x2048 .bf16) (harg5 : arg5.IsWhole)
  (arg6 : Memref sig .tc .vmem S8x2048 .f32) (harg6 : arg6.IsWhole) (arg7 : Memref sig .tc .vmem S1x2048 .f32) (harg7 : arg7.IsWhole) (arg8 : Memref sig .tc .vmem S1x16x128x128 .f32) (harg8 : arg8.IsWhole)
  (arg9 : Memref sig .tc .vmem S8x2048 .bf16) (harg9 : arg9.IsWhole) (arg10 : Memref sig .tc .vmem S1x16x128x128 .f32) (harg10 : arg10.IsWhole) (arg11 : Memref sig .tc .vmem S16x128x128 .f32) (harg11 : arg11.IsWhole)
  (hc0 : cond0_0 i) (hc1 : cond0_1 i) (x0 x1 : Vec Ideal S8x2048 .f32) (x2 : Vec Ideal S8x2048 .bf16) (x3 : Vec Ideal S8x2048 .f32) (x4 : Vec Ideal S1x2048 .f32) (x5 : Vec Ideal S1x16x128x128 .f32)

/-- The scratch after the first sixteen stores holds the given states. -/
theorem beg_all : ∀ p ∈ kernelRun0_A.sl.HS0_16 (F := Ideal) c arg8 harg8 x5, ∀ x, p.2 x = begS x5 (p.1.emb x) := by
  intro p hp x
  unfold kernelRun0_A.sl.HS0_16 at hp
  simp only [List.mem_cons, List.not_mem_nil, or_false] at hp
  rcases hp with rfl | rfl | rfl | rfl | rfl | rfl | rfl | rfl | rfl | rfl | rfl | rfl | rfl | rfl | rfl | rfl
  · exact beg_piece arg8 harg8 x5 15 (by decide +kernel) (by decide +kernel) x
  · exact beg_piece arg8 harg8 x5 14 (by decide +kernel) (by decide +kernel) x
  · exact beg_piece arg8 harg8 x5 13 (by decide +kernel) (by decide +kernel) x
  · exact beg_piece arg8 harg8 x5 12 (by decide +kernel) (by decide +kernel) x
  · exact beg_piece arg8 harg8 x5 11 (by decide +kernel) (by decide +kernel) x
  · exact beg_piece arg8 harg8 x5 10 (by decide +kernel) (by decide +kernel) x
  · exact beg_piece arg8 harg8 x5 9 (by decide +kernel) (by decide +kernel) x
  · exact beg_piece arg8 harg8 x5 8 (by decide +kernel) (by decide +kernel) x
  · exact beg_piece arg8 harg8 x5 7 (by decide +kernel) (by decide +kernel) x
  · exact beg_piece arg8 harg8 x5 6 (by decide +kernel) (by decide +kernel) x
  · exact beg_piece arg8 harg8 x5 5 (by decide +kernel) (by decide +kernel) x
  · exact beg_piece arg8 harg8 x5 4 (by decide +kernel) (by decide +kernel) x
  · exact beg_piece arg8 harg8 x5 3 (by decide +kernel) (by decide +kernel) x
  · exact beg_piece arg8 harg8 x5 2 (by decide +kernel) (by decide +kernel) x
  · exact beg_piece arg8 harg8 x5 1 (by decide +kernel) (by decide +kernel) x
  · exact beg_piece arg8 harg8 x5 0 (by decide +kernel) (by decide +kernel) x

theorem beg_at (h : Fin 16) (inb : ∀ a, ![h.val, 0, 0] a + S1x128x128.size a ≤ S16x128x128.size a) (a : Fin 1) (e d : Fin 128) :
    arg11.view.readCov (kernelRun0_A.sl.HS0_16 (F := Ideal) c arg8 harg8 x5) (Rect.unit (s := S16x128x128) ![h.val, 0, 0] S1x128x128.size inb).toLoadRect (ix3 a e d) = sth x5 h d e := by
  have e1 : (Rect.unit (s := S16x128x128) ![h.val, 0, 0] S1x128x128.size inb).toLoadRect.idx (ix3 a e d) = ix3 h e d := by
    refine funext fun b => Fin.ext ?_
    match b with
    | ⟨0, _⟩ => show h.val + 1 * a.val = h.val; have := a.isLt; omega
    | ⟨1, _⟩ => show 0 + 1 * e.val = e.val; omega
    | ⟨2, _⟩ => show 0 + 1 * d.val = d.val; omega
  refine (View.read_writes_apply_of_pieces (Val := Elt Ideal) (e := .f32) _ _ (begS x5) (kernelRun0_A.sl.HS0_16 (F := Ideal) c arg8 harg8 x5) (beg_all c arg8 harg8 x5) _ (View.cover_of_tiledL (kernelRun0_A.sl.HS0_16 (F := Ideal) c arg8 harg8 x5) S1x128x128.size (by sl_kernel_rfl) _)).trans ?_
  rw [e1]
  rfl

/-- A head's state after the rows, in the scratch. -/
theorem st_piece (hL : ∀ y, x1 y ≠ (⊤ : EReal)) (h : Fin 16) (k : ℕ) (hk : k = 128 * h.val) (hs : S8x2048.Slices ![0, k] S8x128) (hd : S1x2048.Slices ![0, k] S1x128)
    (inb1 : ∀ a, k0_off1 a + S8x2048.size a ≤ S8x2048.size a) (inb : ∀ a, ![h.val, 0, 0] a + S1x128x128.size a ≤ S16x128x128.size a) (x : S1x128x128.Idx) :
    headSt (View.readAt (Elt Ideal) arg4.view (Rect.unit (s := S8x2048) k0_off1 S8x2048.size inb1).toLoadRect (harg4.unread x1)) k hs hd
      (View.readAt (Elt Ideal) arg5.view (Rect.unit (s := S8x2048) k0_off1 S8x2048.size inb1).toLoadRect (harg5.unread x2))
      (arg11.view.readCov (kernelRun0_A.sl.HS0_16 (F := Ideal) c arg8 harg8 x5) (Rect.unit (s := S16x128x128) ![h.val, 0, 0] S1x128x128.size inb).toLoadRect) x
      = stepS x1 x2 x5 ((Rect.unit (s := S16x128x128) ![h.val, 0, 0] S1x128x128.size inb).emb x) := by
  obtain ⟨a, e, d, rfl⟩ : ∃ (a : Fin 1) (e d : Fin 128), x = ix3 a e d := ⟨x 0, x 1, x 2, eq_ix3 x⟩
  have hlt := h.isLt
  have e1 : (Rect.unit (s := S16x128x128) ![h.val, 0, 0] S1x128x128.size inb).emb (ix3 a e d) = ix3 h e d := by
    refine funext fun b => Fin.ext ?_
    match b with
    | ⟨0, _⟩ => show h.val + 1 * a.val = h.val; have := a.isLt; omega
    | ⟨1, _⟩ => show 0 + 1 * e.val = e.val; omega
    | ⟨2, _⟩ => show 0 + 1 * d.val = d.val; omega
  rw [e1, headSt_at (fun s j => by rw [rows_at arg4 harg4]; exact hL _) _ k (by omega)]
  show _ = nxtTo 7 (bch (e := .f32) x1 id h) (bch (e := .bf16) x2 id h) (sth x5 h) d e
  have i1 : ∀ d : Fin 128, (⟨k + d.val, by omega⟩ : Fin 2048) = Fin.ofNat 2048 (128 * h.val + d.val) := fun d => Fin.ext (by show k + d.val = (128 * h.val + d.val) % 2048; omega)
  congr 1
  · funext t d; exact (rows_at arg4 harg4 x1 inb1 t _).trans (by rw [i1]; rfl)
  · funext t d; exact (rows_at arg5 harg5 x2 inb1 t _).trans (by rw [i1]; rfl)
  · funext d e; exact beg_at c arg8 harg8 arg11 x5 h inb 0 e d

/-- The last sixteen of the scratch's stores. -/
abbrev lastL : List (View.Piece (Elt Ideal) S16x128x128 .f32) := (kernelRun0_A.sl.HS0_32 (F := Ideal) c arg4 harg4 arg5 harg5 arg8 harg8 arg11 x1 x2 x5).take 16

theorem st_all (hL : ∀ y, x1 y ≠ (⊤ : EReal)) : ∀ p ∈ lastL c arg4 harg4 arg5 harg5 arg8 harg8 arg11 x1 x2 x5, ∀ x, p.2 x = stepS x1 x2 x5 (p.1.emb x) := by
  intro p hp x
  unfold lastL kernelRun0_A.sl.HS0_32 at hp
  simp only [List.take_succ_cons, List.take_zero, List.mem_cons, List.not_mem_nil, or_false] at hp
  rcases hp with rfl | rfl | rfl | rfl | rfl | rfl | rfl | rfl | rfl | rfl | rfl | rfl | rfl | rfl | rfl | rfl
  · exact st_piece c arg4 harg4 arg5 harg5 arg8 harg8 arg11 x1 x2 x5 hL 15 1920 rfl (by decide) (by decide) _ _ x
  · exact st_piece c arg4 harg4 arg5 harg5 arg8 harg8 arg11 x1 x2 x5 hL 14 1792 rfl (by decide) (by decide) _ _ x
  · exact st_piece c arg4 harg4 arg5 harg5 arg8 harg8 arg11 x1 x2 x5 hL 13 1664 rfl (by decide) (by decide) _ _ x
  · exact st_piece c arg4 harg4 arg5 harg5 arg8 harg8 arg11 x1 x2 x5 hL 12 1536 rfl (by decide) (by decide) _ _ x
  · exact st_piece c arg4 harg4 arg5 harg5 arg8 harg8 arg11 x1 x2 x5 hL 11 1408 rfl (by decide) (by decide) _ _ x
  · exact st_piece c arg4 harg4 arg5 harg5 arg8 harg8 arg11 x1 x2 x5 hL 10 1280 rfl (by decide) (by decide) _ _ x
  · exact st_piece c arg4 harg4 arg5 harg5 arg8 harg8 arg11 x1 x2 x5 hL 9 1152 rfl (by decide) (by decide) _ _ x
  · exact st_piece c arg4 harg4 arg5 harg5 arg8 harg8 arg11 x1 x2 x5 hL 8 1024 rfl (by decide) (by decide) _ _ x
  · exact st_piece c arg4 harg4 arg5 harg5 arg8 harg8 arg11 x1 x2 x5 hL 7 896 rfl (by decide) (by decide) _ _ x
  · exact st_piece c arg4 harg4 arg5 harg5 arg8 harg8 arg11 x1 x2 x5 hL 6 768 rfl (by decide) (by decide) _ _ x
  · exact st_piece c arg4 harg4 arg5 harg5 arg8 harg8 arg11 x1 x2 x5 hL 5 640 rfl (by decide) (by decide) _ _ x
  · exact st_piece c arg4 harg4 arg5 harg5 arg8 harg8 arg11 x1 x2 x5 hL 4 512 rfl (by decide) (by decide) _ _ x
  · exact st_piece c arg4 harg4 arg5 harg5 arg8 harg8 arg11 x1 x2 x5 hL 3 384 rfl (by decide) (by decide) _ _ x
  · exact st_piece c arg4 harg4 arg5 harg5 arg8 harg8 arg11 x1 x2 x5 hL 2 256 rfl (by decide) (by decide) _ _ x
  · exact st_piece c arg4 harg4 arg5 harg5 arg8 harg8 arg11 x1 x2 x5 hL 1 128 rfl (by decide) (by decide) _ _ x
  · exact st_piece c arg4 harg4 arg5 harg5 arg8 harg8 arg11 x1 x2 x5 hL 0 0 rfl (by decide) (by decide) _ _ x

theorem st_at (hL : ∀ y, x1 y ≠ (⊤ : EReal)) (h : Fin 16) (inb : ∀ a, ![h.val, 0, 0] a + S1x128x128.size a ≤ S16x128x128.size a) (a : Fin 1) (e d : Fin 128) :
    arg11.view.readCov (kernelRun0_A.sl.HS0_32 (F := Ideal) c arg4 harg4 arg5 harg5 arg8 harg8 arg11 x1 x2 x5) (Rect.unit (s := S16x128x128) ![h.val, 0, 0] S1x128x128.size inb).toLoadRect (ix3 a e d)
      = stepS x1 x2 x5 (ix3 h e d) := by
  have e1 : (Rect.unit (s := S16x128x128) ![h.val, 0, 0] S1x128x128.size inb).toLoadRect.idx (ix3 a e d) = ix3 h e d := by
    refine funext fun b => Fin.ext ?_
    match b with
    | ⟨0, _⟩ => show h.val + 1 * a.val = h.val; have := a.isLt; omega
    | ⟨1, _⟩ => show 0 + 1 * e.val = e.val; omega
    | ⟨2, _⟩ => show 0 + 1 * d.val = d.val; omega
  refine (congrFun (View.readCov_eq_canon' _ _ _) _).trans ?_
  rw [show kernelRun0_A.sl.HS0_32 (F := Ideal) c arg4 harg4 arg5 harg5 arg8 harg8 arg11 x1 x2 x5 = lastL c arg4 harg4 arg5 harg5 arg8 harg8 arg11 x1 x2 x5 ++ kernelRun0_A.sl.HS0_16 (F := Ideal) c arg8 harg8 x5 from rfl]
  refine (View.canon_append_of_pieces (stepS x1 x2 x5) _ _ (st_all c arg4 harg4 arg5 harg5 arg8 harg8 arg11 x1 x2 x5 hL) _ (View.cover_of_tiledL (lastL c arg4 harg4 arg5 harg5 arg8 harg8 arg11 x1 x2 x5) S1x128x128.size (by sl_kernel_rfl) _)).trans ?_
  exact congrArg (stepS x1 x2 x5) e1

theorem end_piece (hL : ∀ y, x1 y ≠ (⊤ : EReal)) (h : Fin 16)
    (inb : ∀ a, ![h.val, 0, 0] a + S1x128x128.size a ≤ S16x128x128.size a) (inb' : ∀ a, ![0, h.val, 0, 0] a + ![1, 1, 128, 128] a ≤ S1x16x128x128.size a)
    (x : S1x1x128x128.Idx) :
    endT (arg11.view.readCov (kernelRun0_A.sl.HS0_32 (F := Ideal) c arg4 harg4 arg5 harg5 arg8 harg8 arg11 x1 x2 x5) (Rect.unit (s := S16x128x128) ![h.val, 0, 0] S1x128x128.size inb).toLoadRect) x
      = endS x1 x2 x5 ((Rect.unit (s := S1x16x128x128) ![0, h.val, 0, 0] ![1, 1, 128, 128] inb').emb x) := by
  obtain ⟨a, a', b, d, rfl⟩ : ∃ (a a' : Fin 1) (b d : Fin 128), x = ix4 a a' b d := ⟨x 0, x 1, x 2, x 3, eq_ix4 x⟩
  have e1 : (Rect.unit (s := S1x16x128x128) ![0, h.val, 0, 0] ![1, 1, 128, 128] inb').emb (ix4 a a' b d) = ix4 0 h b d := by
    refine funext fun k => Fin.ext ?_
    match k with
    | ⟨0, _⟩ => show 0 + 1 * a.val = 0; have := a.isLt; omega
    | ⟨1, _⟩ => show h.val + 1 * a'.val = h.val; have := a'.isLt; omega
    | ⟨2, _⟩ => show 0 + 1 * b.val = b.val; omega
    | ⟨3, _⟩ => show 0 + 1 * d.val = d.val; omega
  rw [e1, endT_at, st_at c arg4 harg4 arg5 harg5 arg8 harg8 arg11 x1 x2 x5 hL h inb]
  rfl

theorem out_piece (hL : ∀ y, x1 y ≠ (⊤ : EReal)) (h : Fin 16) (k : ℕ) (hk : k = 128 * h.val) (hs : S8x2048.Slices ![0, k] S8x128)
    (inb1 : ∀ a, k0_off1 a + S8x2048.size a ≤ S8x2048.size a) (inb : ∀ a, ![h.val, 0, 0] a + S1x128x128.size a ≤ S16x128x128.size a)
    (inb7 : ∀ a, ![0, k] a + S1x128.size a ≤ S1x2048.size a) (off : Fin 2 → ℕ) (hoff : off = ![0, k]) (inb6 : ∀ a, off a + S8x128.size a ≤ S8x2048.size a)
    (inb9 : ∀ a, off a + ![8, 128] a ≤ S8x2048.size a) (x : S8x128.Idx) :
    headOut (View.readAt (Elt Ideal) arg4.view (Rect.unit (s := S8x2048) k0_off1 S8x2048.size inb1).toLoadRect (harg4.unread x1))
      (View.readAt (Elt Ideal) arg3.view (Rect.unit (s := S8x2048) k0_off1 S8x2048.size inb1).toLoadRect (harg3.unread x0)) k hs
      (View.readAt (Elt Ideal) arg5.view (Rect.unit (s := S8x2048) k0_off1 S8x2048.size inb1).toLoadRect (harg5.unread x2))
      (arg11.view.readCov (kernelRun0_A.sl.HS0_16 (F := Ideal) c arg8 harg8 x5) (Rect.unit (s := S16x128x128) ![h.val, 0, 0] S1x128x128.size inb).toLoadRect)
      (View.readAt (Elt Ideal) arg7.view (Rect.unit (s := S1x2048) ![0, k] S1x128.size inb7).toLoadRect (harg7.unread x4))
      (View.readAt (Elt Ideal) arg6.view (Rect.unit (s := S8x2048) off S8x128.size inb6).toLoadRect (harg6.unread x3)) x
      = outS x0 x1 x2 x3 x4 x5 ((Rect.unit (s := S8x2048) off ![8, 128] inb9).emb x) := by
  obtain ⟨t, j, rfl⟩ : ∃ (t : Fin 8) (j : Fin 128), x = ix2 t j := ⟨x 0, x 1, eq_ix2 x⟩
  have hlt := h.isLt
  have htl := t.isLt
  have hjl := j.isLt
  subst hoff
  have i1 : ∀ d : Fin 128, (⟨k + d.val, by omega⟩ : Fin 2048) = Fin.ofNat 2048 (128 * h.val + d.val) := fun d => Fin.ext (by show k + d.val = (128 * h.val + d.val) % 2048; omega)
  have n0 : ((Rect.unit (s := S8x2048) ![0, k] ![8, 128] inb9).emb (ix2 t j) 0 : Fin 8) = t := Fin.ext (by show 0 + 1 * t.val = _; omega)
  have n1 : (((Rect.unit (s := S8x2048) ![0, k] ![8, 128] inb9).emb (ix2 t j) 1 : Fin 2048).val) = 128 * h.val + j.val := by
    show k + 1 * j.val = _; omega
  unfold outS
  rw [n0, n1, show (128 * h.val + j.val) / 128 = h.val by omega, show Fin.ofNat 16 h.val = h from Fin.ext (by show h.val % 16 = _; omega),
    show Fin.ofNat 128 (128 * h.val + j.val) = j from Fin.ext (by show (128 * h.val + j.val) % 128 = _; omega),
    headOut_at (fun s j => by rw [rows_at arg4 harg4]; exact hL _) _ _ k (by omega)]
  unfold outB
  congr 1
  · congr 1
    · funext t d; exact (rows_at arg3 harg3 x0 inb1 t _).trans (by rw [i1]; rfl)
    · funext t d; exact (rows_at arg4 harg4 x1 inb1 t _).trans (by rw [i1]; rfl)
    · funext t d; exact (rows_at arg5 harg5 x2 inb1 t _).trans (by rw [i1]; rfl)
    · funext d e; exact beg_at c arg8 harg8 arg11 x5 h inb 0 e d
  · funext d
    rw [View.readAt_apply, harg7.read_unread]
    refine congrArg x4 (funext fun a => Fin.ext ?_)
    match a with
    | ⟨0, _⟩ => rfl
    | ⟨1, _⟩ => show k + 1 * d.val = (128 * h.val + d.val) % 2048; omega
  · funext t d
    rw [View.readAt_apply, harg6.read_unread]
    refine congrArg x3 (funext fun a => Fin.ext ?_)
    match a with
    | ⟨0, _⟩ => show 0 + 1 * t.val = t.val; omega
    | ⟨1, _⟩ => show k + 1 * d.val = (128 * h.val + d.val) % 2048; omega

/-- The states the point hands back. -/
theorem out7 (hL : ∀ y, x1 y ≠ (⊤ : EReal)) : out0_A_7 (F := Ideal) c i arg3 harg3 arg4 harg4 arg5 harg5 arg6 harg6 arg7 harg7 arg8 harg8 arg9 harg9 arg10 harg10 arg11 harg11 hc0 hc1 x0 x1 x2 x3 x4 x5 = endS x1 x2 x5 := by
  funext y
  unfold out0_A_7
  refine View.read_writes_apply_of_pieces (Val := Elt Ideal) (e := .f32) _ _ _ _ ?_ y (cover0_A_7 c i arg3 harg3 arg4 harg4 arg5 harg5 arg6 harg6 arg7 harg7 arg8 harg8 arg9 harg9 arg10 harg10 arg11 harg11 hc0 hc1 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · exact end_piece c arg4 harg4 arg5 harg5 arg8 harg8 arg11 x1 x2 x5 hL 15 (by decide +kernel) (by decide +kernel) x
  · exact end_piece c arg4 harg4 arg5 harg5 arg8 harg8 arg11 x1 x2 x5 hL 14 (by decide +kernel) (by decide +kernel) x
  · exact end_piece c arg4 harg4 arg5 harg5 arg8 harg8 arg11 x1 x2 x5 hL 13 (by decide +kernel) (by decide +kernel) x
  · exact end_piece c arg4 harg4 arg5 harg5 arg8 harg8 arg11 x1 x2 x5 hL 12 (by decide +kernel) (by decide +kernel) x
  · exact end_piece c arg4 harg4 arg5 harg5 arg8 harg8 arg11 x1 x2 x5 hL 11 (by decide +kernel) (by decide +kernel) x
  · exact end_piece c arg4 harg4 arg5 harg5 arg8 harg8 arg11 x1 x2 x5 hL 10 (by decide +kernel) (by decide +kernel) x
  · exact end_piece c arg4 harg4 arg5 harg5 arg8 harg8 arg11 x1 x2 x5 hL 9 (by decide +kernel) (by decide +kernel) x
  · exact end_piece c arg4 harg4 arg5 harg5 arg8 harg8 arg11 x1 x2 x5 hL 8 (by decide +kernel) (by decide +kernel) x
  · exact end_piece c arg4 harg4 arg5 harg5 arg8 harg8 arg11 x1 x2 x5 hL 7 (by decide +kernel) (by decide +kernel) x
  · exact end_piece c arg4 harg4 arg5 harg5 arg8 harg8 arg11 x1 x2 x5 hL 6 (by decide +kernel) (by decide +kernel) x
  · exact end_piece c arg4 harg4 arg5 harg5 arg8 harg8 arg11 x1 x2 x5 hL 5 (by decide +kernel) (by decide +kernel) x
  · exact end_piece c arg4 harg4 arg5 harg5 arg8 harg8 arg11 x1 x2 x5 hL 4 (by decide +kernel) (by decide +kernel) x
  · exact end_piece c arg4 harg4 arg5 harg5 arg8 harg8 arg11 x1 x2 x5 hL 3 (by decide +kernel) (by decide +kernel) x
  · exact end_piece c arg4 harg4 arg5 harg5 arg8 harg8 arg11 x1 x2 x5 hL 2 (by decide +kernel) (by decide +kernel) x
  · exact end_piece c arg4 harg4 arg5 harg5 arg8 harg8 arg11 x1 x2 x5 hL 1 (by decide +kernel) (by decide +kernel) x
  · exact end_piece c arg4 harg4 arg5 harg5 arg8 harg8 arg11 x1 x2 x5 hL 0 (by decide +kernel) (by decide +kernel) x

/-- The outputs the point stores. -/
theorem out6 (hL : ∀ y, x1 y ≠ (⊤ : EReal)) : out0_A_6 (F := Ideal) c i arg3 harg3 arg4 harg4 arg5 harg5 arg6 harg6 arg7 harg7 arg8 harg8 arg9 harg9 arg10 harg10 arg11 harg11 hc0 hc1 x0 x1 x2 x3 x4 x5 = outS x0 x1 x2 x3 x4 x5 := by
  funext y
  unfold out0_A_6
  refine View.read_writes_apply_of_pieces (Val := Elt Ideal) (e := .bf16) _ _ _ _ ?_ y (cover0_A_6 c i arg3 harg3 arg4 harg4 arg5 harg5 arg6 harg6 arg7 harg7 arg8 harg8 arg9 harg9 arg10 harg10 arg11 harg11 hc0 hc1 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · exact out_piece c arg3 harg3 arg4 harg4 arg5 harg5 arg6 harg6 arg7 harg7 arg8 harg8 arg11 x0 x1 x2 x3 x4 x5 hL 15 1920 rfl (by decide) _ _ _ k0_off17 (by decide +kernel) (by decide +kernel) (by decide +kernel) x
  · exact out_piece c arg3 harg3 arg4 harg4 arg5 harg5 arg6 harg6 arg7 harg7 arg8 harg8 arg11 x0 x1 x2 x3 x4 x5 hL 14 1792 rfl (by decide) _ _ _ k0_off16 (by decide +kernel) (by decide +kernel) (by decide +kernel) x
  · exact out_piece c arg3 harg3 arg4 harg4 arg5 harg5 arg6 harg6 arg7 harg7 arg8 harg8 arg11 x0 x1 x2 x3 x4 x5 hL 13 1664 rfl (by decide) _ _ _ k0_off15 (by decide +kernel) (by decide +kernel) (by decide +kernel) x
  · exact out_piece c arg3 harg3 arg4 harg4 arg5 harg5 arg6 harg6 arg7 harg7 arg8 harg8 arg11 x0 x1 x2 x3 x4 x5 hL 12 1536 rfl (by decide) _ _ _ k0_off14 (by decide +kernel) (by decide +kernel) (by decide +kernel) x
  · exact out_piece c arg3 harg3 arg4 harg4 arg5 harg5 arg6 harg6 arg7 harg7 arg8 harg8 arg11 x0 x1 x2 x3 x4 x5 hL 11 1408 rfl (by decide) _ _ _ k0_off13 (by decide +kernel) (by decide +kernel) (by decide +kernel) x
  · exact out_piece c arg3 harg3 arg4 harg4 arg5 harg5 arg6 harg6 arg7 harg7 arg8 harg8 arg11 x0 x1 x2 x3 x4 x5 hL 10 1280 rfl (by decide) _ _ _ k0_off12 (by decide +kernel) (by decide +kernel) (by decide +kernel) x
  · exact out_piece c arg3 harg3 arg4 harg4 arg5 harg5 arg6 harg6 arg7 harg7 arg8 harg8 arg11 x0 x1 x2 x3 x4 x5 hL 9 1152 rfl (by decide) _ _ _ k0_off11 (by decide +kernel) (by decide +kernel) (by decide +kernel) x
  · exact out_piece c arg3 harg3 arg4 harg4 arg5 harg5 arg6 harg6 arg7 harg7 arg8 harg8 arg11 x0 x1 x2 x3 x4 x5 hL 8 1024 rfl (by decide) _ _ _ k0_off10 (by decide +kernel) (by decide +kernel) (by decide +kernel) x
  · exact out_piece c arg3 harg3 arg4 harg4 arg5 harg5 arg6 harg6 arg7 harg7 arg8 harg8 arg11 x0 x1 x2 x3 x4 x5 hL 7 896 rfl (by decide) _ _ _ k0_off9 (by decide +kernel) (by decide +kernel) (by decide +kernel) x
  · exact out_piece c arg3 harg3 arg4 harg4 arg5 harg5 arg6 harg6 arg7 harg7 arg8 harg8 arg11 x0 x1 x2 x3 x4 x5 hL 6 768 rfl (by decide) _ _ _ k0_off8 (by decide +kernel) (by decide +kernel) (by decide +kernel) x
  · exact out_piece c arg3 harg3 arg4 harg4 arg5 harg5 arg6 harg6 arg7 harg7 arg8 harg8 arg11 x0 x1 x2 x3 x4 x5 hL 5 640 rfl (by decide) _ _ _ k0_off7 (by decide +kernel) (by decide +kernel) (by decide +kernel) x
  · exact out_piece c arg3 harg3 arg4 harg4 arg5 harg5 arg6 harg6 arg7 harg7 arg8 harg8 arg11 x0 x1 x2 x3 x4 x5 hL 4 512 rfl (by decide) _ _ _ k0_off6 (by decide +kernel) (by decide +kernel) (by decide +kernel) x
  · exact out_piece c arg3 harg3 arg4 harg4 arg5 harg5 arg6 harg6 arg7 harg7 arg8 harg8 arg11 x0 x1 x2 x3 x4 x5 hL 3 384 rfl (by decide) _ _ _ k0_off5 (by decide +kernel) (by decide +kernel) (by decide +kernel) x
  · exact out_piece c arg3 harg3 arg4 harg4 arg5 harg5 arg6 harg6 arg7 harg7 arg8 harg8 arg11 x0 x1 x2 x3 x4 x5 hL 2 256 rfl (by decide) _ _ _ k0_off4 (by decide +kernel) (by decide +kernel) (by decide +kernel) x
  · exact out_piece c arg3 harg3 arg4 harg4 arg5 harg5 arg6 harg6 arg7 harg7 arg8 harg8 arg11 x0 x1 x2 x3 x4 x5 hL 1 128 rfl (by decide) _ _ _ k0_off3 (by decide +kernel) (by decide +kernel) (by decide +kernel) x
  · exact out_piece c arg3 harg3 arg4 harg4 arg5 harg5 arg6 harg6 arg7 harg7 arg8 harg8 arg11 x0 x1 x2 x3 x4 x5 hL 0 0 rfl (by decide) _ _ _ k0_off2 (by decide +kernel) (by decide +kernel) (by decide +kernel) x
end Point
end Cert.Kernel7Ideal.Gen
end
-- ==== Proof.Sample.Spec.lean ====
/- A sample's eight rows by batch and head: the output and the state after the rows. -/
module
public import proofs.«01_k».proof.Proof.Math
@[expose] public section
noncomputable section
namespace Hgrn.Sample

variable (q l v g : Fin 32 → Fin 8 → Fin 2048 → EReal) (w : Fin 2048 → EReal) (S : Fin 32 → Fin 16 → Fin 128 → Fin 128 → EReal)

/-- A head's columns of a batch's rows. -/
def ch (X : Fin 32 → Fin 8 → Fin 2048 → EReal) (b : Fin 32) (h : Fin 16) (t : Fin 8) (d : Fin 128) : EReal := X b t (Fin.ofNat 2048 (128 * h.val + d.val))

/-- A head's norm weights. -/
def wch (h : Fin 16) (d : Fin 128) : EReal := w (Fin.ofNat 2048 (128 * h.val + d.val))

/-- The output, and the state after the rows. -/
def out (b : Fin 32) (h : Fin 16) (t : Fin 8) (d : Fin 128) : EReal :=
  fin (raw (ch q b h) (ch l b h) (ch v b h) (S b h)) (wch w h) (ch g b h) t d
def st (b : Fin 32) (h : Fin 16) (d e : Fin 128) : EReal := nxtTo 7 (ch l b h) (ch v b h) (S b h) d e
end Hgrn.Sample
end
-- ==== Proof.Sample.Value.lean ====
/- What the sample batch's call leaves in its two result arrays. -/
module
public import proofs.«01_k».proof.Proof.Sample.Point
public import proofs.«01_k».proof.Proof.Sample.Spec
public import Idealize.ShloMosaic.Lib.Pipeline.ValueKit.Point
@[expose] public section
set_option maxRecDepth 16384
noncomputable section
namespace Cert.Kernel7Ideal.Gen
open Idealize.ShloMosaic Idealize.ShloMosaic.TcCoe Idealize.ShloMosaic.Tactic Hgrn
open Idealize.SL Idealize.SL.Sem

variable (m : (ℓ : Loc nD τ sig) → Buf (Elt Ideal) ℓ) (ρ : Dev nD → PrngReg) (c : Dev nD)

/-- Where the windows stand at a point. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0, 0, 0] := (by decide +kernel : ∀ t : Fin grid0.N, win0_5.index t = ![t.val, 0, 0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0, 0, 0] := (by decide +kernel : ∀ t : Fin grid0.N, win0_7.index t = ![t.val, 0, 0, 0])

/-- The arguments by batch, row and column, and the given states by batch, head and coordinates. -/
def arr {φ : FTy} (X : FVec Ideal S32x8x2048 φ) (b : Fin 32) (s : Fin 8) (j : Fin 2048) : EReal := X (ix3 b s j)
def sts (S : FVec Ideal S32x16x128x128 .f32) (b : Fin 32) (h : Fin 16) (d e : Fin 128) : EReal := S (ix4 b h d e)

abbrev qA : Fin 32 → Fin 8 → Fin 2048 → EReal := arr (φ := .f32) (m ((c : Thread nD τ).loc main_arg0))
abbrev lA : Fin 32 → Fin 8 → Fin 2048 → EReal := arr (φ := .f32) (m ((c : Thread nD τ).loc main_arg1))
abbrev vA : Fin 32 → Fin 8 → Fin 2048 → EReal := arr (φ := .bf16) (m ((c : Thread nD τ).loc main_arg2))
abbrev gA : Fin 32 → Fin 8 → Fin 2048 → EReal := arr (φ := .f32) (m ((c : Thread nD τ).loc main_arg3))
abbrev wA : Fin 2048 → EReal := fun j => (m ((c : Thread nD τ).loc main_arg4) : FVec Ideal S2048 .f32) (ix1 j)
abbrev sA : Fin 32 → Fin 16 → Fin 128 → Fin 128 → EReal := sts (m ((c : Thread nD τ).loc main_arg5))

/-- The two results. -/
def outAt (r : Fin 256) (j : Fin 2048) : EReal := Sample.out (qA m c) (lA m c) (vA m c) (gA m c) (wA m c) (sA m c) ⟨r.val / 8, by omega⟩ ⟨j.val / 128, by omega⟩ ⟨r.val % 8, by omega⟩ ⟨j.val % 128, by omega⟩
def G6 : FVec Ideal S256x2048 .bf16 := fun y => outAt m c (y 0) (y 1)
def G7 : FVec Ideal S32x16x128x128 .f32 := fun y => Sample.st (lA m c) (vA m c) (sA m c) (y 0) (y 1) (y 2) (y 3)

/-- The sample a point works on. -/
def bat (n : ℕ) : Fin 32 := Fin.ofNat 32 n

theorem blk0 (t : Fin cfg0.N) (r : Fin 8) (j : Fin 2048) :
    (iblk m c 0 t : Vec Ideal S8x2048 .f32) (ix2 r j) = (m ((c : Thread nD τ).loc main_arg0) : Vec Ideal S32x8x2048 .f32) (ix3 (bat t) r j) := by
  have ht := lt_of_lt_of_eq t.isLt (show cfg0.N = 32 from N_0)
  unfold bat
  blk_simp [iblk, idx0 t]; entry_read; pointwise
  blk_ext [idx0 t] <;> (simp only [Fin.val_ofNat]; omega)

theorem blk1 (t : Fin cfg0.N) (r : Fin 8) (j : Fin 2048) :
    (iblk m c 1 t : Vec Ideal S8x2048 .f32) (ix2 r j) = (m ((c : Thread nD τ).loc main_arg1) : Vec Ideal S32x8x2048 .f32) (ix3 (bat t) r j) := by
  have ht := lt_of_lt_of_eq t.isLt (show cfg0.N = 32 from N_0)
  unfold bat
  blk_simp [iblk, idx1 t]; entry_read; pointwise
  blk_ext [idx1 t] <;> (simp only [Fin.val_ofNat]; omega)

theorem blk2 (t : Fin cfg0.N) (r : Fin 8) (j : Fin 2048) :
    (iblk m c 2 t : Vec Ideal S8x2048 .bf16) (ix2 r j) = (m ((c : Thread nD τ).loc main_arg2) : Vec Ideal S32x8x2048 .bf16) (ix3 (bat t) r j) := by
  have ht := lt_of_lt_of_eq t.isLt (show cfg0.N = 32 from N_0)
  unfold bat
  blk_simp [iblk, idx2 t]; entry_read; pointwise
  blk_ext [idx2 t] <;> (simp only [Fin.val_ofNat]; omega)

theorem blk3 (t : Fin cfg0.N) (r : Fin 8) (j : Fin 2048) :
    (iblk m c 3 t : Vec Ideal S8x2048 .f32) (ix2 r j) = (m ((c : Thread nD τ).loc main_arg3) : Vec Ideal S32x8x2048 .f32) (ix3 (bat t) r j) := by
  have ht := lt_of_lt_of_eq t.isLt (show cfg0.N = 32 from N_0)
  unfold bat
  blk_simp [iblk, idx3 t]; entry_read; pointwise
  blk_ext [idx3 t] <;> (simp only [Fin.val_ofNat]; omega)

theorem blk4 (t : Fin cfg0.N) (j : Fin 2048) :
    (iblk m c 4 t : Vec Ideal S1x2048 .f32) (ix2 0 j) = (m ((c : Thread nD τ).loc main_arg4) : Vec Ideal S2048 .f32) (ix1 j) := by
  blk_simp [iblk, idx4 t]; entry_read; pointwise
  blk_ext [idx4 t]

theorem blk5 (t : Fin cfg0.N) (h : Fin 16) (d e : Fin 128) :
    (iblk m c 5 t : Vec Ideal S1x16x128x128 .f32) (ix4 0 h d e) = (m ((c : Thread nD τ).loc main_arg5) : Vec Ideal S32x16x128x128 .f32) (ix4 (bat t) h d e) := by
  have ht := lt_of_lt_of_eq t.isLt (show cfg0.N = 32 from N_0)
  unfold bat
  blk_simp [iblk, idx5 t]
  try entry_read
  try pointwise
  blk_ext [idx5 t] <;> (simp only [Fin.val_ofNat]; omega)

/-- A head's columns of a point's blocks are those of the arguments. -/
theorem bch_ch {e : EltTy} (B : Vec Ideal S8x2048 e) (X : Fin 32 → Fin 8 → Fin 2048 → EReal) (f : Elt Ideal e → EReal) (b : Fin 32) (h : Fin 16)
    (hB : ∀ (r : Fin 8) (j : Fin 2048), f (B (ix2 r j)) = X b r j) : bch B f h = Sample.ch X b h := by
  funext t d
  exact hB _ _

variable (hL : ∀ b s j, lA m c b s j ≠ ⊤)
include hL

theorem below (t : Fin cfg0.N) (y : S8x2048.Idx) : (iblk m c 1 t : Vec Ideal S8x2048 .f32) y ≠ (⊤ : EReal) := by
  obtain ⟨r, j, rfl⟩ : ∃ (r : Fin 8) (j : Fin 2048), y = ix2 r j := ⟨y 0, y 1, eq_ix2 y⟩
  rw [blk1]
  exact hL _ _ _

theorem point6 (t : Fin cfg0.N) (r : Fin 8) (j : Fin 2048) : (outsAt0 m c t).1 (ix2 r j) = outAt m c (Fin.ofNat 256 (8 * t.val + r.val)) j := by
  have ht := lt_of_lt_of_eq t.isLt (show cfg0.N = 32 from N_0)
  have hr := r.isLt
  have hj := j.isLt
  have e0 : ∀ p, (⟨(Fin.ofNat 256 (8 * t.val + r.val)).val / 8, p⟩ : Fin 32) = bat t := fun p => Fin.ext (by unfold bat; simp only [Fin.val_ofNat]; omega)
  have e1 : ∀ p, (⟨j.val / 128, p⟩ : Fin 16) = Fin.ofNat 16 (j.val / 128) := fun p => Fin.ext (by simp only [Fin.val_ofNat]; omega)
  have e2 : ∀ p, (⟨(Fin.ofNat 256 (8 * t.val + r.val)).val % 8, p⟩ : Fin 8) = r := fun p => Fin.ext (by simp only [Fin.val_ofNat]; omega)
  have e3 : ∀ p, (⟨j.val % 128, p⟩ : Fin 128) = Fin.ofNat 128 j.val := fun p => Fin.ext (by simp only [Fin.val_ofNat])
  unfold outsAt0
  rw [out6 (hL := below m c hL t)]
  show outB _ _ _ _ _ _ (Fin.ofNat 16 (j.val / 128)) r (Fin.ofNat 128 j.val) = _
  unfold outAt outB Sample.out
  rw [e0, e1, e2, e3]
  congr 1
  · congr 1
    · exact bch_ch (e := .f32) _ _ id _ _ (blk0 m c t)
    · exact bch_ch (e := .f32) _ _ id _ _ (blk1 m c t)
    · exact bch_ch (e := .bf16) _ _ id _ _ (blk2 m c t)
    · funext d e
      exact blk5 m c t _ d e
  · funext d
    exact blk4 m c t _
  · exact bch_ch (e := .f32) _ _ id _ _ (blk3 m c t)

theorem point7 (t : Fin cfg0.N) (a : Fin 1) (h : Fin 16) (d e : Fin 128) : (outsAt0 m c t).2 (ix4 a h d e) = Sample.st (lA m c) (vA m c) (sA m c) (bat t) h d e := by
  unfold outsAt0
  rw [out7 (hL := below m c hL t)]
  show nxtTo 7 _ _ _ d e = _
  unfold Sample.st
  congr 1
  · exact bch_ch (e := .f32) _ _ id _ _ (blk1 m c t)
  · exact bch_ch (e := .bf16) _ _ id _ _ (blk2 m c t)
  · funext d e
    exact blk5 m c t _ d e

theorem array6 : (dats m 0 c).arrAt 6 cfg0.N = G6 m c := by
  refine (dats m 0 c).arrAt_eq_of_covers 6 _ (by decide +kernel) fun t hf y => ?_
  have ht := lt_of_lt_of_eq t.isLt (show cfg0.N = 32 from N_0)
  blk_simp
  rw [after0_6]
  obtain ⟨r, j, rfl⟩ : ∃ (r : Fin 8) (j : Fin 2048), y = ix2 r j := ⟨y 0, y 1, eq_ix2 y⟩
  have hr := r.isLt
  have p0 : ((win0_6.blk t).view.emb (ix2 r j) 0 : Fin 256) = Fin.ofNat 256 (8 * t.val + r.val) := Fin.ext (by blk_simp [idx6 t]; (try simp only [Fin.val_ofNat]); omega)
  have p1 : ((win0_6.blk t).view.emb (ix2 r j) 1 : Fin 2048) = j := Fin.ext (by blk_simp [idx6 t]; try omega)
  refine (point6 m c hL t r j).trans ?_
  show _ = outAt m c ((win0_6.blk t).view.emb (ix2 r j) 0) ((win0_6.blk t).view.emb (ix2 r j) 1)
  exact (congrArg₂ (outAt m c) p0 p1).symm

theorem array7 : (dats m 0 c).arrAt 7 cfg0.N = G7 m c := by
  refine (dats m 0 c).arrAt_eq_of_covers 7 _ (by decide +kernel) fun t hf y => ?_
  have ht := lt_of_lt_of_eq t.isLt (show cfg0.N = 32 from N_0)
  blk_simp
  rw [after0_7]
  obtain ⟨a, h, d, e, rfl⟩ : ∃ (a : Fin 1) (h : Fin 16) (d e : Fin 128), y = ix4 a h d e := ⟨y 0, y 1, y 2, y 3, eq_ix4 y⟩
  have ha := a.isLt
  have p : (win0_7.blk t).view.emb (ix4 a h d e) = ix4 (bat t) h d e := by
    unfold bat
    blk_ext [idx7 t] <;> ((try simp only [Fin.val_ofNat]); omega)
  refine (point7 m c hL t a h d e).trans ?_
  exact (congrArg (G7 m c) p).symm

omit hL in
/-- The launch's results, and its arguments unchanged. -/
theorem results (hL : ∀ c b s j, lA m c b s j ≠ ⊤) : θ_run defs (onTc (τ := τ) (main (F := Ideal))) ⟨m, fun _ => 0, ρ⟩ (fun r => ∀ c : Dev nD,
      r.2.mem ((c.tc : Thread nD τ).loc main_v5_0) = G6 m c
      ∧ r.2.mem ((c.tc : Thread nD τ).loc main_v5_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (array6 m c (hL c)), ((h.1 c).1 7).trans (array7 m c (hL c)), h.2.1 c⟩)
    (θ_run_and (run_main m ρ) (frame m ρ))

end Cert.Kernel7Ideal.Gen
end
-- ==== Proof.Sample.Ref.lean ====
/- The reference's two results of a sample, at an index. -/
module
public import proofs.«01_k».proof.Proof.Gen.Reference7Ideal.Run
public import proofs.«01_k».proof.Proof.RI.Cumsum
public import proofs.«01_k».proof.Proof.Sample.Spec
public import Idealize.ShloMosaic.Lib.Pipeline.ValueKit.Point
@[expose] public section
set_option maxRecDepth 16384
noncomputable section
namespace Cert.Reference7Ideal.Value
open Idealize.ShloMosaic Idealize.ShloMosaic.TcCoe Cert.Reference7Ideal Cert.Reference7Ideal.Gen Hgrn

/-- A window that ends at row `t` holds the rows up to `t`. -/
theorem window_sum (t : Fin 8) (g : Fin 8 → EReal) :
    (∑ n : Fin 8, if 7 ≤ t.val + n.val then g (Fin.ofNat 8 (t.val + n.val - 7)) else 0) = ∑ s, if s ≤ t then g s else 0 := by
  rw [← Finset.sum_filter, ← Finset.sum_filter]
  refine Finset.sum_bij' (fun n _ => Fin.ofNat 8 (t.val + n.val - 7)) (fun s _ => Fin.ofNat 8 (s.val + 7 - t.val)) ?_ ?_ ?_ ?_ (fun _ _ => rfl)
  all_goals
    intro n hn
    simp only [Finset.mem_filter, Finset.mem_univ, true_and, Fin.le_def, Fin.ext_iff, Fin.val_ofNat] at hn ⊢
    omega

/-- The window's one axis that is longer than one. -/
theorem win_at : ∀ (n : Fin (⟨4, ![1, 1, 8, 1]⟩ : Shape).numel) (a : Fin 4), ((⟨4, ![1, 1, 8, 1]⟩ : Shape).rowMajor.symm n a).val = if a = 2 then n.val else 0 := by
  decide +kernel

theorem cumsum_at (x : FVec Ideal S32x16x8x128 .f32) (z : FVec Ideal S_ .f32) (hz : z (Shape.Idx.first h_S_) = (0 : EReal)) (b : Fin 32) (h : Fin 16) (t : Fin 8) (d : Fin 128) :
    Host.reduceWindowAdd ![1, 1, 8, 1] ![1, 1, 1, 1] ![0, 0, 7, 0] ![0, 0, 0, 0] x z reduceWindows_S32x16x8x128_S32x16x8x128_w1s1p0_0_w1s1p0_0_w8s1p7_0_w1s1p0_0 h_S_ (ix4 b h t d)
      = cum (fun s d => x (ix4 b h s d)) t d := by
  unfold Host.reduceWindowAdd
  simp only [Ideal.hostReduceWindowAdd_def]
  unfold Ideal.hostReduceWindowAdd Host.reduceWindow
  refine (Cert.ReferenceIdeal.Step.foldl_sum (n := (⟨4, ![1, 1, 8, 1]⟩ : Shape).numel) _ _).trans ?_
  rw [hz, zero_add]
  refine Eq.trans (Finset.sum_congr rfl fun n _ => ?_) (window_sum t (fun s => x (ix4 b h s d)))
  have w := win_at n
  have w0 : ((⟨4, ![1, 1, 8, 1]⟩ : Shape).rowMajor.symm n 0).val = 0 := w 0
  have w1 : ((⟨4, ![1, 1, 8, 1]⟩ : Shape).rowMajor.symm n 1).val = 0 := w 1
  have w2 : ((⟨4, ![1, 1, 8, 1]⟩ : Shape).rowMajor.symm n 2).val = n.val := w 2
  have w3 : ((⟨4, ![1, 1, 8, 1]⟩ : Shape).rowMajor.symm n 3).val = 0 := w 3
  have hn : n.val < 8 := n.isLt
  have hb := b.isLt
  have hh := h.isLt
  have ht := t.isLt
  have hd := d.isLt
  by_cases h63 : 7 ≤ t.val + n.val
  · rw [if_pos h63]
    refine (dif_pos ?_).trans ?_
    · intro a
      match a with
      | ⟨0, _⟩ => show 0 ≤ b.val * 1 + ((⟨4, ![1, 1, 8, 1]⟩ : Shape).rowMajor.symm n 0).val ∧ b.val * 1 + ((⟨4, ![1, 1, 8, 1]⟩ : Shape).rowMajor.symm n 0).val - 0 < 32; omega
      | ⟨1, _⟩ => show 0 ≤ h.val * 1 + ((⟨4, ![1, 1, 8, 1]⟩ : Shape).rowMajor.symm n 1).val ∧ h.val * 1 + ((⟨4, ![1, 1, 8, 1]⟩ : Shape).rowMajor.symm n 1).val - 0 < 16; omega
      | ⟨2, _⟩ => show 7 ≤ t.val * 1 + ((⟨4, ![1, 1, 8, 1]⟩ : Shape).rowMajor.symm n 2).val ∧ t.val * 1 + ((⟨4, ![1, 1, 8, 1]⟩ : Shape).rowMajor.symm n 2).val - 7 < 8; omega
      | ⟨3, _⟩ => show 0 ≤ d.val * 1 + ((⟨4, ![1, 1, 8, 1]⟩ : Shape).rowMajor.symm n 3).val ∧ d.val * 1 + ((⟨4, ![1, 1, 8, 1]⟩ : Shape).rowMajor.symm n 3).val - 0 < 128; omega
    · refine congrArg x (funext fun a => Fin.ext ?_)
      match a with
      | ⟨0, _⟩ => show b.val * 1 + ((⟨4, ![1, 1, 8, 1]⟩ : Shape).rowMajor.symm n 0).val - 0 = b.val; omega
      | ⟨1, _⟩ => show h.val * 1 + ((⟨4, ![1, 1, 8, 1]⟩ : Shape).rowMajor.symm n 1).val - 0 = h.val; omega
      | ⟨2, _⟩ => show t.val * 1 + ((⟨4, ![1, 1, 8, 1]⟩ : Shape).rowMajor.symm n 2).val - 7 = (t.val + n.val - 7) % 8; omega
      | ⟨3, _⟩ => show d.val * 1 + ((⟨4, ![1, 1, 8, 1]⟩ : Shape).rowMajor.symm n 3).val - 0 = d.val; omega
  · rw [if_neg h63]
    refine (dif_neg fun hc => h63 ?_).trans rfl
    have := (hc 2).1
    have e : 7 ≤ t.val * 1 + ((⟨4, ![1, 1, 8, 1]⟩ : Shape).rowMajor.symm n 2).val := this
    omega

/-- An argument by batch, row and column. -/
def arr {φ : FTy} (X : FVec Ideal S32x8x2048 φ) (b : Fin 32) (s : Fin 8) (j : Fin 2048) : EReal := X (ix3 b s j)

/-- Where a head's column stands among all. -/
def col (h : Fin 16) (d : Fin 128) : Fin 2048 := ⟨h.val * 128 + d.val, by omega⟩
theorem col_eq (h : Fin 16) (d : Fin 128) : col h d = Fin.ofNat 2048 (128 * h.val + d.val) :=
  Fin.ext (by unfold col; simp only [Fin.val_ofNat]; omega)

theorem ch_at {φ : FTy} (X : FVec Ideal S32x8x2048 φ) (b : Fin 32) (h : Fin 16) (t : Fin 8) (d : Fin 128) : Sample.ch (arr X) b h t d = X (ix3 b t (col h d)) := by
  rw [col_eq]
  rfl

/-- The given states by batch and head. -/
def sts (S : FVec Ideal S32x16x128x128 .f32) (b : Fin 32) (h : Fin 16) (d e : Fin 128) : EReal := S (ix4 b h d e)

/-- The mask holds on and below the diagonal. -/
theorem mask_at (t s : Fin 8) : Scalar.select (IntOp.cmpi CmpIPredicate.sge (IntOp.addi (BitVec.ofNat 32 t.val) 0#32) (BitVec.ofNat 32 s.val)) 1#1 0#1 = if s ≤ t then 1#1 else 0#1 := by
  revert t s; decide +kernel

theorem b_at (l : FVec Ideal S32x8x2048 .f32) (b : Fin 32) (h : Fin 16) (t : Fin 8) (d : Fin 128) :
    (Host.reduceWindowAdd ![1, 1, 8, 1] ![1, 1, 1, 1] ![0, 0, 7, 0] ![0, 0, 0, 0] (transpose S32x16x8x128 [0, 2, 1, 3] (shapeCast _ l shapeCasts_S32x8x2048_S32x8x16x128) transposes_S32x8x16x128_S32x16x8x128_0_2_1_3) (broadcastInDim S_ ![] bcast_S_S_ (constant S_ .f32 0x00000000#32)) reduceWindows_S32x16x8x128_S32x16x8x128_w1s1p0_0_w1s1p0_0_w8s1p7_0_w1s1p0_0 h_S_) (ix4 b h t d)
      = cum (Sample.ch (arr l) b h) t d := by
  rw [cumsum_at _ _ (by pointwise)]
  refine congrArg (fun L => cum L t d) (funext fun s => funext fun e => ?_)
  rw [ch_at]
  pointwise
  rfl

variable (q l : FVec Ideal S32x8x2048 .f32) (v : FVec Ideal S32x8x2048 .bf16) (g : FVec Ideal S32x8x2048 .f32) (w : FVec Ideal S2048 .f32) (S : FVec Ideal S32x16x128x128 .f32)
  (b : Fin 32) (h : Fin 16) (t : Fin 8) (e : Fin 128)

/-- The output before the norm as the reference spells it, the values' column given apart. -/
def rawR (j : Fin 2048) : EReal :=
  ∑ x, q (ix3 b t (col h x)) * Ideal.exp (cum (Sample.ch (arr l) b h) t x) * S (ix4 b h x e)
    + ∑ s, (∑ x, q (ix3 b t (col h x))
        * Scalar.select (Scalar.select (IntOp.cmpi CmpIPredicate.sge (IntOp.addi (BitVec.ofNat 32 t.val) 0#32) (BitVec.ofNat 32 s.val)) 1#1 0#1)
            (Ideal.exp (Scalar.select (Scalar.select (IntOp.cmpi CmpIPredicate.sge (IntOp.addi (BitVec.ofNat 32 t.val) 0#32) (BitVec.ofNat 32 s.val)) 1#1 0#1)
              (cum (Sample.ch (arr l) b h) t x - cum (Sample.ch (arr l) b h) s x) (id (constant (F := Ideal) S_ FTy.f32 0#32) ix0)))
            (id (constant (F := Ideal) S_ FTy.f32 0#32) ix0)
        * (1 - Ideal.exp (l (ix3 b s (col h x))))) * v (ix3 b s j)

theorem rawR_eq : rawR q l v S b h t e (col h e) = raw (Sample.ch (arr q) b h) (Sample.ch (arr l) b h) (Sample.ch (arr v) b h) (sts S b h) t e := by
  unfold rawR raw
  refine congrArg₂ (· + ·) (Finset.sum_congr rfl fun x _ => by rw [ch_at]; rfl) (Finset.sum_congr rfl fun s _ => ?_)
  rw [ch_at]
  refine congrArg (· * v (ix3 b s (col h e))) ?_
  unfold score
  refine Finset.sum_congr rfl fun x _ => ?_
  rw [mask_at]
  have hz : id (constant (F := Ideal) S_ FTy.f32 0#32) ix0 = (0 : EReal) := by
    show constant (F := Ideal) S_ FTy.f32 0#32 ix0 = (0 : EReal)
    pointwise
  by_cases hs : s ≤ t
  · rw [if_pos hs, if_pos hs, ch_at, key, ch_at]
    rfl
  · rw [if_neg hs, if_neg hs, hz]
    show _ * (0 : EReal) * _ = _ * (0 : EReal) * _
    rw [mul_zero, zero_mul, mul_zero, zero_mul]

theorem out_eq {j : Fin 2048} (ej : col h e = j) :
    rawR q l v S b h t e j * Ideal.rsqrt (Ideal.div (∑ x, rawR q l v S b h t x (col h x) * rawR q l v S b h t x (col h x)) (Ideal.ofBits FTy.f32 0x43000000#32) + Ideal.ofBits FTy.f32 0x358637BD#32)
        * w (ix1 j) * g (ix3 b t j)
      = Sample.out (arr q) (arr l) (arr v) (arr g) (fun j => w (ix1 j)) (sts S) b h t e := by
  subst ej
  simp only [rawR_eq]
  unfold Sample.out fin Sample.wch
  rw [ch_at, ← col_eq]

variable (m : (ℓ : Loc nD τ sig) → Buf (Elt Ideal) ℓ) (c : Dev nD)

/-- The first result, row by row. -/
theorem y_at (r : Fin 256) (j : Fin 2048) : res_main_v66 m c (ix2 r j)
    = Sample.out (arr (φ := .f32) (m ((c.tc : Thread nD τ).loc main_arg0))) (arr (φ := .f32) (m ((c.tc : Thread nD τ).loc main_arg1))) (arr (φ := .bf16) (m ((c.tc : Thread nD τ).loc main_arg2)))
      (arr (φ := .f32) (m ((c.tc : Thread nD τ).loc main_arg3))) (fun j => (m ((c.tc : Thread nD τ).loc main_arg4) : FVec Ideal S2048 .f32) (ix1 j)) (sts (m ((c.tc : Thread nD τ).loc main_arg5)))
      ⟨r.val / 8, by omega⟩ ⟨j.val / 128, by omega⟩ ⟨r.val % 8, by omega⟩ ⟨j.val % 128, by omega⟩ := by
  unfold res_main_v66
  have hb := b_at (m ((c.tc : Thread nD τ).loc main_arg1))
  generalize Host.reduceWindowAdd (F := Ideal) (s := S32x16x8x128) (t := S32x16x8x128) (φ := .f32) ![1, 1, 8, 1] _ _ _ _ _ _ _ = B at hb ⊢
  pointwise
  simp only [hb]
  exact out_eq _ _ _ _ _ _ ⟨r.val / 8, by omega⟩ ⟨j.val / 128, by omega⟩ ⟨r.val % 8, by omega⟩ ⟨j.val % 128, by omega⟩ (Fin.ext (by unfold col; dsimp only; omega))

/-- The states after the rows. -/
theorem st_at (d : Fin 128) : (addf (mulf (broadcastInDim S32x16x128x128 ![0, 1, 2, 3] bcast_S32x16x128x1_S32x16x128x128_0_1_2_3 (Host.exp (broadcastInDim S32x16x128x1 ![0, 1, 2] bcast_S32x16x128_S32x16x128x1_0_1_2 (shapeCast _ (extractStridedSlice S32x16x1x128 ![0, 0, 7, 0] (Host.reduceWindowAdd ![1, 1, 8, 1] ![1, 1, 1, 1] ![0, 0, 7, 0] ![0, 0, 0, 0] (transpose S32x16x8x128 [0, 2, 1, 3] (shapeCast _ l shapeCasts_S32x8x2048_S32x8x16x128) transposes_S32x8x16x128_S32x16x8x128_0_2_1_3) (broadcastInDim S_ ![] bcast_S_S_ (constant S_ .f32 0x00000000#32)) reduceWindows_S32x16x8x128_S32x16x8x128_w1s1p0_0_w1s1p0_0_w8s1p7_0_w1s1p0_0 h_S_) slices_S32x16x8x128_S32x16x1x128_0_0_7_0) shapeCasts_S32x16x1x128_S32x16x128)))) S) (Host.dotGeneral dot_S32x16x8x128_S32x16x8x128_S32x16x128x128_2_2_3_3_01_01 none (mulf (transpose S32x16x8x128 [0, 2, 1, 3] (shapeCast _ (subf (broadcastInDim S32x8x2048 ![] bcast_S_S32x8x2048 (constant S_ .f32 0x3F800000#32)) (Host.exp l)) shapeCasts_S32x8x2048_S32x8x16x128) transposes_S32x8x16x128_S32x16x8x128_0_2_1_3) (Host.exp (subf (broadcastInDim S32x16x8x128 ![0, 1, 2, 3] bcast_S32x16x1x128_S32x16x8x128_0_1_2_3 (extractStridedSlice S32x16x1x128 ![0, 0, 7, 0] (Host.reduceWindowAdd ![1, 1, 8, 1] ![1, 1, 1, 1] ![0, 0, 7, 0] ![0, 0, 0, 0] (transpose S32x16x8x128 [0, 2, 1, 3] (shapeCast _ l shapeCasts_S32x8x2048_S32x8x16x128) transposes_S32x8x16x128_S32x16x8x128_0_2_1_3) (broadcastInDim S_ ![] bcast_S_S_ (constant S_ .f32 0x00000000#32)) reduceWindows_S32x16x8x128_S32x16x8x128_w1s1p0_0_w1s1p0_0_w8s1p7_0_w1s1p0_0 h_S_) slices_S32x16x8x128_S32x16x1x128_0_0_7_0)) (Host.reduceWindowAdd ![1, 1, 8, 1] ![1, 1, 1, 1] ![0, 0, 7, 0] ![0, 0, 0, 0] (transpose S32x16x8x128 [0, 2, 1, 3] (shapeCast _ l shapeCasts_S32x8x2048_S32x8x16x128) transposes_S32x8x16x128_S32x16x8x128_0_2_1_3) (broadcastInDim S_ ![] bcast_S_S_ (constant S_ .f32 0x00000000#32)) reduceWindows_S32x16x8x128_S32x16x8x128_w1s1p0_0_w1s1p0_0_w8s1p7_0_w1s1p0_0 h_S_)))) (transpose S32x16x8x128 [0, 2, 1, 3] (shapeCast _ (extf .f32 v bitsLt_bf16_f32) shapeCasts_S32x8x2048_S32x8x16x128) transposes_S32x8x16x128_S32x16x8x128_0_2_1_3))) (ix4 b h d e)
    = Sample.st (arr l) (arr v) (sts S) b h d e := by
  have hb := b_at l
  generalize Host.reduceWindowAdd (F := Ideal) (s := S32x16x8x128) (t := S32x16x8x128) (φ := .f32) ![1, 1, 8, 1] _ _ _ _ _ _ _ = B at hb ⊢
  pointwise
  simp only [hb]
  unfold Sample.st nxtTo key
  simp only [ch_at]
  rfl
end Cert.Reference7Ideal.Value
end
-- ==== Proof.Sample.Reference.lean ====
/- The claim that the sample batch's call computes what the reference computes. -/
module

public import proofs.«01_k».proof.Proof.Sample.Value
public import proofs.«01_k».proof.Proof.Sample.Ref
public import proofs.«01_k».proof.Proof.Below
public import proofs.«01_k».proof.Proof.Gen.Kernel7
public import proofs.«01_k».proof.Defs

@[expose] public section

set_option maxRecDepth 16384

noncomputable section

namespace Cert.Proof.Sample

open Idealize.ShloMosaic Idealize.ShloMosaic.TcCoe Idealize.ShloMosaic.Tactic
open Idealize.SL Idealize.SL.Sem

instance single_index : Subsingleton Cert.Pre_decays_below_inf7.S_.Idx := ⟨fun _ _ => funext fun a => a.elim0⟩

/-- The precondition keeps every decay below +∞. -/
theorem decays_ne_top [Cert.Pre_decays_below_inf7.Facts] (x0 x1 : FVec Ideal Cert.Pre_decays_below_inf7.S32x8x2048 .f32) (x2 : FVec Ideal Cert.Pre_decays_below_inf7.S32x8x2048 .bf16)
    (x3 : FVec Ideal Cert.Pre_decays_below_inf7.S32x8x2048 .f32) (x4 : FVec Ideal Cert.Pre_decays_below_inf7.S2048 .f32) (x5 : FVec Ideal Cert.Pre_decays_below_inf7.S32x16x128x128 .f32)
    (h : Cert.Pre_decays_below_inf7.fn (F := Ideal) x0 x1 x2 x3 x4 x5 = fun _ => 1#1) (i : Cert.Pre_decays_below_inf7.S32x8x2048.Idx) : x1 i ≠ (⊤ : EReal) := by
  have e := Host.reduce_andi_all _ _ _ _ (fun a => a.elim0) (congrFun h fun a => a.elim0) i
  have e' : Ideal.cmp .olt (x1 i) (Ideal.ofBits FTy.f32 0x7F800000#32) = 1#1 := e
  rw [word_top] at e'
  intro ht
  rw [ht] at e'
  simp [Ideal.cmp] at e'

/-- The facts that the precondition states. -/
theorem below_facts : Cert.Pre_decays_below_inf7.Facts := ⟨by decide, by decide, by decide⟩

/-- The compiled kernel's frame, spelt of the idealized text read at the machine's words. -/
theorem frame_same : Cert.quiescent_Kernel7 (hKernel7 := Cert.Kernel7.Gen.facts)
    = (∀ (m : (ℓ : Loc Cert.Kernel7Ideal.nD Cert.Kernel7Ideal.τ Cert.Kernel7Ideal.sig) → Buf (Elt Bits) ℓ) (g : Dev Cert.Kernel7Ideal.nD → PrngReg), True →
    θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)) := by
  sl_kernel_rfl

theorem frame_kernel : Cert.quiescent_Kernel7 (hKernel7 := Cert.Kernel7.Gen.facts) :=
  frame_same.mpr fun m ρ _ => Cert.Kernel7Ideal.Gen.frame (F := Bits) m ρ

theorem frame_ideal : Cert.quiescent_Kernel7Ideal (hKernel7Ideal := Cert.Kernel7Ideal.Gen.facts) := fun m ρ _ =>
  Cert.Kernel7Ideal.Gen.frame m ρ

theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run m ρ)

theorem values : Cert.algebraic_Kernel7Ideal_Reference7Ideal_pre_decays_below_inf7 (hKernel7Ideal := Cert.Kernel7Ideal.Gen.facts) (hReference7Ideal := Cert.Reference7Ideal.Gen.facts)
    (hPre_decays_below_inf7 := below_facts) := by
  intro m g m' g' hpre hargs
  haveI := below_facts
  have hL : ∀ c b s j, Cert.Kernel7Ideal.Gen.lA m c b s j ≠ ⊤ := fun c b s j => decays_ne_top _ _ _ _ _ _ (hpre c) (ix3 b s j)
  refine ⟨fun c => Cert.Kernel7Ideal.Gen.G6 m c, fun c => Cert.Kernel7Ideal.Gen.G7 m c, Cert.Kernel7Ideal.Gen.results m g hL, ?_⟩
  refine (θ_run Cert.Reference7Ideal.defs _ _).mono (fun r h c => ?_) (Cert.Reference7Ideal.Value.run m' g')
  obtain ⟨a0, a1, a2, a3, a4, a5⟩ := hargs c
  refine ⟨(h c).1.trans ?_, (h c).2.1.trans ?_, (h c).2.2⟩
  · funext y
    have R := Cert.Reference7Ideal.Value.y_at m' c (y 0) (y 1)
    rw [a0, a1, a2, a3, a4, a5] at R
    rw [eq_ix2 y]
    exact R
  · rw [a1, a2, a5]
    funext y
    rw [eq_ix4 y]
    exact Cert.Reference7Ideal.Value.st_at _ _ _ (y 0) (y 1) (y 3) (y 2)

end Cert.Proof.Sample

end
-- ==== Proof.Gate.Run.lean ====
/- The gate of the recurrence, one grid point: what the body leaves in the two output blocks. -/
module

public import proofs.«01_k».proof.Proof.Gen.Kernel8Ideal.Frame
public import proofs.«01_k».proof.Proof.Gen.Kernel8Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- The gate of a block of the long batch's rows, and of the other batch's. -/
def rows (x : Vec F S1024x4096 .bf16) (w : Vec F S4096x1024 .bf16) : Vec F S1024x1024 .f32 := byHalf fun b => k0_pay1 x (halfCols w b)
def rowsS (x : Vec F S256x4096 .bf16) (w : Vec F S4096x1024 .bf16) : Vec F S256x1024 .f32 := byHalf fun b => k0_pay3 x (halfCols w b)

set_option maxHeartbeats 1000000 in
/-- A point of the first row of blocks: both products are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .f32) (h6 : a6.IsWhole) (a7 : Memref sig .tc .vmem S256x1024 .f32) (h7 : a7.IsWhole)
    (hc : k0_cond1 i = 1#1) (x : Vec F S1024x4096 .bf16) (w : Vec F S4096x1024 .bf16) (x' : Vec F S256x4096 .bf16) (E : Set ℕ) (K : PUnit → sProp 𝕄) :
    iprop(owns (c : Thread nD τ) a3 fullShare x ∗ owns (c : Thread nD τ) a4 fullShare w ∗ owns (c : Thread nD τ) a5 fullShare x' ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a5 fullShare x' ∗ owns (c : Thread nD τ) a6 fullShare (rows x w) ∗ owns (c : Thread nD τ) a7 fullShare (rowsS x' w)) -∗ K ⟨⟩))
      ⊢ wp frame (wpE (defs₀ (F := F)) Variants.none c none) E (cc0_proj_hg i a3 h3 a4 h4 a5 h5 a6 h6 a7 h7) K := by
  simp only [cc0_proj_hg_eq_skeleton]; unfold cc0_proj_hg_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    funext y
    refine View.read_writes_apply_of_pieces (Val := Elt F) (e := .f32) _ _ (rows x w) _ ?_ y (View.cover_of_tiledL (s := S1024x1024) _ ![1024, 512] (by sl_kernel_rfl) y)
    sl_unfold_run_names
    intro p hp z
    simp only [List.mem_cons, List.not_mem_nil, _root_.or_false] at hp
    rcases hp with rfl | rfl
    exacts [byHalf_piece (fun b => k0_pay1 x (halfCols w b)) 1 (by decide) (by decide) z, byHalf_piece (fun b => k0_pay1 x (halfCols w b)) 0 (by decide) (by decide) z]
  iexists _; isplitr
  swap; · iexact H4
  ipureintro
  frame_out
  funext y
  refine View.read_writes_apply_of_pieces (Val := Elt F) (e := .f32) _ _ (rowsS x' w) _ ?_ y (View.cover_of_tiledL (s := S256x1024) _ ![256, 512] (by sl_kernel_rfl) y)
  sl_unfold_run_names
  intro p hp z
  simp only [List.mem_cons, List.not_mem_nil, _root_.or_false] at hp
  rcases hp with rfl | rfl
  exacts [byHalf_piece (fun b => k0_pay3 x' (halfCols w b)) 1 (by decide) (by decide) z, byHalf_piece (fun b => k0_pay3 x' (halfCols w b)) 0 (by decide) (by decide) z]

set_option maxHeartbeats 1000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .f32) (h6 : a6.IsWhole) (a7 : Memref sig .tc .vmem S256x1024 .f32) (h7 : a7.IsWhole)
    (hc : ¬k0_cond1 i = 1#1) (x : Vec F S1024x4096 .bf16) (w : Vec F S4096x1024 .bf16) (E : Set ℕ) (K : PUnit → sProp 𝕄) :
    iprop(owns (c : Thread nD τ) a3 fullShare x ∗ owns (c : Thread nD τ) a4 fullShare w ∗ (∃ d, owns (c : Thread nD τ) a6 fullShare d)
        ∗ (iprop(owns (c : Thread nD τ) a3 fullShare x ∗ owns (c : Thread nD τ) a4 fullShare w ∗ owns (c : Thread nD τ) a6 fullShare (rows x w)) -∗ K ⟨⟩))
      ⊢ wp frame (wpE (defs₀ (F := F)) Variants.none c none) E (cc0_proj_hg i a3 h3 a4 h4 a5 h5 a6 h6 a7 h7) K := by
  simp only [cc0_proj_hg_eq_skeleton]; unfold cc0_proj_hg_skel
  unfold owns
  iintro ⟨⟨%f0, %hf0, H0⟩, ⟨%f1, %hf1, H1⟩, ⟨%d3, %f3, -, H3⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H3
  ipureintro
  frame_out
  funext y
  refine View.read_writes_apply_of_pieces (Val := Elt F) (e := .f32) _ _ (rows x w) _ ?_ y (View.cover_of_tiledL (s := S1024x1024) _ ![1024, 512] (by sl_kernel_rfl) y)
  sl_unfold_run_names
  intro p hp z
  simp only [List.mem_cons, List.not_mem_nil, _root_.or_false] at hp
  rcases hp with rfl | rfl
  exacts [byHalf_piece (fun b => k0_pay1 x (halfCols w b)) 1 (by decide) (by decide) z, byHalf_piece (fun b => k0_pay1 x (halfCols w b)) 0 (by decide) (by decide) z]

end Cert.Kernel8Ideal.Gen
end
-- ==== Proof.Gate.Frame.lean ====
/- The gate of the recurrence, the whole call: what every point leaves, and the launch's run.

   The short batch's block is stored in the first row of blocks only (points 0 and 1). -/
module

public import proofs.«01_k».proof.Proof.Gate.Run
public import proofs.«01_k».proof.Proof.Rider

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

theorem first : First cfg0 4 2 where
  pos := by decide
  lt := by decide
  out := rfl
  whole _ _ := rfl
  idle t := by
    show (!(k0_cond1 (grid0.coords t) == 1#1)) = _
    congr 1
    exact Bool.eq_iff_iff.mpr (by rw [beq_iff_eq, decide_eq_true_iff]; exact first_iff t)
  flush t := by
    rw [Window.flush_eq_flushF]
    exact (by decide +kernel : ∀ t : Fin grid0.N, win0_4.flushF t = decide (t.val < 2 - 1 ∨ t.val = grid0.N - 1)) t

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows (iblk m c 0 t) (iblk m c 1 t)
    | ⟨4, _⟩ => rowsS (iblk m c 2 (stored 2 t)) (iblk m c 1 (stored 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows (iblk m c 0 t) (iblk m c 1 t) := by dsimp only [dats]
theorem after0_4 (c : Dev nD) (t : Fin cfg0.N) : (dats m 0 c).after 4 t = rowsS (iblk m c 2 (stored 2 t)) (iblk m c 1 (stored 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem after_stored (c : Dev nD) (t : Fin cfg0.N) : (dats m 0 c).after 4 t = (dats m 0 c).after 4 (stored 2 t) := by
  rw [after0_4, after0_4, stored_twice]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live (dats m 0 c) 0 t rfl, leaves_live (dats m 0 c) 1 t rfl, leaves_live (dats m 0 c) 2 t rfl, leaves_live (dats m 0 c) 3 t rfl, after0_0, after0_1, after0_2, after0_3]
  by_cases h : t.val < 2
  · rw [leaves_live (dats m 0 c) 4 t ((first.idle t).trans (by rw [decide_eq_true h]; rfl)), after0_4, stored_first t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [first.before (dats m 0 c) (after_stored m c) t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun hc => h ((first_iff t).mp hc)) (iblk m c 0 t) (iblk m c 1 t) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply (first.leaves (dats m 0 c) (after_stored m c) t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel8Ideal.Gen

end
-- ==== Proof.Gate.Value.lean ====
/- The gate of the recurrence: what both result arrays hold, entry by entry. -/
module

public import proofs.«01_k».proof.Proof.Gate.Frame
public import Idealize.ShloMosaic.Lib.Pipeline.ValueKit.Point
public import Idealize.ShloMosaic.Lib.Pipeline.Covers

@[expose] public section

set_option maxRecDepth 16384

noncomputable section

namespace Cert.Kernel8Ideal.Gen

open Idealize.ShloMosaic Idealize.ShloMosaic.TcCoe Idealize.ShloMosaic.Tactic
open Idealize.SL Idealize.SL.Sem
open Cert.Proof.Heads Cert.Proof.Rider

variable (m : (ℓ : Loc nD τ sig) → Buf (Elt Ideal) ℓ) (ρ : Dev nD → PrngReg)

/-- The sigmoid. -/
def sigmoid (x : EReal) : EReal := Ideal.div 1 (1 + Ideal.exp (-x))

theorem pay1_at (x : Vec Ideal S1024x4096 .bf16) (w : Vec Ideal S4096x512 .bf16) (r : Fin 1024) (j : Fin 512) :
    k0_pay1 x w (ix2 r j) = sigmoid (∑ k : Fin 4096, x (ix2 r k) * w (ix2 k j)) := by
  pointwise [k0_pay1]
  rfl

theorem pay3_at (x : Vec Ideal S256x4096 .bf16) (w : Vec Ideal S4096x512 .bf16) (r : Fin 256) (j : Fin 512) :
    k0_pay3 x w (ix2 r j) = sigmoid (∑ k : Fin 4096, x (ix2 r k) * w (ix2 k j)) := by
  pointwise [k0_pay3]
  rfl

theorem rows_at (x : Vec Ideal S1024x4096 .bf16) (w : Vec Ideal S4096x1024 .bf16) (r : Fin 1024) (j : Fin 1024) :
    rows x w (ix2 r j) = sigmoid (∑ k : Fin 4096, x (ix2 r k) * w (ix2 k j)) := by
  have hj := j.isLt
  refine (pay1_at x (halfCols w ⟨j.val / 512, by omega⟩) r ⟨j.val % 512, Nat.mod_lt _ (by decide)⟩).trans (congrArg sigmoid (Finset.sum_congr rfl fun k _ => congrArg (x (ix2 r k) * ·) ?_))
  exact halfCols_at w _ k _ j (by show j.val = 512 * (j.val / 512) + j.val % 512; omega)

theorem rowsS_at (x : Vec Ideal S256x4096 .bf16) (w : Vec Ideal S4096x1024 .bf16) (r : Fin 256) (j : Fin 1024) :
    rowsS x w (ix2 r j) = sigmoid (∑ k : Fin 4096, x (ix2 r k) * w (ix2 k j)) := by
  have hj := j.isLt
  refine (pay3_at x (halfCols w ⟨j.val / 512, by omega⟩) r ⟨j.val % 512, Nat.mod_lt _ (by decide)⟩).trans (congrArg sigmoid (Finset.sum_congr rfl fun k _ => congrArg (x (ix2 r k) * ·) ?_))
  exact halfCols_at w _ k _ j (by show j.val = 512 * (j.val / 512) + j.val % 512; omega)

theorem index_x : ∀ t : Fin grid0.N, win0_0.index t = ![t.val / 2, 0] := by decide +kernel
theorem index_w : ∀ t : Fin grid0.N, win0_1.index t = ![0, 10 + t.val % 2] := by decide +kernel
theorem index_s : ∀ t : Fin grid0.N, win0_2.index t = ![0, 0] := by decide +kernel
theorem index_o : ∀ t : Fin grid0.N, win0_3.index t = ![t.val / 2, t.val % 2] := by decide +kernel
theorem index_q : ∀ t : Fin grid0.N, win0_4.index t = ![0, min t.val 1] := by decide +kernel

theorem index_ws (t : Fin cfg0.N) : win0_1.index (stored 2 t) = ![0, 10 + min t.val 1] := by
  have e : (stored 2 t).val % 2 = min t.val 1 := Nat.mod_eq_of_lt (by unfold stored; simp only; omega)
  rw [index_w (stored 2 t), e]

/-- The entry at row `r`, column `j` of the gate of a batch `X` under the weight `W`. -/
def gateAt {n : ℕ} (X : Vec Ideal ⟨2, ![n, 4096]⟩ .bf16) (W : Vec Ideal S4096x12288 .bf16) (r : Fin n) (j : Fin 2048) : EReal :=
  sigmoid (∑ k : Fin 4096, X (ix2 r k) * W (ix2 k ⟨10240 + j.val, by have := j.isLt; omega⟩))

/-- The long batch's gate. -/
def G3 (c : Dev nD) : Vec Ideal S8192x2048 .f32 := fun y =>
  gateAt (m ((c.tc : Thread nD τ).loc main_arg0)) (m ((c.tc : Thread nD τ).loc main_arg2)) (y 0) (y 1)

/-- The short batch's gate. -/
def G4 (c : Dev nD) : Vec Ideal S256x2048 .f32 := fun y =>
  gateAt (m ((c.tc : Thread nD τ).loc main_arg1)) (m ((c.tc : Thread nD τ).loc main_arg2)) (y 0) (y 1)

/-- What point `t` leaves in window 3's block is the part of the gate the block is written to. -/
theorem point3 (c : Dev nD) (t : Fin cfg0.N) (r : Fin 1024) (j : Fin 1024) :
    rows (iblk m c 0 t) (iblk m c 1 t) (ix2 r j) = G3 m c ((win0_3.blk t).view.emb (ix2 r j)) := by
  rw [rows_at]
  unfold G3 gateAt
  congr 1
  refine Finset.sum_congr rfl fun k _ => ?_
  congr 1
  · blk_ext [iblk, V, index_x t, index_o t]
  · blk_ext [iblk, V, index_w t, index_o t]

/-- Window 3's array after the run. -/
theorem array3 (c : Dev nD) : (dats m 0 c).arrAt 3 cfg0.N = G3 m c := by
  refine (dats m 0 c).arrAt_eq_of_covers 3 _ (by decide +kernel) fun t hf y => ?_
  blk_simp
  rw [after0_3]
  have e : y = ix2 (y 0) (y 1) := eq_ix2 y
  rw [e]
  exact point3 m c t (y 0) (y 1)

/-- What point `t` leaves in window 4's block is the part of the gate the block is written to. -/
theorem point4 (c : Dev nD) (t : Fin cfg0.N) (r : Fin 256) (j : Fin 1024) :
    rowsS (iblk m c 2 (stored 2 t)) (iblk m c 1 (stored 2 t)) (ix2 r j) = G4 m c ((win0_4.blk t).view.emb (ix2 r j)) := by
  rw [rowsS_at]
  unfold G4 gateAt
  congr 1
  refine Finset.sum_congr rfl fun k _ => ?_
  congr 1
  · blk_ext [iblk, V, index_s (stored 2 t), index_q t]
  · blk_ext [iblk, V, index_ws t, index_q t]

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (array3 m c), ((h.1 c).1 4).trans (array4 m c), (h.2.1 c).1, (h.2.1 c).2.1, (h.2.1 c).2.2⟩)
    (θ_run_and (run_main m ρ) (frame m ρ))

end Cert.Kernel8Ideal.Gen

end
-- ==== Proof.Gate.Reference.lean ====
/- The gate as the reference computes it, and the claim that the kernel computes the same. -/
module

public import proofs.«01_k».proof.Proof.Gate.Value
public import proofs.«01_k».proof.Proof.Gen.Reference8Ideal.Run
public import proofs.«01_k».proof.Proof.Gen.Kernel8
public import proofs.«01_k».proof.Defs

@[expose] public section

set_option maxRecDepth 16384

noncomputable section

namespace Cert.Proof.Gate

open Idealize.ShloMosaic Idealize.ShloMosaic.TcCoe Idealize.ShloMosaic.Tactic
open Idealize.SL Idealize.SL.Sem
open Cert.Kernel8Ideal.Gen (G3 G4 gateAt sigmoid)

/-- The compiled kernel's frame, spelt of the idealized text read at the machine's words. -/
theorem frame_same : Cert.quiescent_Kernel8 (hKernel8 := Cert.Kernel8.Gen.facts)
    = (∀ (m : (ℓ : Loc Cert.Kernel8Ideal.nD Cert.Kernel8Ideal.τ Cert.Kernel8Ideal.sig) → Buf (Elt Bits) ℓ) (g : Dev Cert.Kernel8Ideal.nD → PrngReg), True →
    θ_run (Cert.Kernel8Ideal.defs (F := Bits)) (onTc (τ := Cert.Kernel8Ideal.τ) (Cert.Kernel8Ideal.main (F := Bits))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)) := by
  sl_kernel_rfl

theorem frame_kernel : Cert.quiescent_Kernel8 (hKernel8 := Cert.Kernel8.Gen.facts) :=
  frame_same.mpr fun m ρ _ => Cert.Kernel8Ideal.Gen.frame (F := Bits) m ρ

theorem frame_ideal : Cert.quiescent_Kernel8Ideal (hKernel8Ideal := Cert.Kernel8Ideal.Gen.facts) := fun m ρ _ =>
  Cert.Kernel8Ideal.Gen.frame m ρ

theorem frame_reference : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run m ρ)

theorem values : Cert.algebraic_Kernel8Ideal_Reference8Ideal (hKernel8Ideal := Cert.Kernel8Ideal.Gen.facts) (hReference8Ideal := Cert.Reference8Ideal.Gen.facts) := by
  intro m g m' g' _ hargs
  refine ⟨fun c => G3 m c, fun c => G4 m c, Cert.Kernel8Ideal.Gen.results m g, ?_⟩
  refine (θ_run Cert.Reference8Ideal.defs _ _).mono (fun r h c => ?_) (Cert.Reference8Ideal.Value.run m' g')
  obtain ⟨a0, a1, a2⟩ := hargs c
  refine ⟨(h c).1.trans ?_, (h c).2.1.trans ?_, (h c).2.2⟩
  · rw [a0, a2]
    funext y
    pointwise [G3, gateAt, sigmoid]
  · rw [a1, a2]
    funext y
    pointwise [G4, gateAt, sigmoid]

end Cert.Proof.Gate

end
-- ==== Proof.Queries.Run.lean ====
/- The queries of the recurrence, one grid point: what the body leaves in the two output blocks. -/
module

public import proofs.«01_k».proof.Proof.Gen.Kernel9Ideal.Frame
public import proofs.«01_k».proof.Proof.Gen.Kernel9Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- The queries of a block of the long batch's rows, and of the other batch's. -/
def rows (x : Vec F S1024x4096 .bf16) (w : Vec F S4096x1024 .bf16) : Vec F S1024x1024 .f32 := byHalf fun b => k0_pay1 x (halfCols w b)
def rowsS (x : Vec F S256x4096 .bf16) (w : Vec F S4096x1024 .bf16) : Vec F S256x1024 .f32 := byHalf fun b => k0_pay3 x (halfCols w b)

set_option maxHeartbeats 1000000 in
/-- A point of the first row of blocks: both products are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .f32) (h6 : a6.IsWhole) (a7 : Memref sig .tc .vmem S256x1024 .f32) (h7 : a7.IsWhole)
    (hc : k0_cond1 i = 1#1) (x : Vec F S1024x4096 .bf16) (w : Vec F S4096x1024 .bf16) (x' : Vec F S256x4096 .bf16) (E : Set ℕ) (K : PUnit → sProp 𝕄) :
    iprop(owns (c : Thread nD τ) a3 fullShare x ∗ owns (c : Thread nD τ) a4 fullShare w ∗ owns (c : Thread nD τ) a5 fullShare x' ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a5 fullShare x' ∗ owns (c : Thread nD τ) a6 fullShare (rows x w) ∗ owns (c : Thread nD τ) a7 fullShare (rowsS x' w)) -∗ K ⟨⟩))
      ⊢ wp frame (wpE (defs₀ (F := F)) Variants.none c none) E (cc0_proj_hq i a3 h3 a4 h4 a5 h5 a6 h6 a7 h7) K := by
  simp only [cc0_proj_hq_eq_skeleton]; unfold cc0_proj_hq_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    funext y
    refine View.read_writes_apply_of_pieces (Val := Elt F) (e := .f32) _ _ (rows x w) _ ?_ y (View.cover_of_tiledL (s := S1024x1024) _ ![1024, 512] (by sl_kernel_rfl) y)
    sl_unfold_run_names
    intro p hp z
    simp only [List.mem_cons, List.not_mem_nil, _root_.or_false] at hp
    rcases hp with rfl | rfl
    exacts [byHalf_piece (fun b => k0_pay1 x (halfCols w b)) 1 (by decide) (by decide) z, byHalf_piece (fun b => k0_pay1 x (halfCols w b)) 0 (by decide) (by decide) z]
  iexists _; isplitr
  swap; · iexact H4
  ipureintro
  frame_out
  funext y
  refine View.read_writes_apply_of_pieces (Val := Elt F) (e := .f32) _ _ (rowsS x' w) _ ?_ y (View.cover_of_tiledL (s := S256x1024) _ ![256, 512] (by sl_kernel_rfl) y)
  sl_unfold_run_names
  intro p hp z
  simp only [List.mem_cons, List.not_mem_nil, _root_.or_false] at hp
  rcases hp with rfl | rfl
  exacts [byHalf_piece (fun b => k0_pay3 x' (halfCols w b)) 1 (by decide) (by decide) z, byHalf_piece (fun b => k0_pay3 x' (halfCols w b)) 0 (by decide) (by decide) z]

set_option maxHeartbeats 1000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .f32) (h6 : a6.IsWhole) (a7 : Memref sig .tc .vmem S256x1024 .f32) (h7 : a7.IsWhole)
    (hc : ¬k0_cond1 i = 1#1) (x : Vec F S1024x4096 .bf16) (w : Vec F S4096x1024 .bf16) (E : Set ℕ) (K : PUnit → sProp 𝕄) :
    iprop(owns (c : Thread nD τ) a3 fullShare x ∗ owns (c : Thread nD τ) a4 fullShare w ∗ (∃ d, owns (c : Thread nD τ) a6 fullShare d)
        ∗ (iprop(owns (c : Thread nD τ) a3 fullShare x ∗ owns (c : Thread nD τ) a4 fullShare w ∗ owns (c : Thread nD τ) a6 fullShare (rows x w)) -∗ K ⟨⟩))
      ⊢ wp frame (wpE (defs₀ (F := F)) Variants.none c none) E (cc0_proj_hq i a3 h3 a4 h4 a5 h5 a6 h6 a7 h7) K := by
  simp only [cc0_proj_hq_eq_skeleton]; unfold cc0_proj_hq_skel
  unfold owns
  iintro ⟨⟨%f0, %hf0, H0⟩, ⟨%f1, %hf1, H1⟩, ⟨%d3, %f3, -, H3⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H3
  ipureintro
  frame_out
  funext y
  refine View.read_writes_apply_of_pieces (Val := Elt F) (e := .f32) _ _ (rows x w) _ ?_ y (View.cover_of_tiledL (s := S1024x1024) _ ![1024, 512] (by sl_kernel_rfl) y)
  sl_unfold_run_names
  intro p hp z
  simp only [List.mem_cons, List.not_mem_nil, _root_.or_false] at hp
  rcases hp with rfl | rfl
  exacts [byHalf_piece (fun b => k0_pay1 x (halfCols w b)) 1 (by decide) (by decide) z, byHalf_piece (fun b => k0_pay1 x (halfCols w b)) 0 (by decide) (by decide) z]

end Cert.Kernel9Ideal.Gen
end
-- ==== Proof.Queries.Frame.lean ====
/- The queries of the recurrence, the whole call: what every point leaves, and the launch's run.

   The short batch's block is stored in the first row of blocks only (points 0 and 1). -/
module

public import proofs.«01_k».proof.Proof.Queries.Run
public import proofs.«01_k».proof.Proof.Rider

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

theorem first : First cfg0 4 2 where
  pos := by decide
  lt := by decide
  out := rfl
  whole _ _ := rfl
  idle t := by
    show (!(k0_cond1 (grid0.coords t) == 1#1)) = _
    congr 1
    exact Bool.eq_iff_iff.mpr (by rw [beq_iff_eq, decide_eq_true_iff]; exact first_iff t)
  flush t := by
    rw [Window.flush_eq_flushF]
    exact (by decide +kernel : ∀ t : Fin grid0.N, win0_4.flushF t = decide (t.val < 2 - 1 ∨ t.val = grid0.N - 1)) t

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows (iblk m c 0 t) (iblk m c 1 t)
    | ⟨4, _⟩ => rowsS (iblk m c 2 (stored 2 t)) (iblk m c 1 (stored 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows (iblk m c 0 t) (iblk m c 1 t) := by dsimp only [dats]
theorem after0_4 (c : Dev nD) (t : Fin cfg0.N) : (dats m 0 c).after 4 t = rowsS (iblk m c 2 (stored 2 t)) (iblk m c 1 (stored 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem after_stored (c : Dev nD) (t : Fin cfg0.N) : (dats m 0 c).after 4 t = (dats m 0 c).after 4 (stored 2 t) := by
  rw [after0_4, after0_4, stored_twice]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live (dats m 0 c) 0 t rfl, leaves_live (dats m 0 c) 1 t rfl, leaves_live (dats m 0 c) 2 t rfl, leaves_live (dats m 0 c) 3 t rfl, after0_0, after0_1, after0_2, after0_3]
  by_cases h : t.val < 2
  · rw [leaves_live (dats m 0 c) 4 t ((first.idle t).trans (by rw [decide_eq_true h]; rfl)), after0_4, stored_first t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [first.before (dats m 0 c) (after_stored m c) t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun hc => h ((first_iff t).mp hc)) (iblk m c 0 t) (iblk m c 1 t) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply (first.leaves (dats m 0 c) (after_stored m c) t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel9Ideal.Gen

end
-- ==== Proof.Queries.Value.lean ====
/- The queries of the recurrence: what both result arrays hold, entry by entry. -/
module

public import proofs.«01_k».proof.Proof.Queries.Frame
public import Idealize.ShloMosaic.Lib.Pipeline.ValueKit.Point
public import Idealize.ShloMosaic.Lib.Pipeline.Covers

@[expose] public section

set_option maxRecDepth 16384

noncomputable section

namespace Cert.Kernel9Ideal.Gen

open Idealize.ShloMosaic Idealize.ShloMosaic.TcCoe Idealize.ShloMosaic.Tactic
open Idealize.SL Idealize.SL.Sem
open Cert.Proof.Heads Cert.Proof.Rider

variable (m : (ℓ : Loc nD τ sig) → Buf (Elt Ideal) ℓ) (ρ : Dev nD → PrngReg)

/-- The silu, `x` times its sigmoid. -/
def silu (x : EReal) : EReal := x * Ideal.div 1 (1 + Ideal.exp (-x))

theorem pay1_at (x : Vec Ideal S1024x4096 .bf16) (w : Vec Ideal S4096x512 .bf16) (r : Fin 1024) (j : Fin 512) :
    k0_pay1 x w (ix2 r j) = silu (∑ k : Fin 4096, x (ix2 r k) * w (ix2 k j)) := by
  pointwise [k0_pay1]
  rfl

theorem pay3_at (x : Vec Ideal S256x4096 .bf16) (w : Vec Ideal S4096x512 .bf16) (r : Fin 256) (j : Fin 512) :
    k0_pay3 x w (ix2 r j) = silu (∑ k : Fin 4096, x (ix2 r k) * w (ix2 k j)) := by
  pointwise [k0_pay3]
  rfl

theorem rows_at (x : Vec Ideal S1024x4096 .bf16) (w : Vec Ideal S4096x1024 .bf16) (r : Fin 1024) (j : Fin 1024) :
    rows x w (ix2 r j) = silu (∑ k : Fin 4096, x (ix2 r k) * w (ix2 k j)) := by
  have hj := j.isLt
  refine (pay1_at x (halfCols w ⟨j.val / 512, by omega⟩) r ⟨j.val % 512, Nat.mod_lt _ (by decide)⟩).trans (congrArg silu (Finset.sum_congr rfl fun k _ => congrArg (x (ix2 r k) * ·) ?_))
  exact halfCols_at w _ k _ j (by show j.val = 512 * (j.val / 512) + j.val % 512; omega)

theorem rowsS_at (x : Vec Ideal S256x4096 .bf16) (w : Vec Ideal S4096x1024 .bf16) (r : Fin 256) (j : Fin 1024) :
    rowsS x w (ix2 r j) = silu (∑ k : Fin 4096, x (ix2 r k) * w (ix2 k j)) := by
  have hj := j.isLt
  refine (pay3_at x (halfCols w ⟨j.val / 512, by omega⟩) r ⟨j.val % 512, Nat.mod_lt _ (by decide)⟩).trans (congrArg silu (Finset.sum_congr rfl fun k _ => congrArg (x (ix2 r k) * ·) ?_))
  exact halfCols_at w _ k _ j (by show j.val = 512 * (j.val / 512) + j.val % 512; omega)

theorem index_x : ∀ t : Fin grid0.N, win0_0.index t = ![t.val / 2, 0] := by decide +kernel
theorem index_w : ∀ t : Fin grid0.N, win0_1.index t = ![0, 4 + t.val % 2] := by decide +kernel
theorem index_s : ∀ t : Fin grid0.N, win0_2.index t = ![0, 0] := by decide +kernel
theorem index_o : ∀ t : Fin grid0.N, win0_3.index t = ![t.val / 2, t.val % 2] := by decide +kernel
theorem index_q : ∀ t : Fin grid0.N, win0_4.index t = ![0, min t.val 1] := by decide +kernel

theorem index_ws (t : Fin cfg0.N) : win0_1.index (stored 2 t) = ![0, 4 + min t.val 1] := by
  have e : (stored 2 t).val % 2 = min t.val 1 := Nat.mod_eq_of_lt (by unfold stored; simp only; omega)
  rw [index_w (stored 2 t), e]

/-- The entry at row `r`, column `j` of the queries of a batch `X` under the weight `W`. -/
def queryAt {n : ℕ} (X : Vec Ideal ⟨2, ![n, 4096]⟩ .bf16) (W : Vec Ideal S4096x12288 .bf16) (r : Fin n) (j : Fin 2048) : EReal :=
  silu (∑ k : Fin 4096, X (ix2 r k) * W (ix2 k ⟨4096 + j.val, by have := j.isLt; omega⟩))

/-- The long batch's queries. -/
def G3 (c : Dev nD) : Vec Ideal S8192x2048 .f32 := fun y =>
  queryAt (m ((c.tc : Thread nD τ).loc main_arg0)) (m ((c.tc : Thread nD τ).loc main_arg2)) (y 0) (y 1)

/-- The short batch's queries. -/
def G4 (c : Dev nD) : Vec Ideal S256x2048 .f32 := fun y =>
  queryAt (m ((c.tc : Thread nD τ).loc main_arg1)) (m ((c.tc : Thread nD τ).loc main_arg2)) (y 0) (y 1)

/-- What point `t` leaves in window 3's block is the part of the queries the block is written to. -/
theorem point3 (c : Dev nD) (t : Fin cfg0.N) (r : Fin 1024) (j : Fin 1024) :
    rows (iblk m c 0 t) (iblk m c 1 t) (ix2 r j) = G3 m c ((win0_3.blk t).view.emb (ix2 r j)) := by
  rw [rows_at]
  unfold G3 queryAt
  congr 1
  refine Finset.sum_congr rfl fun k _ => ?_
  congr 1
  · blk_ext [iblk, V, index_x t, index_o t]
  · blk_ext [iblk, V, index_w t, index_o t]

/-- Window 3's array after the run. -/
theorem array3 (c : Dev nD) : (dats m 0 c).arrAt 3 cfg0.N = G3 m c := by
  refine (dats m 0 c).arrAt_eq_of_covers 3 _ (by decide +kernel) fun t hf y => ?_
  blk_simp
  rw [after0_3]
  have e : y = ix2 (y 0) (y 1) := eq_ix2 y
  rw [e]
  exact point3 m c t (y 0) (y 1)

/-- What point `t` leaves in window 4's block is the part of the queries the block is written to. -/
theorem point4 (c : Dev nD) (t : Fin cfg0.N) (r : Fin 256) (j : Fin 1024) :
    rowsS (iblk m c 2 (stored 2 t)) (iblk m c 1 (stored 2 t)) (ix2 r j) = G4 m c ((win0_4.blk t).view.emb (ix2 r j)) := by
  rw [rowsS_at]
  unfold G4 queryAt
  congr 1
  refine Finset.sum_congr rfl fun k _ => ?_
  congr 1
  · blk_ext [iblk, V, index_s (stored 2 t), index_q t]
  · blk_ext [iblk, V, index_ws t, index_q t]

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (array3 m c), ((h.1 c).1 4).trans (array4 m c), (h.2.1 c).1, (h.2.1 c).2.1, (h.2.1 c).2.2⟩)
    (θ_run_and (run_main m ρ) (frame m ρ))

end Cert.Kernel9Ideal.Gen

end
-- ==== Proof.Queries.Reference.lean ====
/- The queries as the reference computes it, and the claim that the kernel computes the same. -/
module

public import proofs.«01_k».proof.Proof.Queries.Value
public import proofs.«01_k».proof.Proof.Gen.Reference9Ideal.Run
public import proofs.«01_k».proof.Proof.Gen.Kernel9
public import proofs.«01_k».proof.Defs

@[expose] public section

set_option maxRecDepth 16384

noncomputable section

namespace Cert.Proof.Queries

open Idealize.ShloMosaic Idealize.ShloMosaic.TcCoe Idealize.ShloMosaic.Tactic
open Idealize.SL Idealize.SL.Sem
open Cert.Kernel9Ideal.Gen (G3 G4 queryAt silu)

/-- The compiled kernel's frame, spelt of the idealized text read at the machine's words. -/
theorem frame_same : Cert.quiescent_Kernel9 (hKernel9 := Cert.Kernel9.Gen.facts)
    = (∀ (m : (ℓ : Loc Cert.Kernel9Ideal.nD Cert.Kernel9Ideal.τ Cert.Kernel9Ideal.sig) → Buf (Elt Bits) ℓ) (g : Dev Cert.Kernel9Ideal.nD → PrngReg), True →
    θ_run (Cert.Kernel9Ideal.defs (F := Bits)) (onTc (τ := Cert.Kernel9Ideal.τ) (Cert.Kernel9Ideal.main (F := Bits))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)) := by
  sl_kernel_rfl

theorem frame_kernel : Cert.quiescent_Kernel9 (hKernel9 := Cert.Kernel9.Gen.facts) :=
  frame_same.mpr fun m ρ _ => Cert.Kernel9Ideal.Gen.frame (F := Bits) m ρ

theorem frame_ideal : Cert.quiescent_Kernel9Ideal (hKernel9Ideal := Cert.Kernel9Ideal.Gen.facts) := fun m ρ _ =>
  Cert.Kernel9Ideal.Gen.frame m ρ

theorem frame_reference : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run m ρ)

theorem values : Cert.algebraic_Kernel9Ideal_Reference9Ideal (hKernel9Ideal := Cert.Kernel9Ideal.Gen.facts) (hReference9Ideal := Cert.Reference9Ideal.Gen.facts) := by
  intro m g m' g' _ hargs
  refine ⟨fun c => G3 m c, fun c => G4 m c, Cert.Kernel9Ideal.Gen.results m g, ?_⟩
  refine (θ_run Cert.Reference9Ideal.defs _ _).mono (fun r h c => ?_) (Cert.Reference9Ideal.Value.run m' g')
  obtain ⟨a0, a1, a2⟩ := hargs c
  refine ⟨(h c).1.trans ?_, (h c).2.1.trans ?_, (h c).2.2⟩
  · rw [a0, a2]
    funext y
    pointwise [G3, queryAt, silu]
  · rw [a1, a2]
    funext y
    pointwise [G4, queryAt, silu]

end Cert.Proof.Queries

end
-- ==== Proof.Inputs.Run.lean ====
/- The inputs of the recurrence, one grid point: what the body leaves in the two output blocks. -/
module

public import proofs.«01_k».proof.Proof.Gen.Kernel10Ideal.Frame
public import proofs.«01_k».proof.Proof.Gen.Kernel10Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- The heads of the inputs of a block of the long batch's rows. -/
def heads (x : Vec F S1024x4096 .bf16) (w : Vec F S4096x1024 .bf16) : Fin 8 → Block F 1024 :=
  headOf fun b => k0_pay16 x (halfCols w b)

/-- The heads of the inputs of a block of the other batch's rows. -/
def headsS (x : Vec F S256x4096 .bf16) (w : Vec F S4096x1024 .bf16) : Fin 8 → Block F 256 :=
  headOf fun b => k0_pay9 x (halfCols w b)

/-- The inputs of a block of the long batch's rows, and of the other batch's. -/
def rows (x : Vec F S1024x4096 .bf16) (w : Vec F S4096x1024 .bf16) : Vec F S1024x1024 .bf16 := byCol (heads x w)
def rowsS (x : Vec F S256x4096 .bf16) (w : Vec F S4096x1024 .bf16) : Vec F S256x1024 .bf16 := byCol (headsS x w)

set_option maxHeartbeats 4000000 in
/-- A point of the first row of blocks: both products are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .bf16) (h6 : a6.IsWhole) (a7 : Memref sig .tc .vmem S256x1024 .bf16) (h7 : a7.IsWhole)
    (hc : k0_cond1 i = 1#1) (x : Vec F S1024x4096 .bf16) (w : Vec F S4096x1024 .bf16) (x' : Vec F S256x4096 .bf16) (E : Set ℕ) (K : PUnit → sProp 𝕄) :
    iprop(owns (c : Thread nD τ) a3 fullShare x ∗ owns (c : Thread nD τ) a4 fullShare w ∗ owns (c : Thread nD τ) a5 fullShare x' ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a5 fullShare x' ∗ owns (c : Thread nD τ) a6 fullShare (rows x w) ∗ owns (c : Thread nD τ) a7 fullShare (rowsS x' w)) -∗ K ⟨⟩))
      ⊢ wp frame (wpE (defs₀ (F := F)) Variants.none c none) E (cc0_proj_hi i a3 h3 a4 h4 a5 h5 a6 h6 a7 h7) K := by
  simp only [cc0_proj_hi_eq_skeleton]; unfold cc0_proj_hi_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr
    swap; · iexact H3
    ipureintro
    frame_out
    funext y
    refine View.read_writes_apply_of_pieces (Val := Elt F) (e := .bf16) _ _ (rows x w) _ ?_ y (View.cover_of_tiledL (s := S1024x1024) _ ![1024, 128] (by sl_kernel_rfl) y)
    sl_unfold_run_names
    intro p hp z
    simp only [List.mem_cons, List.not_mem_nil, _root_.or_false] at hp
    rcases hp with rfl | rfl | rfl | rfl | rfl | rfl | rfl | rfl
    exacts [byCol_piece (heads x w) 7 (by decide) (by decide) (by decide) z, byCol_piece (heads x w) 6 (by decide) (by decide) (by decide) z, byCol_piece (heads x w) 5 (by decide) (by decide) (by decide) z, byCol_piece (heads x w) 4 (by decide) (by decide) (by decide) z, byCol_piece (heads x w) 3 (by decide) (by decide) (by decide) z, byCol_piece (heads x w) 2 (by decide) (by decide) (by decide) z, byCol_piece (heads x w) 1 (by decide) (by decide) (by decide) z, byCol_piece (heads x w) 0 (by decide) (by decide) (by decide) z]
  iexists _; isplitr
  swap; · iexact H4
  ipureintro
  frame_out
  funext y
  refine View.read_writes_apply_of_pieces (Val := Elt F) (e := .bf16) _ _ (rowsS x' w) _ ?_ y (View.cover_of_tiledL (s := S256x1024) _ ![256, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (headsS x' w) 7 (by decide) (by decide) (by decide) z, byCol_piece (headsS x' w) 6 (by decide) (by decide) (by decide) z, byCol_piece (headsS x' w) 5 (by decide) (by decide) (by decide) z, byCol_piece (headsS x' w) 4 (by decide) (by decide) (by decide) z, byCol_piece (headsS x' w) 3 (by decide) (by decide) (by decide) z, byCol_piece (headsS x' w) 2 (by decide) (by decide) (by decide) z, byCol_piece (headsS x' w) 1 (by decide) (by decide) (by decide) z, byCol_piece (headsS x' w) 0 (by decide) (by decide) (by decide) z]

set_option maxHeartbeats 4000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S256x4096 .bf16) (h5 : a5.IsWhole) (a6 : Memref sig .tc .vmem S1024x1024 .bf16) (h6 : a6.IsWhole) (a7 : Memref sig .tc .vmem S256x1024 .bf16) (h7 : a7.IsWhole)
    (hc : ¬k0_cond1 i = 1#1) (x : Vec F S1024x4096 .bf16) (w : Vec F S4096x1024 .bf16) (E : Set ℕ) (K : PUnit → sProp 𝕄) :
    iprop(owns (c : Thread nD τ) a3 fullShare x ∗ owns (c : Thread nD τ) a4 fullShare w ∗ (∃ d, owns (c : Thread nD τ) a6 fullShare d)
        ∗ (iprop(owns (c : Thread nD τ) a3 fullShare x ∗ owns (c : Thread nD τ) a4 fullShare w ∗ owns (c : Thread nD τ) a6 fullShare (rows x w)) -∗ K ⟨⟩))
      ⊢ wp frame (wpE (defs₀ (F := F)) Variants.none c none) E (cc0_proj_hi i a3 h3 a4 h4 a5 h5 a6 h6 a7 h7) K := by
  simp only [cc0_proj_hi_eq_skeleton]; unfold cc0_proj_hi_skel
  simp only [k0_part1_eq_skeleton, k0_part2_eq_skeleton]
  unfold owns
  iintro ⟨⟨%f0, %hf0, H0⟩, ⟨%f1, %hf1, H1⟩, ⟨%d3, %f3, -, H3⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H3
  ipureintro
  frame_out
  funext y
  refine View.read_writes_apply_of_pieces (Val := Elt F) (e := .bf16) _ _ (rows x w) _ ?_ y (View.cover_of_tiledL (s := S1024x1024) _ ![1024, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (heads x w) 7 (by decide) (by decide) (by decide) z, byCol_piece (heads x w) 6 (by decide) (by decide) (by decide) z, byCol_piece (heads x w) 5 (by decide) (by decide) (by decide) z, byCol_piece (heads x w) 4 (by decide) (by decide) (by decide) z, byCol_piece (heads x w) 3 (by decide) (by decide) (by decide) z, byCol_piece (heads x w) 2 (by decide) (by decide) (by decide) z, byCol_piece (heads x w) 1 (by decide) (by decide) (by decide) z, byCol_piece (heads x w) 0 (by decide) (by decide) (by decide) z]

end Cert.Kernel10Ideal.Gen
end
-- ==== Proof.Inputs.Frame.lean ====
/- The inputs of the recurrence, the whole call: what every point leaves, and the launch's run.

   The short batch's block is stored in the first row of blocks only (points 0 and 1). -/
module

public import proofs.«01_k».proof.Proof.Inputs.Run
public import proofs.«01_k».proof.Proof.Rider

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

theorem first : First cfg0 4 2 where
  pos := by decide
  lt := by decide
  out := rfl
  whole _ _ := rfl
  idle t := by
    show (!(k0_cond1 (grid0.coords t) == 1#1)) = _
    congr 1
    exact Bool.eq_iff_iff.mpr (by rw [beq_iff_eq, decide_eq_true_iff]; exact first_iff t)
  flush t := by
    rw [Window.flush_eq_flushF]
    exact (by decide +kernel : ∀ t : Fin grid0.N, win0_4.flushF t = decide (t.val < 2 - 1 ∨ t.val = grid0.N - 1)) t

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows (iblk m c 0 t) (iblk m c 1 t)
    | ⟨4, _⟩ => rowsS (iblk m c 2 (stored 2 t)) (iblk m c 1 (stored 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows (iblk m c 0 t) (iblk m c 1 t) := by dsimp only [dats]
theorem after0_4 (c : Dev nD) (t : Fin cfg0.N) : (dats m 0 c).after 4 t = rowsS (iblk m c 2 (stored 2 t)) (iblk m c 1 (stored 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem after_stored (c : Dev nD) (t : Fin cfg0.N) : (dats m 0 c).after 4 t = (dats m 0 c).after 4 (stored 2 t) := by
  rw [after0_4, after0_4, stored_twice]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live (dats m 0 c) 0 t rfl, leaves_live (dats m 0 c) 1 t rfl, leaves_live (dats m 0 c) 2 t rfl, leaves_live (dats m 0 c) 3 t rfl, after0_0, after0_1, after0_2, after0_3]
  by_cases h : t.val < 2
  · rw [leaves_live (dats m 0 c) 4 t ((first.idle t).trans (by rw [decide_eq_true h]; rfl)), after0_4, stored_first t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [first.before (dats m 0 c) (after_stored m c) t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun hc => h ((first_iff t).mp hc)) (iblk m c 0 t) (iblk m c 1 t) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply (first.leaves (dats m 0 c) (after_stored m c) t h)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel10Ideal.Gen

end
-- ==== Proof.Inputs.Value.lean ====
/- The inputs of the recurrence: what both result arrays hold, entry by entry. -/
module

public import proofs.«01_k».proof.Proof.Inputs.Frame
public import Idealize.ShloMosaic.Lib.Pipeline.ValueKit.Point
public import Idealize.ShloMosaic.Lib.Pipeline.Covers

@[expose] public section

set_option maxRecDepth 16384

noncomputable section

namespace Cert.Kernel10Ideal.Gen

open Idealize.ShloMosaic Idealize.ShloMosaic.TcCoe Idealize.ShloMosaic.Tactic
open Idealize.SL Idealize.SL.Sem
open Cert.Proof.Heads Cert.Proof.Rider

variable (m : (ℓ : Loc nD τ sig) → Buf (Elt Ideal) ℓ) (ρ : Dev nD → PrngReg)

theorem pay16_at (x : Vec Ideal S1024x4096 .bf16) (w : Vec Ideal S4096x512 .bf16) (r : Fin 1024) (j : Fin 512) :
    k0_pay16 x w (ix2 r j) = ∑ k : Fin 4096, x (ix2 r k) * w (ix2 k j) := by
  pointwise [k0_pay16]

theorem pay9_at (x : Vec Ideal S256x4096 .bf16) (w : Vec Ideal S4096x512 .bf16) (r : Fin 256) (j : Fin 512) :
    k0_pay9 x w (ix2 r j) = ∑ k : Fin 4096, x (ix2 r k) * w (ix2 k j) := by
  pointwise [k0_pay9]

/-- A column of the head, as a column of the half it lies in. -/
theorem col_split (h : Fin 8) (d : Fin 128) : (colOf h d).val = 512 * (h.val / 4) + (128 * (h.val % 4) + d.val) := by
  show 128 * h.val + d.val = _
  omega

theorem rows_at (x : Vec Ideal S1024x4096 .bf16) (w : Vec Ideal S4096x1024 .bf16) (r : Fin 1024) (j : Fin 1024) :
    rows x w (ix2 r j) = ∑ k : Fin 4096, x (ix2 r k) * w (ix2 k j) := by
  refine byCol_at (heads x w) (fun r j => ∑ k : Fin 4096, x (ix2 r k) * w (ix2 k j)) (fun h r d => ?_) r j
  unfold heads
  rw [headOf_at, pay16_at]
  exact Finset.sum_congr rfl fun k _ => congrArg (x (ix2 r k) * ·) (halfCols_at w _ k _ _ (col_split h d))

theorem rowsS_at (x : Vec Ideal S256x4096 .bf16) (w : Vec Ideal S4096x1024 .bf16) (r : Fin 256) (j : Fin 1024) :
    rowsS x w (ix2 r j) = ∑ k : Fin 4096, x (ix2 r k) * w (ix2 k j) := by
  refine byCol_at (headsS x w) (fun r j => ∑ k : Fin 4096, x (ix2 r k) * w (ix2 k j)) (fun h r d => ?_) r j
  unfold headsS
  rw [headOf_at, pay9_at]
  exact Finset.sum_congr rfl fun k _ => congrArg (x (ix2 r k) * ·) (halfCols_at w _ k _ _ (col_split h d))

theorem index_x : ∀ t : Fin grid0.N, win0_0.index t = ![t.val / 2, 0] := by decide +kernel
theorem index_w : ∀ t : Fin grid0.N, win0_1.index t = ![0, 8 + t.val % 2] := by decide +kernel
theorem index_s : ∀ t : Fin grid0.N, win0_2.index t = ![0, 0] := by decide +kernel
theorem index_o : ∀ t : Fin grid0.N, win0_3.index t = ![t.val / 2, t.val % 2] := by decide +kernel
theorem index_q : ∀ t : Fin grid0.N, win0_4.index t = ![0, min t.val 1] := by decide +kernel

theorem index_ws (t : Fin cfg0.N) : win0_1.index (stored 2 t) = ![0, 8 + min t.val 1] := by
  have e : (stored 2 t).val % 2 = min t.val 1 := Nat.mod_eq_of_lt (by unfold stored; simp only; omega)
  rw [index_w (stored 2 t), e]

/-- The entry at row `r`, column `j` of the inputs of a batch `X` under the weight `W`. -/
def inputAt {n : ℕ} (X : Vec Ideal ⟨2, ![n, 4096]⟩ .bf16) (W : Vec Ideal S4096x12288 .bf16) (r : Fin n) (j : Fin 2048) : EReal :=
  ∑ k : Fin 4096, X (ix2 r k) * W (ix2 k ⟨8192 + j.val, by have := j.isLt; omega⟩)

/-- The long batch's inputs. -/
def G3 (c : Dev nD) : Vec Ideal S8192x2048 .bf16 := fun y =>
  inputAt (m ((c.tc : Thread nD τ).loc main_arg0)) (m ((c.tc : Thread nD τ).loc main_arg2)) (y 0) (y 1)

/-- The short batch's inputs. -/
def G4 (c : Dev nD) : Vec Ideal S256x2048 .bf16 := fun y =>
  inputAt (m ((c.tc : Thread nD τ).loc main_arg1)) (m ((c.tc : Thread nD τ).loc main_arg2)) (y 0) (y 1)

/-- What point `t` leaves in window 3's block is the part of the inputs the block is written to. -/
theorem point3 (c : Dev nD) (t : Fin cfg0.N) (r : Fin 1024) (j : Fin 1024) :
    rows (iblk m c 0 t) (iblk m c 1 t) (ix2 r j) = G3 m c ((win0_3.blk t).view.emb (ix2 r j)) := by
  rw [rows_at]
  unfold G3 inputAt
  refine Finset.sum_congr rfl fun k _ => ?_
  congr 1
  · blk_ext [iblk, V, index_x t, index_o t]
  · blk_ext [iblk, V, index_w t, index_o t]

/-- Window 3's array after the run. -/
theorem array3 (c : Dev nD) : (dats m 0 c).arrAt 3 cfg0.N = G3 m c := by
  refine (dats m 0 c).arrAt_eq_of_covers 3 _ (by decide +kernel) fun t hf y => ?_
  blk_simp
  rw [after0_3]
  have e : y = ix2 (y 0) (y 1) := eq_ix2 y
  rw [e]
  exact point3 m c t (y 0) (y 1)

/-- What point `t` leaves in window 4's block is the part of the inputs the block is written to. -/
theorem point4 (c : Dev nD) (t : Fin cfg0.N) (r : Fin 256) (j : Fin 1024) :
    rowsS (iblk m c 2 (stored 2 t)) (iblk m c 1 (stored 2 t)) (ix2 r j) = G4 m c ((win0_4.blk t).view.emb (ix2 r j)) := by
  rw [rowsS_at]
  unfold G4 inputAt
  refine Finset.sum_congr rfl fun k _ => ?_
  congr 1
  · blk_ext [iblk, V, index_s (stored 2 t), index_q t]
  · blk_ext [iblk, V, index_ws t, index_q t]

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G3 m c
      ∧ r.2.mem ((c.tc : Thread nD τ).loc main_v0_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (array3 m c), ((h.1 c).1 4).trans (array4 m c), (h.2.1 c).1, (h.2.1 c).2.1, (h.2.1 c).2.2⟩)
    (θ_run_and (run_main m ρ) (frame m ρ))

end Cert.Kernel10Ideal.Gen

end
-- ==== Proof.Inputs.Reference.lean ====
/- The inputs as the reference computes it, and the claim that the kernel computes the same. -/
module

public import proofs.«01_k».proof.Proof.Inputs.Value
public import proofs.«01_k».proof.Proof.Gen.Reference10Ideal.Run
public import proofs.«01_k».proof.Proof.Gen.Kernel10
public import proofs.«01_k».proof.Defs

@[expose] public section

set_option maxRecDepth 16384

noncomputable section

namespace Cert.Proof.Inputs

open Idealize.ShloMosaic Idealize.ShloMosaic.TcCoe Idealize.ShloMosaic.Tactic
open Idealize.SL Idealize.SL.Sem
open Cert.Kernel10Ideal.Gen (G3 G4 inputAt)

/-- The compiled kernel's frame, spelt of the idealized text read at the machine's words. -/
theorem frame_same : Cert.quiescent_Kernel10 (hKernel10 := Cert.Kernel10.Gen.facts)
    = (∀ (m : (ℓ : Loc Cert.Kernel10Ideal.nD Cert.Kernel10Ideal.τ Cert.Kernel10Ideal.sig) → Buf (Elt Bits) ℓ) (g : Dev Cert.Kernel10Ideal.nD → PrngReg), True →
    θ_run (Cert.Kernel10Ideal.defs (F := Bits)) (onTc (τ := Cert.Kernel10Ideal.τ) (Cert.Kernel10Ideal.main (F := Bits))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)) := by
  sl_kernel_rfl

theorem frame_kernel : Cert.quiescent_Kernel10 (hKernel10 := Cert.Kernel10.Gen.facts) :=
  frame_same.mpr fun m ρ _ => Cert.Kernel10Ideal.Gen.frame (F := Bits) m ρ

theorem frame_ideal : Cert.quiescent_Kernel10Ideal (hKernel10Ideal := Cert.Kernel10Ideal.Gen.facts) := fun m ρ _ =>
  Cert.Kernel10Ideal.Gen.frame m ρ

theorem frame_reference : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run m ρ)

theorem values : Cert.algebraic_Kernel10Ideal_Reference10Ideal (hKernel10Ideal := Cert.Kernel10Ideal.Gen.facts) (hReference10Ideal := Cert.Reference10Ideal.Gen.facts) := by
  intro m g m' g' _ hargs
  refine ⟨fun c => G3 m c, fun c => G4 m c, Cert.Kernel10Ideal.Gen.results m g, ?_⟩
  refine (θ_run Cert.Reference10Ideal.defs _ _).mono (fun r h c => ?_) (Cert.Reference10Ideal.Value.run m' g')
  obtain ⟨a0, a1, a2⟩ := hargs c
  refine ⟨(h c).1.trans ?_, (h c).2.1.trans ?_, (h c).2.2⟩
  · rw [a0, a2]
    funext y
    pointwise [G3, inputAt]
  · rw [a1, a2]
    funext y
    pointwise [G4, inputAt]

end Cert.Proof.Inputs

end
-- ==== Proof.Decays.Run.lean ====
/- The log decays of the recurrence, one grid point: what the body leaves in the two output blocks. -/
module

public import proofs.«01_k».proof.Proof.Gen.Kernel11Ideal.Frame
public import proofs.«01_k».proof.Proof.Gen.Kernel11Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- The log decays of a block of the long batch's rows, and of the other batch's. -/
def rows (x : Vec F S1024x4096 .bf16) (w : Vec F S4096x1024 .bf16) (g : Vec F S2x1024 .f32) : Vec F S1024x1024 .f32 := byHalf fun b => k0_pay7 x (halfCols w b) (halfCols g b)
def rowsS (x : Vec F S256x4096 .bf16) (w : Vec F S4096x1024 .bf16) (g : Vec F S2x1024 .f32) : Vec F S256x1024 .f32 := byHalf fun b => k0_pay3 x (halfCols w b) (halfCols g b)

set_option maxHeartbeats 4000000 in
/-- A point of the first row of blocks: both products are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S2x1024 .f32) (h5 : a5.IsWhole) (a6 : Memref sig .tc .vmem S256x4096 .bf16) (h6 : a6.IsWhole)
    (a7 : Memref sig .tc .vmem S1024x1024 .f32) (h7 : a7.IsWhole) (a8 : Memref sig .tc .vmem S256x1024 .f32) (h8 : a8.IsWhole)
    (hc : k0_cond1 i = 1#1) (x : Vec F S1024x4096 .bf16) (w : Vec F S4096x1024 .bf16) (g : Vec F S2x1024 .f32) (x' : Vec F S256x4096 .bf16) (E : Set ℕ) (K : PUnit → sProp 𝕄) :
    iprop(owns (c : Thread nD τ) a3 fullShare x ∗ owns (c : Thread nD τ) a4 fullShare w ∗ owns (c : Thread nD τ) a5 fullShare g ∗ owns (c : Thread nD τ) a6 fullShare x' ∗ (∃ d, owns (c : Thread nD τ) a7 fullShare d) ∗ (∃ d, owns (c : Thread nD τ) a8 fullShare d)
        ∗ (iprop(owns (c : Thread nD τ) a3 fullShare x ∗ owns (c : Thread nD τ) a4 fullShare w ∗ owns (c : Thread nD τ) a5 fullShare g ∗ owns (c : Thread nD τ) a6 fullShare x' ∗ owns (c : Thread nD τ) a7 fullShare (rows x w g) ∗ owns (c : Thread nD τ) a8 fullShare (rowsS x' w g)) -∗ K ⟨⟩))
      ⊢ wp frame (wpE (defs₀ (F := F)) Variants.none c none) E (cc0_proj_hf i a3 h3 a4 h4 a5 h5 a6 h6 a7 h7 a8 h8) K := by
  simp only [cc0_proj_hf_eq_skeleton]; unfold cc0_proj_hf_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := h3.eq_unread hf0; obtain rfl := h4.eq_unread hf1; obtain rfl := h5.eq_unread hf2; obtain rfl := h6.eq_unread hf3
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    frame_out
    funext y
    refine View.read_writes_apply_of_pieces (Val := Elt F) (e := .f32) _ _ (rows x w g) _ ?_ y (View.cover_of_tiledL (s := S1024x1024) _ ![1024, 512] (by sl_kernel_rfl) y)
    sl_unfold_run_names
    intro p hp z
    simp only [List.mem_cons, List.not_mem_nil, _root_.or_false] at hp
    rcases hp with rfl | rfl
    exacts [byHalf_piece (fun b => k0_pay7 x (halfCols w b) (halfCols g b)) 1 (by decide) (by decide) z, byHalf_piece (fun b => k0_pay7 x (halfCols w b) (halfCols g b)) 0 (by decide) (by decide) z]
  iexists _; isplitr
  swap; · iexact H5
  ipureintro
  frame_out
  funext y
  refine View.read_writes_apply_of_pieces (Val := Elt F) (e := .f32) _ _ (rowsS x' w g) _ ?_ y (View.cover_of_tiledL (s := S256x1024) _ ![256, 512] (by sl_kernel_rfl) y)
  sl_unfold_run_names
  intro p hp z
  simp only [List.mem_cons, List.not_mem_nil, _root_.or_false] at hp
  rcases hp with rfl | rfl
  exacts [byHalf_piece (fun b => k0_pay3 x' (halfCols w b) (halfCols g b)) 1 (by decide) (by decide) z, byHalf_piece (fun b => k0_pay3 x' (halfCols w b) (halfCols g b)) 0 (by decide) (by decide) z]

set_option maxHeartbeats 4000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S2x1024 .f32) (h5 : a5.IsWhole) (a6 : Memref sig .tc .vmem S256x4096 .bf16) (h6 : a6.IsWhole)
    (a7 : Memref sig .tc .vmem S1024x1024 .f32) (h7 : a7.IsWhole) (a8 : Memref sig .tc .vmem S256x1024 .f32) (h8 : a8.IsWhole)
    (hc : ¬k0_cond1 i = 1#1) (x : Vec F S1024x4096 .bf16) (w : Vec F S4096x1024 .bf16) (g : Vec F S2x1024 .f32) (E : Set ℕ) (K : PUnit → sProp 𝕄) :
    iprop(owns (c : Thread nD τ) a3 fullShare x ∗ owns (c : Thread nD τ) a4 fullShare w ∗ owns (c : Thread nD τ) a5 fullShare g ∗ (∃ d, owns (c : Thread nD τ) a7 fullShare d)
        ∗ (iprop(owns (c : Thread nD τ) a3 fullShare x ∗ owns (c : Thread nD τ) a4 fullShare w ∗ owns (c : Thread nD τ) a5 fullShare g ∗ owns (c : Thread nD τ) a7 fullShare (rows x w g)) -∗ K ⟨⟩))
      ⊢ wp frame (wpE (defs₀ (F := F)) Variants.none c none) E (cc0_proj_hf i a3 h3 a4 h4 a5 h5 a6 h6 a7 h7 a8 h8) K := by
  simp only [cc0_proj_hf_eq_skeleton]; unfold cc0_proj_hf_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H3
  ipureintro
  frame_out
  funext y
  refine View.read_writes_apply_of_pieces (Val := Elt F) (e := .f32) _ _ (rows x w g) _ ?_ y (View.cover_of_tiledL (s := S1024x1024) _ ![1024, 512] (by sl_kernel_rfl) y)
  sl_unfold_run_names
  intro p hp z
  simp only [List.mem_cons, List.not_mem_nil, _root_.or_false] at hp
  rcases hp with rfl | rfl
  exacts [byHalf_piece (fun b => k0_pay7 x (halfCols w b) (halfCols g b)) 1 (by decide) (by decide) z, byHalf_piece (fun b => k0_pay7 x (halfCols w b) (halfCols g b)) 0 (by decide) (by decide) z]

end Cert.Kernel11Ideal.Gen
end
-- ==== Proof.Decays.Frame.lean ====
/- The log decays of the recurrence, the whole call: what every point leaves, and the launch's run.

   The short batch's block is stored in the first row of blocks only (points 0 and 1). -/
module

public import proofs.«01_k».proof.Proof.Decays.Run
public import proofs.«01_k».proof.Proof.Rider

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

theorem first : First cfg0 5 2 where
  pos := by decide
  lt := by decide
  out := rfl
  whole _ _ := rfl
  idle t := by
    show (!(k0_cond1 (grid0.coords t) == 1#1)) = _
    congr 1
    exact Bool.eq_iff_iff.mpr (by rw [beq_iff_eq, decide_eq_true_iff]; exact first_iff t)
  flush t := by
    rw [Window.flush_eq_flushF]
    exact (by decide +kernel : ∀ t : Fin grid0.N, win0_5.flushF t = decide (t.val < 2 - 1 ∨ t.val = grid0.N - 1)) t

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows (iblk m c 0 t) (iblk m c 1 t) (iblk m c 2 t)
    | ⟨5, _⟩ => rowsS (iblk m c 3 (stored 2 t)) (iblk m c 1 (stored 2 t)) (iblk m c 2 (stored 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rows (iblk m c 0 t) (iblk m c 1 t) (iblk m c 2 t) := by dsimp only [dats]
theorem after0_5 (c : Dev nD) (t : Fin cfg0.N) : (dats m 0 c).after 5 t = rowsS (iblk m c 3 (stored 2 t)) (iblk m c 1 (stored 2 t)) (iblk m c 2 (stored 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem after_stored (c : Dev nD) (t : Fin cfg0.N) : (dats m 0 c).after 5 t = (dats m 0 c).after 5 (stored 2 t) := by
  rw [after0_5, after0_5, stored_twice]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl]
  rw [leaves_live (dats m 0 c) 0 t rfl, leaves_live (dats m 0 c) 1 t rfl, leaves_live (dats m 0 c) 2 t rfl, leaves_live (dats m 0 c) 3 t rfl, leaves_live (dats m 0 c) 4 t rfl, after0_0, after0_1, after0_2, after0_3, after0_4]
  by_cases h : t.val < 2
  · rw [leaves_live (dats m 0 c) 5 t ((first.idle t).trans (by rw [decide_eq_true h]; rfl)), after0_5, stored_first t h]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [first.before (dats m 0 c) (after_stored m c) t h]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun hc => h ((first_iff t).mp hc)) (iblk m c 0 t) (iblk m c 1 t) (iblk m c 2 t) Set.univ _)
    isplitl [H0]; · iexact H0
    isplitl [H1]; · iexact H1
    isplitl [H2]; · iexact H2
    isplitl [H4]; · iexists _; iexact H4
    iintro ⟨H0, H1, H2, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (first.leaves (dats m 0 c) (after_stored m c) t h)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel11Ideal.Gen

end
-- ==== Proof.Decays.Value.lean ====
/- The log decays of the recurrence: what both result arrays hold, entry by entry. -/
module

public import proofs.«01_k».proof.Proof.Decays.Frame
public import Idealize.ShloMosaic.Lib.Pipeline.ValueKit.Point
public import Idealize.ShloMosaic.Lib.Pipeline.Covers

@[expose] public section

set_option maxRecDepth 16384

noncomputable section

namespace Cert.Kernel11Ideal.Gen

open Idealize.ShloMosaic Idealize.ShloMosaic.TcCoe Idealize.ShloMosaic.Tactic
open Idealize.SL Idealize.SL.Sem
open Cert.Proof.Heads Cert.Proof.Rider

variable (m : (ℓ : Loc nD τ sig) → Buf (Elt Ideal) ℓ) (ρ : Dev nD → PrngReg)

/-- The sigmoid. -/
def sigmoid (x : EReal) : EReal := Ideal.div 1 (1 + Ideal.exp (-x))

/-- The larger of two logits, -/
def top (l : Fin 2 → EReal) : EReal := Finset.fold max (Ideal.ofBits FTy.f32 0xFF800000#32) l Finset.univ

/-- and the first one's share of their softmax, the lower bound of the forget gate. -/
def bound (l : Fin 2 → EReal) : EReal := Ideal.div (Ideal.exp (l 0 - top l)) (∑ i, Ideal.exp (l i - top l))

/-- The log decay: the logarithm of a forget gate between its lower bound and 1. -/
def logDecay (l : Fin 2 → EReal) (z : EReal) : EReal := Ideal.log (bound l + (1 - bound l) * sigmoid z)

theorem pay7_at (x : Vec Ideal S1024x4096 .bf16) (w : Vec Ideal S4096x512 .bf16) (g : Vec Ideal S2x512 .f32) (r : Fin 1024) (j : Fin 512) :
    k0_pay7 x w g (ix2 r j) = logDecay (fun i => g (ix2 i j)) (∑ k : Fin 4096, x (ix2 r k) * w (ix2 k j)) := by
  pointwise [k0_pay7]
  simp only [Fin.sum_univ_one]
  rfl

theorem pay3_at (x : Vec Ideal S256x4096 .bf16) (w : Vec Ideal S4096x512 .bf16) (g : Vec Ideal S2x512 .f32) (r : Fin 256) (j : Fin 512) :
    k0_pay3 x w g (ix2 r j) = logDecay (fun i => g (ix2 i j)) (∑ k : Fin 4096, x (ix2 r k) * w (ix2 k j)) := by
  pointwise [k0_pay3]
  simp only [Fin.sum_univ_one]
  rfl

theorem col_split (j : Fin 1024) : j.val = 512 * (j.val / 512) + j.val % 512 := by omega

theorem rows_at (x : Vec Ideal S1024x4096 .bf16) (w : Vec Ideal S4096x1024 .bf16) (g : Vec Ideal S2x1024 .f32) (r : Fin 1024) (j : Fin 1024) :
    rows x w g (ix2 r j) = logDecay (fun i => g (ix2 i j)) (∑ k : Fin 4096, x (ix2 r k) * w (ix2 k j)) := by
  have hj := j.isLt
  exact (pay7_at x (halfCols w ⟨j.val / 512, by omega⟩) (halfCols g ⟨j.val / 512, by omega⟩) r ⟨j.val % 512, Nat.mod_lt _ (by decide)⟩).trans (congrArg₂ logDecay (funext fun i => halfCols_at g _ i _ j (col_split j))
    (Finset.sum_congr rfl fun k _ => congrArg (x (ix2 r k) * ·) (halfCols_at w _ k _ j (col_split j))))

theorem rowsS_at (x : Vec Ideal S256x4096 .bf16) (w : Vec Ideal S4096x1024 .bf16) (g : Vec Ideal S2x1024 .f32) (r : Fin 256) (j : Fin 1024) :
    rowsS x w g (ix2 r j) = logDecay (fun i => g (ix2 i j)) (∑ k : Fin 4096, x (ix2 r k) * w (ix2 k j)) := by
  have hj := j.isLt
  exact (pay3_at x (halfCols w ⟨j.val / 512, by omega⟩) (halfCols g ⟨j.val / 512, by omega⟩) r ⟨j.val % 512, Nat.mod_lt _ (by decide)⟩).trans (congrArg₂ logDecay (funext fun i => halfCols_at g _ i _ j (col_split j))
    (Finset.sum_congr rfl fun k _ => congrArg (x (ix2 r k) * ·) (halfCols_at w _ k _ j (col_split j))))

theorem index_x : ∀ t : Fin grid0.N, win0_0.index t = ![t.val / 2, 0] := by decide +kernel
theorem index_w : ∀ t : Fin grid0.N, win0_1.index t = ![0, 6 + t.val % 2] := by decide +kernel
theorem index_g : ∀ t : Fin grid0.N, win0_2.index t = ![0, t.val % 2] := by decide +kernel
theorem index_s : ∀ t : Fin grid0.N, win0_3.index t = ![0, 0] := by decide +kernel
theorem index_o : ∀ t : Fin grid0.N, win0_4.index t = ![t.val / 2, t.val % 2] := by decide +kernel
theorem index_q : ∀ t : Fin grid0.N, win0_5.index t = ![0, min t.val 1] := by decide +kernel

theorem stored_mod (t : Fin cfg0.N) : (stored 2 t).val % 2 = min t.val 1 := Nat.mod_eq_of_lt (by unfold stored; simp only; omega)

theorem index_ws (t : Fin cfg0.N) : win0_1.index (stored 2 t) = ![0, 6 + min t.val 1] := by rw [index_w (stored 2 t), stored_mod]

theorem index_gs (t : Fin cfg0.N) : win0_2.index (stored 2 t) = ![0, min t.val 1] := by rw [index_g (stored 2 t), stored_mod]

/-- The entry at row `r`, column `j` of the log decays of a batch `X` under the weight `W` and the logits `L`. -/
def decayAt {n : ℕ} (X : Vec Ideal ⟨2, ![n, 4096]⟩ .bf16) (W : Vec Ideal S4096x12288 .bf16) (L : Vec Ideal S2x2048 .f32) (r : Fin n) (j : Fin 2048) : EReal :=
  logDecay (fun i => L (ix2 i j)) (∑ k : Fin 4096, X (ix2 r k) * W (ix2 k ⟨6144 + j.val, by have := j.isLt; omega⟩))

/-- The long batch's log decays. -/
def G4 (c : Dev nD) : Vec Ideal S8192x2048 .f32 := fun y =>
  decayAt (m ((c.tc : Thread nD τ).loc main_arg0)) (m ((c.tc : Thread nD τ).loc main_arg2)) (m ((c.tc : Thread nD τ).loc main_arg3)) (y 0) (y 1)

/-- The short batch's log decays. -/
def G5 (c : Dev nD) : Vec Ideal S256x2048 .f32 := fun y =>
  decayAt (m ((c.tc : Thread nD τ).loc main_arg1)) (m ((c.tc : Thread nD τ).loc main_arg2)) (m ((c.tc : Thread nD τ).loc main_arg3)) (y 0) (y 1)

/-- What point `t` leaves in window 4's block is the part of the log decays the block is written to. -/
theorem point4 (c : Dev nD) (t : Fin cfg0.N) (r : Fin 1024) (j : Fin 1024) :
    rows (iblk m c 0 t) (iblk m c 1 t) (iblk m c 2 t) (ix2 r j) = G4 m c ((win0_4.blk t).view.emb (ix2 r j)) := by
  refine (rows_at _ _ _ r j).trans (congrArg₂ logDecay (funext fun i => ?_) (Finset.sum_congr rfl fun k _ => congrArg₂ (· * ·) ?_ ?_))
  · blk_ext [iblk, V, index_g t, index_o t]
  · blk_ext [iblk, V, index_x t, index_o t]
  · blk_ext [iblk, V, index_w t, index_o t]

/-- What point `t` leaves in window 5's block is the part of the log decays the block is written to. -/
theorem point5 (c : Dev nD) (t : Fin cfg0.N) (r : Fin 256) (j : Fin 1024) :
    rowsS (iblk m c 3 (stored 2 t)) (iblk m c 1 (stored 2 t)) (iblk m c 2 (stored 2 t)) (ix2 r j) = G5 m c ((win0_5.blk t).view.emb (ix2 r j)) := by
  refine (rowsS_at _ _ _ r j).trans (congrArg₂ logDecay (funext fun i => ?_) (Finset.sum_congr rfl fun k _ => congrArg₂ (· * ·) ?_ ?_))
  · blk_ext [iblk, V, index_gs t, index_q t]
  · blk_ext [iblk, V, index_s (stored 2 t), index_q t]
  · blk_ext [iblk, V, index_ws t, index_q t]

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- Window 5's array after the run. -/
theorem array5 (c : Dev nD) : (dats m 0 c).arrAt 5 cfg0.N = G5 m c := by
  refine (dats m 0 c).arrAt_eq_of_covers 5 _ (by decide +kernel) fun t hf y => ?_
  blk_simp
  rw [after0_5]
  have e : y = ix2 (y 0) (y 1) := eq_ix2 y
  rw [e]
  exact point5 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v0_0) = G4 m c
      ∧ r.2.mem ((c.tc : Thread nD τ).loc main_v0_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (array4 m c), ((h.1 c).1 5).trans (array5 m c), h.2.1 c⟩) (θ_run_and (run_main m ρ) (frame m ρ))

end Cert.Kernel11Ideal.Gen

end
-- ==== Proof.Decays.Reference.lean ====
/- The log decays as the reference computes them, and the claim that the kernel computes the same. -/
module

public import proofs.«01_k».proof.Proof.Decays.Value
public import proofs.«01_k».proof.Proof.Gen.Reference11Ideal.Run
public import proofs.«01_k».proof.Proof.Gen.Kernel11
public import proofs.«01_k».proof.Defs
public import proofs.«01_k».proof.Proof.RI.Cumsum

@[expose] public section

set_option maxRecDepth 16384

noncomputable section

namespace Cert.Reference11Ideal.Gen

open Idealize.ShloMosaic Idealize.ShloMosaic.TcCoe Idealize.ShloMosaic.Tactic
open Idealize.SL Idealize.SL.Sem

/-- The entries of the window. -/
def at_ (n : Fin 2) : (⟨2, ![2, 1]⟩ : Shape).Idx := (⟨2, ![2, 1]⟩ : Shape).rowMajor.symm ⟨n.val, n.isLt⟩

theorem win_at : ∀ (n : Fin 2) (a : Fin 2), (at_ n a).val = if a = 0 then n.val else 0 := by
  decide +kernel

/-- The first row of a running sum over two rows is the first row. -/
theorem first_row (x : FVec Ideal S2x2048 .f32) (z : FVec Ideal S_ .f32) (hz : z (Shape.Idx.first h_S_) = (0 : EReal)) (j : Fin 2048) :
    Host.reduceWindowAdd ![2, 1] ![1, 1] ![1, 0] ![0, 0] x z reduceWindows_S2x2048_S2x2048_w2s1p1_0_w1s1p0_0 h_S_ (ix2 0 j) = x (ix2 0 j) := by
  unfold Host.reduceWindowAdd
  simp only [Ideal.hostReduceWindowAdd_def]
  unfold Ideal.hostReduceWindowAdd Host.reduceWindow
  refine (Cert.ReferenceIdeal.Step.foldl_sum (n := (⟨2, ![2, 1]⟩ : Shape).numel) _ _).trans ?_
  rw [hz, zero_add]
  refine (Fin.sum_univ_two _).trans ?_
  have w0 : (at_ 0 0).val = 0 := win_at 0 0
  have w1 : (at_ 1 0).val = 1 := win_at 1 0
  have w2 : (at_ 1 1).val = 0 := win_at 1 1
  have hj := j.isLt
  refine (congrArg₂ (· + ·) (dif_neg fun hc => ?_) ((dif_pos ?_).trans (congrArg x (funext fun a => Fin.ext ?_)))).trans (zero_add _)
  · have e : 1 ≤ 0 * 1 + (at_ 0 0).val := (hc 0).1
    omega
  · intro a
    match a with
    | ⟨0, _⟩ => show 1 ≤ 0 * 1 + (at_ 1 0).val ∧ 0 * 1 + (at_ 1 0).val - 1 < 2; omega
    | ⟨1, _⟩ => show 0 ≤ j.val * 1 + (at_ 1 1).val ∧ j.val * 1 + (at_ 1 1).val - 0 < 2048; omega
  · match a with
    | ⟨0, _⟩ => show 0 * 1 + (at_ 1 0).val - 1 = 0; omega
    | ⟨1, _⟩ => show j.val * 1 + (at_ 1 1).val - 0 = j.val; omega

/-- The larger of each column's two logits, as the reference takes it, -/
def tops (l : FVec Ideal S2x2048 .f32) : FVec Ideal S2x2048 .f32 :=
  broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf l (constant S_ .f32 0xFF800000#32) reducesTo_S2x2048_S2048_d0 h_S_)))

/-- the softmax over the two rows, -/
def softmax (l : FVec Ideal S2x2048 .f32) : FVec Ideal S2x2048 .f32 :=
  Host.divf (Host.exp (subf l (tops l))) (broadcastInDim S2x2048 ![0, 1] bcast_S1x2048_S2x2048_0_1 (broadcastInDim S1x2048 ![1] bcast_S2048_S1x2048_1 (Host.reduceAdd (Host.exp (subf l (tops l))) (constant S_ .f32 0x00000000#32) reducesTo_S2x2048_S2048_d0 h_S_)))

/-- and its running sum. -/
def rowsSum (l : FVec Ideal S2x2048 .f32) : FVec Ideal S2x2048 .f32 :=
  Host.reduceWindowAdd ![2, 1] ![1, 1] ![1, 0] ![0, 0] (softmax l) (broadcastInDim S_ ![] bcast_S_S_ (constant S_ .f32 0x00000000#32)) reduceWindows_S2x2048_S2x2048_w2s1p1_0_w1s1p0_0 h_S_

theorem tops_at (l : FVec Ideal S2x2048 .f32) (i : Fin 2) (j : Fin 2048) : tops l (ix2 i j) = Cert.Kernel11Ideal.Gen.top (fun i => l (ix2 i j)) := by
  refine Eq.trans ?_ (max_eq_right ((Finset.le_fold_max _).mpr (.inl le_rfl)))
  pointwise [tops]
  rfl

/-- The first row of the running sum is the lower bound. -/
theorem bound_at (l : FVec Ideal S2x2048 .f32) (j : Fin 2048) : rowsSum l (ix2 0 j) = Cert.Kernel11Ideal.Gen.bound (fun i => l (ix2 i j)) := by
  refine (first_row _ _ (by pointwise) j).trans ?_
  unfold softmax
  have h := tops_at l
  generalize tops l = M at h ⊢
  pointwise [Cert.Kernel11Ideal.Gen.bound]
  simp only [h]

end Cert.Reference11Ideal.Gen

namespace Cert.Proof.Decays

open Idealize.ShloMosaic Idealize.ShloMosaic.TcCoe Idealize.ShloMosaic.Tactic
open Idealize.SL Idealize.SL.Sem
open Cert.Kernel11Ideal.Gen (G4 G5 decayAt logDecay sigmoid bound)
open Cert.Reference11Ideal.Gen (rowsSum bound_at)

/-- The compiled kernel's frame, spelt of the idealized text read at the machine's words. -/
theorem frame_same : Cert.quiescent_Kernel11 (hKernel11 := Cert.Kernel11.Gen.facts)
    = (∀ (m : (ℓ : Loc Cert.Kernel11Ideal.nD Cert.Kernel11Ideal.τ Cert.Kernel11Ideal.sig) → Buf (Elt Bits) ℓ) (g : Dev Cert.Kernel11Ideal.nD → PrngReg), True →
    θ_run (Cert.Kernel11Ideal.defs (F := Bits)) (onTc (τ := Cert.Kernel11Ideal.τ) (Cert.Kernel11Ideal.main (F := Bits))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)) := by
  sl_kernel_rfl

theorem frame_kernel : Cert.quiescent_Kernel11 (hKernel11 := Cert.Kernel11.Gen.facts) :=
  frame_same.mpr fun m ρ _ => Cert.Kernel11Ideal.Gen.frame (F := Bits) m ρ

theorem frame_ideal : Cert.quiescent_Kernel11Ideal (hKernel11Ideal := Cert.Kernel11Ideal.Gen.facts) := fun m ρ _ =>
  Cert.Kernel11Ideal.Gen.frame m ρ

theorem frame_reference : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩)
    (Cert.Reference11Ideal.Value.run m ρ)

theorem values : Cert.algebraic_Kernel11Ideal_Reference11Ideal (hKernel11Ideal := Cert.Kernel11Ideal.Gen.facts) (hReference11Ideal := Cert.Reference11Ideal.Gen.facts) := by
  intro m g m' g' _ hargs
  refine ⟨fun c => G4 m c, fun c => G5 m c, Cert.Kernel11Ideal.Gen.results m g, ?_⟩
  refine (θ_run Cert.Reference11Ideal.defs _ _).mono (fun r h c => ?_) (Cert.Reference11Ideal.Value.run m' g')
  obtain ⟨a0, a1, a2, a3⟩ := hargs c
  refine ⟨(h c).1.trans ?_, (h c).2.1.trans ?_, (h c).2.2⟩
  · rw [a0, a2, a3]
    funext y
    have hb := bound_at (m ((c.tc : Thread Cert.Kernel11Ideal.nD Cert.Kernel11Ideal.τ).loc Cert.Kernel11Ideal.main_arg3))
    unfold rowsSum at hb
    unfold Cert.Reference11Ideal.Gen.softmax Cert.Reference11Ideal.Gen.tops at hb
    generalize Host.reduceWindowAdd (F := Ideal) (s := Cert.Reference11Ideal.S2x2048) (t := Cert.Reference11Ideal.S2x2048) (φ := .f32) ![2, 1] _ _ _ _ _ _ _ = B at hb ⊢
    pointwise [G4, decayAt, logDecay, sigmoid]
    exact congrArg (fun b => Ideal.log (b + (1 - b) * sigmoid _)) (hb (y 1))
  · rw [a1, a2, a3]
    funext y
    have hb := bound_at (m ((c.tc : Thread Cert.Kernel11Ideal.nD Cert.Kernel11Ideal.τ).loc Cert.Kernel11Ideal.main_arg3))
    unfold rowsSum at hb
    unfold Cert.Reference11Ideal.Gen.softmax Cert.Reference11Ideal.Gen.tops at hb
    generalize Host.reduceWindowAdd (F := Ideal) (s := Cert.Reference11Ideal.S2x2048) (t := Cert.Reference11Ideal.S2x2048) (φ := .f32) ![2, 1] _ _ _ _ _ _ _ = B at hb ⊢
    pointwise [G5, decayAt, logDecay, sigmoid]
    exact congrArg (fun b => Ideal.log (b + (1 - b) * sigmoid _)) (hb (y 1))

end Cert.Proof.Decays

end
-- ==== Proof.Asks.Run.lean ====
/- The attention's queries, one grid point: what the body leaves in the two output blocks. -/
module

public import proofs.«01_k».proof.Proof.Gen.Kernel12Ideal.Frame
public import proofs.«01_k».proof.Proof.Gen.Kernel12Ideal.Skeleton
public import Idealize.ShloMosaic.Lib.Pipeline.ValueKit
public import Idealize.ShloMosaic.Lib.Pipeline.TableIdle
public import Idealize.ShloMosaic.Lib.VecWindow
public import proofs.«01_k».proof.Proof.Heads

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Heads

variable {F : FTy → Type} [FloatOps F]

local notation "𝕄" => MT nD τ sig Unit (Elt F) ℕ (UR sig nD τ) ℕ

/-- A head's columns over the root of the mean of their squares, row by row, times the gain. -/
def normBlock (v : FVec F S1024x128 .f32) (gb : FVec F S1x128 .f32) : FVec F S1024x128 .f32 :=
  mulf (mulf v (broadcastTo S1024x128 (rsqrt (addf (divf (shapeCast S1024x1 (multiReduction .add [1] S1024 (mulf v v) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128)) (broadcastTo S1024x128 gb broadcasts_S1x128_S1024x128)

/-- The same for the short batch. -/
def normBlockS (v : FVec F S256x128 .f32) (gb : FVec F S1x128 .f32) : FVec F S256x128 .f32 :=
  mulf (mulf v (broadcastTo S256x128 (rsqrt (addf (divf (shapeCast S256x1 (multiReduction .add [1] S256 (mulf v v) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)) (broadcastTo S256x128 gb broadcasts_S1x128_S256x128)

/-- The gain's heads. -/
def gains (g : Vec F S1x1024 .f32) : Fin 8 → Block F 1 :=
  headOf fun b => shapeCast S1x512 (halfCols g b) shapeCasts_S1x512_S1x512

/-- The queries' heads of the long batch's block. -/
def heads (x : Vec F S1024x4096 .bf16) (w : Vec F S4096x1024 .bf16) (g : Vec F S1x1024 .f32) : Fin 8 → Block F 1024 :=
  fun h => normBlock (headOf (fun b => k0_pay14 x (halfCols w b)) h) (gains g h)

/-- The queries' heads of the other batch's block. -/
def headsS (x : Vec F S256x4096 .bf16) (w : Vec F S4096x1024 .bf16) (g : Vec F S1x1024 .f32) : Fin 8 → Block F 256 :=
  fun h => normBlockS (headOf (fun b => k0_pay3 x (halfCols w b)) h) (gains g h)

/-- The queries of a block of the long batch's rows, and of the other batch's. -/
def rows (x : Vec F S1024x4096 .bf16) (w : Vec F S4096x1024 .bf16) (g : Vec F S1x1024 .f32) : Vec F S1024x1024 .bf16 := byCol (heads x w g)
def rowsS (x : Vec F S256x4096 .bf16) (w : Vec F S4096x1024 .bf16) (g : Vec F S1x1024 .f32) : Vec F S256x1024 .bf16 := byCol (headsS x w g)

set_option maxHeartbeats 4000000 in
/-- A point of the first row of blocks: both products are stored. -/
theorem run_first (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S1x1024 .f32) (h5 : a5.IsWhole) (a6 : Memref sig .tc .vmem S256x4096 .bf16) (h6 : a6.IsWhole)
    (a7 : Memref sig .tc .vmem S1024x1024 .bf16) (h7 : a7.IsWhole) (a8 : Memref sig .tc .vmem S256x1024 .bf16) (h8 : a8.IsWhole)
    (hc : k0_cond1 i = 1#1) (x : Vec F S1024x4096 .bf16) (w : Vec F S4096x1024 .bf16) (g : Vec F S1x1024 .f32) (x' : Vec F S256x4096 .bf16) (E : Set ℕ) (K : PUnit → sProp 𝕄) :
    iprop(owns (c : Thread nD τ) a3 fullShare x ∗ owns (c : Thread nD τ) a4 fullShare w ∗ owns (c : Thread nD τ) a5 fullShare g ∗ owns (c : Thread nD τ) a6 fullShare x' ∗ (∃ d, owns (c : Thread nD τ) a7 fullShare d) ∗ (∃ d, owns (c : Thread nD τ) a8 fullShare d)
        ∗ (iprop(owns (c : Thread nD τ) a3 fullShare x ∗ owns (c : Thread nD τ) a4 fullShare w ∗ owns (c : Thread nD τ) a5 fullShare g ∗ owns (c : Thread nD τ) a6 fullShare x' ∗ owns (c : Thread nD τ) a7 fullShare (rows x w g) ∗ owns (c : Thread nD τ) a8 fullShare (rowsS x' w g)) -∗ K ⟨⟩))
      ⊢ wp frame (wpE (defs₀ (F := F)) Variants.none c none) E (cc0_proj_q i a3 h3 a4 h4 a5 h5 a6 h6 a7 h7 a8 h8) K := by
  simp only [cc0_proj_q_eq_skeleton]; unfold cc0_proj_q_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := h3.eq_unread hf0; obtain rfl := h4.eq_unread hf1; obtain rfl := h5.eq_unread hf2; obtain rfl := h6.eq_unread hf3
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    frame_out
    funext y
    refine View.read_writes_apply_of_pieces (Val := Elt F) (e := .bf16) _ _ (rows x w g) _ ?_ y (View.cover_of_tiledL (s := S1024x1024) _ ![1024, 128] (by sl_kernel_rfl) y)
    sl_unfold_run_names
    intro p hp z
    simp only [List.mem_cons, List.not_mem_nil, _root_.or_false] at hp
    rcases hp with rfl | rfl | rfl | rfl | rfl | rfl | rfl | rfl
    exacts [byCol_piece (heads x w g) 7 (by decide) (by decide) (by decide) z, byCol_piece (heads x w g) 6 (by decide) (by decide) (by decide) z, byCol_piece (heads x w g) 5 (by decide) (by decide) (by decide) z, byCol_piece (heads x w g) 4 (by decide) (by decide) (by decide) z, byCol_piece (heads x w g) 3 (by decide) (by decide) (by decide) z, byCol_piece (heads x w g) 2 (by decide) (by decide) (by decide) z, byCol_piece (heads x w g) 1 (by decide) (by decide) (by decide) z, byCol_piece (heads x w g) 0 (by decide) (by decide) (by decide) z]
  iexists _; isplitr
  swap; · iexact H5
  ipureintro
  frame_out
  funext y
  refine View.read_writes_apply_of_pieces (Val := Elt F) (e := .bf16) _ _ (rowsS x' w g) _ ?_ y (View.cover_of_tiledL (s := S256x1024) _ ![256, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (headsS x' w g) 7 (by decide) (by decide) (by decide) z, byCol_piece (headsS x' w g) 6 (by decide) (by decide) (by decide) z, byCol_piece (headsS x' w g) 5 (by decide) (by decide) (by decide) z, byCol_piece (headsS x' w g) 4 (by decide) (by decide) (by decide) z, byCol_piece (headsS x' w g) 3 (by decide) (by decide) (by decide) z, byCol_piece (headsS x' w g) 2 (by decide) (by decide) (by decide) z, byCol_piece (headsS x' w g) 1 (by decide) (by decide) (by decide) z, byCol_piece (headsS x' w g) 0 (by decide) (by decide) (by decide) z]

set_option maxHeartbeats 4000000 in
/-- A later point: only the product of the long batch is stored, and nothing else is touched. -/
theorem run_later (c : Dev nD) (i : grid0.Coords) (a3 : Memref sig .tc .vmem S1024x4096 .bf16) (h3 : a3.IsWhole) (a4 : Memref sig .tc .vmem S4096x1024 .bf16) (h4 : a4.IsWhole)
    (a5 : Memref sig .tc .vmem S1x1024 .f32) (h5 : a5.IsWhole) (a6 : Memref sig .tc .vmem S256x4096 .bf16) (h6 : a6.IsWhole)
    (a7 : Memref sig .tc .vmem S1024x1024 .bf16) (h7 : a7.IsWhole) (a8 : Memref sig .tc .vmem S256x1024 .bf16) (h8 : a8.IsWhole)
    (hc : ¬k0_cond1 i = 1#1) (x : Vec F S1024x4096 .bf16) (w : Vec F S4096x1024 .bf16) (g : Vec F S1x1024 .f32) (E : Set ℕ) (K : PUnit → sProp 𝕄) :
    iprop(owns (c : Thread nD τ) a3 fullShare x ∗ owns (c : Thread nD τ) a4 fullShare w ∗ owns (c : Thread nD τ) a5 fullShare g ∗ (∃ d, owns (c : Thread nD τ) a7 fullShare d)
        ∗ (iprop(owns (c : Thread nD τ) a3 fullShare x ∗ owns (c : Thread nD τ) a4 fullShare w ∗ owns (c : Thread nD τ) a5 fullShare g ∗ owns (c : Thread nD τ) a7 fullShare (rows x w g)) -∗ K ⟨⟩))
      ⊢ wp frame (wpE (defs₀ (F := F)) Variants.none c none) E (cc0_proj_q i a3 h3 a4 h4 a5 h5 a6 h6 a7 h7 a8 h8) K := by
  simp only [cc0_proj_q_eq_skeleton]; unfold cc0_proj_q_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H3
  ipureintro
  frame_out
  funext y
  refine View.read_writes_apply_of_pieces (Val := Elt F) (e := .bf16) _ _ (rows x w g) _ ?_ y (View.cover_of_tiledL (s := S1024x1024) _ ![1024, 128] (by sl_kernel_rfl) y)
  sl_unfold_run_names
  intro p hp z
  simp only [List.mem_cons, List.not_mem_nil, _root_.or_false] at hp
  rcases hp with rfl | rfl | rfl | rfl | rfl | rfl | rfl | rfl
  exacts [byCol_piece (heads x w g) 7 (by decide) (by decide) (by decide) z, byCol_piece (heads x w g) 6 (by decide) (by decide) (by decide) z, byCol_piece (heads x w g) 5 (by decide) (by decide) (by decide) z, byCol_piece (heads x w g) 4 (by decide) (by decide) (by decide) z, byCol_piece (heads x w g) 3 (by decide) (by decide) (by decide) z, byCol_piece (heads x w g) 2 (by decide) (by decide) (by decide) z, byCol_piece (heads x w g) 1 (by decide) (by decide) (by decide) z, byCol_piece (heads x w g) 0 (by decide) (by decide) (by decide) z]

end Cert.Kernel12Ideal.Gen
end
-- ==== Proof.Asks.Frame.lean ====
/- The attention's queries, the whole call: what every point leaves, and the launch's run.

   The short batch's block is stored in the first row of blocks only (points 0 and 1). -/
module

public import proofs.«01_k».proof.Proof.Asks.Run
public import proofs.«01_k».proof.Proof.Rider

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rider

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which the short batch's block is stored -/

/-- The first row of blocks is points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

theorem first : First cfg0 5 2 where
  pos := by decide
  lt := by decide
  out := rfl
  whole _ _ := rfl
  idle t := by
    show (!(k0_cond1 (grid0.coords t) == 1#1)) = _
    congr 1
    exact Bool.eq_iff_iff.mpr (by rw [beq_iff_eq, decide_eq_true_iff]; exact first_iff t)
  flush t := by
    rw [Window.flush_eq_flushF]
    exact (by decide +kernel : ∀ t : Fin grid0.N, win0_5.flushF t = decide (t.val < 2 - 1 ∨ t.val = grid0.N - 1)) t

/-! ## The pipeline's proof data -/

/-- After the body at point `t`: the inputs' buffers at their blocks, the long batch's output at its product, the short
    batch's at the product of the last point that stored it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows (iblk m c 0 t) (iblk m c 1 t) (iblk m c 2 t)
    | ⟨5, _⟩ => rowsS (iblk m c 3 (stored 2 t)) (iblk m c 1 (stored 2 t)) (iblk m c 2 (stored 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rows (iblk m c 0 t) (iblk m c 1 t) (iblk m c 2 t) := by dsimp only [dats]
theorem after0_5 (c : Dev nD) (t : Fin cfg0.N) : (dats m 0 c).after 5 t = rowsS (iblk m c 3 (stored 2 t)) (iblk m c 1 (stored 2 t)) (iblk m c 2 (stored 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem after_stored (c : Dev nD) (t : Fin cfg0.N) : (dats m 0 c).after 5 t = (dats m 0 c).after 5 (stored 2 t) := by
  rw [after0_5, after0_5, stored_twice]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl]
  rw [leaves_live (dats m 0 c) 0 t rfl, leaves_live (dats m 0 c) 1 t rfl, leaves_live (dats m 0 c) 2 t rfl, leaves_live (dats m 0 c) 3 t rfl, leaves_live (dats m 0 c) 4 t rfl, after0_0, after0_1, after0_2, after0_3, after0_4]
  by_cases h : t.val < 2
  · rw [leaves_live (dats m 0 c) 5 t ((first.idle t).trans (by rw [decide_eq_true h]; rfl)), after0_5, stored_first t h]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [first.before (dats m 0 c) (after_stored m c) t h]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun hc => h ((first_iff t).mp hc)) (iblk m c 0 t) (iblk m c 1 t) (iblk m c 2 t) Set.univ _)
    isplitl [H0]; · iexact H0
    isplitl [H1]; · iexact H1
    isplitl [H2]; · iexact H2
    isplitl [H4]; · iexists _; iexact H4
    iintro ⟨H0, H1, H2, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (first.leaves (dats m 0 c) (after_stored m c) t h)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends, with the arrays at what the points leave in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel12Ideal.Gen

end
-- ==== Proof.Asks.Value.lean ====
/- The attention's queries: what both result arrays hold, entry by entry. -/
module

public import proofs.«01_k».proof.Proof.Asks.Frame
public import Idealize.ShloMosaic.Lib.Pipeline.ValueKit.Point
public import Idealize.ShloMosaic.Lib.Pipeline.Covers

@[expose] public section

set_option maxRecDepth 16384

noncomputable section

namespace Cert.Kernel12Ideal.Gen

open Idealize.ShloMosaic Idealize.ShloMosaic.TcCoe Idealize.ShloMosaic.Tactic
open Idealize.SL Idealize.SL.Sem

open Cert.Proof.Heads Cert.Proof.Rider

variable (m : (ℓ : Loc nD τ sig) → Buf (Elt Ideal) ℓ) (ρ : Dev nD → PrngReg)

theorem pay14_at (x : Vec Ideal S1024x4096 .bf16) (w : Vec Ideal S4096x512 .bf16) (r : Fin 1024) (j : Fin 512) :
    k0_pay14 x w (ix2 r j) = ∑ k : Fin 4096, x (ix2 r k) * w (ix2 k j) := by
  pointwise [k0_pay14]

theorem pay3_at (x : Vec Ideal S256x4096 .bf16) (w : Vec Ideal S4096x512 .bf16) (r : Fin 256) (j : Fin 512) :
    k0_pay3 x w (ix2 r j) = ∑ k : Fin 4096, x (ix2 r k) * w (ix2 k j) := by
  pointwise [k0_pay3]

/-- A column of the head, as a column of the half it lies in. -/
theorem col_split (h : Fin 8) (d : Fin 128) : (colOf h d).val = 512 * (h.val / 4) + (128 * (h.val % 4) + d.val) := by
  show 128 * h.val + d.val = _
  omega

/-- The head a column lies in, and its place there. -/
def headIx (j : Fin 1024) : Fin 8 := ⟨j.val / 128, by have := j.isLt; omega⟩
def dimIx (j : Fin 1024) : Fin 128 := ⟨j.val % 128, Nat.mod_lt _ (by decide)⟩

theorem headIx_colOf (h : Fin 8) (d : Fin 128) : headIx (colOf h d) = h :=
  Fin.ext (by show (128 * h.val + d.val) / 128 = h.val; have := d.isLt; omega)

theorem dimIx_colOf (h : Fin 8) (d : Fin 128) : dimIx (colOf h d) = d :=
  Fin.ext (by show (128 * h.val + d.val) % 128 = d.val; have := d.isLt; omega)

/-- The product of a block of rows with a block of columns, at a row and a column. -/
def dotAt {n : ℕ} (x : Vec Ideal ⟨2, ![n, 4096]⟩ .bf16) (w : Vec Ideal S4096x1024 .bf16) (r : Fin n) (j : Fin 1024) : EReal :=
  ∑ k : Fin 4096, x (ix2 r k) * w (ix2 k j)

/-- An entry of a head over the root of the mean of the head's squares, times a gain. -/
def normed (z : Fin 128 → EReal) (g : EReal) (d : Fin 128) : EReal :=
  z d * Ideal.rsqrt (Ideal.div (∑ e, z e * z e) (Ideal.ofBits FTy.f32 0x43000000#32) + Ideal.ofBits FTy.f32 0x358637BD#32) * g

theorem normed_congr {z z' : Fin 128 → EReal} {g g' : EReal} (hz : ∀ e, z e = z' e) (hg : g = g') (d : Fin 128) :
    normed z g d = normed z' g' d := by
  obtain rfl : z = z' := funext hz
  rw [hg]

theorem normBlock_at (v : FVec Ideal S1024x128 .f32) (gb : FVec Ideal S1x128 .f32) (r : Fin 1024) (d : Fin 128) :
    normBlock v gb (ix2 r d) = normed (fun e => v (ix2 r e)) (gb (ix2 0 d)) d := by
  pointwise [normBlock, normed]

theorem normBlockS_at (v : FVec Ideal S256x128 .f32) (gb : FVec Ideal S1x128 .f32) (r : Fin 256) (d : Fin 128) :
    normBlockS v gb (ix2 r d) = normed (fun e => v (ix2 r e)) (gb (ix2 0 d)) d := by
  pointwise [normBlockS, normed]

theorem gains_at (g : Vec Ideal S1x1024 .f32) (h : Fin 8) (d : Fin 128) : gains g h (ix2 0 d) = g (ix2 0 (colOf h d)) := by
  unfold gains
  rw [headOf_at, shapeCast_self]
  exact halfCols_at g _ 0 _ _ (col_split h d)

/-- A head of a block of rows, normalised. -/
def headAt {n : ℕ} (x : Vec Ideal ⟨2, ![n, 4096]⟩ .bf16) (w : Vec Ideal S4096x1024 .bf16) (g : Vec Ideal S1x1024 .f32) (r : Fin n) (h : Fin 8) (d : Fin 128) : EReal :=
  normed (fun e => dotAt x w r (colOf h e)) (g (ix2 0 (colOf h d))) d

theorem heads_at (x : Vec Ideal S1024x4096 .bf16) (w : Vec Ideal S4096x1024 .bf16) (g : Vec Ideal S1x1024 .f32) (h : Fin 8) (r : Fin 1024) (d : Fin 128) :
    heads x w g h (ix2 r d) = headAt x w g r h d := by
  refine (normBlock_at _ _ r d).trans (normed_congr (fun e => ?_) (gains_at g h d) d)
  rw [headOf_at, pay14_at]
  exact Finset.sum_congr rfl fun k _ => congrArg (x (ix2 r k) * ·) (halfCols_at w _ k _ _ (col_split h e))

theorem headsS_at (x : Vec Ideal S256x4096 .bf16) (w : Vec Ideal S4096x1024 .bf16) (g : Vec Ideal S1x1024 .f32) (h : Fin 8) (r : Fin 256) (d : Fin 128) :
    headsS x w g h (ix2 r d) = headAt x w g r h d := by
  refine (normBlockS_at _ _ r d).trans (normed_congr (fun e => ?_) (gains_at g h d) d)
  rw [headOf_at, pay3_at]
  exact Finset.sum_congr rfl fun k _ => congrArg (x (ix2 r k) * ·) (halfCols_at w _ k _ _ (col_split h e))

/-- A head by its column. -/
theorem headAt_col {n : ℕ} (x : Vec Ideal ⟨2, ![n, 4096]⟩ .bf16) (w : Vec Ideal S4096x1024 .bf16) (g : Vec Ideal S1x1024 .f32) (r : Fin n) (h : Fin 8) (d : Fin 128) :
    headAt x w g r h d = headAt x w g r (headIx (colOf h d)) (dimIx (colOf h d)) := by
  rw [headIx_colOf, dimIx_colOf]

theorem rows_at (x : Vec Ideal S1024x4096 .bf16) (w : Vec Ideal S4096x1024 .bf16) (g : Vec Ideal S1x1024 .f32) (r : Fin 1024) (j : Fin 1024) :
    rows x w g (ix2 r j) = headAt x w g r (headIx j) (dimIx j) :=
  byCol_at _ (fun r j => headAt x w g r (headIx j) (dimIx j)) (fun h r d => (heads_at _ _ _ h r d).trans (headAt_col _ _ _ r h d)) r j

theorem rowsS_at (x : Vec Ideal S256x4096 .bf16) (w : Vec Ideal S4096x1024 .bf16) (g : Vec Ideal S1x1024 .f32) (r : Fin 256) (j : Fin 1024) :
    rowsS x w g (ix2 r j) = headAt x w g r (headIx j) (dimIx j) :=
  byCol_at _ (fun r j => headAt x w g r (headIx j) (dimIx j)) (fun h r d => (headsS_at _ _ _ h r d).trans (headAt_col _ _ _ r h d)) r j

theorem index_x : ∀ t : Fin grid0.N, win0_0.index t = ![t.val / 2, 0] := by decide +kernel
theorem index_w : ∀ t : Fin grid0.N, win0_1.index t = ![0, t.val % 2] := by decide +kernel
theorem index_g : ∀ t : Fin grid0.N, win0_2.index t = ![0, t.val % 2] := by decide +kernel
theorem index_s : ∀ t : Fin grid0.N, win0_3.index t = ![0, 0] := by decide +kernel
theorem index_o : ∀ t : Fin grid0.N, win0_4.index t = ![t.val / 2, t.val % 2] := by decide +kernel
theorem index_q : ∀ t : Fin grid0.N, win0_5.index t = ![0, min t.val 1] := by decide +kernel

theorem stored_mod (t : Fin cfg0.N) : (stored 2 t).val % 2 = min t.val 1 := Nat.mod_eq_of_lt (by unfold stored; simp only; omega)

/-- The gain the launch reads is the argument, repeated for every head. -/
theorem gain_at (c : Dev nD) (j : Fin 2048) :
    (V m c main_v3 : Vec Ideal S1x2048 .f32) (ix2 0 j) = (m ((c.tc : Thread nD τ).loc main_arg3) : Vec Ideal S128 .f32) (ix1 ⟨j.val % 128, Nat.mod_lt _ (by decide)⟩) := by
  unfold V
  after_results
  pointwise []

/-- The queries of a batch `X` under the weight `W` and the gain `N`: row `r`, place `d` of the head that column `j` lies in. -/
def askAt {n : ℕ} (X : Vec Ideal ⟨2, ![n, 4096]⟩ .bf16) (W : Vec Ideal S4096x12288 .bf16) (N : Vec Ideal S128 .f32) (r : Fin n) (j : Fin 2048) : EReal :=
  normed (fun e => ∑ k : Fin 4096, X (ix2 r k) * W (ix2 k ⟨128 * (j.val / 128) + e.val, by have := e.isLt; have := j.isLt; omega⟩)) (N (ix1 ⟨j.val % 128, Nat.mod_lt _ (by decide)⟩)) ⟨j.val % 128, Nat.mod_lt _ (by decide)⟩

/-- The long batch's queries. -/
def G4 (c : Dev nD) : Vec Ideal S8192x2048 .bf16 := fun y =>
  askAt (m ((c.tc : Thread nD τ).loc main_arg0)) (m ((c.tc : Thread nD τ).loc main_arg2)) (m ((c.tc : Thread nD τ).loc main_arg3)) (y 0) (y 1)

/-- The short batch's queries. -/
def G5 (c : Dev nD) : Vec Ideal S256x2048 .bf16 := fun y =>
  askAt (m ((c.tc : Thread nD τ).loc main_arg1)) (m ((c.tc : Thread nD τ).loc main_arg2)) (m ((c.tc : Thread nD τ).loc main_arg3)) (y 0) (y 1)

/-- A column of a block of a head holds the column of the whole arrays, where the blocks' entries are the arrays' from column `1024 * b`. -/
theorem headAt_eq {n n' : ℕ} {x : Vec Ideal ⟨2, ![n, 4096]⟩ .bf16} {w : Vec Ideal S4096x1024 .bf16} {g : Vec Ideal S1x1024 .f32}
    {X : Vec Ideal ⟨2, ![n', 4096]⟩ .bf16} {W : Vec Ideal S4096x12288 .bf16} {N : Vec Ideal S128 .f32} {r : Fin n} {r' : Fin n'} {b : ℕ} (hb : b < 2)
    (hx : ∀ k, x (ix2 r k) = X (ix2 r' k)) (hw : ∀ k (j : Fin 1024), w (ix2 k j) = W (ix2 k ⟨1024 * b + j.val, by have := j.isLt; omega⟩))
    (hg : ∀ j : Fin 1024, g (ix2 0 j) = N (ix1 ⟨(1024 * b + j.val) % 128, Nat.mod_lt _ (by decide)⟩)) (j : Fin 1024) (j' : Fin 2048) (hj : j'.val = 1024 * b + j.val) :
    headAt x w g r (headIx j) (dimIx j) = askAt X W N r' j' := by
  have e : dimIx j = ⟨j'.val % 128, Nat.mod_lt _ (by decide)⟩ := Fin.ext (by show j.val % 128 = j'.val % 128; omega)
  unfold headAt askAt
  rw [← e]
  refine normed_congr (fun i => Finset.sum_congr rfl fun k _ => congrArg₂ (· * ·) (hx k) ((hw k _).trans (congrArg W (congrArg (ix2 k) (Fin.ext ?_))))) ((hg _).trans (congrArg N (congrArg ix1 (Fin.ext ?_)))) _
  · show 1024 * b + (128 * (j.val / 128) + i.val) = 128 * (j'.val / 128) + i.val
    omega
  · show (1024 * b + (128 * (j.val / 128) + j.val % 128)) % 128 = j.val % 128
    omega

theorem weight (c : Dev nD) (t : Fin cfg0.N) (k : Fin 4096) (j : Fin 1024) :
    (iblk m c 1 t : Vec Ideal S4096x1024 .bf16) (ix2 k j) = (m ((c.tc : Thread nD τ).loc main_arg2) : Vec Ideal S4096x12288 .bf16) (ix2 k ⟨1024 * (t.val % 2) + j.val, by have := j.isLt; omega⟩) := by
  blk_ext [iblk, V, index_w t]

theorem gain (c : Dev nD) (t : Fin cfg0.N) (j : Fin 1024) :
    (iblk m c 2 t : Vec Ideal S1x1024 .f32) (ix2 0 j) = (m ((c.tc : Thread nD τ).loc main_arg3) : Vec Ideal S128 .f32) (ix1 ⟨(1024 * (t.val % 2) + j.val) % 128, Nat.mod_lt _ (by decide)⟩) := by
  refine Eq.trans ?_ (gain_at m c ⟨1024 * (t.val % 2) + j.val, by have := j.isLt; omega⟩)
  blk_ext [iblk, index_g t]

/-- What point `t` leaves in window 4's block is the part of the queries the block is written to. -/
theorem point4 (c : Dev nD) (t : Fin cfg0.N) (r : Fin 1024) (j : Fin 1024) :
    rows (iblk m c 0 t) (iblk m c 1 t) (iblk m c 2 t) (ix2 r j) = G4 m c ((win0_4.blk t).view.emb (ix2 r j)) :=
  (rows_at _ _ _ r j).trans (headAt_eq (Nat.mod_lt _ (by decide)) (fun k => by blk_ext [iblk, V, index_x t, index_o t]) (weight m c t) (gain m c t) j _ (by blk_simp [index_o t]; omega))

/-- What point `t` leaves in window 5's block is the part of the queries the block is written to. -/
theorem point5 (c : Dev nD) (t : Fin cfg0.N) (r : Fin 256) (j : Fin 1024) :
    rowsS (iblk m c 3 (stored 2 t)) (iblk m c 1 (stored 2 t)) (iblk m c 2 (stored 2 t)) (ix2 r j) = G5 m c ((win0_5.blk t).view.emb (ix2 r j)) :=
  (rowsS_at _ _ _ r j).trans (headAt_eq (Nat.mod_lt _ (by decide)) (fun k => by blk_ext [iblk, V, index_s (stored 2 t), index_q t]) (weight m c (stored 2 t)) (gain m c (stored 2 t)) j _ (by blk_simp [index_q t, stored_mod t]; omega))

/-- Window 4's array after the run. -/
theorem array4 (c : Dev nD) : (dats m 0 c).arrAt 4 cfg0.N = G4 m c := by
  refine (dats m 0 c).arrAt_eq_of_covers 4 _ (by decide +kernel) fun t hf y => ?_
  blk_simp
  rw [after0_4]
  have e : y = ix2 (y 0) (y 1) := eq_ix2 y
  rw [e]
  exact point4 m c t (y 0) (y 1)

/-- Window 5's array after the run. -/
theorem array5 (c : Dev nD) : (dats m 0 c).arrAt 5 cfg0.N = G5 m c := by
  refine (dats m 0 c).arrAt_eq_of_covers 5 _ (by decide +kernel) fun t hf y => ?_
  blk_simp
  rw [after0_5]
  have e : y = ix2 (y 0) (y 1) := eq_ix2 y
  rw [e]
  exact point5 m c t (y 0) (y 1)

/-- The launch's results, and its arguments unchanged. -/
theorem results : θ_run defs (onTc (τ := τ) (main (F := Ideal))) ⟨m, fun _ => 0, ρ⟩ (fun r => ∀ c : Dev nD,
      r.2.mem ((c.tc : Thread nD τ).loc main_v4_0) = G4 m c
      ∧ r.2.mem ((c.tc : Thread nD τ).loc main_v4_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (array4 m c), ((h.1 c).1 5).trans (array5 m c), h.2.1 c⟩) (θ_run_and (run_main m ρ) (frame m ρ))

end Cert.Kernel12Ideal.Gen

end
-- ==== Proof.Asks.Reference.lean ====
/- The attention's queries as the reference computes them, and the claim that the kernel computes the same. -/
module

public import proofs.«01_k».proof.Proof.Asks.Value
public import proofs.«01_k».proof.Proof.Gen.Reference12Ideal.Run
public import proofs.«01_k».proof.Proof.Gen.Kernel12
public import proofs.«01_k».proof.Defs

@[expose] public section

set_option maxRecDepth 16384

noncomputable section

namespace Cert.Proof.Asks

open Idealize.ShloMosaic Idealize.ShloMosaic.TcCoe Idealize.ShloMosaic.Tactic
open Idealize.SL Idealize.SL.Sem
open Cert.Kernel12Ideal.Gen (G4 G5 askAt normed)

/-- The compiled kernel's frame, spelt of the idealized text read at the machine's words. -/
theorem frame_same : Cert.quiescent_Kernel12 (hKernel12 := Cert.Kernel12.Gen.facts)
    = (∀ (m : (ℓ : Loc Cert.Kernel12Ideal.nD Cert.Kernel12Ideal.τ Cert.Kernel12Ideal.sig) → Buf (Elt Bits) ℓ) (g : Dev Cert.Kernel12Ideal.nD → PrngReg), True →
    θ_run (Cert.Kernel12Ideal.defs (F := Bits)) (onTc (τ := Cert.Kernel12Ideal.τ) (Cert.Kernel12Ideal.main (F := Bits))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)) := by
  sl_kernel_rfl

theorem frame_kernel : Cert.quiescent_Kernel12 (hKernel12 := Cert.Kernel12.Gen.facts) :=
  frame_same.mpr fun m ρ _ => Cert.Kernel12Ideal.Gen.frame (F := Bits) m ρ

theorem frame_ideal : Cert.quiescent_Kernel12Ideal (hKernel12Ideal := Cert.Kernel12Ideal.Gen.facts) := fun m ρ _ =>
  Cert.Kernel12Ideal.Gen.frame m ρ

theorem frame_reference : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run m ρ)

theorem values : Cert.algebraic_Kernel12Ideal_Reference12Ideal (hKernel12Ideal := Cert.Kernel12Ideal.Gen.facts) (hReference12Ideal := Cert.Reference12Ideal.Gen.facts) := by
  intro m g m' g' _ hargs
  refine ⟨fun c => G4 m c, fun c => G5 m c, Cert.Kernel12Ideal.Gen.results m g, ?_⟩
  refine (θ_run Cert.Reference12Ideal.defs _ _).mono (fun r h c => ?_) (Cert.Reference12Ideal.Value.run m' g')
  obtain ⟨a0, a1, a2, a3⟩ := hargs c
  refine ⟨(h c).1.trans ?_, (h c).2.1.trans ?_, (h c).2.2⟩
  · rw [a0, a2, a3]
    funext y
    pointwise [G4, askAt, normed]
    simp only [Nat.mul_comm 128, Nat.div_add_mod']
  · rw [a1, a2, a3]
    funext y
    pointwise [G5, askAt, normed]
    simp only [Nat.mul_comm 128, Nat.div_add_mod']

end Cert.Proof.Asks

end
-- ==== Proof.lean ====
module

public import proofs.«01_k».proof.Proof.KI.Value
public import proofs.«01_k».proof.Proof.RI.Iter
public import proofs.«01_k».proof.Proof.Below
public import proofs.«01_k».proof.Proof.RI.StepRun
public import proofs.«01_k».proof.Proof.Up.Reference
public import proofs.«01_k».proof.Proof.Down.Reference
public import proofs.«01_k».proof.Proof.Values.Reference
public import proofs.«01_k».proof.Proof.Keys.Reference
public import proofs.«01_k».proof.Proof.Out.Reference
public import proofs.«01_k».proof.Proof.Sample.Reference
public import proofs.«01_k».proof.Proof.Gate.Reference
public import proofs.«01_k».proof.Proof.Queries.Reference
public import proofs.«01_k».proof.Proof.Inputs.Reference
public import proofs.«01_k».proof.Proof.Decays.Reference
public import proofs.«01_k».proof.Proof.Asks.Reference
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The compiled kernel's frame, spelt of the idealized text read at the machine's words: the two programs have the
    same text. -/
theorem frame_same : Cert.quiescent_Kernel (hKernel := Cert.Kernel.Gen.facts)
    = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) := by
  sl_kernel_rfl

theorem frame_kernel : Cert.quiescent_Kernel (hKernel := Cert.Kernel.Gen.facts) :=
  frame_same.mpr fun m ρ _ => Cert.KernelIdeal.Gen.frame (F := Bits) m ρ

theorem frame_ideal : Cert.quiescent_KernelIdeal (hKernelIdeal := Cert.KernelIdeal.Gen.facts) := fun m ρ _ =>
  Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2.1, (h c).2.2.2.2.1, (h c).2.2.2.2.2.1, (h c).2.2.2.2.2.2⟩, sem_eq_zero_of_no_sems (by decide) r.2⟩)
    (Cert.ReferenceIdeal.Value.run m ρ)

/-- The facts that the precondition states. -/
theorem below_facts : Cert.Pre_decays_below_inf.Facts := ⟨by decide, by decide, by decide⟩

theorem values : Cert.algebraic_KernelIdeal_ReferenceIdeal_pre_decays_below_inf (hKernelIdeal := Cert.KernelIdeal.Gen.facts) (hReferenceIdeal := Cert.ReferenceIdeal.Gen.facts)
    (hPre_decays_below_inf := below_facts) := by
  intro m g m' g' hpre hargs
  haveI := below_facts
  have hL : ∀ c b s j, Cert.KernelIdeal.Gen.lA m c b s j ≠ ⊤ := fun c b s j => decays_ne_top _ _ _ _ _ (hpre c) (ix3 b s j)
  refine ⟨Cert.KernelIdeal.Gen.G6 m, Cert.KernelIdeal.Gen.G7 m, Cert.KernelIdeal.Gen.results m g hL, ?_⟩
  let it : Dev Cert.ReferenceIdeal.nD → ℕ → Cert.ReferenceIdeal.Step.State Ideal := fun c n =>
    Nat.rec (Cert.ReferenceIdeal.StepRun.initState m' c) (fun n s => Cert.ReferenceIdeal.Step.step n s) n
  refine (θ_run Cert.ReferenceIdeal.defs _ _).mono (fun r h c => ?_) (Cert.ReferenceIdeal.StepRun.run_iter m' g' it (fun _ => rfl) (fun _ _ => rfl))
  obtain ⟨a0, a1, a2, a3, a4⟩ := hargs c
  refine ⟨(h c).1.trans ?_, (h c).2.1.trans ?_, (h c).2.2⟩
  · rw [a3, a4]
    funext y
    have R := Cert.ReferenceIdeal.Step.R_at _ _ _ (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (it c) rfl (fun _ => rfl) (y 0) (y 1)
    rw [a0, a1, a2] at R
    rw [eq_ix2 y]
    exact R
  · funext y
    have R := Cert.ReferenceIdeal.Step.it_state _ _ _ (it c) rfl (fun _ => rfl) 32 (le_refl _) (y 0) (y 1) (y 2) (y 3)
    rw [a1, a2] at R
    rw [eq_ix4 y]
    exact R

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, below_facts, Sample.below_facts,
  frame_kernel, frame_ideal, fun m ρ _ => frame_ideal m ρ trivial, frame_reference, fun m ρ _ => frame_reference m ρ trivial,
  Up.frame_kernel, Up.frame_ideal, Up.frame_reference, Down.frame_kernel, Down.frame_ideal, Down.frame_reference,
  Values.frame_kernel, Values.frame_ideal, Values.frame_reference, Keys.frame_kernel, Keys.frame_ideal, Keys.frame_reference,
  Out.frame_kernel, Out.frame_ideal, Out.frame_reference,
  Sample.frame_kernel, Sample.frame_ideal, fun m ρ _ => Sample.frame_ideal m ρ trivial, Sample.frame_reference, fun m ρ _ => Sample.frame_reference m ρ trivial,
  Gate.frame_kernel, Gate.frame_ideal, Gate.frame_reference,
  Queries.frame_kernel, Queries.frame_ideal, Queries.frame_reference, Inputs.frame_kernel, Inputs.frame_ideal, Inputs.frame_reference,
  Decays.frame_kernel, Decays.frame_ideal, Decays.frame_reference, Asks.frame_kernel, Asks.frame_ideal, Asks.frame_reference,
  trivial, values, trivial, Up.values, trivial, Down.values, trivial, Values.values, trivial, Keys.keys, trivial, Out.values, trivial, Sample.values, trivial, Gate.values,
  trivial, Queries.values, trivial, Inputs.values, trivial, Decays.values, trivial, Asks.values⟩

end Cert.Proof

end
